-- ==== Defs.lean ====
def Pre_Kernel [hPre_listed : Cert.Pre_listed.Facts] (m : (ℓ : Loc Cert.Kernel.nD Cert.Kernel.τ Cert.Kernel.sig) → Buf (Elt Bits) ℓ) : Prop :=
  ∀ c : Dev Cert.Kernel.nD,
    (Cert.Pre_listed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))).1 = (fun _ => 1#1)
    ∧ (Cert.Pre_listed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))).2.1 = (fun _ => 1#1)
    ∧ (Cert.Pre_listed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))).2.2 = (fun _ => 1#1)

def Pre_KernelIdeal [hPre_listed : Cert.Pre_listed.Facts] (m : (ℓ : Loc Cert.KernelIdeal.nD Cert.KernelIdeal.τ Cert.KernelIdeal.sig) → Buf (Elt Ideal) ℓ) : Prop :=
  ∀ c : Dev Cert.KernelIdeal.nD,
    (Cert.Pre_listed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_listed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_listed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2 = (fun _ => 1#1)

def Pre_ReferenceIdeal [hPre_listed : Cert.Pre_listed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_listed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_listed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_listed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2 = (fun _ => 1#1)

def Pre_Keys (m : (ℓ : Loc Cert.Keys.nD Cert.Keys.τ Cert.Keys.sig) → Buf (Elt Bits) ℓ) : Prop :=
  True

def Pre_KeysIdeal (m : (ℓ : Loc Cert.KeysIdeal.nD Cert.KeysIdeal.τ Cert.KeysIdeal.sig) → Buf (Elt Ideal) ℓ) : Prop :=
  True

def Pre_RefKeysIdeal (m : (ℓ : Loc Cert.RefKeysIdeal.nD Cert.RefKeysIdeal.τ Cert.RefKeysIdeal.sig) → Buf (Elt Ideal) ℓ) : Prop :=
  True

def Pre_List (m : (ℓ : Loc Cert.List.nD Cert.List.τ Cert.List.sig) → Buf (Elt Bits) ℓ) : Prop :=
  True

def Pre_ListIdeal (m : (ℓ : Loc Cert.ListIdeal.nD Cert.ListIdeal.τ Cert.ListIdeal.sig) → Buf (Elt Ideal) ℓ) : Prop :=
  True

def Pre_RefListIdeal (m : (ℓ : Loc Cert.RefListIdeal.nD Cert.RefListIdeal.τ Cert.RefListIdeal.sig) → Buf (Elt Ideal) ℓ) : Prop :=
  True

def quiescent_Kernel [hKernel : Cert.Kernel.Facts] [hPre_listed : Cert.Pre_listed.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_listed : Cert.Pre_listed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] [hPre_listed : Cert.Pre_listed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Keys [hKeys : Cert.Keys.Facts] : Prop :=
  ∀ (m : (ℓ : Loc Cert.Keys.nD Cert.Keys.τ Cert.Keys.sig) → Buf (Elt Bits) ℓ) (g : Dev Cert.Keys.nD → PrngReg), Pre_Keys m →
    θ_run (Cert.Keys.defs (F := Bits)) (onTc (τ := Cert.Keys.τ) (Cert.Keys.main (F := Bits))) ⟨m, fun _ => 0, g⟩ (fun r => (∀ c : Dev Cert.Keys.nD,
      r.2.mem ((c.tc : Thread Cert.Keys.nD Cert.Keys.τ).loc Cert.Keys.main_arg0) = m ((c.tc : Thread Cert.Keys.nD Cert.Keys.τ).loc Cert.Keys.main_arg0)
      ∧ r.2.mem ((c.tc : Thread Cert.Keys.nD Cert.Keys.τ).loc Cert.Keys.main_arg1) = m ((c.tc : Thread Cert.Keys.nD Cert.Keys.τ).loc Cert.Keys.main_arg1)
      ∧ r.2.mem ((c.tc : Thread Cert.Keys.nD Cert.Keys.τ).loc Cert.Keys.main_arg2) = m ((c.tc : Thread Cert.Keys.nD Cert.Keys.τ).loc Cert.Keys.main_arg2)
      ∧ r.2.mem ((c.tc : Thread Cert.Keys.nD Cert.Keys.τ).loc Cert.Keys.main_arg3) = m ((c.tc : Thread Cert.Keys.nD Cert.Keys.τ).loc Cert.Keys.main_arg3)
      ∧ r.2.mem ((c.tc : Thread Cert.Keys.nD Cert.Keys.τ).loc Cert.Keys.main_arg4) = m ((c.tc : Thread Cert.Keys.nD Cert.Keys.τ).loc Cert.Keys.main_arg4)
      ∧ r.2.mem ((c.tc : Thread Cert.Keys.nD Cert.Keys.τ).loc Cert.Keys.main_arg5) = m ((c.tc : Thread Cert.Keys.nD Cert.Keys.τ).loc Cert.Keys.main_arg5))
      ∧ r.2.sem = fun _ => 0)

def quiescent_KeysIdeal [hKeysIdeal : Cert.KeysIdeal.Facts] : Prop :=
  ∀ (m : (ℓ : Loc Cert.KeysIdeal.nD Cert.KeysIdeal.τ Cert.KeysIdeal.sig) → Buf (Elt Ideal) ℓ) (g : Dev Cert.KeysIdeal.nD → PrngReg), Pre_KeysIdeal m →
    θ_run (Cert.KeysIdeal.defs (F := Ideal)) (onTc (τ := Cert.KeysIdeal.τ) (Cert.KeysIdeal.main (F := Ideal))) ⟨m, fun _ => 0, g⟩ (fun r => (∀ c : Dev Cert.KeysIdeal.nD,
      r.2.mem ((c.tc : Thread Cert.KeysIdeal.nD Cert.KeysIdeal.τ).loc Cert.KeysIdeal.main_arg0) = m ((c.tc : Thread Cert.KeysIdeal.nD Cert.KeysIdeal.τ).loc Cert.KeysIdeal.main_arg0)
      ∧ r.2.mem ((c.tc : Thread Cert.KeysIdeal.nD Cert.KeysIdeal.τ).loc Cert.KeysIdeal.main_arg1) = m ((c.tc : Thread Cert.KeysIdeal.nD Cert.KeysIdeal.τ).loc Cert.KeysIdeal.main_arg1)
      ∧ r.2.mem ((c.tc : Thread Cert.KeysIdeal.nD Cert.KeysIdeal.τ).loc Cert.KeysIdeal.main_arg2) = m ((c.tc : Thread Cert.KeysIdeal.nD Cert.KeysIdeal.τ).loc Cert.KeysIdeal.main_arg2)
      ∧ r.2.mem ((c.tc : Thread Cert.KeysIdeal.nD Cert.KeysIdeal.τ).loc Cert.KeysIdeal.main_arg3) = m ((c.tc : Thread Cert.KeysIdeal.nD Cert.KeysIdeal.τ).loc Cert.KeysIdeal.main_arg3)
      ∧ r.2.mem ((c.tc : Thread Cert.KeysIdeal.nD Cert.KeysIdeal.τ).loc Cert.KeysIdeal.main_arg4) = m ((c.tc : Thread Cert.KeysIdeal.nD Cert.KeysIdeal.τ).loc Cert.KeysIdeal.main_arg4)
      ∧ r.2.mem ((c.tc : Thread Cert.KeysIdeal.nD Cert.KeysIdeal.τ).loc Cert.KeysIdeal.main_arg5) = m ((c.tc : Thread Cert.KeysIdeal.nD Cert.KeysIdeal.τ).loc Cert.KeysIdeal.main_arg5))
      ∧ r.2.sem = fun _ => 0)

def quiescent_RefKeysIdeal [hRefKeysIdeal : Cert.RefKeysIdeal.Facts] : Prop :=
  ∀ (m : (ℓ : Loc Cert.RefKeysIdeal.nD Cert.RefKeysIdeal.τ Cert.RefKeysIdeal.sig) → Buf (Elt Ideal) ℓ) (g : Dev Cert.RefKeysIdeal.nD → PrngReg), Pre_RefKeysIdeal m →
    θ_run (Cert.RefKeysIdeal.defs (F := Ideal)) (onTc (τ := Cert.RefKeysIdeal.τ) (Cert.RefKeysIdeal.main (F := Ideal))) ⟨m, fun _ => 0, g⟩ (fun r => (∀ c : Dev Cert.RefKeysIdeal.nD,
      r.2.mem ((c.tc : Thread Cert.RefKeysIdeal.nD Cert.RefKeysIdeal.τ).loc Cert.RefKeysIdeal.main_arg0) = m ((c.tc : Thread Cert.RefKeysIdeal.nD Cert.RefKeysIdeal.τ).loc Cert.RefKeysIdeal.main_arg0)
      ∧ r.2.mem ((c.tc : Thread Cert.RefKeysIdeal.nD Cert.RefKeysIdeal.τ).loc Cert.RefKeysIdeal.main_arg1) = m ((c.tc : Thread Cert.RefKeysIdeal.nD Cert.RefKeysIdeal.τ).loc Cert.RefKeysIdeal.main_arg1)
      ∧ r.2.mem ((c.tc : Thread Cert.RefKeysIdeal.nD Cert.RefKeysIdeal.τ).loc Cert.RefKeysIdeal.main_arg2) = m ((c.tc : Thread Cert.RefKeysIdeal.nD Cert.RefKeysIdeal.τ).loc Cert.RefKeysIdeal.main_arg2)
      ∧ r.2.mem ((c.tc : Thread Cert.RefKeysIdeal.nD Cert.RefKeysIdeal.τ).loc Cert.RefKeysIdeal.main_arg3) = m ((c.tc : Thread Cert.RefKeysIdeal.nD Cert.RefKeysIdeal.τ).loc Cert.RefKeysIdeal.main_arg3)
      ∧ r.2.mem ((c.tc : Thread Cert.RefKeysIdeal.nD Cert.RefKeysIdeal.τ).loc Cert.RefKeysIdeal.main_arg4) = m ((c.tc : Thread Cert.RefKeysIdeal.nD Cert.RefKeysIdeal.τ).loc Cert.RefKeysIdeal.main_arg4)
      ∧ r.2.mem ((c.tc : Thread Cert.RefKeysIdeal.nD Cert.RefKeysIdeal.τ).loc Cert.RefKeysIdeal.main_arg5) = m ((c.tc : Thread Cert.RefKeysIdeal.nD Cert.RefKeysIdeal.τ).loc Cert.RefKeysIdeal.main_arg5))
      ∧ r.2.sem = fun _ => 0)

def quiescent_List [hList : Cert.List.Facts] : Prop :=
  ∀ (m : (ℓ : Loc Cert.List.nD Cert.List.τ Cert.List.sig) → Buf (Elt Bits) ℓ) (g : Dev Cert.List.nD → PrngReg), Pre_List m →
    θ_run (Cert.List.defs (F := Bits)) (onTc (τ := Cert.List.τ) (Cert.List.main (F := Bits))) ⟨m, fun _ => 0, g⟩ (fun r => (∀ c : Dev Cert.List.nD,
      r.2.mem ((c.tc : Thread Cert.List.nD Cert.List.τ).loc Cert.List.main_arg0) = m ((c.tc : Thread Cert.List.nD Cert.List.τ).loc Cert.List.main_arg0)
      ∧ r.2.mem ((c.tc : Thread Cert.List.nD Cert.List.τ).loc Cert.List.main_arg1) = m ((c.tc : Thread Cert.List.nD Cert.List.τ).loc Cert.List.main_arg1))
      ∧ r.2.sem = fun _ => 0)

def quiescent_ListIdeal [hListIdeal : Cert.ListIdeal.Facts] : Prop :=
  ∀ (m : (ℓ : Loc Cert.ListIdeal.nD Cert.ListIdeal.τ Cert.ListIdeal.sig) → Buf (Elt Ideal) ℓ) (g : Dev Cert.ListIdeal.nD → PrngReg), Pre_ListIdeal m →
    θ_run (Cert.ListIdeal.defs (F := Ideal)) (onTc (τ := Cert.ListIdeal.τ) (Cert.ListIdeal.main (F := Ideal))) ⟨m, fun _ => 0, g⟩ (fun r => (∀ c : Dev Cert.ListIdeal.nD,
      r.2.mem ((c.tc : Thread Cert.ListIdeal.nD Cert.ListIdeal.τ).loc Cert.ListIdeal.main_arg0) = m ((c.tc : Thread Cert.ListIdeal.nD Cert.ListIdeal.τ).loc Cert.ListIdeal.main_arg0)
      ∧ r.2.mem ((c.tc : Thread Cert.ListIdeal.nD Cert.ListIdeal.τ).loc Cert.ListIdeal.main_arg1) = m ((c.tc : Thread Cert.ListIdeal.nD Cert.ListIdeal.τ).loc Cert.ListIdeal.main_arg1))
      ∧ r.2.sem = fun _ => 0)

def quiescent_RefListIdeal [hRefListIdeal : Cert.RefListIdeal.Facts] : Prop :=
  ∀ (m : (ℓ : Loc Cert.RefListIdeal.nD Cert.RefListIdeal.τ Cert.RefListIdeal.sig) → Buf (Elt Ideal) ℓ) (g : Dev Cert.RefListIdeal.nD → PrngReg), Pre_RefListIdeal m →
    θ_run (Cert.RefListIdeal.defs (F := Ideal)) (onTc (τ := Cert.RefListIdeal.τ) (Cert.RefListIdeal.main (F := Ideal))) ⟨m, fun _ => 0, g⟩ (fun r => (∀ c : Dev Cert.RefListIdeal.nD,
      r.2.mem ((c.tc : Thread Cert.RefListIdeal.nD Cert.RefListIdeal.τ).loc Cert.RefListIdeal.main_arg0) = m ((c.tc : Thread Cert.RefListIdeal.nD Cert.RefListIdeal.τ).loc Cert.RefListIdeal.main_arg0)
      ∧ r.2.mem ((c.tc : Thread Cert.RefListIdeal.nD Cert.RefListIdeal.τ).loc Cert.RefListIdeal.main_arg1) = m ((c.tc : Thread Cert.RefListIdeal.nD Cert.RefListIdeal.τ).loc Cert.RefListIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_listed : Cert.Pre_listed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Keys_KeysIdeal : Prop :=
  True

def algebraic_KeysIdeal_RefKeysIdeal [hKeysIdeal : Cert.KeysIdeal.Facts] [hRefKeysIdeal : Cert.RefKeysIdeal.Facts] : Prop :=
  ∀ (m : (ℓ : Loc Cert.KeysIdeal.nD Cert.KeysIdeal.τ Cert.KeysIdeal.sig) → Buf (Elt Ideal) ℓ) (g : Dev Cert.KeysIdeal.nD → PrngReg)
    (m' : (ℓ : Loc Cert.RefKeysIdeal.nD Cert.RefKeysIdeal.τ Cert.RefKeysIdeal.sig) → Buf (Elt Ideal) ℓ) (g' : Dev Cert.RefKeysIdeal.nD → PrngReg), Pre_KeysIdeal m →
    (∀ c : Dev Cert.KeysIdeal.nD,
      m' ((c.tc : Thread Cert.RefKeysIdeal.nD Cert.RefKeysIdeal.τ).loc Cert.RefKeysIdeal.main_arg0) = m ((c.tc : Thread Cert.KeysIdeal.nD Cert.KeysIdeal.τ).loc Cert.KeysIdeal.main_arg0)
      ∧ m' ((c.tc : Thread Cert.RefKeysIdeal.nD Cert.RefKeysIdeal.τ).loc Cert.RefKeysIdeal.main_arg1) = m ((c.tc : Thread Cert.KeysIdeal.nD Cert.KeysIdeal.τ).loc Cert.KeysIdeal.main_arg1)
      ∧ m' ((c.tc : Thread Cert.RefKeysIdeal.nD Cert.RefKeysIdeal.τ).loc Cert.RefKeysIdeal.main_arg2) = m ((c.tc : Thread Cert.KeysIdeal.nD Cert.KeysIdeal.τ).loc Cert.KeysIdeal.main_arg2)
      ∧ m' ((c.tc : Thread Cert.RefKeysIdeal.nD Cert.RefKeysIdeal.τ).loc Cert.RefKeysIdeal.main_arg3) = m ((c.tc : Thread Cert.KeysIdeal.nD Cert.KeysIdeal.τ).loc Cert.KeysIdeal.main_arg3)
      ∧ m' ((c.tc : Thread Cert.RefKeysIdeal.nD Cert.RefKeysIdeal.τ).loc Cert.RefKeysIdeal.main_arg4) = m ((c.tc : Thread Cert.KeysIdeal.nD Cert.KeysIdeal.τ).loc Cert.KeysIdeal.main_arg4)
      ∧ m' ((c.tc : Thread Cert.RefKeysIdeal.nD Cert.RefKeysIdeal.τ).loc Cert.RefKeysIdeal.main_arg5) = m ((c.tc : Thread Cert.KeysIdeal.nD Cert.KeysIdeal.τ).loc Cert.KeysIdeal.main_arg5)) →
    ∃ (v0 : (c : Dev Cert.KeysIdeal.nD) → Buf (Elt Ideal) ((c.tc : Thread Cert.KeysIdeal.nD Cert.KeysIdeal.τ).loc Cert.KeysIdeal.main_v0)),
      θ_run (Cert.KeysIdeal.defs (F := Ideal)) (onTc (τ := Cert.KeysIdeal.τ) (Cert.KeysIdeal.main (F := Ideal))) ⟨m, fun _ => 0, g⟩ (fun r => ∀ c : Dev Cert.KeysIdeal.nD,
          r.2.mem ((c.tc : Thread Cert.KeysIdeal.nD Cert.KeysIdeal.τ).loc Cert.KeysIdeal.main_v0) = v0 c
          ∧ r.2.mem ((c.tc : Thread Cert.KeysIdeal.nD Cert.KeysIdeal.τ).loc Cert.KeysIdeal.main_arg0) = m ((c.tc : Thread Cert.KeysIdeal.nD Cert.KeysIdeal.τ).loc Cert.KeysIdeal.main_arg0)
          ∧ r.2.mem ((c.tc : Thread Cert.KeysIdeal.nD Cert.KeysIdeal.τ).loc Cert.KeysIdeal.main_arg1) = m ((c.tc : Thread Cert.KeysIdeal.nD Cert.KeysIdeal.τ).loc Cert.KeysIdeal.main_arg1)
          ∧ r.2.mem ((c.tc : Thread Cert.KeysIdeal.nD Cert.KeysIdeal.τ).loc Cert.KeysIdeal.main_arg2) = m ((c.tc : Thread Cert.KeysIdeal.nD Cert.KeysIdeal.τ).loc Cert.KeysIdeal.main_arg2)
          ∧ r.2.mem ((c.tc : Thread Cert.KeysIdeal.nD Cert.KeysIdeal.τ).loc Cert.KeysIdeal.main_arg3) = m ((c.tc : Thread Cert.KeysIdeal.nD Cert.KeysIdeal.τ).loc Cert.KeysIdeal.main_arg3)
          ∧ r.2.mem ((c.tc : Thread Cert.KeysIdeal.nD Cert.KeysIdeal.τ).loc Cert.KeysIdeal.main_arg4) = m ((c.tc : Thread Cert.KeysIdeal.nD Cert.KeysIdeal.τ).loc Cert.KeysIdeal.main_arg4)
          ∧ r.2.mem ((c.tc : Thread Cert.KeysIdeal.nD Cert.KeysIdeal.τ).loc Cert.KeysIdeal.main_arg5) = m ((c.tc : Thread Cert.KeysIdeal.nD Cert.KeysIdeal.τ).loc Cert.KeysIdeal.main_arg5))
      ∧ θ_run (Cert.RefKeysIdeal.defs (F := Ideal)) (onTc (τ := Cert.RefKeysIdeal.τ) (Cert.RefKeysIdeal.main (F := Ideal))) ⟨m', fun _ => 0, g'⟩ (fun r => ∀ c : Dev Cert.RefKeysIdeal.nD,
          r.2.mem ((c.tc : Thread Cert.RefKeysIdeal.nD Cert.RefKeysIdeal.τ).loc Cert.RefKeysIdeal.main_v0) = v0 c
          ∧ r.2.mem ((c.tc : Thread Cert.RefKeysIdeal.nD Cert.RefKeysIdeal.τ).loc Cert.RefKeysIdeal.main_arg0) = m' ((c.tc : Thread Cert.RefKeysIdeal.nD Cert.RefKeysIdeal.τ).loc Cert.RefKeysIdeal.main_arg0)
          ∧ r.2.mem ((c.tc : Thread Cert.RefKeysIdeal.nD Cert.RefKeysIdeal.τ).loc Cert.RefKeysIdeal.main_arg1) = m' ((c.tc : Thread Cert.RefKeysIdeal.nD Cert.RefKeysIdeal.τ).loc Cert.RefKeysIdeal.main_arg1)
          ∧ r.2.mem ((c.tc : Thread Cert.RefKeysIdeal.nD Cert.RefKeysIdeal.τ).loc Cert.RefKeysIdeal.main_arg2) = m' ((c.tc : Thread Cert.RefKeysIdeal.nD Cert.RefKeysIdeal.τ).loc Cert.RefKeysIdeal.main_arg2)
          ∧ r.2.mem ((c.tc : Thread Cert.RefKeysIdeal.nD Cert.RefKeysIdeal.τ).loc Cert.RefKeysIdeal.main_arg3) = m' ((c.tc : Thread Cert.RefKeysIdeal.nD Cert.RefKeysIdeal.τ).loc Cert.RefKeysIdeal.main_arg3)
          ∧ r.2.mem ((c.tc : Thread Cert.RefKeysIdeal.nD Cert.RefKeysIdeal.τ).loc Cert.RefKeysIdeal.main_arg4) = m' ((c.tc : Thread Cert.RefKeysIdeal.nD Cert.RefKeysIdeal.τ).loc Cert.RefKeysIdeal.main_arg4)
          ∧ r.2.mem ((c.tc : Thread Cert.RefKeysIdeal.nD Cert.RefKeysIdeal.τ).loc Cert.RefKeysIdeal.main_arg5) = m' ((c.tc : Thread Cert.RefKeysIdeal.nD Cert.RefKeysIdeal.τ).loc Cert.RefKeysIdeal.main_arg5))

def preserves_List_ListIdeal : Prop :=
  True

def algebraic_ListIdeal_RefListIdeal [hListIdeal : Cert.ListIdeal.Facts] [hRefListIdeal : Cert.RefListIdeal.Facts] : Prop :=
  ∀ (m : (ℓ : Loc Cert.ListIdeal.nD Cert.ListIdeal.τ Cert.ListIdeal.sig) → Buf (Elt Ideal) ℓ) (g : Dev Cert.ListIdeal.nD → PrngReg)
    (m' : (ℓ : Loc Cert.RefListIdeal.nD Cert.RefListIdeal.τ Cert.RefListIdeal.sig) → Buf (Elt Ideal) ℓ) (g' : Dev Cert.RefListIdeal.nD → PrngReg), Pre_ListIdeal m →
    (∀ c : Dev Cert.ListIdeal.nD,
      m' ((c.tc : Thread Cert.RefListIdeal.nD Cert.RefListIdeal.τ).loc Cert.RefListIdeal.main_arg0) = m ((c.tc : Thread Cert.ListIdeal.nD Cert.ListIdeal.τ).loc Cert.ListIdeal.main_arg0)
      ∧ m' ((c.tc : Thread Cert.RefListIdeal.nD Cert.RefListIdeal.τ).loc Cert.RefListIdeal.main_arg1) = m ((c.tc : Thread Cert.ListIdeal.nD Cert.ListIdeal.τ).loc Cert.ListIdeal.main_arg1)) →
    ∃ (v0 : (c : Dev Cert.ListIdeal.nD) → Buf (Elt Ideal) ((c.tc : Thread Cert.ListIdeal.nD Cert.ListIdeal.τ).loc Cert.ListIdeal.main_v0_0)) (v1 : (c : Dev Cert.ListIdeal.nD) → Buf (Elt Ideal) ((c.tc : Thread Cert.ListIdeal.nD Cert.ListIdeal.τ).loc Cert.ListIdeal.main_v0_1)) (v2 : (c : Dev Cert.ListIdeal.nD) → Buf (Elt Ideal) ((c.tc : Thread Cert.ListIdeal.nD Cert.ListIdeal.τ).loc Cert.ListIdeal.main_v0_2)),
      θ_run (Cert.ListIdeal.defs (F := Ideal)) (onTc (τ := Cert.ListIdeal.τ) (Cert.ListIdeal.main (F := Ideal))) ⟨m, fun _ => 0, g⟩ (fun r => ∀ c : Dev Cert.ListIdeal.nD,
          r.2.mem ((c.tc : Thread Cert.ListIdeal.nD Cert.ListIdeal.τ).loc Cert.ListIdeal.main_v0_0) = v0 c
          ∧ r.2.mem ((c.tc : Thread Cert.ListIdeal.nD Cert.ListIdeal.τ).loc Cert.ListIdeal.main_v0_1) = v1 c
          ∧ r.2.mem ((c.tc : Thread Cert.ListIdeal.nD Cert.ListIdeal.τ).loc Cert.ListIdeal.main_v0_2) = v2 c
          ∧ r.2.mem ((c.tc : Thread Cert.ListIdeal.nD Cert.ListIdeal.τ).loc Cert.ListIdeal.main_arg0) = m ((c.tc : Thread Cert.ListIdeal.nD Cert.ListIdeal.τ).loc Cert.ListIdeal.main_arg0)
          ∧ r.2.mem ((c.tc : Thread Cert.ListIdeal.nD Cert.ListIdeal.τ).loc Cert.ListIdeal.main_arg1) = m ((c.tc : Thread Cert.ListIdeal.nD Cert.ListIdeal.τ).loc Cert.ListIdeal.main_arg1))
      ∧ θ_run (Cert.RefListIdeal.defs (F := Ideal)) (onTc (τ := Cert.RefListIdeal.τ) (Cert.RefListIdeal.main (F := Ideal))) ⟨m', fun _ => 0, g'⟩ (fun r => ∀ c : Dev Cert.RefListIdeal.nD,
          r.2.mem ((c.tc : Thread Cert.RefListIdeal.nD Cert.RefListIdeal.τ).loc Cert.RefListIdeal.main_v55) = v0 c
          ∧ r.2.mem ((c.tc : Thread Cert.RefListIdeal.nD Cert.RefListIdeal.τ).loc Cert.RefListIdeal.main_v80) = v1 c
          ∧ r.2.mem ((c.tc : Thread Cert.RefListIdeal.nD Cert.RefListIdeal.τ).loc Cert.RefListIdeal.main_v79) = v2 c
          ∧ r.2.mem ((c.tc : Thread Cert.RefListIdeal.nD Cert.RefListIdeal.τ).loc Cert.RefListIdeal.main_arg0) = m' ((c.tc : Thread Cert.RefListIdeal.nD Cert.RefListIdeal.τ).loc Cert.RefListIdeal.main_arg0)
          ∧ r.2.mem ((c.tc : Thread Cert.RefListIdeal.nD Cert.RefListIdeal.τ).loc Cert.RefListIdeal.main_arg1) = m' ((c.tc : Thread Cert.RefListIdeal.nD Cert.RefListIdeal.τ).loc Cert.RefListIdeal.main_arg1))

def Claim : Prop :=
  ∃ (hKernel : Cert.Kernel.Facts) (hKernelIdeal : Cert.KernelIdeal.Facts) (hReferenceIdeal : Cert.ReferenceIdeal.Facts) (hKeys : Cert.Keys.Facts) (hKeysIdeal : Cert.KeysIdeal.Facts) (hRefKeysIdeal : Cert.RefKeysIdeal.Facts) (hList : Cert.List.Facts) (hListIdeal : Cert.ListIdeal.Facts) (hRefListIdeal : Cert.RefListIdeal.Facts) (hPre_listed : Cert.Pre_listed.Facts),
    quiescent_Kernel (hKernel := hKernel) (hPre_listed := hPre_listed)
    ∧ quiescent_KernelIdeal (hKernelIdeal := hKernelIdeal) (hPre_listed := hPre_listed)
    ∧ quiescent_ReferenceIdeal (hReferenceIdeal := hReferenceIdeal) (hPre_listed := hPre_listed)
    ∧ quiescent_Keys (hKeys := hKeys)
    ∧ quiescent_KeysIdeal (hKeysIdeal := hKeysIdeal)
    ∧ quiescent_RefKeysIdeal (hRefKeysIdeal := hRefKeysIdeal)
    ∧ quiescent_List (hList := hList)
    ∧ quiescent_ListIdeal (hListIdeal := hListIdeal)
    ∧ quiescent_RefListIdeal (hRefListIdeal := hRefListIdeal)
    ∧ preserves_Kernel_KernelIdeal
    ∧ algebraic_KernelIdeal_ReferenceIdeal (hKernelIdeal := hKernelIdeal) (hReferenceIdeal := hReferenceIdeal) (hPre_listed := hPre_listed)
    ∧ preserves_Keys_KeysIdeal
    ∧ algebraic_KeysIdeal_RefKeysIdeal (hKeysIdeal := hKeysIdeal) (hRefKeysIdeal := hRefKeysIdeal)
    ∧ preserves_List_ListIdeal
    ∧ algebraic_ListIdeal_RefListIdeal (hListIdeal := hListIdeal) (hRefListIdeal := hRefListIdeal)
-- ==== Pre_listed.lean ====
abbrev S256 : Shape := ⟨1, ![256]⟩
abbrev S256x1x1024 : Shape := ⟨3, ![256, 1, 1024]⟩
abbrev S4096x16x512 : Shape := ⟨3, ![4096, 16, 512]⟩
abbrev S65536x128 : Shape := ⟨2, ![65536, 128]⟩
abbrev S256x1x256 : Shape := ⟨3, ![256, 1, 256]⟩
abbrev S1024x16x640 : Shape := ⟨3, ![1024, 16, 640]⟩
abbrev S_ : Shape := ⟨0, ![]⟩

class Facts : Prop where
  bcast_S256_S256x1x1024_0 : S256.BroadcastsInDim S256x1x1024 (![0] : Fin 1 → Fin S256x1x1024.rank)
  bcast_S_S256x1x1024 : S_.BroadcastsInDim S256x1x1024 (![] : Fin 0 → Fin S256x1x1024.rank)
  bcast_S_S256 : S_.BroadcastsInDim S256 (![] : Fin 0 → Fin S256.rank)

variable [Facts]

def fn_part1 {F : FTy → Type} [FloatOps F] (main_v8 : IVec S256 1) (main_v14 : IVec S256x1x1024 1) (main_v15 : IVec S256x1x1024 1) (main_v17 : IVec S256x1x1024 32) (main_c_4 : IVec S_ 32) : IVec S256 1 × IVec S256x1x1024 1 × IVec S256x1x1024 1 :=
  let main_v18 : IVec S256x1x1024 32 := broadcastInDim S256x1x1024 ![] bcast_S_S256x1x1024 main_c_4
  let main_v19 : IVec S256x1x1024 1 := cmpi .eq main_v17 main_v18
  let main_v20 : IVec S256x1x1024 1 := ori main_v15 main_v19
  (main_v8, main_v14, main_v20)

def fn {F : FTy → Type} [FloatOps F] (main_arg0 : IVec S256 32) (main_arg1 : IVec S256x1x1024 32) (main_arg2 : FVec F S4096x16x512 .fp8e4m3) (main_arg3 : FVec F S65536x128 .bf16) (main_arg4 : FVec F S256x1x256 .f32) (main_arg5 : FVec F S256x1x256 .f32) (main_arg6 : FVec F S1024x16x640 .bf16) : IVec S256 1 × IVec S256x1x1024 1 × IVec S256x1x1024 1 :=
  let main_v0 : IVec S256x1x1024 32 := iotaInDim S256x1x1024 32 2
  let main_v1 : IVec S256x1x1024 32 := broadcastInDim S256x1x1024 ![0] bcast_S256_S256x1x1024_0 main_arg0
  let main_c : IVec S_ 32 := constantI S_ 32 4294967280#32
  let main_v2 : IVec S256x1x1024 32 := broadcastInDim S256x1x1024 ![] bcast_S_S256x1x1024 main_c
  let main_v3 : IVec S256x1x1024 32 := andi main_v0 main_v2
  let main_v4 : IVec S256x1x1024 1 := cmpi .slt main_v3 main_v1
  let main_v5 : IVec S256x1x1024 1 := cmpi .sge main_v0 main_v1
  let main_v6 : IVec S256x1x1024 1 := andi main_v4 main_v5
  let main_c_0 : IVec S_ 32 := constantI S_ 32 1024#32
  let main_v7 : IVec S256 32 := broadcastInDim S256 ![] bcast_S_S256 main_c_0
  let main_v8 : IVec S256 1 := cmpi .sle main_arg0 main_v7
  let main_v9 : IVec S256x1x1024 1 := noti main_v4
  let main_c_1 : IVec S_ 32 := constantI S_ 32 65535#32
  let main_v10 : IVec S256x1x1024 32 := broadcastInDim S256x1x1024 ![] bcast_S_S256x1x1024 main_c_1
  let main_v11 : IVec S256x1x1024 32 := andi main_arg1 main_v10
  let main_c_2 : IVec S_ 32 := constantI S_ 32 1024#32
  let main_v12 : IVec S256x1x1024 32 := broadcastInDim S256x1x1024 ![] bcast_S_S256x1x1024 main_c_2
  let main_v13 : IVec S256x1x1024 1 := cmpi .slt main_v11 main_v12
  let main_v14 : IVec S256x1x1024 1 := ori main_v9 main_v13
  let main_v15 : IVec S256x1x1024 1 := noti main_v6
  let main_c_3 : IVec S_ 32 := constantI S_ 32 16#32
  let main_v16 : IVec S256x1x1024 32 := broadcastInDim S256x1x1024 ![] bcast_S_S256x1x1024 main_c_3
  let main_v17 : IVec S256x1x1024 32 := Host.shrui main_arg1 main_v16
  let main_c_4 : IVec S_ 32 := constantI S_ 32 0#32
  fn_part1 (F := F) main_v8 main_v14 main_v15 main_v17 main_c_4
-- ==== Kernel.lean ====
abbrev S256 : Shape := ⟨1, ![256]⟩
abbrev S256x1x1024 : Shape := ⟨3, ![256, 1, 1024]⟩
abbrev S4096x16x512 : Shape := ⟨3, ![4096, 16, 512]⟩
abbrev S65536x128 : Shape := ⟨2, ![65536, 128]⟩
abbrev S256x1x256 : Shape := ⟨3, ![256, 1, 256]⟩
abbrev S1024x16x640 : Shape := ⟨3, ![1024, 16, 640]⟩
abbrev S65536x512 : Shape := ⟨2, ![65536, 512]⟩
abbrev S1x1x1024 : Shape := ⟨3, ![1, 1, 1024]⟩
abbrev S16x16x512 : Shape := ⟨3, ![16, 16, 512]⟩
abbrev S256x128 : Shape := ⟨2, ![256, 128]⟩
abbrev S1x1x256 : Shape := ⟨3, ![1, 1, 256]⟩
abbrev S256x512 : Shape := ⟨2, ![256, 512]⟩
abbrev S256x640 : Shape := ⟨2, ![256, 640]⟩
abbrev S1x256 : Shape := ⟨2, ![1, 256]⟩
abbrev S16x256 : Shape := ⟨2, ![16, 256]⟩
abbrev S1 : Shape := ⟨1, ![1]⟩
abbrev S1x1x1 : Shape := ⟨3, ![1, 1, 1]⟩
abbrev S1x16x640 : Shape := ⟨3, ![1, 16, 640]⟩
abbrev S16x640 : Shape := ⟨2, ![16, 640]⟩
abbrev S256x256 : Shape := ⟨2, ![256, 256]⟩
abbrev S256x1 : Shape := ⟨2, ![256, 1]⟩

abbrev nBuf : Space → Nat
  | .hbm => 8
  | .vmem => 16
  | .smem => 3
  | _ => 0

abbrev bufTy : (tb : Table) → Fin (tcTables nBuf tb) → BufTy
  | .hbm, ⟨0, _⟩ => ⟨S256x1x1024, .i32⟩
  | .hbm, ⟨1, _⟩ => ⟨S4096x16x512, .fp8e4m3⟩
  | .hbm, ⟨2, _⟩ => ⟨S65536x128, .bf16⟩
  | .hbm, ⟨3, _⟩ => ⟨S256x1x256, .f32⟩
  | .hbm, ⟨4, _⟩ => ⟨S256x1x256, .f32⟩
  | .hbm, ⟨5, _⟩ => ⟨S1024x16x640, .bf16⟩
  | .hbm, ⟨6, _⟩ => ⟨S65536x512, .f32⟩
  | .hbm, ⟨7, _⟩ => ⟨S256x1x256, .f32⟩
  | .local _ .vmem, ⟨0, _⟩ => ⟨S16x16x512, .fp8e4m3⟩
  | .local _ .vmem, ⟨1, _⟩ => ⟨S16x16x512, .fp8e4m3⟩
  | .local _ .vmem, ⟨2, _⟩ => ⟨S256x128, .bf16⟩
  | .local _ .vmem, ⟨3, _⟩ => ⟨S256x128, .bf16⟩
  | .local _ .vmem, ⟨4, _⟩ => ⟨S1x1x256, .f32⟩
  | .local _ .vmem, ⟨5, _⟩ => ⟨S1x1x256, .f32⟩
  | .local _ .vmem, ⟨6, _⟩ => ⟨S1x1x256, .f32⟩
  | .local _ .vmem, ⟨7, _⟩ => ⟨S1x1x256, .f32⟩
  | .local _ .vmem, ⟨8, _⟩ => ⟨S1024x16x640, .bf16⟩
  | .local _ .vmem, ⟨9, _⟩ => ⟨S256x512, .f32⟩
  | .local _ .vmem, ⟨10, _⟩ => ⟨S256x512, .f32⟩
  | .local _ .vmem, ⟨11, _⟩ => ⟨S1x1x256, .f32⟩
  | .local _ .vmem, ⟨12, _⟩ => ⟨S1x1x256, .f32⟩
  | .local _ .vmem, ⟨13, _⟩ => ⟨S256x640, .bf16⟩
  | .local _ .vmem, ⟨14, _⟩ => ⟨S256x512, .bf16⟩
  | .local _ .vmem, ⟨15, _⟩ => ⟨S256x512, .f32⟩
  | .local _ .smem, ⟨0, _⟩ => ⟨S256, .i32⟩
  | .local _ .smem, ⟨1, _⟩ => ⟨S1x1x1024, .i32⟩
  | .local _ .smem, ⟨2, _⟩ => ⟨S1x1x1024, .i32⟩
  | _, _ => ⟨S256x1x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0_0 : Ref sig .tc := ⟨.hbm, 6, rfl⟩
abbrev main_v0_1 : Ref sig .tc := ⟨.hbm, 7, rfl⟩
abbrev main_arg0 : Ref sig .tc := ⟨.smem, 0, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_stg0_0 : Ref sig .tc := ⟨.smem, 1, rfl⟩
abbrev cc0_stg0_1 : Ref sig .tc := ⟨.smem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![256], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v40 : Index := Scalar.indexCast arg0
  ![v40.toNat]
@[reducible] def k0_t1_loop (v41 : BitVec 32) : Scf.Loop 32 :=
  let c0_i32_25 : BitVec 32 := 0#32
  let c16_i32_14 : BitVec 32 := 16#32
  let v42 : BitVec 32 := Scalar.addi v41 c16_i32_14
  let c1_i32_15 : BitVec 32 := 1#32
  let v43 : BitVec 32 := Scalar.subi v42 c1_i32_15
  let c0_i32_17 : BitVec 32 := 0#32
  let v45 : BitVec 1 := Scalar.cmpi .sgt v43 c0_i32_17
  let v46 : BitVec 32 := Scalar.extui v45
  let c0_i32_18 : BitVec 32 := 0#32
  let v47 : BitVec 1 := Scalar.cmpi .slt v43 c0_i32_18
  let v48 : BitVec 32 := Scalar.extui v47
  let v49 : BitVec 32 := Scalar.subi v46 v48
  let c16_i32_16 : BitVec 32 := 16#32
  let c0_i32_19 : BitVec 32 := 0#32
  let v50 : BitVec 1 := Scalar.cmpi .sgt c16_i32_16 c0_i32_19
  let v51 : BitVec 32 := Scalar.extui v50
  let c0_i32_20 : BitVec 32 := 0#32
  let v52 : BitVec 1 := Scalar.cmpi .slt c16_i32_16 c0_i32_20
  let v53 : BitVec 32 := Scalar.extui v52
  let v54 : BitVec 32 := Scalar.subi v51 v53
  let v55 : BitVec 1 := Scalar.cmpi .ne v49 v54
  let v56 : BitVec 32 := Scalar.remsi v43 c16_i32_16
  let c0_i32_21 : BitVec 32 := 0#32
  let v57 : BitVec 1 := Scalar.cmpi .ne v56 c0_i32_21
  let v58 : BitVec 1 := Scalar.andi v55 v57
  let v44 : BitVec 32 := Scalar.divsi v43 c16_i32_16
  let c1_i32_22 : BitVec 32 := 1#32
  let v59 : BitVec 32 := Scalar.subi v44 c1_i32_22
  let v60 : BitVec 32 := Scalar.select v58 v59 v44
  let v63 : BitVec 32 := Scalar.subi v60 c0_i32_25
  let c1_i32_26 : BitVec 32 := 1#32
  let v65 : BitVec 32 := Scalar.divsi v63 c1_i32_26
  let v66 : BitVec 32 := Scalar.muli v65 c1_i32_26
  let v67 : BitVec 32 := Scalar.addi c0_i32_25 v66
  let c1_i32_27 : BitVec 32 := 1#32
  ⟨c0_i32_25, v67, c1_i32_27⟩

def k0_off2 (v41 : BitVec 32) (k0_t1 : Fin (k0_t1_loop v41).trips) : Fin 3 → Nat :=
  let c0_43 : Index := 0#32
  let c0_44 : Index := 0#32
  let c0_i32_25 : BitVec 32 := 0#32
  let c1_i32_27 : BitVec 32 := 1#32
  let arg13 : BitVec 32 := Scf.iv c0_i32_25 c1_i32_27 k0_t1
  let c16_i32_41 : BitVec 32 := 16#32
  let v89 : BitVec 32 := Scalar.muli arg13 c16_i32_41
  let c0_i32_42 : BitVec 32 := 0#32
  let v90 : BitVec 32 := Scalar.addi v89 c0_i32_42
  let v91 : Index := Scalar.indexCast v90
  ![0, 0, v91.toNat]
def k0_off3 (v92 : BitVec 32) : Fin 3 → Nat :=
  let c65535_i32 : BitVec 32 := 65535#32
  let v93 : BitVec 32 := Scalar.andi v92 c65535_i32
  let v94 : Index := Scalar.indexCast v93
  let c0_45 : Index := 0#32
  let c0_46 : Index := 0#32
  ![v94.toNat, 0, 0]

def k0_chk2 (v92 : BitVec 32) : Prop :=
  (∀ a, (k0_off3 v92) a + S1x16x640.size a ≤ S1024x16x640.size a)
theorem k0_off3_inb : ∀ (v92 : BitVec 32) (k0_hw2 : k0_chk2 v92), ∀ a, (k0_off3 v92) a + S1x16x640.size a ≤ S1024x16x640.size a := fun v92 k0_hw2 => k0_hw2

def k0_off4 (v41 : BitVec 32) (k0_t1 : Fin (k0_t1_loop v41).trips) : Fin 3 → Nat :=
  let c0_57 : Index := 0#32
  let c0_58 : Index := 0#32
  let c0_i32_25 : BitVec 32 := 0#32
  let c1_i32_27 : BitVec 32 := 1#32
  let arg13 : BitVec 32 := Scf.iv c0_i32_25 c1_i32_27 k0_t1
  let c16_i32_55 : BitVec 32 := 16#32
  let v113 : BitVec 32 := Scalar.muli arg13 c16_i32_55
  let c1_i32_56 : BitVec 32 := 1#32
  let v114 : BitVec 32 := Scalar.addi v113 c1_i32_56
  let v115 : Index := Scalar.indexCast v114
  ![0, 0, v115.toNat]
def k0_off5 (v116 : BitVec 32) : Fin 3 → Nat :=
  let c65535_i32_59 : BitVec 32 := 65535#32
  let v117 : BitVec 32 := Scalar.andi v116 c65535_i32_59
  let v118 : Index := Scalar.indexCast v117
  let c0_60 : Index := 0#32
  let c0_61 : Index := 0#32
  ![v118.toNat, 0, 0]

def k0_chk3 (v116 : BitVec 32) : Prop :=
  (∀ a, (k0_off5 v116) a + S1x16x640.size a ≤ S1024x16x640.size a)
theorem k0_off5_inb : ∀ (v116 : BitVec 32) (k0_hw3 : k0_chk3 v116), ∀ a, (k0_off5 v116) a + S1x16x640.size a ≤ S1024x16x640.size a := fun v116 k0_hw3 => k0_hw3

def k0_off6 (v41 : BitVec 32) (k0_t1 : Fin (k0_t1_loop v41).trips) : Fin 3 → Nat :=
  let c0_67 : Index := 0#32
  let c0_68 : Index := 0#32
  let c0_i32_25 : BitVec 32 := 0#32
  let c1_i32_27 : BitVec 32 := 1#32
  let arg13 : BitVec 32 := Scf.iv c0_i32_25 c1_i32_27 k0_t1
  let c16_i32_66 : BitVec 32 := 16#32
  let v131 : BitVec 32 := Scalar.muli arg13 c16_i32_66
  let c2_i32 : BitVec 32 := 2#32
  let v132 : BitVec 32 := Scalar.addi v131 c2_i32
  let v133 : Index := Scalar.indexCast v132
  ![0, 0, v133.toNat]
def k0_off7 (v134 : BitVec 32) : Fin 3 → Nat :=
  let c65535_i32_69 : BitVec 32 := 65535#32
  let v135 : BitVec 32 := Scalar.andi v134 c65535_i32_69
  let v136 : Index := Scalar.indexCast v135
  let c0_70 : Index := 0#32
  let c0_71 : Index := 0#32
  ![v136.toNat, 0, 0]

def k0_chk4 (v134 : BitVec 32) : Prop :=
  (∀ a, (k0_off7 v134) a + S1x16x640.size a ≤ S1024x16x640.size a)
theorem k0_off7_inb : ∀ (v134 : BitVec 32) (k0_hw4 : k0_chk4 v134), ∀ a, (k0_off7 v134) a + S1x16x640.size a ≤ S1024x16x640.size a := fun v134 k0_hw4 => k0_hw4

def k0_off8 (v41 : BitVec 32) (k0_t1 : Fin (k0_t1_loop v41).trips) : Fin 3 → Nat :=
  let c0_77 : Index := 0#32
  let c0_78 : Index := 0#32
  let c0_i32_25 : BitVec 32 := 0#32
  let c1_i32_27 : BitVec 32 := 1#32
  let arg13 : BitVec 32 := Scf.iv c0_i32_25 c1_i32_27 k0_t1
  let c16_i32_76 : BitVec 32 := 16#32
  let v149 : BitVec 32 := Scalar.muli arg13 c16_i32_76
  let c3_i32 : BitVec 32 := 3#32
  let v150 : BitVec 32 := Scalar.addi v149 c3_i32
  let v151 : Index := Scalar.indexCast v150
  ![0, 0, v151.toNat]
def k0_off9 (v152 : BitVec 32) : Fin 3 → Nat :=
  let c65535_i32_79 : BitVec 32 := 65535#32
  let v153 : BitVec 32 := Scalar.andi v152 c65535_i32_79
  let v154 : Index := Scalar.indexCast v153
  let c0_80 : Index := 0#32
  let c0_81 : Index := 0#32
  ![v154.toNat, 0, 0]

def k0_chk5 (v152 : BitVec 32) : Prop :=
  (∀ a, (k0_off9 v152) a + S1x16x640.size a ≤ S1024x16x640.size a)
theorem k0_off9_inb : ∀ (v152 : BitVec 32) (k0_hw5 : k0_chk5 v152), ∀ a, (k0_off9 v152) a + S1x16x640.size a ≤ S1024x16x640.size a := fun v152 k0_hw5 => k0_hw5

def k0_off10 (v41 : BitVec 32) (k0_t1 : Fin (k0_t1_loop v41).trips) : Fin 3 → Nat :=
  let c0_87 : Index := 0#32
  let c0_88 : Index := 0#32
  let c0_i32_25 : BitVec 32 := 0#32
  let c1_i32_27 : BitVec 32 := 1#32
  let arg13 : BitVec 32 := Scf.iv c0_i32_25 c1_i32_27 k0_t1
  let c16_i32_86 : BitVec 32 := 16#32
  let v167 : BitVec 32 := Scalar.muli arg13 c16_i32_86
  let c4_i32 : BitVec 32 := 4#32
  let v168 : BitVec 32 := Scalar.addi v167 c4_i32
  let v169 : Index := Scalar.indexCast v168
  ![0, 0, v169.toNat]
def k0_off11 (v170 : BitVec 32) : Fin 3 → Nat :=
  let c65535_i32_89 : BitVec 32 := 65535#32
  let v171 : BitVec 32 := Scalar.andi v170 c65535_i32_89
  let v172 : Index := Scalar.indexCast v171
  let c0_90 : Index := 0#32
  let c0_91 : Index := 0#32
  ![v172.toNat, 0, 0]

def k0_chk6 (v170 : BitVec 32) : Prop :=
  (∀ a, (k0_off11 v170) a + S1x16x640.size a ≤ S1024x16x640.size a)
theorem k0_off11_inb : ∀ (v170 : BitVec 32) (k0_hw6 : k0_chk6 v170), ∀ a, (k0_off11 v170) a + S1x16x640.size a ≤ S1024x16x640.size a := fun v170 k0_hw6 => k0_hw6

def k0_off12 (v41 : BitVec 32) (k0_t1 : Fin (k0_t1_loop v41).trips) : Fin 3 → Nat :=
  let c0_97 : Index := 0#32
  let c0_98 : Index := 0#32
  let c0_i32_25 : BitVec 32 := 0#32
  let c1_i32_27 : BitVec 32 := 1#32
  let arg13 : BitVec 32 := Scf.iv c0_i32_25 c1_i32_27 k0_t1
  let c16_i32_96 : BitVec 32 := 16#32
  let v185 : BitVec 32 := Scalar.muli arg13 c16_i32_96
  let c5_i32 : BitVec 32 := 5#32
  let v186 : BitVec 32 := Scalar.addi v185 c5_i32
  let v187 : Index := Scalar.indexCast v186
  ![0, 0, v187.toNat]
def k0_off13 (v188 : BitVec 32) : Fin 3 → Nat :=
  let c65535_i32_99 : BitVec 32 := 65535#32
  let v189 : BitVec 32 := Scalar.andi v188 c65535_i32_99
  let v190 : Index := Scalar.indexCast v189
  let c0_100 : Index := 0#32
  let c0_101 : Index := 0#32
  ![v190.toNat, 0, 0]

def k0_chk7 (v188 : BitVec 32) : Prop :=
  (∀ a, (k0_off13 v188) a + S1x16x640.size a ≤ S1024x16x640.size a)
theorem k0_off13_inb : ∀ (v188 : BitVec 32) (k0_hw7 : k0_chk7 v188), ∀ a, (k0_off13 v188) a + S1x16x640.size a ≤ S1024x16x640.size a := fun v188 k0_hw7 => k0_hw7

def k0_off14 (v41 : BitVec 32) (k0_t1 : Fin (k0_t1_loop v41).trips) : Fin 3 → Nat :=
  let c0_107 : Index := 0#32
  let c0_108 : Index := 0#32
  let c0_i32_25 : BitVec 32 := 0#32
  let c1_i32_27 : BitVec 32 := 1#32
  let arg13 : BitVec 32 := Scf.iv c0_i32_25 c1_i32_27 k0_t1
  let c16_i32_106 : BitVec 32 := 16#32
  let v203 : BitVec 32 := Scalar.muli arg13 c16_i32_106
  let c6_i32 : BitVec 32 := 6#32
  let v204 : BitVec 32 := Scalar.addi v203 c6_i32
  let v205 : Index := Scalar.indexCast v204
  ![0, 0, v205.toNat]
def k0_off15 (v206 : BitVec 32) : Fin 3 → Nat :=
  let c65535_i32_109 : BitVec 32 := 65535#32
  let v207 : BitVec 32 := Scalar.andi v206 c65535_i32_109
  let v208 : Index := Scalar.indexCast v207
  let c0_110 : Index := 0#32
  let c0_111 : Index := 0#32
  ![v208.toNat, 0, 0]

def k0_chk8 (v206 : BitVec 32) : Prop :=
  (∀ a, (k0_off15 v206) a + S1x16x640.size a ≤ S1024x16x640.size a)
theorem k0_off15_inb : ∀ (v206 : BitVec 32) (k0_hw8 : k0_chk8 v206), ∀ a, (k0_off15 v206) a + S1x16x640.size a ≤ S1024x16x640.size a := fun v206 k0_hw8 => k0_hw8

def k0_off16 (v41 : BitVec 32) (k0_t1 : Fin (k0_t1_loop v41).trips) : Fin 3 → Nat :=
  let c0_117 : Index := 0#32
  let c0_118 : Index := 0#32
  let c0_i32_25 : BitVec 32 := 0#32
  let c1_i32_27 : BitVec 32 := 1#32
  let arg13 : BitVec 32 := Scf.iv c0_i32_25 c1_i32_27 k0_t1
  let c16_i32_116 : BitVec 32 := 16#32
  let v221 : BitVec 32 := Scalar.muli arg13 c16_i32_116
  let c7_i32 : BitVec 32 := 7#32
  let v222 : BitVec 32 := Scalar.addi v221 c7_i32
  let v223 : Index := Scalar.indexCast v222
  ![0, 0, v223.toNat]
def k0_off17 (v224 : BitVec 32) : Fin 3 → Nat :=
  let c65535_i32_119 : BitVec 32 := 65535#32
  let v225 : BitVec 32 := Scalar.andi v224 c65535_i32_119
  let v226 : Index := Scalar.indexCast v225
  let c0_120 : Index := 0#32
  let c0_121 : Index := 0#32
  ![v226.toNat, 0, 0]

def k0_chk9 (v224 : BitVec 32) : Prop :=
  (∀ a, (k0_off17 v224) a + S1x16x640.size a ≤ S1024x16x640.size a)
theorem k0_off17_inb : ∀ (v224 : BitVec 32) (k0_hw9 : k0_chk9 v224), ∀ a, (k0_off17 v224) a + S1x16x640.size a ≤ S1024x16x640.size a := fun v224 k0_hw9 => k0_hw9

def k0_off18 (v41 : BitVec 32) (k0_t1 : Fin (k0_t1_loop v41).trips) : Fin 3 → Nat :=
  let c0_127 : Index := 0#32
  let c0_128 : Index := 0#32
  let c0_i32_25 : BitVec 32 := 0#32
  let c1_i32_27 : BitVec 32 := 1#32
  let arg13 : BitVec 32 := Scf.iv c0_i32_25 c1_i32_27 k0_t1
  let c16_i32_126 : BitVec 32 := 16#32
  let v239 : BitVec 32 := Scalar.muli arg13 c16_i32_126
  let c8_i32 : BitVec 32 := 8#32
  let v240 : BitVec 32 := Scalar.addi v239 c8_i32
  let v241 : Index := Scalar.indexCast v240
  ![0, 0, v241.toNat]
def k0_off19 (v242 : BitVec 32) : Fin 3 → Nat :=
  let c65535_i32_129 : BitVec 32 := 65535#32
  let v243 : BitVec 32 := Scalar.andi v242 c65535_i32_129
  let v244 : Index := Scalar.indexCast v243
  let c0_130 : Index := 0#32
  let c0_131 : Index := 0#32
  ![v244.toNat, 0, 0]

def k0_chk10 (v242 : BitVec 32) : Prop :=
  (∀ a, (k0_off19 v242) a + S1x16x640.size a ≤ S1024x16x640.size a)
theorem k0_off19_inb : ∀ (v242 : BitVec 32) (k0_hw10 : k0_chk10 v242), ∀ a, (k0_off19 v242) a + S1x16x640.size a ≤ S1024x16x640.size a := fun v242 k0_hw10 => k0_hw10

def k0_off20 (v41 : BitVec 32) (k0_t1 : Fin (k0_t1_loop v41).trips) : Fin 3 → Nat :=
  let c0_137 : Index := 0#32
  let c0_138 : Index := 0#32
  let c0_i32_25 : BitVec 32 := 0#32
  let c1_i32_27 : BitVec 32 := 1#32
  let arg13 : BitVec 32 := Scf.iv c0_i32_25 c1_i32_27 k0_t1
  let c16_i32_136 : BitVec 32 := 16#32
  let v257 : BitVec 32 := Scalar.muli arg13 c16_i32_136
  let c9_i32 : BitVec 32 := 9#32
  let v258 : BitVec 32 := Scalar.addi v257 c9_i32
  let v259 : Index := Scalar.indexCast v258
  ![0, 0, v259.toNat]
def k0_off21 (v260 : BitVec 32) : Fin 3 → Nat :=
  let c65535_i32_139 : BitVec 32 := 65535#32
  let v261 : BitVec 32 := Scalar.andi v260 c65535_i32_139
  let v262 : Index := Scalar.indexCast v261
  let c0_140 : Index := 0#32
  let c0_141 : Index := 0#32
  ![v262.toNat, 0, 0]

def k0_chk11 (v260 : BitVec 32) : Prop :=
  (∀ a, (k0_off21 v260) a + S1x16x640.size a ≤ S1024x16x640.size a)
theorem k0_off21_inb : ∀ (v260 : BitVec 32) (k0_hw11 : k0_chk11 v260), ∀ a, (k0_off21 v260) a + S1x16x640.size a ≤ S1024x16x640.size a := fun v260 k0_hw11 => k0_hw11

def k0_off22 (v41 : BitVec 32) (k0_t1 : Fin (k0_t1_loop v41).trips) : Fin 3 → Nat :=
  let c0_147 : Index := 0#32
  let c0_148 : Index := 0#32
  let c0_i32_25 : BitVec 32 := 0#32
  let c1_i32_27 : BitVec 32 := 1#32
  let arg13 : BitVec 32 := Scf.iv c0_i32_25 c1_i32_27 k0_t1
  let c16_i32_146 : BitVec 32 := 16#32
  let v275 : BitVec 32 := Scalar.muli arg13 c16_i32_146
  let c10_i32 : BitVec 32 := 10#32
  let v276 : BitVec 32 := Scalar.addi v275 c10_i32
  let v277 : Index := Scalar.indexCast v276
  ![0, 0, v277.toNat]
def k0_off23 (v278 : BitVec 32) : Fin 3 → Nat :=
  let c65535_i32_149 : BitVec 32 := 65535#32
  let v279 : BitVec 32 := Scalar.andi v278 c65535_i32_149
  let v280 : Index := Scalar.indexCast v279
  let c0_150 : Index := 0#32
  let c0_151 : Index := 0#32
  ![v280.toNat, 0, 0]

def k0_chk12 (v278 : BitVec 32) : Prop :=
  (∀ a, (k0_off23 v278) a + S1x16x640.size a ≤ S1024x16x640.size a)
theorem k0_off23_inb : ∀ (v278 : BitVec 32) (k0_hw12 : k0_chk12 v278), ∀ a, (k0_off23 v278) a + S1x16x640.size a ≤ S1024x16x640.size a := fun v278 k0_hw12 => k0_hw12

def k0_off24 (v41 : BitVec 32) (k0_t1 : Fin (k0_t1_loop v41).trips) : Fin 3 → Nat :=
  let c0_157 : Index := 0#32
  let c0_158 : Index := 0#32
  let c0_i32_25 : BitVec 32 := 0#32
  let c1_i32_27 : BitVec 32 := 1#32
  let arg13 : BitVec 32 := Scf.iv c0_i32_25 c1_i32_27 k0_t1
  let c16_i32_156 : BitVec 32 := 16#32
  let v293 : BitVec 32 := Scalar.muli arg13 c16_i32_156
  let c11_i32 : BitVec 32 := 11#32
  let v294 : BitVec 32 := Scalar.addi v293 c11_i32
  let v295 : Index := Scalar.indexCast v294
  ![0, 0, v295.toNat]
def k0_off25 (v296 : BitVec 32) : Fin 3 → Nat :=
  let c65535_i32_159 : BitVec 32 := 65535#32
  let v297 : BitVec 32 := Scalar.andi v296 c65535_i32_159
  let v298 : Index := Scalar.indexCast v297
  let c0_160 : Index := 0#32
  let c0_161 : Index := 0#32
  ![v298.toNat, 0, 0]

def k0_chk13 (v296 : BitVec 32) : Prop :=
  (∀ a, (k0_off25 v296) a + S1x16x640.size a ≤ S1024x16x640.size a)
theorem k0_off25_inb : ∀ (v296 : BitVec 32) (k0_hw13 : k0_chk13 v296), ∀ a, (k0_off25 v296) a + S1x16x640.size a ≤ S1024x16x640.size a := fun v296 k0_hw13 => k0_hw13

def k0_off26 (v41 : BitVec 32) (k0_t1 : Fin (k0_t1_loop v41).trips) : Fin 3 → Nat :=
  let c0_167 : Index := 0#32
  let c0_168 : Index := 0#32
  let c0_i32_25 : BitVec 32 := 0#32
  let c1_i32_27 : BitVec 32 := 1#32
  let arg13 : BitVec 32 := Scf.iv c0_i32_25 c1_i32_27 k0_t1
  let c16_i32_166 : BitVec 32 := 16#32
  let v311 : BitVec 32 := Scalar.muli arg13 c16_i32_166
  let c12_i32 : BitVec 32 := 12#32
  let v312 : BitVec 32 := Scalar.addi v311 c12_i32
  let v313 : Index := Scalar.indexCast v312
  ![0, 0, v313.toNat]
def k0_off27 (v314 : BitVec 32) : Fin 3 → Nat :=
  let c65535_i32_169 : BitVec 32 := 65535#32
  let v315 : BitVec 32 := Scalar.andi v314 c65535_i32_169
  let v316 : Index := Scalar.indexCast v315
  let c0_170 : Index := 0#32
  let c0_171 : Index := 0#32
  ![v316.toNat, 0, 0]

def k0_chk14 (v314 : BitVec 32) : Prop :=
  (∀ a, (k0_off27 v314) a + S1x16x640.size a ≤ S1024x16x640.size a)
theorem k0_off27_inb : ∀ (v314 : BitVec 32) (k0_hw14 : k0_chk14 v314), ∀ a, (k0_off27 v314) a + S1x16x640.size a ≤ S1024x16x640.size a := fun v314 k0_hw14 => k0_hw14

def k0_off28 (v41 : BitVec 32) (k0_t1 : Fin (k0_t1_loop v41).trips) : Fin 3 → Nat :=
  let c0_177 : Index := 0#32
  let c0_178 : Index := 0#32
  let c0_i32_25 : BitVec 32 := 0#32
  let c1_i32_27 : BitVec 32 := 1#32
  let arg13 : BitVec 32 := Scf.iv c0_i32_25 c1_i32_27 k0_t1
  let c16_i32_176 : BitVec 32 := 16#32
  let v329 : BitVec 32 := Scalar.muli arg13 c16_i32_176
  let c13_i32 : BitVec 32 := 13#32
  let v330 : BitVec 32 := Scalar.addi v329 c13_i32
  let v331 : Index := Scalar.indexCast v330
  ![0, 0, v331.toNat]
def k0_off29 (v332 : BitVec 32) : Fin 3 → Nat :=
  let c65535_i32_179 : BitVec 32 := 65535#32
  let v333 : BitVec 32 := Scalar.andi v332 c65535_i32_179
  let v334 : Index := Scalar.indexCast v333
  let c0_180 : Index := 0#32
  let c0_181 : Index := 0#32
  ![v334.toNat, 0, 0]

def k0_chk15 (v332 : BitVec 32) : Prop :=
  (∀ a, (k0_off29 v332) a + S1x16x640.size a ≤ S1024x16x640.size a)
theorem k0_off29_inb : ∀ (v332 : BitVec 32) (k0_hw15 : k0_chk15 v332), ∀ a, (k0_off29 v332) a + S1x16x640.size a ≤ S1024x16x640.size a := fun v332 k0_hw15 => k0_hw15

def k0_off30 (v41 : BitVec 32) (k0_t1 : Fin (k0_t1_loop v41).trips) : Fin 3 → Nat :=
  let c0_187 : Index := 0#32
  let c0_188 : Index := 0#32
  let c0_i32_25 : BitVec 32 := 0#32
  let c1_i32_27 : BitVec 32 := 1#32
  let arg13 : BitVec 32 := Scf.iv c0_i32_25 c1_i32_27 k0_t1
  let c16_i32_186 : BitVec 32 := 16#32
  let v347 : BitVec 32 := Scalar.muli arg13 c16_i32_186
  let c14_i32 : BitVec 32 := 14#32
  let v348 : BitVec 32 := Scalar.addi v347 c14_i32
  let v349 : Index := Scalar.indexCast v348
  ![0, 0, v349.toNat]
def k0_off31 (v350 : BitVec 32) : Fin 3 → Nat :=
  let c65535_i32_189 : BitVec 32 := 65535#32
  let v351 : BitVec 32 := Scalar.andi v350 c65535_i32_189
  let v352 : Index := Scalar.indexCast v351
  let c0_190 : Index := 0#32
  let c0_191 : Index := 0#32
  ![v352.toNat, 0, 0]

def k0_chk16 (v350 : BitVec 32) : Prop :=
  (∀ a, (k0_off31 v350) a + S1x16x640.size a ≤ S1024x16x640.size a)
theorem k0_off31_inb : ∀ (v350 : BitVec 32) (k0_hw16 : k0_chk16 v350), ∀ a, (k0_off31 v350) a + S1x16x640.size a ≤ S1024x16x640.size a := fun v350 k0_hw16 => k0_hw16

def k0_off32 (v41 : BitVec 32) (k0_t1 : Fin (k0_t1_loop v41).trips) : Fin 3 → Nat :=
  let c0_197 : Index := 0#32
  let c0_198 : Index := 0#32
  let c0_i32_25 : BitVec 32 := 0#32
  let c1_i32_27 : BitVec 32 := 1#32
  let arg13 : BitVec 32 := Scf.iv c0_i32_25 c1_i32_27 k0_t1
  let c16_i32_196 : BitVec 32 := 16#32
  let v365 : BitVec 32 := Scalar.muli arg13 c16_i32_196
  let c15_i32 : BitVec 32 := 15#32
  let v366 : BitVec 32 := Scalar.addi v365 c15_i32
  let v367 : Index := Scalar.indexCast v366
  ![0, 0, v367.toNat]
def k0_off33 (v368 : BitVec 32) : Fin 3 → Nat :=
  let c65535_i32_199 : BitVec 32 := 65535#32
  let v369 : BitVec 32 := Scalar.andi v368 c65535_i32_199
  let v370 : Index := Scalar.indexCast v369
  let c0_200 : Index := 0#32
  let c0_201 : Index := 0#32
  ![v370.toNat, 0, 0]

def k0_chk17 (v368 : BitVec 32) : Prop :=
  (∀ a, (k0_off33 v368) a + S1x16x640.size a ≤ S1024x16x640.size a)
theorem k0_off33_inb : ∀ (v368 : BitVec 32) (k0_hw17 : k0_chk17 v368), ∀ a, (k0_off33 v368) a + S1x16x640.size a ≤ S1024x16x640.size a := fun v368 k0_hw17 => k0_hw17

@[reducible] def k0_t2_loop (v41 : BitVec 32) : Scf.Loop 32 :=
  let c0_i32_25 : BitVec 32 := 0#32
  let c16_i32_14 : BitVec 32 := 16#32
  let v42 : BitVec 32 := Scalar.addi v41 c16_i32_14
  let c1_i32_15 : BitVec 32 := 1#32
  let v43 : BitVec 32 := Scalar.subi v42 c1_i32_15
  let c0_i32_17 : BitVec 32 := 0#32
  let v45 : BitVec 1 := Scalar.cmpi .sgt v43 c0_i32_17
  let v46 : BitVec 32 := Scalar.extui v45
  let c0_i32_18 : BitVec 32 := 0#32
  let v47 : BitVec 1 := Scalar.cmpi .slt v43 c0_i32_18
  let v48 : BitVec 32 := Scalar.extui v47
  let v49 : BitVec 32 := Scalar.subi v46 v48
  let c16_i32_16 : BitVec 32 := 16#32
  let c0_i32_19 : BitVec 32 := 0#32
  let v50 : BitVec 1 := Scalar.cmpi .sgt c16_i32_16 c0_i32_19
  let v51 : BitVec 32 := Scalar.extui v50
  let c0_i32_20 : BitVec 32 := 0#32
  let v52 : BitVec 1 := Scalar.cmpi .slt c16_i32_16 c0_i32_20
  let v53 : BitVec 32 := Scalar.extui v52
  let v54 : BitVec 32 := Scalar.subi v51 v53
  let v55 : BitVec 1 := Scalar.cmpi .ne v49 v54
  let v56 : BitVec 32 := Scalar.remsi v43 c16_i32_16
  let c0_i32_21 : BitVec 32 := 0#32
  let v57 : BitVec 1 := Scalar.cmpi .ne v56 c0_i32_21
  let v58 : BitVec 1 := Scalar.andi v55 v57
  let v44 : BitVec 32 := Scalar.divsi v43 c16_i32_16
  let c1_i32_22 : BitVec 32 := 1#32
  let v59 : BitVec 32 := Scalar.subi v44 c1_i32_22
  let v60 : BitVec 32 := Scalar.select v58 v59 v44
  let v63 : BitVec 32 := Scalar.subi v60 c0_i32_25
  let c1_i32_26 : BitVec 32 := 1#32
  let v65 : BitVec 32 := Scalar.divsi v63 c1_i32_26
  let v66 : BitVec 32 := Scalar.muli v65 c1_i32_26
  let v67 : BitVec 32 := Scalar.addi c0_i32_25 v66
  let v64 : BitVec 32 := Scalar.addi c0_i32_25 v63
  let c1_i32_28 : BitVec 32 := 1#32
  ⟨v67, v64, c1_i32_28⟩
def k0_off34 (v41 : BitVec 32) (k0_t2 : Fin (k0_t2_loop v41).trips) : Fin 3 → Nat :=
  let c0_43 : Index := 0#32
  let c0_44 : Index := 0#32
  let c0_i32_25 : BitVec 32 := 0#32
  let c16_i32_14 : BitVec 32 := 16#32
  let v42 : BitVec 32 := Scalar.addi v41 c16_i32_14
  let c1_i32_15 : BitVec 32 := 1#32
  let v43 : BitVec 32 := Scalar.subi v42 c1_i32_15
  let c0_i32_17 : BitVec 32 := 0#32
  let v45 : BitVec 1 := Scalar.cmpi .sgt v43 c0_i32_17
  let v46 : BitVec 32 := Scalar.extui v45
  let c0_i32_18 : BitVec 32 := 0#32
  let v47 : BitVec 1 := Scalar.cmpi .slt v43 c0_i32_18
  let v48 : BitVec 32 := Scalar.extui v47
  let v49 : BitVec 32 := Scalar.subi v46 v48
  let c16_i32_16 : BitVec 32 := 16#32
  let c0_i32_19 : BitVec 32 := 0#32
  let v50 : BitVec 1 := Scalar.cmpi .sgt c16_i32_16 c0_i32_19
  let v51 : BitVec 32 := Scalar.extui v50
  let c0_i32_20 : BitVec 32 := 0#32
  let v52 : BitVec 1 := Scalar.cmpi .slt c16_i32_16 c0_i32_20
  let v53 : BitVec 32 := Scalar.extui v52
  let v54 : BitVec 32 := Scalar.subi v51 v53
  let v55 : BitVec 1 := Scalar.cmpi .ne v49 v54
  let v56 : BitVec 32 := Scalar.remsi v43 c16_i32_16
  let c0_i32_21 : BitVec 32 := 0#32
  let v57 : BitVec 1 := Scalar.cmpi .ne v56 c0_i32_21
  let v58 : BitVec 1 := Scalar.andi v55 v57
  let v44 : BitVec 32 := Scalar.divsi v43 c16_i32_16
  let c1_i32_22 : BitVec 32 := 1#32
  let v59 : BitVec 32 := Scalar.subi v44 c1_i32_22
  let v60 : BitVec 32 := Scalar.select v58 v59 v44
  let v63 : BitVec 32 := Scalar.subi v60 c0_i32_25
  let c1_i32_26 : BitVec 32 := 1#32
  let v65 : BitVec 32 := Scalar.divsi v63 c1_i32_26
  let v66 : BitVec 32 := Scalar.muli v65 c1_i32_26
  let v67 : BitVec 32 := Scalar.addi c0_i32_25 v66
  let c1_i32_28 : BitVec 32 := 1#32
  let arg13 : BitVec 32 := Scf.iv v67 c1_i32_28 k0_t2
  let c16_i32_41 : BitVec 32 := 16#32
  let v89 : BitVec 32 := Scalar.muli arg13 c16_i32_41
  let c0_i32_42 : BitVec 32 := 0#32
  let v90 : BitVec 32 := Scalar.addi v89 c0_i32_42
  let v91 : Index := Scalar.indexCast v90
  ![0, 0, v91.toNat]
def k0_off35 (v92 : BitVec 32) : Fin 3 → Nat :=
  let c65535_i32 : BitVec 32 := 65535#32
  let v93 : BitVec 32 := Scalar.andi v92 c65535_i32
  let v94 : Index := Scalar.indexCast v93
  let c0_45 : Index := 0#32
  let c0_46 : Index := 0#32
  ![v94.toNat, 0, 0]

def k0_chk18 (v92 : BitVec 32) : Prop :=
  (∀ a, (k0_off35 v92) a + S1x16x640.size a ≤ S1024x16x640.size a)
theorem k0_off35_inb : ∀ (v92 : BitVec 32) (k0_hw18 : k0_chk18 v92), ∀ a, (k0_off35 v92) a + S1x16x640.size a ≤ S1024x16x640.size a := fun v92 k0_hw18 => k0_hw18

def k0_off36 (v41 : BitVec 32) (k0_t2 : Fin (k0_t2_loop v41).trips) : Fin 3 → Nat :=
  let c0_57 : Index := 0#32
  let c0_58 : Index := 0#32
  let c0_i32_25 : BitVec 32 := 0#32
  let c16_i32_14 : BitVec 32 := 16#32
  let v42 : BitVec 32 := Scalar.addi v41 c16_i32_14
  let c1_i32_15 : BitVec 32 := 1#32
  let v43 : BitVec 32 := Scalar.subi v42 c1_i32_15
  let c0_i32_17 : BitVec 32 := 0#32
  let v45 : BitVec 1 := Scalar.cmpi .sgt v43 c0_i32_17
  let v46 : BitVec 32 := Scalar.extui v45
  let c0_i32_18 : BitVec 32 := 0#32
  let v47 : BitVec 1 := Scalar.cmpi .slt v43 c0_i32_18
  let v48 : BitVec 32 := Scalar.extui v47
  let v49 : BitVec 32 := Scalar.subi v46 v48
  let c16_i32_16 : BitVec 32 := 16#32
  let c0_i32_19 : BitVec 32 := 0#32
  let v50 : BitVec 1 := Scalar.cmpi .sgt c16_i32_16 c0_i32_19
  let v51 : BitVec 32 := Scalar.extui v50
  let c0_i32_20 : BitVec 32 := 0#32
  let v52 : BitVec 1 := Scalar.cmpi .slt c16_i32_16 c0_i32_20
  let v53 : BitVec 32 := Scalar.extui v52
  let v54 : BitVec 32 := Scalar.subi v51 v53
  let v55 : BitVec 1 := Scalar.cmpi .ne v49 v54
  let v56 : BitVec 32 := Scalar.remsi v43 c16_i32_16
  let c0_i32_21 : BitVec 32 := 0#32
  let v57 : BitVec 1 := Scalar.cmpi .ne v56 c0_i32_21
  let v58 : BitVec 1 := Scalar.andi v55 v57
  let v44 : BitVec 32 := Scalar.divsi v43 c16_i32_16
  let c1_i32_22 : BitVec 32 := 1#32
  let v59 : BitVec 32 := Scalar.subi v44 c1_i32_22
  let v60 : BitVec 32 := Scalar.select v58 v59 v44
  let v63 : BitVec 32 := Scalar.subi v60 c0_i32_25
  let c1_i32_26 : BitVec 32 := 1#32
  let v65 : BitVec 32 := Scalar.divsi v63 c1_i32_26
  let v66 : BitVec 32 := Scalar.muli v65 c1_i32_26
  let v67 : BitVec 32 := Scalar.addi c0_i32_25 v66
  let c1_i32_28 : BitVec 32 := 1#32
  let arg13 : BitVec 32 := Scf.iv v67 c1_i32_28 k0_t2
  let c16_i32_55 : BitVec 32 := 16#32
  let v113 : BitVec 32 := Scalar.muli arg13 c16_i32_55
  let c1_i32_56 : BitVec 32 := 1#32
  let v114 : BitVec 32 := Scalar.addi v113 c1_i32_56
  let v115 : Index := Scalar.indexCast v114
  ![0, 0, v115.toNat]
def k0_off37 (v116 : BitVec 32) : Fin 3 → Nat :=
  let c65535_i32_59 : BitVec 32 := 65535#32
  let v117 : BitVec 32 := Scalar.andi v116 c65535_i32_59
  let v118 : Index := Scalar.indexCast v117
  let c0_60 : Index := 0#32
  let c0_61 : Index := 0#32
  ![v118.toNat, 0, 0]

def k0_chk19 (v116 : BitVec 32) : Prop :=
  (∀ a, (k0_off37 v116) a + S1x16x640.size a ≤ S1024x16x640.size a)
theorem k0_off37_inb : ∀ (v116 : BitVec 32) (k0_hw19 : k0_chk19 v116), ∀ a, (k0_off37 v116) a + S1x16x640.size a ≤ S1024x16x640.size a := fun v116 k0_hw19 => k0_hw19

def k0_off38 (v41 : BitVec 32) (k0_t2 : Fin (k0_t2_loop v41).trips) : Fin 3 → Nat :=
  let c0_67 : Index := 0#32
  let c0_68 : Index := 0#32
  let c0_i32_25 : BitVec 32 := 0#32
  let c16_i32_14 : BitVec 32 := 16#32
  let v42 : BitVec 32 := Scalar.addi v41 c16_i32_14
  let c1_i32_15 : BitVec 32 := 1#32
  let v43 : BitVec 32 := Scalar.subi v42 c1_i32_15
  let c0_i32_17 : BitVec 32 := 0#32
  let v45 : BitVec 1 := Scalar.cmpi .sgt v43 c0_i32_17
  let v46 : BitVec 32 := Scalar.extui v45
  let c0_i32_18 : BitVec 32 := 0#32
  let v47 : BitVec 1 := Scalar.cmpi .slt v43 c0_i32_18
  let v48 : BitVec 32 := Scalar.extui v47
  let v49 : BitVec 32 := Scalar.subi v46 v48
  let c16_i32_16 : BitVec 32 := 16#32
  let c0_i32_19 : BitVec 32 := 0#32
  let v50 : BitVec 1 := Scalar.cmpi .sgt c16_i32_16 c0_i32_19
  let v51 : BitVec 32 := Scalar.extui v50
  let c0_i32_20 : BitVec 32 := 0#32
  let v52 : BitVec 1 := Scalar.cmpi .slt c16_i32_16 c0_i32_20
  let v53 : BitVec 32 := Scalar.extui v52
  let v54 : BitVec 32 := Scalar.subi v51 v53
  let v55 : BitVec 1 := Scalar.cmpi .ne v49 v54
  let v56 : BitVec 32 := Scalar.remsi v43 c16_i32_16
  let c0_i32_21 : BitVec 32 := 0#32
  let v57 : BitVec 1 := Scalar.cmpi .ne v56 c0_i32_21
  let v58 : BitVec 1 := Scalar.andi v55 v57
  let v44 : BitVec 32 := Scalar.divsi v43 c16_i32_16
  let c1_i32_22 : BitVec 32 := 1#32
  let v59 : BitVec 32 := Scalar.subi v44 c1_i32_22
  let v60 : BitVec 32 := Scalar.select v58 v59 v44
  let v63 : BitVec 32 := Scalar.subi v60 c0_i32_25
  let c1_i32_26 : BitVec 32 := 1#32
  let v65 : BitVec 32 := Scalar.divsi v63 c1_i32_26
  let v66 : BitVec 32 := Scalar.muli v65 c1_i32_26
  let v67 : BitVec 32 := Scalar.addi c0_i32_25 v66
  let c1_i32_28 : BitVec 32 := 1#32
  let arg13 : BitVec 32 := Scf.iv v67 c1_i32_28 k0_t2
  let c16_i32_66 : BitVec 32 := 16#32
  let v131 : BitVec 32 := Scalar.muli arg13 c16_i32_66
  let c2_i32 : BitVec 32 := 2#32
  let v132 : BitVec 32 := Scalar.addi v131 c2_i32
  let v133 : Index := Scalar.indexCast v132
  ![0, 0, v133.toNat]
def k0_off39 (v134 : BitVec 32) : Fin 3 → Nat :=
  let c65535_i32_69 : BitVec 32 := 65535#32
  let v135 : BitVec 32 := Scalar.andi v134 c65535_i32_69
  let v136 : Index := Scalar.indexCast v135
  let c0_70 : Index := 0#32
  let c0_71 : Index := 0#32
  ![v136.toNat, 0, 0]

def k0_chk20 (v134 : BitVec 32) : Prop :=
  (∀ a, (k0_off39 v134) a + S1x16x640.size a ≤ S1024x16x640.size a)
theorem k0_off39_inb : ∀ (v134 : BitVec 32) (k0_hw20 : k0_chk20 v134), ∀ a, (k0_off39 v134) a + S1x16x640.size a ≤ S1024x16x640.size a := fun v134 k0_hw20 => k0_hw20

def k0_off40 (v41 : BitVec 32) (k0_t2 : Fin (k0_t2_loop v41).trips) : Fin 3 → Nat :=
  let c0_77 : Index := 0#32
  let c0_78 : Index := 0#32
  let c0_i32_25 : BitVec 32 := 0#32
  let c16_i32_14 : BitVec 32 := 16#32
  let v42 : BitVec 32 := Scalar.addi v41 c16_i32_14
  let c1_i32_15 : BitVec 32 := 1#32
  let v43 : BitVec 32 := Scalar.subi v42 c1_i32_15
  let c0_i32_17 : BitVec 32 := 0#32
  let v45 : BitVec 1 := Scalar.cmpi .sgt v43 c0_i32_17
  let v46 : BitVec 32 := Scalar.extui v45
  let c0_i32_18 : BitVec 32 := 0#32
  let v47 : BitVec 1 := Scalar.cmpi .slt v43 c0_i32_18
  let v48 : BitVec 32 := Scalar.extui v47
  let v49 : BitVec 32 := Scalar.subi v46 v48
  let c16_i32_16 : BitVec 32 := 16#32
  let c0_i32_19 : BitVec 32 := 0#32
  let v50 : BitVec 1 := Scalar.cmpi .sgt c16_i32_16 c0_i32_19
  let v51 : BitVec 32 := Scalar.extui v50
  let c0_i32_20 : BitVec 32 := 0#32
  let v52 : BitVec 1 := Scalar.cmpi .slt c16_i32_16 c0_i32_20
  let v53 : BitVec 32 := Scalar.extui v52
  let v54 : BitVec 32 := Scalar.subi v51 v53
  let v55 : BitVec 1 := Scalar.cmpi .ne v49 v54
  let v56 : BitVec 32 := Scalar.remsi v43 c16_i32_16
  let c0_i32_21 : BitVec 32 := 0#32
  let v57 : BitVec 1 := Scalar.cmpi .ne v56 c0_i32_21
  let v58 : BitVec 1 := Scalar.andi v55 v57
  let v44 : BitVec 32 := Scalar.divsi v43 c16_i32_16
  let c1_i32_22 : BitVec 32 := 1#32
  let v59 : BitVec 32 := Scalar.subi v44 c1_i32_22
  let v60 : BitVec 32 := Scalar.select v58 v59 v44
  let v63 : BitVec 32 := Scalar.subi v60 c0_i32_25
  let c1_i32_26 : BitVec 32 := 1#32
  let v65 : BitVec 32 := Scalar.divsi v63 c1_i32_26
  let v66 : BitVec 32 := Scalar.muli v65 c1_i32_26
  let v67 : BitVec 32 := Scalar.addi c0_i32_25 v66
  let c1_i32_28 : BitVec 32 := 1#32
  let arg13 : BitVec 32 := Scf.iv v67 c1_i32_28 k0_t2
  let c16_i32_76 : BitVec 32 := 16#32
  let v149 : BitVec 32 := Scalar.muli arg13 c16_i32_76
  let c3_i32 : BitVec 32 := 3#32
  let v150 : BitVec 32 := Scalar.addi v149 c3_i32
  let v151 : Index := Scalar.indexCast v150
  ![0, 0, v151.toNat]
def k0_off41 (v152 : BitVec 32) : Fin 3 → Nat :=
  let c65535_i32_79 : BitVec 32 := 65535#32
  let v153 : BitVec 32 := Scalar.andi v152 c65535_i32_79
  let v154 : Index := Scalar.indexCast v153
  let c0_80 : Index := 0#32
  let c0_81 : Index := 0#32
  ![v154.toNat, 0, 0]

def k0_chk21 (v152 : BitVec 32) : Prop :=
  (∀ a, (k0_off41 v152) a + S1x16x640.size a ≤ S1024x16x640.size a)
theorem k0_off41_inb : ∀ (v152 : BitVec 32) (k0_hw21 : k0_chk21 v152), ∀ a, (k0_off41 v152) a + S1x16x640.size a ≤ S1024x16x640.size a := fun v152 k0_hw21 => k0_hw21

def k0_off42 (v41 : BitVec 32) (k0_t2 : Fin (k0_t2_loop v41).trips) : Fin 3 → Nat :=
  let c0_87 : Index := 0#32
  let c0_88 : Index := 0#32
  let c0_i32_25 : BitVec 32 := 0#32
  let c16_i32_14 : BitVec 32 := 16#32
  let v42 : BitVec 32 := Scalar.addi v41 c16_i32_14
  let c1_i32_15 : BitVec 32 := 1#32
  let v43 : BitVec 32 := Scalar.subi v42 c1_i32_15
  let c0_i32_17 : BitVec 32 := 0#32
  let v45 : BitVec 1 := Scalar.cmpi .sgt v43 c0_i32_17
  let v46 : BitVec 32 := Scalar.extui v45
  let c0_i32_18 : BitVec 32 := 0#32
  let v47 : BitVec 1 := Scalar.cmpi .slt v43 c0_i32_18
  let v48 : BitVec 32 := Scalar.extui v47
  let v49 : BitVec 32 := Scalar.subi v46 v48
  let c16_i32_16 : BitVec 32 := 16#32
  let c0_i32_19 : BitVec 32 := 0#32
  let v50 : BitVec 1 := Scalar.cmpi .sgt c16_i32_16 c0_i32_19
  let v51 : BitVec 32 := Scalar.extui v50
  let c0_i32_20 : BitVec 32 := 0#32
  let v52 : BitVec 1 := Scalar.cmpi .slt c16_i32_16 c0_i32_20
  let v53 : BitVec 32 := Scalar.extui v52
  let v54 : BitVec 32 := Scalar.subi v51 v53
  let v55 : BitVec 1 := Scalar.cmpi .ne v49 v54
  let v56 : BitVec 32 := Scalar.remsi v43 c16_i32_16
  let c0_i32_21 : BitVec 32 := 0#32
  let v57 : BitVec 1 := Scalar.cmpi .ne v56 c0_i32_21
  let v58 : BitVec 1 := Scalar.andi v55 v57
  let v44 : BitVec 32 := Scalar.divsi v43 c16_i32_16
  let c1_i32_22 : BitVec 32 := 1#32
  let v59 : BitVec 32 := Scalar.subi v44 c1_i32_22
  let v60 : BitVec 32 := Scalar.select v58 v59 v44
  let v63 : BitVec 32 := Scalar.subi v60 c0_i32_25
  let c1_i32_26 : BitVec 32 := 1#32
  let v65 : BitVec 32 := Scalar.divsi v63 c1_i32_26
  let v66 : BitVec 32 := Scalar.muli v65 c1_i32_26
  let v67 : BitVec 32 := Scalar.addi c0_i32_25 v66
  let c1_i32_28 : BitVec 32 := 1#32
  let arg13 : BitVec 32 := Scf.iv v67 c1_i32_28 k0_t2
  let c16_i32_86 : BitVec 32 := 16#32
  let v167 : BitVec 32 := Scalar.muli arg13 c16_i32_86
  let c4_i32 : BitVec 32 := 4#32
  let v168 : BitVec 32 := Scalar.addi v167 c4_i32
  let v169 : Index := Scalar.indexCast v168
  ![0, 0, v169.toNat]
def k0_off43 (v170 : BitVec 32) : Fin 3 → Nat :=
  let c65535_i32_89 : BitVec 32 := 65535#32
  let v171 : BitVec 32 := Scalar.andi v170 c65535_i32_89
  let v172 : Index := Scalar.indexCast v171
  let c0_90 : Index := 0#32
  let c0_91 : Index := 0#32
  ![v172.toNat, 0, 0]

def k0_chk22 (v170 : BitVec 32) : Prop :=
  (∀ a, (k0_off43 v170) a + S1x16x640.size a ≤ S1024x16x640.size a)
theorem k0_off43_inb : ∀ (v170 : BitVec 32) (k0_hw22 : k0_chk22 v170), ∀ a, (k0_off43 v170) a + S1x16x640.size a ≤ S1024x16x640.size a := fun v170 k0_hw22 => k0_hw22

def k0_off44 (v41 : BitVec 32) (k0_t2 : Fin (k0_t2_loop v41).trips) : Fin 3 → Nat :=
  let c0_97 : Index := 0#32
  let c0_98 : Index := 0#32
  let c0_i32_25 : BitVec 32 := 0#32
  let c16_i32_14 : BitVec 32 := 16#32
  let v42 : BitVec 32 := Scalar.addi v41 c16_i32_14
  let c1_i32_15 : BitVec 32 := 1#32
  let v43 : BitVec 32 := Scalar.subi v42 c1_i32_15
  let c0_i32_17 : BitVec 32 := 0#32
  let v45 : BitVec 1 := Scalar.cmpi .sgt v43 c0_i32_17
  let v46 : BitVec 32 := Scalar.extui v45
  let c0_i32_18 : BitVec 32 := 0#32
  let v47 : BitVec 1 := Scalar.cmpi .slt v43 c0_i32_18
  let v48 : BitVec 32 := Scalar.extui v47
  let v49 : BitVec 32 := Scalar.subi v46 v48
  let c16_i32_16 : BitVec 32 := 16#32
  let c0_i32_19 : BitVec 32 := 0#32
  let v50 : BitVec 1 := Scalar.cmpi .sgt c16_i32_16 c0_i32_19
  let v51 : BitVec 32 := Scalar.extui v50
  let c0_i32_20 : BitVec 32 := 0#32
  let v52 : BitVec 1 := Scalar.cmpi .slt c16_i32_16 c0_i32_20
  let v53 : BitVec 32 := Scalar.extui v52
  let v54 : BitVec 32 := Scalar.subi v51 v53
  let v55 : BitVec 1 := Scalar.cmpi .ne v49 v54
  let v56 : BitVec 32 := Scalar.remsi v43 c16_i32_16
  let c0_i32_21 : BitVec 32 := 0#32
  let v57 : BitVec 1 := Scalar.cmpi .ne v56 c0_i32_21
  let v58 : BitVec 1 := Scalar.andi v55 v57
  let v44 : BitVec 32 := Scalar.divsi v43 c16_i32_16
  let c1_i32_22 : BitVec 32 := 1#32
  let v59 : BitVec 32 := Scalar.subi v44 c1_i32_22
  let v60 : BitVec 32 := Scalar.select v58 v59 v44
  let v63 : BitVec 32 := Scalar.subi v60 c0_i32_25
  let c1_i32_26 : BitVec 32 := 1#32
  let v65 : BitVec 32 := Scalar.divsi v63 c1_i32_26
  let v66 : BitVec 32 := Scalar.muli v65 c1_i32_26
  let v67 : BitVec 32 := Scalar.addi c0_i32_25 v66
  let c1_i32_28 : BitVec 32 := 1#32
  let arg13 : BitVec 32 := Scf.iv v67 c1_i32_28 k0_t2
  let c16_i32_96 : BitVec 32 := 16#32
  let v185 : BitVec 32 := Scalar.muli arg13 c16_i32_96
  let c5_i32 : BitVec 32 := 5#32
  let v186 : BitVec 32 := Scalar.addi v185 c5_i32
  let v187 : Index := Scalar.indexCast v186
  ![0, 0, v187.toNat]
def k0_off45 (v188 : BitVec 32) : Fin 3 → Nat :=
  let c65535_i32_99 : BitVec 32 := 65535#32
  let v189 : BitVec 32 := Scalar.andi v188 c65535_i32_99
  let v190 : Index := Scalar.indexCast v189
  let c0_100 : Index := 0#32
  let c0_101 : Index := 0#32
  ![v190.toNat, 0, 0]

def k0_chk23 (v188 : BitVec 32) : Prop :=
  (∀ a, (k0_off45 v188) a + S1x16x640.size a ≤ S1024x16x640.size a)
theorem k0_off45_inb : ∀ (v188 : BitVec 32) (k0_hw23 : k0_chk23 v188), ∀ a, (k0_off45 v188) a + S1x16x640.size a ≤ S1024x16x640.size a := fun v188 k0_hw23 => k0_hw23

def k0_off46 (v41 : BitVec 32) (k0_t2 : Fin (k0_t2_loop v41).trips) : Fin 3 → Nat :=
  let c0_107 : Index := 0#32
  let c0_108 : Index := 0#32
  let c0_i32_25 : BitVec 32 := 0#32
  let c16_i32_14 : BitVec 32 := 16#32
  let v42 : BitVec 32 := Scalar.addi v41 c16_i32_14
  let c1_i32_15 : BitVec 32 := 1#32
  let v43 : BitVec 32 := Scalar.subi v42 c1_i32_15
  let c0_i32_17 : BitVec 32 := 0#32
  let v45 : BitVec 1 := Scalar.cmpi .sgt v43 c0_i32_17
  let v46 : BitVec 32 := Scalar.extui v45
  let c0_i32_18 : BitVec 32 := 0#32
  let v47 : BitVec 1 := Scalar.cmpi .slt v43 c0_i32_18
  let v48 : BitVec 32 := Scalar.extui v47
  let v49 : BitVec 32 := Scalar.subi v46 v48
  let c16_i32_16 : BitVec 32 := 16#32
  let c0_i32_19 : BitVec 32 := 0#32
  let v50 : BitVec 1 := Scalar.cmpi .sgt c16_i32_16 c0_i32_19
  let v51 : BitVec 32 := Scalar.extui v50
  let c0_i32_20 : BitVec 32 := 0#32
  let v52 : BitVec 1 := Scalar.cmpi .slt c16_i32_16 c0_i32_20
  let v53 : BitVec 32 := Scalar.extui v52
  let v54 : BitVec 32 := Scalar.subi v51 v53
  let v55 : BitVec 1 := Scalar.cmpi .ne v49 v54
  let v56 : BitVec 32 := Scalar.remsi v43 c16_i32_16
  let c0_i32_21 : BitVec 32 := 0#32
  let v57 : BitVec 1 := Scalar.cmpi .ne v56 c0_i32_21
  let v58 : BitVec 1 := Scalar.andi v55 v57
  let v44 : BitVec 32 := Scalar.divsi v43 c16_i32_16
  let c1_i32_22 : BitVec 32 := 1#32
  let v59 : BitVec 32 := Scalar.subi v44 c1_i32_22
  let v60 : BitVec 32 := Scalar.select v58 v59 v44
  let v63 : BitVec 32 := Scalar.subi v60 c0_i32_25
  let c1_i32_26 : BitVec 32 := 1#32
  let v65 : BitVec 32 := Scalar.divsi v63 c1_i32_26
  let v66 : BitVec 32 := Scalar.muli v65 c1_i32_26
  let v67 : BitVec 32 := Scalar.addi c0_i32_25 v66
  let c1_i32_28 : BitVec 32 := 1#32
  let arg13 : BitVec 32 := Scf.iv v67 c1_i32_28 k0_t2
  let c16_i32_106 : BitVec 32 := 16#32
  let v203 : BitVec 32 := Scalar.muli arg13 c16_i32_106
  let c6_i32 : BitVec 32 := 6#32
  let v204 : BitVec 32 := Scalar.addi v203 c6_i32
  let v205 : Index := Scalar.indexCast v204
  ![0, 0, v205.toNat]
def k0_off47 (v206 : BitVec 32) : Fin 3 → Nat :=
  let c65535_i32_109 : BitVec 32 := 65535#32
  let v207 : BitVec 32 := Scalar.andi v206 c65535_i32_109
  let v208 : Index := Scalar.indexCast v207
  let c0_110 : Index := 0#32
  let c0_111 : Index := 0#32
  ![v208.toNat, 0, 0]

def k0_chk24 (v206 : BitVec 32) : Prop :=
  (∀ a, (k0_off47 v206) a + S1x16x640.size a ≤ S1024x16x640.size a)
theorem k0_off47_inb : ∀ (v206 : BitVec 32) (k0_hw24 : k0_chk24 v206), ∀ a, (k0_off47 v206) a + S1x16x640.size a ≤ S1024x16x640.size a := fun v206 k0_hw24 => k0_hw24

def k0_off48 (v41 : BitVec 32) (k0_t2 : Fin (k0_t2_loop v41).trips) : Fin 3 → Nat :=
  let c0_117 : Index := 0#32
  let c0_118 : Index := 0#32
  let c0_i32_25 : BitVec 32 := 0#32
  let c16_i32_14 : BitVec 32 := 16#32
  let v42 : BitVec 32 := Scalar.addi v41 c16_i32_14
  let c1_i32_15 : BitVec 32 := 1#32
  let v43 : BitVec 32 := Scalar.subi v42 c1_i32_15
  let c0_i32_17 : BitVec 32 := 0#32
  let v45 : BitVec 1 := Scalar.cmpi .sgt v43 c0_i32_17
  let v46 : BitVec 32 := Scalar.extui v45
  let c0_i32_18 : BitVec 32 := 0#32
  let v47 : BitVec 1 := Scalar.cmpi .slt v43 c0_i32_18
  let v48 : BitVec 32 := Scalar.extui v47
  let v49 : BitVec 32 := Scalar.subi v46 v48
  let c16_i32_16 : BitVec 32 := 16#32
  let c0_i32_19 : BitVec 32 := 0#32
  let v50 : BitVec 1 := Scalar.cmpi .sgt c16_i32_16 c0_i32_19
  let v51 : BitVec 32 := Scalar.extui v50
  let c0_i32_20 : BitVec 32 := 0#32
  let v52 : BitVec 1 := Scalar.cmpi .slt c16_i32_16 c0_i32_20
  let v53 : BitVec 32 := Scalar.extui v52
  let v54 : BitVec 32 := Scalar.subi v51 v53
  let v55 : BitVec 1 := Scalar.cmpi .ne v49 v54
  let v56 : BitVec 32 := Scalar.remsi v43 c16_i32_16
  let c0_i32_21 : BitVec 32 := 0#32
  let v57 : BitVec 1 := Scalar.cmpi .ne v56 c0_i32_21
  let v58 : BitVec 1 := Scalar.andi v55 v57
  let v44 : BitVec 32 := Scalar.divsi v43 c16_i32_16
  let c1_i32_22 : BitVec 32 := 1#32
  let v59 : BitVec 32 := Scalar.subi v44 c1_i32_22
  let v60 : BitVec 32 := Scalar.select v58 v59 v44
  let v63 : BitVec 32 := Scalar.subi v60 c0_i32_25
  let c1_i32_26 : BitVec 32 := 1#32
  let v65 : BitVec 32 := Scalar.divsi v63 c1_i32_26
  let v66 : BitVec 32 := Scalar.muli v65 c1_i32_26
  let v67 : BitVec 32 := Scalar.addi c0_i32_25 v66
  let c1_i32_28 : BitVec 32 := 1#32
  let arg13 : BitVec 32 := Scf.iv v67 c1_i32_28 k0_t2
  let c16_i32_116 : BitVec 32 := 16#32
  let v221 : BitVec 32 := Scalar.muli arg13 c16_i32_116
  let c7_i32 : BitVec 32 := 7#32
  let v222 : BitVec 32 := Scalar.addi v221 c7_i32
  let v223 : Index := Scalar.indexCast v222
  ![0, 0, v223.toNat]
def k0_off49 (v224 : BitVec 32) : Fin 3 → Nat :=
  let c65535_i32_119 : BitVec 32 := 65535#32
  let v225 : BitVec 32 := Scalar.andi v224 c65535_i32_119
  let v226 : Index := Scalar.indexCast v225
  let c0_120 : Index := 0#32
  let c0_121 : Index := 0#32
  ![v226.toNat, 0, 0]

def k0_chk25 (v224 : BitVec 32) : Prop :=
  (∀ a, (k0_off49 v224) a + S1x16x640.size a ≤ S1024x16x640.size a)
theorem k0_off49_inb : ∀ (v224 : BitVec 32) (k0_hw25 : k0_chk25 v224), ∀ a, (k0_off49 v224) a + S1x16x640.size a ≤ S1024x16x640.size a := fun v224 k0_hw25 => k0_hw25

def k0_off50 (v41 : BitVec 32) (k0_t2 : Fin (k0_t2_loop v41).trips) : Fin 3 → Nat :=
  let c0_127 : Index := 0#32
  let c0_128 : Index := 0#32
  let c0_i32_25 : BitVec 32 := 0#32
  let c16_i32_14 : BitVec 32 := 16#32
  let v42 : BitVec 32 := Scalar.addi v41 c16_i32_14
  let c1_i32_15 : BitVec 32 := 1#32
  let v43 : BitVec 32 := Scalar.subi v42 c1_i32_15
  let c0_i32_17 : BitVec 32 := 0#32
  let v45 : BitVec 1 := Scalar.cmpi .sgt v43 c0_i32_17
  let v46 : BitVec 32 := Scalar.extui v45
  let c0_i32_18 : BitVec 32 := 0#32
  let v47 : BitVec 1 := Scalar.cmpi .slt v43 c0_i32_18
  let v48 : BitVec 32 := Scalar.extui v47
  let v49 : BitVec 32 := Scalar.subi v46 v48
  let c16_i32_16 : BitVec 32 := 16#32
  let c0_i32_19 : BitVec 32 := 0#32
  let v50 : BitVec 1 := Scalar.cmpi .sgt c16_i32_16 c0_i32_19
  let v51 : BitVec 32 := Scalar.extui v50
  let c0_i32_20 : BitVec 32 := 0#32
  let v52 : BitVec 1 := Scalar.cmpi .slt c16_i32_16 c0_i32_20
  let v53 : BitVec 32 := Scalar.extui v52
  let v54 : BitVec 32 := Scalar.subi v51 v53
  let v55 : BitVec 1 := Scalar.cmpi .ne v49 v54
  let v56 : BitVec 32 := Scalar.remsi v43 c16_i32_16
  let c0_i32_21 : BitVec 32 := 0#32
  let v57 : BitVec 1 := Scalar.cmpi .ne v56 c0_i32_21
  let v58 : BitVec 1 := Scalar.andi v55 v57
  let v44 : BitVec 32 := Scalar.divsi v43 c16_i32_16
  let c1_i32_22 : BitVec 32 := 1#32
  let v59 : BitVec 32 := Scalar.subi v44 c1_i32_22
  let v60 : BitVec 32 := Scalar.select v58 v59 v44
  let v63 : BitVec 32 := Scalar.subi v60 c0_i32_25
  let c1_i32_26 : BitVec 32 := 1#32
  let v65 : BitVec 32 := Scalar.divsi v63 c1_i32_26
  let v66 : BitVec 32 := Scalar.muli v65 c1_i32_26
  let v67 : BitVec 32 := Scalar.addi c0_i32_25 v66
  let c1_i32_28 : BitVec 32 := 1#32
  let arg13 : BitVec 32 := Scf.iv v67 c1_i32_28 k0_t2
  let c16_i32_126 : BitVec 32 := 16#32
  let v239 : BitVec 32 := Scalar.muli arg13 c16_i32_126
  let c8_i32 : BitVec 32 := 8#32
  let v240 : BitVec 32 := Scalar.addi v239 c8_i32
  let v241 : Index := Scalar.indexCast v240
  ![0, 0, v241.toNat]
def k0_off51 (v242 : BitVec 32) : Fin 3 → Nat :=
  let c65535_i32_129 : BitVec 32 := 65535#32
  let v243 : BitVec 32 := Scalar.andi v242 c65535_i32_129
  let v244 : Index := Scalar.indexCast v243
  let c0_130 : Index := 0#32
  let c0_131 : Index := 0#32
  ![v244.toNat, 0, 0]

def k0_chk26 (v242 : BitVec 32) : Prop :=
  (∀ a, (k0_off51 v242) a + S1x16x640.size a ≤ S1024x16x640.size a)
theorem k0_off51_inb : ∀ (v242 : BitVec 32) (k0_hw26 : k0_chk26 v242), ∀ a, (k0_off51 v242) a + S1x16x640.size a ≤ S1024x16x640.size a := fun v242 k0_hw26 => k0_hw26

def k0_off52 (v41 : BitVec 32) (k0_t2 : Fin (k0_t2_loop v41).trips) : Fin 3 → Nat :=
  let c0_137 : Index := 0#32
  let c0_138 : Index := 0#32
  let c0_i32_25 : BitVec 32 := 0#32
  let c16_i32_14 : BitVec 32 := 16#32
  let v42 : BitVec 32 := Scalar.addi v41 c16_i32_14
  let c1_i32_15 : BitVec 32 := 1#32
  let v43 : BitVec 32 := Scalar.subi v42 c1_i32_15
  let c0_i32_17 : BitVec 32 := 0#32
  let v45 : BitVec 1 := Scalar.cmpi .sgt v43 c0_i32_17
  let v46 : BitVec 32 := Scalar.extui v45
  let c0_i32_18 : BitVec 32 := 0#32
  let v47 : BitVec 1 := Scalar.cmpi .slt v43 c0_i32_18
  let v48 : BitVec 32 := Scalar.extui v47
  let v49 : BitVec 32 := Scalar.subi v46 v48
  let c16_i32_16 : BitVec 32 := 16#32
  let c0_i32_19 : BitVec 32 := 0#32
  let v50 : BitVec 1 := Scalar.cmpi .sgt c16_i32_16 c0_i32_19
  let v51 : BitVec 32 := Scalar.extui v50
  let c0_i32_20 : BitVec 32 := 0#32
  let v52 : BitVec 1 := Scalar.cmpi .slt c16_i32_16 c0_i32_20
  let v53 : BitVec 32 := Scalar.extui v52
  let v54 : BitVec 32 := Scalar.subi v51 v53
  let v55 : BitVec 1 := Scalar.cmpi .ne v49 v54
  let v56 : BitVec 32 := Scalar.remsi v43 c16_i32_16
  let c0_i32_21 : BitVec 32 := 0#32
  let v57 : BitVec 1 := Scalar.cmpi .ne v56 c0_i32_21
  let v58 : BitVec 1 := Scalar.andi v55 v57
  let v44 : BitVec 32 := Scalar.divsi v43 c16_i32_16
  let c1_i32_22 : BitVec 32 := 1#32
  let v59 : BitVec 32 := Scalar.subi v44 c1_i32_22
  let v60 : BitVec 32 := Scalar.select v58 v59 v44
  let v63 : BitVec 32 := Scalar.subi v60 c0_i32_25
  let c1_i32_26 : BitVec 32 := 1#32
  let v65 : BitVec 32 := Scalar.divsi v63 c1_i32_26
  let v66 : BitVec 32 := Scalar.muli v65 c1_i32_26
  let v67 : BitVec 32 := Scalar.addi c0_i32_25 v66
  let c1_i32_28 : BitVec 32 := 1#32
  let arg13 : BitVec 32 := Scf.iv v67 c1_i32_28 k0_t2
  let c16_i32_136 : BitVec 32 := 16#32
  let v257 : BitVec 32 := Scalar.muli arg13 c16_i32_136
  let c9_i32 : BitVec 32 := 9#32
  let v258 : BitVec 32 := Scalar.addi v257 c9_i32
  let v259 : Index := Scalar.indexCast v258
  ![0, 0, v259.toNat]
def k0_off53 (v260 : BitVec 32) : Fin 3 → Nat :=
  let c65535_i32_139 : BitVec 32 := 65535#32
  let v261 : BitVec 32 := Scalar.andi v260 c65535_i32_139
  let v262 : Index := Scalar.indexCast v261
  let c0_140 : Index := 0#32
  let c0_141 : Index := 0#32
  ![v262.toNat, 0, 0]

def k0_chk27 (v260 : BitVec 32) : Prop :=
  (∀ a, (k0_off53 v260) a + S1x16x640.size a ≤ S1024x16x640.size a)
theorem k0_off53_inb : ∀ (v260 : BitVec 32) (k0_hw27 : k0_chk27 v260), ∀ a, (k0_off53 v260) a + S1x16x640.size a ≤ S1024x16x640.size a := fun v260 k0_hw27 => k0_hw27

def k0_off54 (v41 : BitVec 32) (k0_t2 : Fin (k0_t2_loop v41).trips) : Fin 3 → Nat :=
  let c0_147 : Index := 0#32
  let c0_148 : Index := 0#32
  let c0_i32_25 : BitVec 32 := 0#32
  let c16_i32_14 : BitVec 32 := 16#32
  let v42 : BitVec 32 := Scalar.addi v41 c16_i32_14
  let c1_i32_15 : BitVec 32 := 1#32
  let v43 : BitVec 32 := Scalar.subi v42 c1_i32_15
  let c0_i32_17 : BitVec 32 := 0#32
  let v45 : BitVec 1 := Scalar.cmpi .sgt v43 c0_i32_17
  let v46 : BitVec 32 := Scalar.extui v45
  let c0_i32_18 : BitVec 32 := 0#32
  let v47 : BitVec 1 := Scalar.cmpi .slt v43 c0_i32_18
  let v48 : BitVec 32 := Scalar.extui v47
  let v49 : BitVec 32 := Scalar.subi v46 v48
  let c16_i32_16 : BitVec 32 := 16#32
  let c0_i32_19 : BitVec 32 := 0#32
  let v50 : BitVec 1 := Scalar.cmpi .sgt c16_i32_16 c0_i32_19
  let v51 : BitVec 32 := Scalar.extui v50
  let c0_i32_20 : BitVec 32 := 0#32
  let v52 : BitVec 1 := Scalar.cmpi .slt c16_i32_16 c0_i32_20
  let v53 : BitVec 32 := Scalar.extui v52
  let v54 : BitVec 32 := Scalar.subi v51 v53
  let v55 : BitVec 1 := Scalar.cmpi .ne v49 v54
  let v56 : BitVec 32 := Scalar.remsi v43 c16_i32_16
  let c0_i32_21 : BitVec 32 := 0#32
  let v57 : BitVec 1 := Scalar.cmpi .ne v56 c0_i32_21
  let v58 : BitVec 1 := Scalar.andi v55 v57
  let v44 : BitVec 32 := Scalar.divsi v43 c16_i32_16
  let c1_i32_22 : BitVec 32 := 1#32
  let v59 : BitVec 32 := Scalar.subi v44 c1_i32_22
  let v60 : BitVec 32 := Scalar.select v58 v59 v44
  let v63 : BitVec 32 := Scalar.subi v60 c0_i32_25
  let c1_i32_26 : BitVec 32 := 1#32
  let v65 : BitVec 32 := Scalar.divsi v63 c1_i32_26
  let v66 : BitVec 32 := Scalar.muli v65 c1_i32_26
  let v67 : BitVec 32 := Scalar.addi c0_i32_25 v66
  let c1_i32_28 : BitVec 32 := 1#32
  let arg13 : BitVec 32 := Scf.iv v67 c1_i32_28 k0_t2
  let c16_i32_146 : BitVec 32 := 16#32
  let v275 : BitVec 32 := Scalar.muli arg13 c16_i32_146
  let c10_i32 : BitVec 32 := 10#32
  let v276 : BitVec 32 := Scalar.addi v275 c10_i32
  let v277 : Index := Scalar.indexCast v276
  ![0, 0, v277.toNat]
def k0_off55 (v278 : BitVec 32) : Fin 3 → Nat :=
  let c65535_i32_149 : BitVec 32 := 65535#32
  let v279 : BitVec 32 := Scalar.andi v278 c65535_i32_149
  let v280 : Index := Scalar.indexCast v279
  let c0_150 : Index := 0#32
  let c0_151 : Index := 0#32
  ![v280.toNat, 0, 0]

def k0_chk28 (v278 : BitVec 32) : Prop :=
  (∀ a, (k0_off55 v278) a + S1x16x640.size a ≤ S1024x16x640.size a)
theorem k0_off55_inb : ∀ (v278 : BitVec 32) (k0_hw28 : k0_chk28 v278), ∀ a, (k0_off55 v278) a + S1x16x640.size a ≤ S1024x16x640.size a := fun v278 k0_hw28 => k0_hw28

def k0_off56 (v41 : BitVec 32) (k0_t2 : Fin (k0_t2_loop v41).trips) : Fin 3 → Nat :=
  let c0_157 : Index := 0#32
  let c0_158 : Index := 0#32
  let c0_i32_25 : BitVec 32 := 0#32
  let c16_i32_14 : BitVec 32 := 16#32
  let v42 : BitVec 32 := Scalar.addi v41 c16_i32_14
  let c1_i32_15 : BitVec 32 := 1#32
  let v43 : BitVec 32 := Scalar.subi v42 c1_i32_15
  let c0_i32_17 : BitVec 32 := 0#32
  let v45 : BitVec 1 := Scalar.cmpi .sgt v43 c0_i32_17
  let v46 : BitVec 32 := Scalar.extui v45
  let c0_i32_18 : BitVec 32 := 0#32
  let v47 : BitVec 1 := Scalar.cmpi .slt v43 c0_i32_18
  let v48 : BitVec 32 := Scalar.extui v47
  let v49 : BitVec 32 := Scalar.subi v46 v48
  let c16_i32_16 : BitVec 32 := 16#32
  let c0_i32_19 : BitVec 32 := 0#32
  let v50 : BitVec 1 := Scalar.cmpi .sgt c16_i32_16 c0_i32_19
  let v51 : BitVec 32 := Scalar.extui v50
  let c0_i32_20 : BitVec 32 := 0#32
  let v52 : BitVec 1 := Scalar.cmpi .slt c16_i32_16 c0_i32_20
  let v53 : BitVec 32 := Scalar.extui v52
  let v54 : BitVec 32 := Scalar.subi v51 v53
  let v55 : BitVec 1 := Scalar.cmpi .ne v49 v54
  let v56 : BitVec 32 := Scalar.remsi v43 c16_i32_16
  let c0_i32_21 : BitVec 32 := 0#32
  let v57 : BitVec 1 := Scalar.cmpi .ne v56 c0_i32_21
  let v58 : BitVec 1 := Scalar.andi v55 v57
  let v44 : BitVec 32 := Scalar.divsi v43 c16_i32_16
  let c1_i32_22 : BitVec 32 := 1#32
  let v59 : BitVec 32 := Scalar.subi v44 c1_i32_22
  let v60 : BitVec 32 := Scalar.select v58 v59 v44
  let v63 : BitVec 32 := Scalar.subi v60 c0_i32_25
  let c1_i32_26 : BitVec 32 := 1#32
  let v65 : BitVec 32 := Scalar.divsi v63 c1_i32_26
  let v66 : BitVec 32 := Scalar.muli v65 c1_i32_26
  let v67 : BitVec 32 := Scalar.addi c0_i32_25 v66
  let c1_i32_28 : BitVec 32 := 1#32
  let arg13 : BitVec 32 := Scf.iv v67 c1_i32_28 k0_t2
  let c16_i32_156 : BitVec 32 := 16#32
  let v293 : BitVec 32 := Scalar.muli arg13 c16_i32_156
  let c11_i32 : BitVec 32 := 11#32
  let v294 : BitVec 32 := Scalar.addi v293 c11_i32
  let v295 : Index := Scalar.indexCast v294
  ![0, 0, v295.toNat]
def k0_off57 (v296 : BitVec 32) : Fin 3 → Nat :=
  let c65535_i32_159 : BitVec 32 := 65535#32
  let v297 : BitVec 32 := Scalar.andi v296 c65535_i32_159
  let v298 : Index := Scalar.indexCast v297
  let c0_160 : Index := 0#32
  let c0_161 : Index := 0#32
  ![v298.toNat, 0, 0]

def k0_chk29 (v296 : BitVec 32) : Prop :=
  (∀ a, (k0_off57 v296) a + S1x16x640.size a ≤ S1024x16x640.size a)
theorem k0_off57_inb : ∀ (v296 : BitVec 32) (k0_hw29 : k0_chk29 v296), ∀ a, (k0_off57 v296) a + S1x16x640.size a ≤ S1024x16x640.size a := fun v296 k0_hw29 => k0_hw29

def k0_off58 (v41 : BitVec 32) (k0_t2 : Fin (k0_t2_loop v41).trips) : Fin 3 → Nat :=
  let c0_167 : Index := 0#32
  let c0_168 : Index := 0#32
  let c0_i32_25 : BitVec 32 := 0#32
  let c16_i32_14 : BitVec 32 := 16#32
  let v42 : BitVec 32 := Scalar.addi v41 c16_i32_14
  let c1_i32_15 : BitVec 32 := 1#32
  let v43 : BitVec 32 := Scalar.subi v42 c1_i32_15
  let c0_i32_17 : BitVec 32 := 0#32
  let v45 : BitVec 1 := Scalar.cmpi .sgt v43 c0_i32_17
  let v46 : BitVec 32 := Scalar.extui v45
  let c0_i32_18 : BitVec 32 := 0#32
  let v47 : BitVec 1 := Scalar.cmpi .slt v43 c0_i32_18
  let v48 : BitVec 32 := Scalar.extui v47
  let v49 : BitVec 32 := Scalar.subi v46 v48
  let c16_i32_16 : BitVec 32 := 16#32
  let c0_i32_19 : BitVec 32 := 0#32
  let v50 : BitVec 1 := Scalar.cmpi .sgt c16_i32_16 c0_i32_19
  let v51 : BitVec 32 := Scalar.extui v50
  let c0_i32_20 : BitVec 32 := 0#32
  let v52 : BitVec 1 := Scalar.cmpi .slt c16_i32_16 c0_i32_20
  let v53 : BitVec 32 := Scalar.extui v52
  let v54 : BitVec 32 := Scalar.subi v51 v53
  let v55 : BitVec 1 := Scalar.cmpi .ne v49 v54
  let v56 : BitVec 32 := Scalar.remsi v43 c16_i32_16
  let c0_i32_21 : BitVec 32 := 0#32
  let v57 : BitVec 1 := Scalar.cmpi .ne v56 c0_i32_21
  let v58 : BitVec 1 := Scalar.andi v55 v57
  let v44 : BitVec 32 := Scalar.divsi v43 c16_i32_16
  let c1_i32_22 : BitVec 32 := 1#32
  let v59 : BitVec 32 := Scalar.subi v44 c1_i32_22
  let v60 : BitVec 32 := Scalar.select v58 v59 v44
  let v63 : BitVec 32 := Scalar.subi v60 c0_i32_25
  let c1_i32_26 : BitVec 32 := 1#32
  let v65 : BitVec 32 := Scalar.divsi v63 c1_i32_26
  let v66 : BitVec 32 := Scalar.muli v65 c1_i32_26
  let v67 : BitVec 32 := Scalar.addi c0_i32_25 v66
  let c1_i32_28 : BitVec 32 := 1#32
  let arg13 : BitVec 32 := Scf.iv v67 c1_i32_28 k0_t2
  let c16_i32_166 : BitVec 32 := 16#32
  let v311 : BitVec 32 := Scalar.muli arg13 c16_i32_166
  let c12_i32 : BitVec 32 := 12#32
  let v312 : BitVec 32 := Scalar.addi v311 c12_i32
  let v313 : Index := Scalar.indexCast v312
  ![0, 0, v313.toNat]
def k0_off59 (v314 : BitVec 32) : Fin 3 → Nat :=
  let c65535_i32_169 : BitVec 32 := 65535#32
  let v315 : BitVec 32 := Scalar.andi v314 c65535_i32_169
  let v316 : Index := Scalar.indexCast v315
  let c0_170 : Index := 0#32
  let c0_171 : Index := 0#32
  ![v316.toNat, 0, 0]

def k0_chk30 (v314 : BitVec 32) : Prop :=
  (∀ a, (k0_off59 v314) a + S1x16x640.size a ≤ S1024x16x640.size a)
theorem k0_off59_inb : ∀ (v314 : BitVec 32) (k0_hw30 : k0_chk30 v314), ∀ a, (k0_off59 v314) a + S1x16x640.size a ≤ S1024x16x640.size a := fun v314 k0_hw30 => k0_hw30

def k0_off60 (v41 : BitVec 32) (k0_t2 : Fin (k0_t2_loop v41).trips) : Fin 3 → Nat :=
  let c0_177 : Index := 0#32
  let c0_178 : Index := 0#32
  let c0_i32_25 : BitVec 32 := 0#32
  let c16_i32_14 : BitVec 32 := 16#32
  let v42 : BitVec 32 := Scalar.addi v41 c16_i32_14
  let c1_i32_15 : BitVec 32 := 1#32
  let v43 : BitVec 32 := Scalar.subi v42 c1_i32_15
  let c0_i32_17 : BitVec 32 := 0#32
  let v45 : BitVec 1 := Scalar.cmpi .sgt v43 c0_i32_17
  let v46 : BitVec 32 := Scalar.extui v45
  let c0_i32_18 : BitVec 32 := 0#32
  let v47 : BitVec 1 := Scalar.cmpi .slt v43 c0_i32_18
  let v48 : BitVec 32 := Scalar.extui v47
  let v49 : BitVec 32 := Scalar.subi v46 v48
  let c16_i32_16 : BitVec 32 := 16#32
  let c0_i32_19 : BitVec 32 := 0#32
  let v50 : BitVec 1 := Scalar.cmpi .sgt c16_i32_16 c0_i32_19
  let v51 : BitVec 32 := Scalar.extui v50
  let c0_i32_20 : BitVec 32 := 0#32
  let v52 : BitVec 1 := Scalar.cmpi .slt c16_i32_16 c0_i32_20
  let v53 : BitVec 32 := Scalar.extui v52
  let v54 : BitVec 32 := Scalar.subi v51 v53
  let v55 : BitVec 1 := Scalar.cmpi .ne v49 v54
  let v56 : BitVec 32 := Scalar.remsi v43 c16_i32_16
  let c0_i32_21 : BitVec 32 := 0#32
  let v57 : BitVec 1 := Scalar.cmpi .ne v56 c0_i32_21
  let v58 : BitVec 1 := Scalar.andi v55 v57
  let v44 : BitVec 32 := Scalar.divsi v43 c16_i32_16
  let c1_i32_22 : BitVec 32 := 1#32
  let v59 : BitVec 32 := Scalar.subi v44 c1_i32_22
  let v60 : BitVec 32 := Scalar.select v58 v59 v44
  let v63 : BitVec 32 := Scalar.subi v60 c0_i32_25
  let c1_i32_26 : BitVec 32 := 1#32
  let v65 : BitVec 32 := Scalar.divsi v63 c1_i32_26
  let v66 : BitVec 32 := Scalar.muli v65 c1_i32_26
  let v67 : BitVec 32 := Scalar.addi c0_i32_25 v66
  let c1_i32_28 : BitVec 32 := 1#32
  let arg13 : BitVec 32 := Scf.iv v67 c1_i32_28 k0_t2
  let c16_i32_176 : BitVec 32 := 16#32
  let v329 : BitVec 32 := Scalar.muli arg13 c16_i32_176
  let c13_i32 : BitVec 32 := 13#32
  let v330 : BitVec 32 := Scalar.addi v329 c13_i32
  let v331 : Index := Scalar.indexCast v330
  ![0, 0, v331.toNat]
def k0_off61 (v332 : BitVec 32) : Fin 3 → Nat :=
  let c65535_i32_179 : BitVec 32 := 65535#32
  let v333 : BitVec 32 := Scalar.andi v332 c65535_i32_179
  let v334 : Index := Scalar.indexCast v333
  let c0_180 : Index := 0#32
  let c0_181 : Index := 0#32
  ![v334.toNat, 0, 0]

def k0_chk31 (v332 : BitVec 32) : Prop :=
  (∀ a, (k0_off61 v332) a + S1x16x640.size a ≤ S1024x16x640.size a)
theorem k0_off61_inb : ∀ (v332 : BitVec 32) (k0_hw31 : k0_chk31 v332), ∀ a, (k0_off61 v332) a + S1x16x640.size a ≤ S1024x16x640.size a := fun v332 k0_hw31 => k0_hw31

def k0_off62 (v41 : BitVec 32) (k0_t2 : Fin (k0_t2_loop v41).trips) : Fin 3 → Nat :=
  let c0_187 : Index := 0#32
  let c0_188 : Index := 0#32
  let c0_i32_25 : BitVec 32 := 0#32
  let c16_i32_14 : BitVec 32 := 16#32
  let v42 : BitVec 32 := Scalar.addi v41 c16_i32_14
  let c1_i32_15 : BitVec 32 := 1#32
  let v43 : BitVec 32 := Scalar.subi v42 c1_i32_15
  let c0_i32_17 : BitVec 32 := 0#32
  let v45 : BitVec 1 := Scalar.cmpi .sgt v43 c0_i32_17
  let v46 : BitVec 32 := Scalar.extui v45
  let c0_i32_18 : BitVec 32 := 0#32
  let v47 : BitVec 1 := Scalar.cmpi .slt v43 c0_i32_18
  let v48 : BitVec 32 := Scalar.extui v47
  let v49 : BitVec 32 := Scalar.subi v46 v48
  let c16_i32_16 : BitVec 32 := 16#32
  let c0_i32_19 : BitVec 32 := 0#32
  let v50 : BitVec 1 := Scalar.cmpi .sgt c16_i32_16 c0_i32_19
  let v51 : BitVec 32 := Scalar.extui v50
  let c0_i32_20 : BitVec 32 := 0#32
  let v52 : BitVec 1 := Scalar.cmpi .slt c16_i32_16 c0_i32_20
  let v53 : BitVec 32 := Scalar.extui v52
  let v54 : BitVec 32 := Scalar.subi v51 v53
  let v55 : BitVec 1 := Scalar.cmpi .ne v49 v54
  let v56 : BitVec 32 := Scalar.remsi v43 c16_i32_16
  let c0_i32_21 : BitVec 32 := 0#32
  let v57 : BitVec 1 := Scalar.cmpi .ne v56 c0_i32_21
  let v58 : BitVec 1 := Scalar.andi v55 v57
  let v44 : BitVec 32 := Scalar.divsi v43 c16_i32_16
  let c1_i32_22 : BitVec 32 := 1#32
  let v59 : BitVec 32 := Scalar.subi v44 c1_i32_22
  let v60 : BitVec 32 := Scalar.select v58 v59 v44
  let v63 : BitVec 32 := Scalar.subi v60 c0_i32_25
  let c1_i32_26 : BitVec 32 := 1#32
  let v65 : BitVec 32 := Scalar.divsi v63 c1_i32_26
  let v66 : BitVec 32 := Scalar.muli v65 c1_i32_26
  let v67 : BitVec 32 := Scalar.addi c0_i32_25 v66
  let c1_i32_28 : BitVec 32 := 1#32
  let arg13 : BitVec 32 := Scf.iv v67 c1_i32_28 k0_t2
  let c16_i32_186 : BitVec 32 := 16#32
  let v347 : BitVec 32 := Scalar.muli arg13 c16_i32_186
  let c14_i32 : BitVec 32 := 14#32
  let v348 : BitVec 32 := Scalar.addi v347 c14_i32
  let v349 : Index := Scalar.indexCast v348
  ![0, 0, v349.toNat]
def k0_off63 (v350 : BitVec 32) : Fin 3 → Nat :=
  let c65535_i32_189 : BitVec 32 := 65535#32
  let v351 : BitVec 32 := Scalar.andi v350 c65535_i32_189
  let v352 : Index := Scalar.indexCast v351
  let c0_190 : Index := 0#32
  let c0_191 : Index := 0#32
  ![v352.toNat, 0, 0]

def k0_chk32 (v350 : BitVec 32) : Prop :=
  (∀ a, (k0_off63 v350) a + S1x16x640.size a ≤ S1024x16x640.size a)
theorem k0_off63_inb : ∀ (v350 : BitVec 32) (k0_hw32 : k0_chk32 v350), ∀ a, (k0_off63 v350) a + S1x16x640.size a ≤ S1024x16x640.size a := fun v350 k0_hw32 => k0_hw32

def k0_off64 (v41 : BitVec 32) (k0_t2 : Fin (k0_t2_loop v41).trips) : Fin 3 → Nat :=
  let c0_197 : Index := 0#32
  let c0_198 : Index := 0#32
  let c0_i32_25 : BitVec 32 := 0#32
  let c16_i32_14 : BitVec 32 := 16#32
  let v42 : BitVec 32 := Scalar.addi v41 c16_i32_14
  let c1_i32_15 : BitVec 32 := 1#32
  let v43 : BitVec 32 := Scalar.subi v42 c1_i32_15
  let c0_i32_17 : BitVec 32 := 0#32
  let v45 : BitVec 1 := Scalar.cmpi .sgt v43 c0_i32_17
  let v46 : BitVec 32 := Scalar.extui v45
  let c0_i32_18 : BitVec 32 := 0#32
  let v47 : BitVec 1 := Scalar.cmpi .slt v43 c0_i32_18
  let v48 : BitVec 32 := Scalar.extui v47
  let v49 : BitVec 32 := Scalar.subi v46 v48
  let c16_i32_16 : BitVec 32 := 16#32
  let c0_i32_19 : BitVec 32 := 0#32
  let v50 : BitVec 1 := Scalar.cmpi .sgt c16_i32_16 c0_i32_19
  let v51 : BitVec 32 := Scalar.extui v50
  let c0_i32_20 : BitVec 32 := 0#32
  let v52 : BitVec 1 := Scalar.cmpi .slt c16_i32_16 c0_i32_20
  let v53 : BitVec 32 := Scalar.extui v52
  let v54 : BitVec 32 := Scalar.subi v51 v53
  let v55 : BitVec 1 := Scalar.cmpi .ne v49 v54
  let v56 : BitVec 32 := Scalar.remsi v43 c16_i32_16
  let c0_i32_21 : BitVec 32 := 0#32
  let v57 : BitVec 1 := Scalar.cmpi .ne v56 c0_i32_21
  let v58 : BitVec 1 := Scalar.andi v55 v57
  let v44 : BitVec 32 := Scalar.divsi v43 c16_i32_16
  let c1_i32_22 : BitVec 32 := 1#32
  let v59 : BitVec 32 := Scalar.subi v44 c1_i32_22
  let v60 : BitVec 32 := Scalar.select v58 v59 v44
  let v63 : BitVec 32 := Scalar.subi v60 c0_i32_25
  let c1_i32_26 : BitVec 32 := 1#32
  let v65 : BitVec 32 := Scalar.divsi v63 c1_i32_26
  let v66 : BitVec 32 := Scalar.muli v65 c1_i32_26
  let v67 : BitVec 32 := Scalar.addi c0_i32_25 v66
  let c1_i32_28 : BitVec 32 := 1#32
  let arg13 : BitVec 32 := Scf.iv v67 c1_i32_28 k0_t2
  let c16_i32_196 : BitVec 32 := 16#32
  let v365 : BitVec 32 := Scalar.muli arg13 c16_i32_196
  let c15_i32 : BitVec 32 := 15#32
  let v366 : BitVec 32 := Scalar.addi v365 c15_i32
  let v367 : Index := Scalar.indexCast v366
  ![0, 0, v367.toNat]

def k0_chk1_0 (v41 : BitVec 32) : Prop :=
  ((k0_t1_loop v41).OK) ∧
  (∀ k0_t1 : Fin (k0_t1_loop v41).trips, ∀ a, (k0_off2 v41 k0_t1) a + S1x1x1.size a ≤ S1x1x1024.size a) ∧
  (∀ k0_t1 : Fin (k0_t1_loop v41).trips, ∀ a, (k0_off4 v41 k0_t1) a + S1x1x1.size a ≤ S1x1x1024.size a) ∧
  (∀ k0_t1 : Fin (k0_t1_loop v41).trips, ∀ a, (k0_off6 v41 k0_t1) a + S1x1x1.size a ≤ S1x1x1024.size a) ∧
  (∀ k0_t1 : Fin (k0_t1_loop v41).trips, ∀ a, (k0_off8 v41 k0_t1) a + S1x1x1.size a ≤ S1x1x1024.size a) ∧
  (∀ k0_t1 : Fin (k0_t1_loop v41).trips, ∀ a, (k0_off10 v41 k0_t1) a + S1x1x1.size a ≤ S1x1x1024.size a) ∧
  (∀ k0_t1 : Fin (k0_t1_loop v41).trips, ∀ a, (k0_off12 v41 k0_t1) a + S1x1x1.size a ≤ S1x1x1024.size a) ∧
  (∀ k0_t1 : Fin (k0_t1_loop v41).trips, ∀ a, (k0_off14 v41 k0_t1) a + S1x1x1.size a ≤ S1x1x1024.size a) ∧
  (∀ k0_t1 : Fin (k0_t1_loop v41).trips, ∀ a, (k0_off16 v41 k0_t1) a + S1x1x1.size a ≤ S1x1x1024.size a) ∧
  (∀ k0_t1 : Fin (k0_t1_loop v41).trips, ∀ a, (k0_off18 v41 k0_t1) a + S1x1x1.size a ≤ S1x1x1024.size a) ∧
  (∀ k0_t1 : Fin (k0_t1_loop v41).trips, ∀ a, (k0_off20 v41 k0_t1) a + S1x1x1.size a ≤ S1x1x1024.size a) ∧
  (∀ k0_t1 : Fin (k0_t1_loop v41).trips, ∀ a, (k0_off22 v41 k0_t1) a + S1x1x1.size a ≤ S1x1x1024.size a) ∧
  (∀ k0_t1 : Fin (k0_t1_loop v41).trips, ∀ a, (k0_off24 v41 k0_t1) a + S1x1x1.size a ≤ S1x1x1024.size a) ∧
  (∀ k0_t1 : Fin (k0_t1_loop v41).trips, ∀ a, (k0_off26 v41 k0_t1) a + S1x1x1.size a ≤ S1x1x1024.size a) ∧
  (∀ k0_t1 : Fin (k0_t1_loop v41).trips, ∀ a, (k0_off28 v41 k0_t1) a + S1x1x1.size a ≤ S1x1x1024.size a) ∧
  (∀ k0_t1 : Fin (k0_t1_loop v41).trips, ∀ a, (k0_off30 v41 k0_t1) a + S1x1x1.size a ≤ S1x1x1024.size a) ∧
  (∀ k0_t1 : Fin (k0_t1_loop v41).trips, ∀ a, (k0_off32 v41 k0_t1) a + S1x1x1.size a ≤ S1x1x1024.size a) ∧
  ((k0_t2_loop v41).OK) ∧
  (∀ k0_t2 : Fin (k0_t2_loop v41).trips, ∀ a, (k0_off34 v41 k0_t2) a + S1x1x1.size a ≤ S1x1x1024.size a) ∧
  (∀ k0_t2 : Fin (k0_t2_loop v41).trips, ∀ a, (k0_off36 v41 k0_t2) a + S1x1x1.size a ≤ S1x1x1024.size a) ∧
  (∀ k0_t2 : Fin (k0_t2_loop v41).trips, ∀ a, (k0_off38 v41 k0_t2) a + S1x1x1.size a ≤ S1x1x1024.size a) ∧
  (∀ k0_t2 : Fin (k0_t2_loop v41).trips, ∀ a, (k0_off40 v41 k0_t2) a + S1x1x1.size a ≤ S1x1x1024.size a) ∧
  (∀ k0_t2 : Fin (k0_t2_loop v41).trips, ∀ a, (k0_off42 v41 k0_t2) a + S1x1x1.size a ≤ S1x1x1024.size a) ∧
  (∀ k0_t2 : Fin (k0_t2_loop v41).trips, ∀ a, (k0_off44 v41 k0_t2) a + S1x1x1.size a ≤ S1x1x1024.size a) ∧
  (∀ k0_t2 : Fin (k0_t2_loop v41).trips, ∀ a, (k0_off46 v41 k0_t2) a + S1x1x1.size a ≤ S1x1x1024.size a) ∧
  (∀ k0_t2 : Fin (k0_t2_loop v41).trips, ∀ a, (k0_off48 v41 k0_t2) a + S1x1x1.size a ≤ S1x1x1024.size a) ∧
  (∀ k0_t2 : Fin (k0_t2_loop v41).trips, ∀ a, (k0_off50 v41 k0_t2) a + S1x1x1.size a ≤ S1x1x1024.size a) ∧
  (∀ k0_t2 : Fin (k0_t2_loop v41).trips, ∀ a, (k0_off52 v41 k0_t2) a + S1x1x1.size a ≤ S1x1x1024.size a) ∧
  (∀ k0_t2 : Fin (k0_t2_loop v41).trips, ∀ a, (k0_off54 v41 k0_t2) a + S1x1x1.size a ≤ S1x1x1024.size a) ∧
  (∀ k0_t2 : Fin (k0_t2_loop v41).trips, ∀ a, (k0_off56 v41 k0_t2) a + S1x1x1.size a ≤ S1x1x1024.size a) ∧
  (∀ k0_t2 : Fin (k0_t2_loop v41).trips, ∀ a, (k0_off58 v41 k0_t2) a + S1x1x1.size a ≤ S1x1x1024.size a) ∧
  (∀ k0_t2 : Fin (k0_t2_loop v41).trips, ∀ a, (k0_off60 v41 k0_t2) a + S1x1x1.size a ≤ S1x1x1024.size a)
def k0_chk1_1 (v41 : BitVec 32) : Prop :=
  (∀ k0_t2 : Fin (k0_t2_loop v41).trips, ∀ a, (k0_off62 v41 k0_t2) a + S1x1x1.size a ≤ S1x1x1024.size a) ∧
  (∀ k0_t2 : Fin (k0_t2_loop v41).trips, ∀ a, (k0_off64 v41 k0_t2) a + S1x1x1.size a ≤ S1x1x1024.size a)
def k0_chk1 (v41 : BitVec 32) : Prop :=
  k0_chk1_0 v41 ∧
  k0_chk1_1 v41
theorem k0_t1_ok : ∀ (v41 : BitVec 32) (k0_hw1 : k0_chk1 v41), (k0_t1_loop v41).OK := fun v41 k0_hw1 => k0_hw1.1.1
theorem k0_off2_inb : ∀ (v41 : BitVec 32) (k0_hw1 : k0_chk1 v41) (k0_t1 : Fin (k0_t1_loop v41).trips), ∀ a, (k0_off2 v41 k0_t1) a + S1x1x1.size a ≤ S1x1x1024.size a := fun v41 k0_hw1 k0_t1 => k0_hw1.1.2.1 k0_t1
theorem k0_off4_inb : ∀ (v41 : BitVec 32) (k0_hw1 : k0_chk1 v41) (k0_t1 : Fin (k0_t1_loop v41).trips), ∀ a, (k0_off4 v41 k0_t1) a + S1x1x1.size a ≤ S1x1x1024.size a := fun v41 k0_hw1 k0_t1 => k0_hw1.1.2.2.1 k0_t1
theorem k0_off6_inb : ∀ (v41 : BitVec 32) (k0_hw1 : k0_chk1 v41) (k0_t1 : Fin (k0_t1_loop v41).trips), ∀ a, (k0_off6 v41 k0_t1) a + S1x1x1.size a ≤ S1x1x1024.size a := fun v41 k0_hw1 k0_t1 => k0_hw1.1.2.2.2.1 k0_t1
theorem k0_off8_inb : ∀ (v41 : BitVec 32) (k0_hw1 : k0_chk1 v41) (k0_t1 : Fin (k0_t1_loop v41).trips), ∀ a, (k0_off8 v41 k0_t1) a + S1x1x1.size a ≤ S1x1x1024.size a := fun v41 k0_hw1 k0_t1 => k0_hw1.1.2.2.2.2.1 k0_t1
theorem k0_off10_inb : ∀ (v41 : BitVec 32) (k0_hw1 : k0_chk1 v41) (k0_t1 : Fin (k0_t1_loop v41).trips), ∀ a, (k0_off10 v41 k0_t1) a + S1x1x1.size a ≤ S1x1x1024.size a := fun v41 k0_hw1 k0_t1 => k0_hw1.1.2.2.2.2.2.1 k0_t1
theorem k0_off12_inb : ∀ (v41 : BitVec 32) (k0_hw1 : k0_chk1 v41) (k0_t1 : Fin (k0_t1_loop v41).trips), ∀ a, (k0_off12 v41 k0_t1) a + S1x1x1.size a ≤ S1x1x1024.size a := fun v41 k0_hw1 k0_t1 => k0_hw1.1.2.2.2.2.2.2.1 k0_t1
theorem k0_off14_inb : ∀ (v41 : BitVec 32) (k0_hw1 : k0_chk1 v41) (k0_t1 : Fin (k0_t1_loop v41).trips), ∀ a, (k0_off14 v41 k0_t1) a + S1x1x1.size a ≤ S1x1x1024.size a := fun v41 k0_hw1 k0_t1 => k0_hw1.1.2.2.2.2.2.2.2.1 k0_t1
theorem k0_off16_inb : ∀ (v41 : BitVec 32) (k0_hw1 : k0_chk1 v41) (k0_t1 : Fin (k0_t1_loop v41).trips), ∀ a, (k0_off16 v41 k0_t1) a + S1x1x1.size a ≤ S1x1x1024.size a := fun v41 k0_hw1 k0_t1 => k0_hw1.1.2.2.2.2.2.2.2.2.1 k0_t1
theorem k0_off18_inb : ∀ (v41 : BitVec 32) (k0_hw1 : k0_chk1 v41) (k0_t1 : Fin (k0_t1_loop v41).trips), ∀ a, (k0_off18 v41 k0_t1) a + S1x1x1.size a ≤ S1x1x1024.size a := fun v41 k0_hw1 k0_t1 => k0_hw1.1.2.2.2.2.2.2.2.2.2.1 k0_t1
theorem k0_off20_inb : ∀ (v41 : BitVec 32) (k0_hw1 : k0_chk1 v41) (k0_t1 : Fin (k0_t1_loop v41).trips), ∀ a, (k0_off20 v41 k0_t1) a + S1x1x1.size a ≤ S1x1x1024.size a := fun v41 k0_hw1 k0_t1 => k0_hw1.1.2.2.2.2.2.2.2.2.2.2.1 k0_t1
theorem k0_off22_inb : ∀ (v41 : BitVec 32) (k0_hw1 : k0_chk1 v41) (k0_t1 : Fin (k0_t1_loop v41).trips), ∀ a, (k0_off22 v41 k0_t1) a + S1x1x1.size a ≤ S1x1x1024.size a := fun v41 k0_hw1 k0_t1 => k0_hw1.1.2.2.2.2.2.2.2.2.2.2.2.1 k0_t1
theorem k0_off24_inb : ∀ (v41 : BitVec 32) (k0_hw1 : k0_chk1 v41) (k0_t1 : Fin (k0_t1_loop v41).trips), ∀ a, (k0_off24 v41 k0_t1) a + S1x1x1.size a ≤ S1x1x1024.size a := fun v41 k0_hw1 k0_t1 => k0_hw1.1.2.2.2.2.2.2.2.2.2.2.2.2.1 k0_t1
theorem k0_off26_inb : ∀ (v41 : BitVec 32) (k0_hw1 : k0_chk1 v41) (k0_t1 : Fin (k0_t1_loop v41).trips), ∀ a, (k0_off26 v41 k0_t1) a + S1x1x1.size a ≤ S1x1x1024.size a := fun v41 k0_hw1 k0_t1 => k0_hw1.1.2.2.2.2.2.2.2.2.2.2.2.2.2.1 k0_t1
theorem k0_off28_inb : ∀ (v41 : BitVec 32) (k0_hw1 : k0_chk1 v41) (k0_t1 : Fin (k0_t1_loop v41).trips), ∀ a, (k0_off28 v41 k0_t1) a + S1x1x1.size a ≤ S1x1x1024.size a := fun v41 k0_hw1 k0_t1 => k0_hw1.1.2.2.2.2.2.2.2.2.2.2.2.2.2.2.1 k0_t1
theorem k0_off30_inb : ∀ (v41 : BitVec 32) (k0_hw1 : k0_chk1 v41) (k0_t1 : Fin (k0_t1_loop v41).trips), ∀ a, (k0_off30 v41 k0_t1) a + S1x1x1.size a ≤ S1x1x1024.size a := fun v41 k0_hw1 k0_t1 => k0_hw1.1.2.2.2.2.2.2.2.2.2.2.2.2.2.2.2.1 k0_t1
theorem k0_off32_inb : ∀ (v41 : BitVec 32) (k0_hw1 : k0_chk1 v41) (k0_t1 : Fin (k0_t1_loop v41).trips), ∀ a, (k0_off32 v41 k0_t1) a + S1x1x1.size a ≤ S1x1x1024.size a := fun v41 k0_hw1 k0_t1 => k0_hw1.1.2.2.2.2.2.2.2.2.2.2.2.2.2.2.2.2.1 k0_t1
theorem k0_t2_ok : ∀ (v41 : BitVec 32) (k0_hw1 : k0_chk1 v41), (k0_t2_loop v41).OK := fun v41 k0_hw1 => k0_hw1.1.2.2.2.2.2.2.2.2.2.2.2.2.2.2.2.2.2.1
theorem k0_off34_inb : ∀ (v41 : BitVec 32) (k0_hw1 : k0_chk1 v41) (k0_t2 : Fin (k0_t2_loop v41).trips), ∀ a, (k0_off34 v41 k0_t2) a + S1x1x1.size a ≤ S1x1x1024.size a := fun v41 k0_hw1 k0_t2 => k0_hw1.1.2.2.2.2.2.2.2.2.2.2.2.2.2.2.2.2.2.2.1 k0_t2
theorem k0_off36_inb : ∀ (v41 : BitVec 32) (k0_hw1 : k0_chk1 v41) (k0_t2 : Fin (k0_t2_loop v41).trips), ∀ a, (k0_off36 v41 k0_t2) a + S1x1x1.size a ≤ S1x1x1024.size a := fun v41 k0_hw1 k0_t2 => k0_hw1.1.2.2.2.2.2.2.2.2.2.2.2.2.2.2.2.2.2.2.2.1 k0_t2
theorem k0_off38_inb : ∀ (v41 : BitVec 32) (k0_hw1 : k0_chk1 v41) (k0_t2 : Fin (k0_t2_loop v41).trips), ∀ a, (k0_off38 v41 k0_t2) a + S1x1x1.size a ≤ S1x1x1024.size a := fun v41 k0_hw1 k0_t2 => k0_hw1.1.2.2.2.2.2.2.2.2.2.2.2.2.2.2.2.2.2.2.2.2.1 k0_t2
theorem k0_off40_inb : ∀ (v41 : BitVec 32) (k0_hw1 : k0_chk1 v41) (k0_t2 : Fin (k0_t2_loop v41).trips), ∀ a, (k0_off40 v41 k0_t2) a + S1x1x1.size a ≤ S1x1x1024.size a := fun v41 k0_hw1 k0_t2 => k0_hw1.1.2.2.2.2.2.2.2.2.2.2.2.2.2.2.2.2.2.2.2.2.2.1 k0_t2
theorem k0_off42_inb : ∀ (v41 : BitVec 32) (k0_hw1 : k0_chk1 v41) (k0_t2 : Fin (k0_t2_loop v41).trips), ∀ a, (k0_off42 v41 k0_t2) a + S1x1x1.size a ≤ S1x1x1024.size a := fun v41 k0_hw1 k0_t2 => k0_hw1.1.2.2.2.2.2.2.2.2.2.2.2.2.2.2.2.2.2.2.2.2.2.2.1 k0_t2
theorem k0_off44_inb : ∀ (v41 : BitVec 32) (k0_hw1 : k0_chk1 v41) (k0_t2 : Fin (k0_t2_loop v41).trips), ∀ a, (k0_off44 v41 k0_t2) a + S1x1x1.size a ≤ S1x1x1024.size a := fun v41 k0_hw1 k0_t2 => k0_hw1.1.2.2.2.2.2.2.2.2.2.2.2.2.2.2.2.2.2.2.2.2.2.2.2.1 k0_t2
theorem k0_off46_inb : ∀ (v41 : BitVec 32) (k0_hw1 : k0_chk1 v41) (k0_t2 : Fin (k0_t2_loop v41).trips), ∀ a, (k0_off46 v41 k0_t2) a + S1x1x1.size a ≤ S1x1x1024.size a := fun v41 k0_hw1 k0_t2 => k0_hw1.1.2.2.2.2.2.2.2.2.2.2.2.2.2.2.2.2.2.2.2.2.2.2.2.2.1 k0_t2
theorem k0_off48_inb : ∀ (v41 : BitVec 32) (k0_hw1 : k0_chk1 v41) (k0_t2 : Fin (k0_t2_loop v41).trips), ∀ a, (k0_off48 v41 k0_t2) a + S1x1x1.size a ≤ S1x1x1024.size a := fun v41 k0_hw1 k0_t2 => k0_hw1.1.2.2.2.2.2.2.2.2.2.2.2.2.2.2.2.2.2.2.2.2.2.2.2.2.2.1 k0_t2
theorem k0_off50_inb : ∀ (v41 : BitVec 32) (k0_hw1 : k0_chk1 v41) (k0_t2 : Fin (k0_t2_loop v41).trips), ∀ a, (k0_off50 v41 k0_t2) a + S1x1x1.size a ≤ S1x1x1024.size a := fun v41 k0_hw1 k0_t2 => k0_hw1.1.2.2.2.2.2.2.2.2.2.2.2.2.2.2.2.2.2.2.2.2.2.2.2.2.2.2.1 k0_t2
theorem k0_off52_inb : ∀ (v41 : BitVec 32) (k0_hw1 : k0_chk1 v41) (k0_t2 : Fin (k0_t2_loop v41).trips), ∀ a, (k0_off52 v41 k0_t2) a + S1x1x1.size a ≤ S1x1x1024.size a := fun v41 k0_hw1 k0_t2 => k0_hw1.1.2.2.2.2.2.2.2.2.2.2.2.2.2.2.2.2.2.2.2.2.2.2.2.2.2.2.2.1 k0_t2
theorem k0_off54_inb : ∀ (v41 : BitVec 32) (k0_hw1 : k0_chk1 v41) (k0_t2 : Fin (k0_t2_loop v41).trips), ∀ a, (k0_off54 v41 k0_t2) a + S1x1x1.size a ≤ S1x1x1024.size a := fun v41 k0_hw1 k0_t2 => k0_hw1.1.2.2.2.2.2.2.2.2.2.2.2.2.2.2.2.2.2.2.2.2.2.2.2.2.2.2.2.2.1 k0_t2
theorem k0_off56_inb : ∀ (v41 : BitVec 32) (k0_hw1 : k0_chk1 v41) (k0_t2 : Fin (k0_t2_loop v41).trips), ∀ a, (k0_off56 v41 k0_t2) a + S1x1x1.size a ≤ S1x1x1024.size a := fun v41 k0_hw1 k0_t2 => k0_hw1.1.2.2.2.2.2.2.2.2.2.2.2.2.2.2.2.2.2.2.2.2.2.2.2.2.2.2.2.2.2.1 k0_t2
theorem k0_off58_inb : ∀ (v41 : BitVec 32) (k0_hw1 : k0_chk1 v41) (k0_t2 : Fin (k0_t2_loop v41).trips), ∀ a, (k0_off58 v41 k0_t2) a + S1x1x1.size a ≤ S1x1x1024.size a := fun v41 k0_hw1 k0_t2 => k0_hw1.1.2.2.2.2.2.2.2.2.2.2.2.2.2.2.2.2.2.2.2.2.2.2.2.2.2.2.2.2.2.2.1 k0_t2
theorem k0_off60_inb : ∀ (v41 : BitVec 32) (k0_hw1 : k0_chk1 v41) (k0_t2 : Fin (k0_t2_loop v41).trips), ∀ a, (k0_off60 v41 k0_t2) a + S1x1x1.size a ≤ S1x1x1024.size a := fun v41 k0_hw1 k0_t2 => k0_hw1.1.2.2.2.2.2.2.2.2.2.2.2.2.2.2.2.2.2.2.2.2.2.2.2.2.2.2.2.2.2.2.2 k0_t2
theorem k0_off62_inb : ∀ (v41 : BitVec 32) (k0_hw1 : k0_chk1 v41) (k0_t2 : Fin (k0_t2_loop v41).trips), ∀ a, (k0_off62 v41 k0_t2) a + S1x1x1.size a ≤ S1x1x1024.size a := fun v41 k0_hw1 k0_t2 => k0_hw1.2.1 k0_t2
theorem k0_off64_inb : ∀ (v41 : BitVec 32) (k0_hw1 : k0_chk1 v41) (k0_t2 : Fin (k0_t2_loop v41).trips), ∀ a, (k0_off64 v41 k0_t2) a + S1x1x1.size a ≤ S1x1x1024.size a := fun v41 k0_hw1 k0_t2 => k0_hw1.2.2 k0_t2

def k0_off65 (v368 : BitVec 32) : Fin 3 → Nat :=
  let c65535_i32_199 : BitVec 32 := 65535#32
  let v369 : BitVec 32 := Scalar.andi v368 c65535_i32_199
  let v370 : Index := Scalar.indexCast v369
  let c0_200 : Index := 0#32
  let c0_201 : Index := 0#32
  ![v370.toNat, 0, 0]

def k0_chk33 (v368 : BitVec 32) : Prop :=
  (∀ a, (k0_off65 v368) a + S1x16x640.size a ≤ S1024x16x640.size a)
theorem k0_off65_inb : ∀ (v368 : BitVec 32) (k0_hw33 : k0_chk33 v368), ∀ a, (k0_off65 v368) a + S1x16x640.size a ≤ S1024x16x640.size a := fun v368 k0_hw33 => k0_hw33

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .smem S1x1x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x16x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x16x640 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S256 : Shape := ⟨1, ![256]⟩
abbrev S256x1x1024 : Shape := ⟨3, ![256, 1, 1024]⟩
abbrev S4096x16x512 : Shape := ⟨3, ![4096, 16, 512]⟩
abbrev S65536x128 : Shape := ⟨2, ![65536, 128]⟩
abbrev S256x1x256 : Shape := ⟨3, ![256, 1, 256]⟩
abbrev S1024x16x640 : Shape := ⟨3, ![1024, 16, 640]⟩
abbrev S256x16x16x512 : Shape := ⟨4, ![256, 16, 16, 512]⟩
abbrev S256x16x16x128 : Shape := ⟨4, ![256, 16, 16, 128]⟩
abbrev S256x16x16x1 : Shape := ⟨4, ![256, 16, 16, 1]⟩
abbrev S256x16x1024x16 : Shape := ⟨4, ![256, 16, 1024, 16]⟩
abbrev S256x1024 : Shape := ⟨2, ![256, 1024]⟩
abbrev S_ : Shape := ⟨0, ![]⟩
abbrev S256x16x16384 : Shape := ⟨3, ![256, 16, 16384]⟩
abbrev S256x16x16x16384 : Shape := ⟨4, ![256, 16, 16, 16384]⟩
abbrev S256x1024x1 : Shape := ⟨3, ![256, 1024, 1]⟩
abbrev S256x1024x16x640 : Shape := ⟨4, ![256, 1024, 16, 640]⟩
abbrev S256x16384x640 : Shape := ⟨3, ![256, 16384, 640]⟩
abbrev S256x16384x512 : Shape := ⟨3, ![256, 16384, 512]⟩
abbrev S256x16384x128 : Shape := ⟨3, ![256, 16384, 128]⟩
abbrev S256x16x16 : Shape := ⟨3, ![256, 16, 16]⟩
abbrev S65536x512 : Shape := ⟨2, ![65536, 512]⟩

abbrev nBuf : Space → Nat
  | .hbm => 92
  | .vmem => 2
  | .smem => 0
  | _ => 0

abbrev bufTy : (tb : Table) → Fin (tcTables nBuf tb) → BufTy
  | .hbm, ⟨0, _⟩ => ⟨S256, .i32⟩
  | .hbm, ⟨1, _⟩ => ⟨S256x1x1024, .i32⟩
  | .hbm, ⟨2, _⟩ => ⟨S4096x16x512, .fp8e4m3⟩
  | .hbm, ⟨3, _⟩ => ⟨S65536x128, .bf16⟩
  | .hbm, ⟨4, _⟩ => ⟨S256x1x256, .f32⟩
  | .hbm, ⟨5, _⟩ => ⟨S256x1x256, .f32⟩
  | .hbm, ⟨6, _⟩ => ⟨S1024x16x640, .bf16⟩
  | .hbm, ⟨7, _⟩ => ⟨S4096x16x512, .bf16⟩
  | .hbm, ⟨8, _⟩ => ⟨S256x16x16x512, .bf16⟩
  | .hbm, ⟨9, _⟩ => ⟨S256x16x16x128, .bf16⟩
  | .hbm, ⟨10, _⟩ => ⟨S256x16x16x1, .f32⟩
  | .hbm, ⟨11, _⟩ => ⟨S256x16x1024x16, .i32⟩
  | .hbm, ⟨12, _⟩ => ⟨S256x16x1024x16, .i32⟩
  | .hbm, ⟨13, _⟩ => ⟨S256x16x1024x16, .i32⟩
  | .hbm, ⟨14, _⟩ => ⟨S256x1024, .i32⟩
  | .hbm, ⟨15, _⟩ => ⟨S256x16x1024x16, .i32⟩
  | .hbm, ⟨16, _⟩ => ⟨S256x16x1024x16, .i32⟩
  | .hbm, ⟨17, _⟩ => ⟨S_, .i32⟩
  | .hbm, ⟨18, _⟩ => ⟨S256x16x1024x16, .i32⟩
  | .hbm, ⟨19, _⟩ => ⟨S256x16x1024x16, .i32⟩
  | .hbm, ⟨20, _⟩ => ⟨S256x16x1024x16, .i32⟩
  | .hbm, ⟨21, _⟩ => ⟨S_, .i32⟩
  | .hbm, ⟨22, _⟩ => ⟨S256x16x1024x16, .i32⟩
  | .hbm, ⟨23, _⟩ => ⟨S256x16x1024x16, .i32⟩
  | .hbm, ⟨24, _⟩ => ⟨S_, .i32⟩
  | .hbm, ⟨25, _⟩ => ⟨S256x16x1024x16, .i32⟩
  | .hbm, ⟨26, _⟩ => ⟨S256x16x1024x16, .i1⟩
  | .hbm, ⟨27, _⟩ => ⟨S256x16x1024x16, .i1⟩
  | .hbm, ⟨28, _⟩ => ⟨S256x16x1024x16, .i1⟩
  | .hbm, ⟨29, _⟩ => ⟨S_, .i32⟩
  | .hbm, ⟨30, _⟩ => ⟨S256x16x1024x16, .i32⟩
  | .hbm, ⟨31, _⟩ => ⟨S256x16x1024x16, .i1⟩
  | .hbm, ⟨32, _⟩ => ⟨S256x16x1024x16, .i1⟩
  | .hbm, ⟨33, _⟩ => ⟨S256x16x1024x16, .i1⟩
  | .hbm, ⟨34, _⟩ => ⟨S256x16x1024x16, .i1⟩
  | .hbm, ⟨35, _⟩ => ⟨S256x16x16384, .i1⟩
  | .hbm, ⟨36, _⟩ => ⟨S256x16x16x16384, .i1⟩
  | .hbm, ⟨37, _⟩ => ⟨S_, .i32⟩
  | .hbm, ⟨38, _⟩ => ⟨S256x1x1024, .i32⟩
  | .hbm, ⟨39, _⟩ => ⟨S256x1x1024, .i32⟩
  | .hbm, ⟨40, _⟩ => ⟨S256x1024x1, .i32⟩
  | .hbm, ⟨41, _⟩ => ⟨S256x1024x16x640, .bf16⟩
  | .hbm, ⟨42, _⟩ => ⟨S256x16384x640, .bf16⟩
  | .hbm, ⟨43, _⟩ => ⟨S256x16384x512, .bf16⟩
  | .hbm, ⟨44, _⟩ => ⟨S256x16384x128, .bf16⟩
  | .hbm, ⟨45, _⟩ => ⟨S256x16x16x16384, .f32⟩
  | .hbm, ⟨46, _⟩ => ⟨S256x16x16x16384, .f32⟩
  | .hbm, ⟨47, _⟩ => ⟨S256x16x16x16384, .f32⟩
  | .hbm, ⟨48, _⟩ => ⟨S256x16x16x16384, .f32⟩
  | .hbm, ⟨49, _⟩ => ⟨S256x16x16x16384, .f32⟩
  | .hbm, ⟨50, _⟩ => ⟨S_, .f32⟩
  | .hbm, ⟨51, _⟩ => ⟨S256x16x16x16384, .f32⟩
  | .hbm, ⟨52, _⟩ => ⟨S256x16x16x16384, .f32⟩
  | .hbm, ⟨53, _⟩ => ⟨S_, .f32⟩
  | .hbm, ⟨54, _⟩ => ⟨S256x16x16x16384, .f32⟩
  | .hbm, ⟨55, _⟩ => ⟨S256x16x16x16384, .f32⟩
  | .hbm, ⟨56, _⟩ => ⟨S_, .f32⟩
  | .hbm, ⟨57, _⟩ => ⟨S256x16x16, .f32⟩
  | .hbm, ⟨58, _⟩ => ⟨S256x16x16x1, .f32⟩
  | .hbm, ⟨59, _⟩ => ⟨S_, .f32⟩
  | .hbm, ⟨60, _⟩ => ⟨S256x16x16x1, .f32⟩
  | .hbm, ⟨61, _⟩ => ⟨S256x16x16x1, .i1⟩
  | .hbm, ⟨62, _⟩ => ⟨S_, .f32⟩
  | .hbm, ⟨63, _⟩ => ⟨S256x16x16x1, .f32⟩
  | .hbm, ⟨64, _⟩ => ⟨S256x16x16x1, .f32⟩
  | .hbm, ⟨65, _⟩ => ⟨S256x16x16x16384, .f32⟩
  | .hbm, ⟨66, _⟩ => ⟨S256x16x16x16384, .f32⟩
  | .hbm, ⟨67, _⟩ => ⟨S_, .f32⟩
  | .hbm, ⟨68, _⟩ => ⟨S256x16x16x16384, .f32⟩
  | .hbm, ⟨69, _⟩ => ⟨S256x16x16x16384, .f32⟩
  | .hbm, ⟨70, _⟩ => ⟨S256x16x16x16384, .f32⟩
  | .hbm, ⟨71, _⟩ => ⟨S256x16x16x16384, .f32⟩
  | .hbm, ⟨72, _⟩ => ⟨S_, .f32⟩
  | .hbm, ⟨73, _⟩ => ⟨S256x16x16, .f32⟩
  | .hbm, ⟨74, _⟩ => ⟨S256x16x16x1, .f32⟩
  | .hbm, ⟨75, _⟩ => ⟨S256x16x16x16384, .bf16⟩
  | .hbm, ⟨76, _⟩ => ⟨S256x16x16x512, .f32⟩
  | .hbm, ⟨77, _⟩ => ⟨S256x16x16x1, .f32⟩
  | .hbm, ⟨78, _⟩ => ⟨S_, .f32⟩
  | .hbm, ⟨79, _⟩ => ⟨S256x16x16x1, .f32⟩
  | .hbm, ⟨80, _⟩ => ⟨S256x16x16x1, .f32⟩
  | .hbm, ⟨81, _⟩ => ⟨S256x16x16x1, .f32⟩
  | .hbm, ⟨82, _⟩ => ⟨S256x16x16x1, .f32⟩
  | .hbm, ⟨83, _⟩ => ⟨S_, .f32⟩
  | .hbm, ⟨84, _⟩ => ⟨S256x16x16x1, .f32⟩
  | .hbm, ⟨85, _⟩ => ⟨S256x16x16x1, .f32⟩
  | .hbm, ⟨86, _⟩ => ⟨S256x1x256, .f32⟩
  | .hbm, ⟨87, _⟩ => ⟨S256x1x256, .f32⟩
  | .hbm, ⟨88, _⟩ => ⟨S256x1x256, .f32⟩
  | .hbm, ⟨89, _⟩ => ⟨S256x16x16x512, .f32⟩
  | .hbm, ⟨90, _⟩ => ⟨S256x16x16x512, .f32⟩
  | .hbm, ⟨91, _⟩ => ⟨S65536x512, .f32⟩
  | .local _ .vmem, ⟨0, _⟩ => ⟨S4096x16x512, .fp8e4m3⟩
  | .local _ .vmem, ⟨1, _⟩ => ⟨S4096x16x512, .bf16⟩
  | _, _ => ⟨S256, .i32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_0 : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst : Ref sig .tc := ⟨.hbm, 50, rfl⟩
abbrev main_v38 : Ref sig .tc := ⟨.hbm, 51, rfl⟩
abbrev main_v39 : Ref sig .tc := ⟨.hbm, 52, rfl⟩
abbrev main_cst_4 : Ref sig .tc := ⟨.hbm, 53, rfl⟩
abbrev main_v40 : Ref sig .tc := ⟨.hbm, 54, rfl⟩
abbrev main_v41 : Ref sig .tc := ⟨.hbm, 55, rfl⟩
abbrev main_cst_5 : Ref sig .tc := ⟨.hbm, 56, rfl⟩
abbrev main_v42 : Ref sig .tc := ⟨.hbm, 57, rfl⟩
abbrev main_v43 : Ref sig .tc := ⟨.hbm, 58, rfl⟩
abbrev main_cst_6 : Ref sig .tc := ⟨.hbm, 59, rfl⟩
abbrev main_v44 : Ref sig .tc := ⟨.hbm, 60, rfl⟩
abbrev main_v45 : Ref sig .tc := ⟨.hbm, 61, rfl⟩
abbrev main_cst_7 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_8 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_9 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_10 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_11 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S4096x16x512 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x16x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Keys.lean ====
abbrev S12288x512 : Shape := ⟨2, ![12288, 512]⟩
abbrev S12288x4 : Shape := ⟨2, ![12288, 4]⟩
abbrev S12288x64 : Shape := ⟨2, ![12288, 64]⟩
abbrev S4096x512 : Shape := ⟨2, ![4096, 512]⟩
abbrev S4096x4 : Shape := ⟨2, ![4096, 4]⟩
abbrev S4096x64 : Shape := ⟨2, ![4096, 64]⟩
abbrev S16384x640 : Shape := ⟨2, ![16384, 640]⟩
abbrev S512x512 : Shape := ⟨2, ![512, 512]⟩
abbrev S512x4 : Shape := ⟨2, ![512, 4]⟩
abbrev S512x64 : Shape := ⟨2, ![512, 64]⟩
abbrev S512x640 : Shape := ⟨2, ![512, 640]⟩
abbrev S512x128 : Shape := ⟨2, ![512, 128]⟩
abbrev S512x1 : Shape := ⟨2, ![512, 1]⟩

abbrev nBuf : Space → Nat
  | .hbm => 7
  | .vmem => 14
  | .smem => 0
  | _ => 0

abbrev bufTy : (tb : Table) → Fin (tcTables nBuf tb) → BufTy
  | .hbm, ⟨0, _⟩ => ⟨S12288x512, .fp8e4m3⟩
  | .hbm, ⟨1, _⟩ => ⟨S12288x4, .f32⟩
  | .hbm, ⟨2, _⟩ => ⟨S12288x64, .bf16⟩
  | .hbm, ⟨3, _⟩ => ⟨S4096x512, .fp8e4m3⟩
  | .hbm, ⟨4, _⟩ => ⟨S4096x4, .f32⟩
  | .hbm, ⟨5, _⟩ => ⟨S4096x64, .bf16⟩
  | .hbm, ⟨6, _⟩ => ⟨S16384x640, .bf16⟩
  | .local _ .vmem, ⟨0, _⟩ => ⟨S512x512, .fp8e4m3⟩
  | .local _ .vmem, ⟨1, _⟩ => ⟨S512x512, .fp8e4m3⟩
  | .local _ .vmem, ⟨2, _⟩ => ⟨S512x4, .f32⟩
  | .local _ .vmem, ⟨3, _⟩ => ⟨S512x4, .f32⟩
  | .local _ .vmem, ⟨4, _⟩ => ⟨S512x64, .bf16⟩
  | .local _ .vmem, ⟨5, _⟩ => ⟨S512x64, .bf16⟩
  | .local _ .vmem, ⟨6, _⟩ => ⟨S512x512, .fp8e4m3⟩
  | .local _ .vmem, ⟨7, _⟩ => ⟨S512x512, .fp8e4m3⟩
  | .local _ .vmem, ⟨8, _⟩ => ⟨S512x4, .f32⟩
  | .local _ .vmem, ⟨9, _⟩ => ⟨S512x4, .f32⟩
  | .local _ .vmem, ⟨10, _⟩ => ⟨S512x64, .bf16⟩
  | .local _ .vmem, ⟨11, _⟩ => ⟨S512x64, .bf16⟩
  | .local _ .vmem, ⟨12, _⟩ => ⟨S512x640, .bf16⟩
  | .local _ .vmem, ⟨13, _⟩ => ⟨S512x640, .bf16⟩
  | _, _ => ⟨S12288x512, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c24_i32 : BitVec 32 := 24#32
  let v0 : BitVec 1 := Scalar.cmpi .slt arg0 c24_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c24_i32_0 : BitVec 32 := 24#32
  let v3 : BitVec 1 := Scalar.cmpi .sge arg0 c24_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c23_i32 : BitVec 32 := 23#32
  let v0 : BitVec 32 := Scalar.minsi arg0 c23_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c23_i32 : BitVec 32 := 23#32
  let v0 : BitVec 32 := Scalar.minsi arg0 c23_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c23_i32 : BitVec 32 := 23#32
  let v0 : BitVec 32 := Scalar.minsi arg0 c23_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c24_i32 : BitVec 32 := 24#32
  let v0 : BitVec 32 := Scalar.subi arg0 c24_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c24_i32 : BitVec 32 := 24#32
  let v0 : BitVec 32 := Scalar.subi arg0 c24_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c24_i32 : BitVec 32 := 24#32
  let v0 : BitVec 32 := Scalar.subi arg0 c24_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x640 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RefKeysIdeal.lean ====
abbrev S12288x512 : Shape := ⟨2, ![12288, 512]⟩
abbrev S12288x4 : Shape := ⟨2, ![12288, 4]⟩
abbrev S12288x64 : Shape := ⟨2, ![12288, 64]⟩
abbrev S4096x512 : Shape := ⟨2, ![4096, 512]⟩
abbrev S4096x4 : Shape := ⟨2, ![4096, 4]⟩
abbrev S4096x64 : Shape := ⟨2, ![4096, 64]⟩
abbrev S16384x640 : Shape := ⟨2, ![16384, 640]⟩
abbrev S16384x512 : Shape := ⟨2, ![16384, 512]⟩
abbrev S16384x4 : Shape := ⟨2, ![16384, 4]⟩
abbrev S16384x4x128 : Shape := ⟨3, ![16384, 4, 128]⟩
abbrev S16384x4x1 : Shape := ⟨3, ![16384, 4, 1]⟩
abbrev S16384x64 : Shape := ⟨2, ![16384, 64]⟩

abbrev nBuf : Space → Nat
  | .hbm => 7
  | .vmem => 7
  | .smem => 0
  | _ => 0

abbrev bufTy : (tb : Table) → Fin (tcTables nBuf tb) → BufTy
  | .hbm, ⟨0, _⟩ => ⟨S12288x512, .fp8e4m3⟩
  | .hbm, ⟨1, _⟩ => ⟨S12288x4, .f32⟩
  | .hbm, ⟨2, _⟩ => ⟨S12288x64, .bf16⟩
  | .hbm, ⟨3, _⟩ => ⟨S4096x512, .fp8e4m3⟩
  | .hbm, ⟨4, _⟩ => ⟨S4096x4, .f32⟩
  | .hbm, ⟨5, _⟩ => ⟨S4096x64, .bf16⟩
  | .hbm, ⟨6, _⟩ => ⟨S16384x640, .bf16⟩
  | .local _ .vmem, ⟨0, _⟩ => ⟨S12288x512, .fp8e4m3⟩
  | .local _ .vmem, ⟨1, _⟩ => ⟨S12288x4, .f32⟩
  | .local _ .vmem, ⟨2, _⟩ => ⟨S12288x64, .bf16⟩
  | .local _ .vmem, ⟨3, _⟩ => ⟨S4096x512, .fp8e4m3⟩
  | .local _ .vmem, ⟨4, _⟩ => ⟨S4096x4, .f32⟩
  | .local _ .vmem, ⟨5, _⟩ => ⟨S4096x64, .bf16⟩
  | .local _ .vmem, ⟨6, _⟩ => ⟨S16384x640, .bf16⟩
  | _, _ => ⟨S12288x512, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S12288x512 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12288x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12288x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x512 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16384x640 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== List.lean ====
abbrev S512x256 : Shape := ⟨2, ![512, 256]⟩
abbrev S1024x256 : Shape := ⟨2, ![1024, 256]⟩
abbrev S1x256 : Shape := ⟨2, ![1, 256]⟩
abbrev S16x256 : Shape := ⟨2, ![16, 256]⟩
abbrev S512x128 : Shape := ⟨2, ![512, 128]⟩
abbrev S1024x128 : Shape := ⟨2, ![1024, 128]⟩
abbrev S1x128 : Shape := ⟨2, ![1, 128]⟩
abbrev S16x128 : Shape := ⟨2, ![16, 128]⟩
abbrev S128 : Shape := ⟨1, ![128]⟩
abbrev S1023x128 : Shape := ⟨2, ![1023, 128]⟩
abbrev S2x128 : Shape := ⟨2, ![2, 128]⟩
abbrev S1022x128 : Shape := ⟨2, ![1022, 128]⟩
abbrev S4x128 : Shape := ⟨2, ![4, 128]⟩
abbrev S1020x128 : Shape := ⟨2, ![1020, 128]⟩
abbrev S8x128 : Shape := ⟨2, ![8, 128]⟩
abbrev S1016x128 : Shape := ⟨2, ![1016, 128]⟩
abbrev S1008x128 : Shape := ⟨2, ![1008, 128]⟩
abbrev S32x128 : Shape := ⟨2, ![32, 128]⟩
abbrev S992x128 : Shape := ⟨2, ![992, 128]⟩
abbrev S64x128 : Shape := ⟨2, ![64, 128]⟩
abbrev S960x128 : Shape := ⟨2, ![960, 128]⟩
abbrev S128x128 : Shape := ⟨2, ![128, 128]⟩
abbrev S896x128 : Shape := ⟨2, ![896, 128]⟩
abbrev S256x128 : Shape := ⟨2, ![256, 128]⟩
abbrev S768x128 : Shape := ⟨2, ![768, 128]⟩

abbrev nBuf : Space → Nat
  | .hbm => 5
  | .vmem => 10
  | .smem => 0
  | _ => 0

abbrev bufTy : (tb : Table) → Fin (tcTables nBuf tb) → BufTy
  | .hbm, ⟨0, _⟩ => ⟨S512x256, .i32⟩
  | .hbm, ⟨1, _⟩ => ⟨S512x256, .i32⟩
  | .hbm, ⟨2, _⟩ => ⟨S1024x256, .i32⟩
  | .hbm, ⟨3, _⟩ => ⟨S1x256, .i32⟩
  | .hbm, ⟨4, _⟩ => ⟨S16x256, .f32⟩
  | .local _ .vmem, ⟨0, _⟩ => ⟨S512x128, .i32⟩
  | .local _ .vmem, ⟨1, _⟩ => ⟨S512x128, .i32⟩
  | .local _ .vmem, ⟨2, _⟩ => ⟨S512x128, .i32⟩
  | .local _ .vmem, ⟨3, _⟩ => ⟨S512x128, .i32⟩
  | .local _ .vmem, ⟨4, _⟩ => ⟨S1024x128, .i32⟩
  | .local _ .vmem, ⟨5, _⟩ => ⟨S1024x128, .i32⟩
  | .local _ .vmem, ⟨6, _⟩ => ⟨S1x128, .i32⟩
  | .local _ .vmem, ⟨7, _⟩ => ⟨S1x128, .i32⟩
  | .local _ .vmem, ⟨8, _⟩ => ⟨S16x128, .f32⟩
  | .local _ .vmem, ⟨9, _⟩ => ⟨S16x128, .f32⟩
  | _, _ => ⟨S512x256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RefListIdeal.lean ====
abbrev S512x256 : Shape := ⟨2, ![512, 256]⟩
abbrev S_ : Shape := ⟨0, ![]⟩
abbrev S1024x256 : Shape := ⟨2, ![1024, 256]⟩
abbrev S256 : Shape := ⟨1, ![256]⟩
abbrev S1024x1024x256 : Shape := ⟨3, ![1024, 1024, 256]⟩
abbrev S1024x16x256 : Shape := ⟨3, ![1024, 16, 256]⟩
abbrev S16x16x256 : Shape := ⟨3, ![16, 16, 256]⟩
abbrev S16x256 : Shape := ⟨2, ![16, 256]⟩
abbrev S1x256 : Shape := ⟨2, ![1, 256]⟩

abbrev nBuf : Space → Nat
  | .hbm => 130
  | .vmem => 0
  | .smem => 0
  | _ => 0

abbrev hbmTy0_0 (i : Nat) : BufTy := match i % 128 with
  | 0 => ⟨S512x256, .i32⟩
  | 1 => ⟨S512x256, .i32⟩
  | 2 => ⟨S_, .i32⟩
  | 3 => ⟨S512x256, .i32⟩
  | 4 => ⟨S512x256, .i1⟩
  | 5 => ⟨S_, .i32⟩
  | 6 => ⟨S_, .i32⟩
  | 7 => ⟨S512x256, .i32⟩
  | 8 => ⟨S512x256, .i32⟩
  | 9 => ⟨S_, .i32⟩
  | 10 => ⟨S512x256, .i32⟩
  | 11 => ⟨S512x256, .i32⟩
  | 12 => ⟨S_, .i32⟩
  | 13 => ⟨S512x256, .i32⟩
  | 14 => ⟨S512x256, .i32⟩
  | 15 => ⟨S1024x256, .i32⟩
  | 16 => ⟨S1024x256, .i32⟩
  | 17 => ⟨S_, .i32⟩
  | 18 => ⟨S1024x256, .i32⟩
  | 19 => ⟨S1024x256, .i1⟩
  | 20 => ⟨S_, .i32⟩
  | 21 => ⟨S1024x256, .i32⟩
  | 22 => ⟨S1024x256, .i32⟩
  | 23 => ⟨S_, .i32⟩
  | 24 => ⟨S1024x256, .i32⟩
  | 25 => ⟨S1024x256, .i32⟩
  | 26 => ⟨S_, .i32⟩
  | 27 => ⟨S1024x256, .i32⟩
  | 28 => ⟨S1024x256, .i32⟩
  | 29 => ⟨S_, .i32⟩
  | 30 => ⟨S1024x256, .i32⟩
  | 31 => ⟨S1024x256, .i32⟩
  | 32 => ⟨S1024x256, .i32⟩
  | 33 => ⟨S1024x256, .i32⟩
  | 34 => ⟨S_, .i32⟩
  | 35 => ⟨S1024x256, .i32⟩
  | 36 => ⟨S1024x256, .i32⟩
  | 37 => ⟨S1024x256, .i1⟩
  | 38 => ⟨S_, .i32⟩
  | 39 => ⟨S_, .i32⟩
  | 40 => ⟨S1024x256, .i32⟩
  | 41 => ⟨S1024x256, .i32⟩
  | 42 => ⟨S_, .i32⟩
  | 43 => ⟨S256, .i32⟩
  | 44 => ⟨S1024x256, .i1⟩
  | 45 => ⟨S_, .i32⟩
  | 46 => ⟨S_, .i32⟩
  | 47 => ⟨S1024x256, .i32⟩
  | 48 => ⟨S1024x256, .i32⟩
  | 49 => ⟨S_, .i32⟩
  | 50 => ⟨S1024x256, .i32⟩
  | 51 => ⟨S1024x256, .i1⟩
  | 52 => ⟨S1024x1024x256, .i32⟩
  | 53 => ⟨S1024x1024x256, .i32⟩
  | 54 => ⟨S1024x1024x256, .i1⟩
  | 55 => ⟨S1024x1024x256, .i1⟩
  | 56 => ⟨S1024x1024x256, .i1⟩
  | 57 => ⟨S_, .i32⟩
  | 58 => ⟨S_, .i32⟩
  | 59 => ⟨S1024x1024x256, .i32⟩
  | 60 => ⟨S1024x1024x256, .i32⟩
  | 61 => ⟨S1024x1024x256, .i32⟩
  | 62 => ⟨S1024x1024x256, .i32⟩
  | 63 => ⟨S_, .i32⟩
  | 64 => ⟨S1024x256, .i32⟩
  | 65 => ⟨S_, .i32⟩
  | 66 => ⟨S1024x256, .i32⟩
  | 67 => ⟨S1024x256, .i32⟩
  | 68 => ⟨S1024x256, .i32⟩
  | 69 => ⟨S1024x1024x256, .i32⟩
  | 70 => ⟨S1024x1024x256, .i32⟩
  | 71 => ⟨S_, .i32⟩
  | 72 => ⟨S1024x1024x256, .i32⟩
  | 73 => ⟨S1024x1024x256, .i32⟩
  | 74 => ⟨S1024x1024x256, .i1⟩
  | 75 => ⟨S1024x1024x256, .i1⟩
  | 76 => ⟨S_, .i32⟩
  | 77 => ⟨S_, .i32⟩
  | 78 => ⟨S1024x1024x256, .i32⟩
  | 79 => ⟨S1024x1024x256, .i32⟩
  | 80 => ⟨S_, .i32⟩
  | 81 => ⟨S1024x256, .i32⟩
  | 82 => ⟨S_, .i32⟩
  | 83 => ⟨S1024x256, .i32⟩
  | 84 => ⟨S1024x256, .i1⟩
  | 85 => ⟨S_, .i32⟩
  | 86 => ⟨S256, .i32⟩
  | 87 => ⟨S256, .i32⟩
  | 88 => ⟨S1024x256, .i32⟩
  | 89 => ⟨S1024x256, .i32⟩
  | 90 => ⟨S1024x256, .i32⟩
  | 91 => ⟨S_, .i32⟩
  | 92 => ⟨S_, .i32⟩
  | 93 => ⟨S1024x256, .i32⟩
  | 94 => ⟨S1024x256, .i32⟩
  | 95 => ⟨S1024x256, .i32⟩
  | 96 => ⟨S1024x256, .i32⟩
  | 97 => ⟨S_, .i32⟩
  | 98 => ⟨S256, .i32⟩
  | 99 => ⟨S_, .i32⟩
  | 100 => ⟨S256, .i32⟩
  | 101 => ⟨S256, .i32⟩
  | 102 => ⟨S1024x16x256, .i32⟩
  | 103 => ⟨S1024x16x256, .i32⟩
  | 104 => ⟨S1024x16x256, .i32⟩
  | 105 => ⟨S_, .i32⟩
  | 106 => ⟨S1024x16x256, .i32⟩
  | 107 => ⟨S1024x16x256, .i32⟩
  | 108 => ⟨S_, .i32⟩
  | 109 => ⟨S1024x256, .i32⟩
  | 110 => ⟨S_, .i32⟩
  | 111 => ⟨S256, .i32⟩
  | 112 => ⟨S16x16x256, .i32⟩
  | 113 => ⟨S16x16x256, .i32⟩
  | 114 => ⟨S16x16x256, .i32⟩
  | 115 => ⟨S16x16x256, .i32⟩
  | 116 => ⟨S_, .i32⟩
  | 117 => ⟨S16x16x256, .i32⟩
  | 118 => ⟨S16x16x256, .i32⟩
  | 119 => ⟨S16x16x256, .i1⟩
  | 120 => ⟨S_, .i32⟩
  | 121 => ⟨S_, .i32⟩
  | 122 => ⟨S16x16x256, .i32⟩
  | 123 => ⟨S16x16x256, .i32⟩
  | 124 => ⟨S_, .i32⟩
  | 125 => ⟨S16x256, .i32⟩
  | 126 => ⟨S16x256, .i32⟩
  | 127 => ⟨S16x256, .i32⟩
  | _ => ⟨S512x256, .i32⟩

abbrev hbmTy0_1 (i : Nat) : BufTy := match i % 128 with
  | 0 => ⟨S16x256, .f32⟩
  | 1 => ⟨S1x256, .i32⟩
  | _ => ⟨S512x256, .i32⟩

abbrev hbmTy (i : Nat) : BufTy := match i / 128 with
  | 0 => hbmTy0_0 i
  | 1 => hbmTy0_1 i
  | _ => ⟨S512x256, .i32⟩

abbrev bufTy : (tb : Table) → Fin (tcTables nBuf tb) → BufTy
  | .hbm, ⟨i, _⟩ => hbmTy i
  | _, _ => ⟨S512x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_v2 : Ref sig .tc := ⟨.hbm, 8, rfl⟩
abbrev main_c_1 : Ref sig .tc := ⟨.hbm, 9, rfl⟩
abbrev main_v3 : Ref sig .tc := ⟨.hbm, 10, rfl⟩
abbrev main_v4 : Ref sig .tc := ⟨.hbm, 11, rfl⟩
abbrev main_c_2 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_3 : Ref sig .tc := ⟨.hbm, 17, rfl⟩
abbrev main_v9 : Ref sig .tc := ⟨.hbm, 18, rfl⟩
abbrev main_v10 : Ref sig .tc := ⟨.hbm, 19, rfl⟩
abbrev main_c_4 : Ref sig .tc := ⟨.hbm, 20, rfl⟩
abbrev main_v11 : Ref sig .tc := ⟨.hbm, 21, rfl⟩
abbrev main_v12 : Ref sig .tc := ⟨.hbm, 22, rfl⟩
abbrev main_c_5 : Ref sig .tc := ⟨.hbm, 23, rfl⟩
abbrev main_v13 : Ref sig .tc := ⟨.hbm, 24, rfl⟩
abbrev main_v14 : Ref sig .tc := ⟨.hbm, 25, rfl⟩
abbrev main_c_6 : Ref sig .tc := ⟨.hbm, 26, rfl⟩
abbrev main_v15 : Ref sig .tc := ⟨.hbm, 27, rfl⟩
abbrev main_v16 : Ref sig .tc := ⟨.hbm, 28, rfl⟩
abbrev main_c_7 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_8 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_9 : Ref sig .tc := ⟨.hbm, 38, rfl⟩
abbrev main_call2_v0 : Ref sig .tc := ⟨.hbm, 39, rfl⟩
abbrev main_call2_v1 : Ref sig .tc := ⟨.hbm, 40, rfl⟩
abbrev main_v24 : Ref sig .tc := ⟨.hbm, 41, rfl⟩
abbrev main_c_10 : Ref sig .tc := ⟨.hbm, 42, rfl⟩
abbrev main_v25 : Ref sig .tc := ⟨.hbm, 43, rfl⟩
abbrev main_v26 : Ref sig .tc := ⟨.hbm, 44, rfl⟩
abbrev main_c_11 : Ref sig .tc := ⟨.hbm, 45, rfl⟩
abbrev main_call3_v0 : Ref sig .tc := ⟨.hbm, 46, rfl⟩
abbrev main_call3_v1 : Ref sig .tc := ⟨.hbm, 47, rfl⟩
abbrev main_v27 : Ref sig .tc := ⟨.hbm, 48, rfl⟩
abbrev main_c_12 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c_13 : Ref sig .tc := ⟨.hbm, 57, rfl⟩
abbrev main_c_14 : Ref sig .tc := ⟨.hbm, 58, rfl⟩
abbrev main_call4_v0 : Ref sig .tc := ⟨.hbm, 59, rfl⟩
abbrev main_call4_v1 : Ref sig .tc := ⟨.hbm, 60, rfl⟩
abbrev main_v35 : Ref sig .tc := ⟨.hbm, 61, rfl⟩
abbrev main_v36 : Ref sig .tc := ⟨.hbm, 62, rfl⟩
abbrev main_c_15 : Ref sig .tc := ⟨.hbm, 63, rfl⟩
abbrev main_v37 : Ref sig .tc := ⟨.hbm, 64, rfl⟩
abbrev main_c_16 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_c_17 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_c_18 : Ref sig .tc := ⟨.hbm, 76, rfl⟩
abbrev main_call5_v0 : Ref sig .tc := ⟨.hbm, 77, rfl⟩
abbrev main_call5_v1 : Ref sig .tc := ⟨.hbm, 78, rfl⟩
abbrev main_v47 : Ref sig .tc := ⟨.hbm, 79, rfl⟩
abbrev main_c_19 : Ref sig .tc := ⟨.hbm, 80, rfl⟩
abbrev main_v48 : Ref sig .tc := ⟨.hbm, 81, rfl⟩
abbrev main_c_20 : Ref sig .tc := ⟨.hbm, 82, rfl⟩
abbrev main_v49 : Ref sig .tc := ⟨.hbm, 83, rfl⟩
abbrev main_v50 : Ref sig .tc := ⟨.hbm, 84, rfl⟩
abbrev main_c_21 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_c_22 : Ref sig .tc := ⟨.hbm, 91, rfl⟩
abbrev main_c_23 : Ref sig .tc := ⟨.hbm, 92, rfl⟩
abbrev main_call7_v0 : Ref sig .tc := ⟨.hbm, 93, rfl⟩
abbrev main_call7_v1 : Ref sig .tc := ⟨.hbm, 94, rfl⟩
abbrev main_v56 : Ref sig .tc := ⟨.hbm, 95, rfl⟩
abbrev main_v57 : Ref sig .tc := ⟨.hbm, 96, rfl⟩
abbrev main_c_24 : Ref sig .tc := ⟨.hbm, 97, rfl⟩
abbrev main_v58 : Ref sig .tc := ⟨.hbm, 98, rfl⟩
abbrev main_c_25 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_c_26 : Ref sig .tc := ⟨.hbm, 105, rfl⟩
abbrev main_v64 : Ref sig .tc := ⟨.hbm, 106, rfl⟩
abbrev main_v65 : Ref sig .tc := ⟨.hbm, 107, rfl⟩
abbrev main_c_27 : Ref sig .tc := ⟨.hbm, 108, rfl⟩
abbrev main_v66 : Ref sig .tc := ⟨.hbm, 109, rfl⟩
abbrev main_c_28 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_c_29 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_c_30 : Ref sig .tc := ⟨.hbm, 120, rfl⟩
abbrev main_call8_v0 : Ref sig .tc := ⟨.hbm, 121, rfl⟩
abbrev main_call8_v1 : Ref sig .tc := ⟨.hbm, 122, rfl⟩
abbrev main_v75 : Ref sig .tc := ⟨.hbm, 123, rfl⟩
abbrev main_c_31 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩

abbrev nD : Nat := 1
abbrev τ : Topo := Topo.v7x

variable {F : FTy → Type} [FloatOps F]
-- ==== Proof.Words.lean ====
/- The words that count the chunks of one row: how many chunks of sixteen list places a row of `count` places takes, and
   which place of the list the `s`-th place of chunk `k` is. -/
module

public import Idealize.ShloMosaic.Lib.Affine
public import Idealize.ShloMosaic.Lib.LoopRemainder
public import Idealize.ShloMosaic.Lib.WordCmp

@[expose] public section

namespace Cert.Proof

open Idealize.ShloMosaic

/-- `⌊(v + 15) / 16⌋` as the program computes it on words: a division rounded toward zero, one less when the remainder is
    not zero and the dividend is not positive. -/
def chunksWord (v : BitVec 32) : BitVec 32 :=
  let x : BitVec 32 := Scalar.subi (Scalar.addi v 16#32) 1#32
  Scalar.select
    (Scalar.andi
      (Scalar.cmpi .ne (Scalar.subi (Scalar.extui (Scalar.cmpi .sgt x 0#32) : BitVec 32) (Scalar.extui (Scalar.cmpi .slt x 0#32)))
        (Scalar.subi (Scalar.extui (Scalar.cmpi .sgt 16#32 0#32) : BitVec 32) (Scalar.extui (Scalar.cmpi .slt 16#32 0#32))))
      (Scalar.cmpi .ne (Scalar.remsi x 16#32) 0#32))
    (Scalar.subi (Scalar.divsi x 16#32) 1#32) (Scalar.divsi x 16#32)

/-- The chunks a row of `v` places takes. -/
def chunks (v : BitVec 32) : ℕ := (v.toInt.toNat + 15) / 16

theorem chunks_le {v : BitVec 32} (h : v.toInt ≤ 1024) : chunks v ≤ 64 := by unfold chunks; omega

private theorem toInt_x {v : BitVec 32} (h : v.toInt ≤ 1024) : (Scalar.subi (Scalar.addi v 16#32) 1#32).toInt = v.toInt + 15 := by
  have hl := (BitVec.le_toInt v)
  simp only [Scalar.subi, Scalar.addi, IntOp.subi, IntOp.addi]
  rw [BitVec.toInt_sub, BitVec.toInt_add, show (16#32).toInt = 16 by decide, show (1#32).toInt = 1 by decide]
  simp only [Int.bmod_def]; simp at hl ⊢; omega

private theorem divsi16 (x : BitVec 32) : Scalar.divsi x 16#32 = x.sdiv 16#32 := by
  simp only [Scalar.divsi, IntOp.divsi]
  rw [if_neg]
  rintro (h | ⟨-, h⟩)
  · exact absurd h (by decide)
  · exact absurd h (by decide)

private theorem sdiv16_toInt (x : BitVec 32) : (x.sdiv 16#32).toInt = x.toInt.tdiv 16 := by
  rw [BitVec.toInt_sdiv, show (16#32).toInt = 16 by decide]
  have hl := (BitVec.le_toInt x)
  have hu := (BitVec.toInt_lt (x := x))
  have h1 : -2 ^ 31 ≤ x.toInt.tdiv 16 ∧ x.toInt.tdiv 16 < 2 ^ 31 := by
    rcases le_or_gt 0 x.toInt with h | h
    · rw [Int.tdiv_eq_ediv_of_nonneg h]; simp at hu; omega
    · have : x.toInt.tdiv 16 = -((-x.toInt) / 16) := by
        rw [← Int.tdiv_eq_ediv_of_nonneg (by omega), Int.neg_tdiv]; omega
      rw [this]; simp at hl; omega
  simp only [Int.bmod_def]; simp; omega

/-- For a positive count the word is the number of chunks; -/
theorem chunksWord_pos {v : BitVec 32} (h : v.toInt ≤ 1024) (hp : 0 < v.toInt) : (chunksWord v).toInt = chunks v := by
  have hx := toInt_x h
  unfold chunksWord chunks
  simp only []
  generalize Scalar.subi (Scalar.addi v 16#32) 1#32 = x at hx ⊢
  have e1 : Scalar.cmpi .sgt x 0#32 = 1#1 := by
    simp only [Scalar.cmpi]; rw [WordCmp.cmpi_sgt_eq]; rw [show (0#32).toInt = 0 by decide]; rw [decide_eq_true (by omega)]; rfl
  have e2 : Scalar.cmpi .slt x 0#32 = 0#1 := by
    simp only [Scalar.cmpi]; rw [WordCmp.cmpi_slt_eq]; rw [show (0#32).toInt = 0 by decide]; rw [decide_eq_false (by omega)]; rfl
  rw [e1, e2, show Scalar.cmpi .ne (Scalar.subi (Scalar.extui (1#1) : BitVec 32) (Scalar.extui (0#1)))
        (Scalar.subi (Scalar.extui (Scalar.cmpi .sgt 16#32 0#32) : BitVec 32) (Scalar.extui (Scalar.cmpi .slt 16#32 0#32))) = 0#1 by decide]
  have : ∀ c : BitVec 1, Scalar.andi 0#1 c = 0#1 := by decide
  rw [this, show ∀ a b : BitVec 32, Scalar.select 0#1 a b = b from fun a b => rfl, divsi16, sdiv16_toInt, hx,
    Int.tdiv_eq_ediv_of_nonneg (by omega)]
  omega

/-- for any other it is not positive. -/
theorem chunksWord_nonpos {v : BitVec 32} (hp : v.toInt ≤ 0) : (chunksWord v).toInt ≤ chunks v := by
  have hx := toInt_x (v := v) (by omega)
  unfold chunksWord chunks
  simp only []
  generalize Scalar.subi (Scalar.addi v 16#32) 1#32 = x at hx ⊢
  generalize Scalar.andi _ _ = c
  have hl := (BitVec.le_toInt v)
  have hd : (Scalar.divsi x 16#32).toInt ≤ 0 ∧ -2 ^ 28 ≤ (Scalar.divsi x 16#32).toInt := by
    rw [divsi16, sdiv16_toInt]
    rcases le_or_gt 0 x.toInt with h | h
    · rw [Int.tdiv_eq_ediv_of_nonneg h]; omega
    · have : x.toInt.tdiv 16 = -((-x.toInt) / 16) := by
        rw [← Int.tdiv_eq_ediv_of_nonneg (by omega), Int.neg_tdiv]; omega
      rw [this]; simp at hl; omega
  generalize Scalar.divsi x 16#32 = d at hd ⊢
  have h1 : (Scalar.subi d 1#32).toInt ≤ 0 := by
    simp only [Scalar.subi, IntOp.subi]
    rw [BitVec.toInt_sub, show (1#32).toInt = 1 by decide]
    simp only [Int.bmod_def]; simp; omega
  rcases BitVec.eq_zero_or_eq_one c with rfl | rfl
  · show d.toInt ≤ _; omega
  · show (Scalar.subi d 1#32).toInt ≤ _; omega

/-- The main loop runs once per chunk, -/
theorem trips_main {v : BitVec 32} (h : v.toInt ≤ 1024) :
    Scf.trips 0#32 (Scalar.addi 0#32 (Scalar.muli (Scalar.divsi (Scalar.subi (chunksWord v) 0#32) 1#32) 1#32)) 1#32 = chunks v := by
  rw [Scalar.muli_divsi_one, show Scalar.addi 0#32 (Scalar.subi (chunksWord v) 0#32) = chunksWord v by
    simp [Scalar.addi, Scalar.subi, IntOp.addi, IntOp.subi]]
  unfold Scf.trips
  rw [show (0#32).toInt = 0 by decide, show (1#32).toInt = 1 by decide]
  rcases lt_or_ge 0 v.toInt with hp | hp
  · rw [chunksWord_pos h hp]; omega
  · have := chunksWord_nonpos hp
    have : chunks v = 0 := by unfold chunks; omega
    omega

/-- and its counter never wraps. -/
theorem ok_main {v : BitVec 32} (h : v.toInt ≤ 1024) :
    Scf.OK 0#32 (Scalar.addi 0#32 (Scalar.muli (Scalar.divsi (Scalar.subi (chunksWord v) 0#32) 1#32) 1#32)) 1#32 := by
  unfold Scf.OK
  rw [trips_main h, show (0#32).toInt = 0 by decide, show (1#32).toInt = 1 by decide]
  have := chunks_le h
  omega

/-- The remainder loop makes no trip; its bounds do not wrap. -/
theorem ok_rest {v : BitVec 32} (h : v.toInt ≤ 1024) :
    Scf.OK (Scalar.addi 0#32 (Scalar.muli (Scalar.divsi (Scalar.subi (chunksWord v) 0#32) 1#32) 1#32)) (Scalar.addi 0#32 (Scalar.subi (chunksWord v) 0#32)) 1#32 := by
  unfold Scf.OK
  rw [Scf.rem_trips]
  rw [Scalar.muli_divsi_one, show Scalar.addi 0#32 (Scalar.subi (chunksWord v) 0#32) = chunksWord v by
    simp [Scalar.addi, Scalar.subi, IntOp.addi, IntOp.subi], show (1#32).toInt = 1 by decide]
  have := (BitVec.toInt_lt (x := chunksWord v))
  omega

/-- The place of the list the `s`-th place of chunk `k` is. -/
theorem place_toNat {k s : ℕ} (hk : k < 64) (hs : s < 16) :
    (Scalar.addi (Scalar.muli (Scf.iv 0#32 1#32 k) 16#32) (BitVec.ofNat 32 s)).toNat = 16 * k + s := by
  simp only [Scalar.addi, Scalar.muli, IntOp.addi, IntOp.muli, Scf.iv]
  simp only [BitVec.toNat_add, BitVec.toNat_mul, BitVec.toNat_ofNat]
  omega

end Cert.Proof
-- ==== Proof.KernelChunk.lean ====
/- One chunk of the list: what the sixteen granules of a chunk hold as one array of keys, which of their scores are kept, and the
   softmax state after the chunk, each as a plain function of the row's list, the keys, the queries and the state before. -/
module

public import proofs.«01_k».proof.Proof.Words
public import proofs.«01_k».proof.Proof.Gen.Kernel.Loops
public import proofs.«01_k».proof.Proof.Gen.Kernel.Launch
public import Idealize.ShloMosaic.Lib.Pipeline.FrameBody
public import Idealize.ShloMosaic.Lib.Pipeline.Value
public import Idealize.ShloMosaic.Lib.ValueIdxCore
public import Idealize.ShloMosaic.Lib.VecWindow
public import Idealize.ShloMosaic.Lib.Tactic

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

/-- The word at place `p` of a row's list. -/
def ent (x2 : Vec F S1x1x1024 .i32) (p : ℕ) : BitVec 32 := x2 (ix3 0 0 ⟨p % 1024, Nat.mod_lt _ (by decide)⟩)

/-- The keys of chunk `k`: sixteen granules of sixteen keys, the granule of key `y` the one its list place names. -/
def keysAt (x2 : Vec F S1x1x1024 .i32) (x7 : Vec F S1024x16x640 .bf16) (k : ℕ) : Vec F S256x640 .bf16 := fun y =>
  x7 (ix3 ⟨(ent x2 (16 * k + (y 0).val / 16) &&& 65535#32).toNat % 1024, Nat.mod_lt _ (by decide)⟩
    ⟨(y 0).val % 16, Nat.mod_lt _ (by decide)⟩ (y 1))

/-- their latent part, -/
def latAt (x2 : Vec F S1x1x1024 .i32) (x7 : Vec F S1024x16x640 .bf16) (k : ℕ) : Vec F S256x512 .bf16 := fun y =>
  keysAt x2 x7 k (ix2 (y 0) ⟨(y 1).val, by have h : (y 1).val < 512 := (y 1).isLt; omega⟩)
/-- and their rotary part. -/
def ropeAt (x2 : Vec F S1x1x1024 .i32) (x7 : Vec F S1024x16x640 .bf16) (k : ℕ) : Vec F S256x128 .bf16 := fun y =>
  keysAt x2 x7 k (ix2 (y 0) ⟨512 + (y 1).val, by have h : (y 1).val < 128 := (y 1).isLt; omega⟩)

/-- Which scores of granule `s` of chunk `k` are kept, the granule's word being `w`: those whose key is set in the word; in
    the row's first granule also only the keys not after the query. -/
def keepW (v14 v39 : IVec S16x256 32) (k : ℕ) (s : Fin 16) (w : BitVec 32) : IVec S16x256 1 :=
  if s.val = 0 then
    andi (cmpi .ne (andi (shrui (broadcast S16x256 (Scalar.shrsi w 16#32)) v14) (broadcast S16x256 1#32)) (broadcast S16x256 0#32))
      (cmpi .sle (subi v14 (broadcast S16x256 (Scalar.select (Scalar.cmpi .eq (Scf.iv 0#32 1#32 k) 0#32) 0#32 16#32))) v39)
  else cmpi .ne (andi (shrui (broadcast S16x256 (Scalar.shrsi w 16#32)) v14) (broadcast S16x256 1#32)) (broadcast S16x256 0#32)

/-- The same, the word taken from the list. -/
def keepAt (v14 v39 : IVec S16x256 32) (x2 : Vec F S1x1x1024 .i32) (k : ℕ) (s : Fin 16) : IVec S16x256 1 :=
  keepW v14 v39 k s (ent x2 (16 * k + s.val))

/-- The scores of a chunk, before any is dropped; -/
def rawAt (v13 : FVec F S1x256 .f32) (x4 : Vec F S256x128 .bf16) (x11 : Vec F S256x512 .bf16) (lat : Vec F S256x512 .bf16) (rope : Vec F S256x128 .bf16) : FVec F S256x256 .f32 :=
  k0_pay39 (k0_pay37 rope x4) (k0_pay38 v13 lat x11)

/-- a score not kept is −∞. -/
def maskAt (keep : Fin 16 → IVec S16x256 1) (raw : FVec F S256x256 .f32) : FVec F S256x256 .f32 := fun y =>
  if keep ⟨(y 0).val / 16, by have h : (y 0).val < 256 := (y 0).isLt; omega⟩ (ix2 ⟨(y 0).val % 16, Nat.mod_lt _ (by decide)⟩ (y 1)) = 1#1
  then raw y else Scalar.ofBits .f32 0xFF800000#32

/-- The scores of chunk `k`. -/
def scoreAt (v13 : FVec F S1x256 .f32) (v14 v39 : IVec S16x256 32) (x2 : Vec F S1x1x1024 .i32) (x4 : Vec F S256x128 .bf16) (x7 : Vec F S1024x16x640 .bf16)
    (x11 : Vec F S256x512 .bf16) (k : ℕ) : FVec F S256x256 .f32 :=
  maskAt (keepAt v14 v39 x2 k) (rawAt v13 x4 x11 (latAt x2 x7 k) (ropeAt x2 x7 k))

/-- The state of the online softmax: per query the base of the exponents and the sum of the weights, and the weighted sum of the values. -/
structure St (F : FTy → Type) [FloatOps F] where
  base : FVec F S1x256 .f32
  den : FVec F S1x256 .f32
  acc : FVec F S256x512 .f32

/-- The state after a chunk of scores `sc` and latent keys `lat`. -/
def stepSt (sc : FVec F S256x256 .f32) (lat : Vec F S256x512 .bf16) (S : St F) : St F :=
  let M := k0_pay117 S.base sc
  let P := k0_pay118 sc M
  let R := exp2 (k0_pay119 S.base M)
  ⟨M, k0_pay121 S.den P R, k0_pay120 P R S.acc lat⟩

/-! ## What a chunk's run reads -/

theorem word_eq (c : Dev nD) (arg2 : Memref sig .tc .smem S1x1x1024 .i32) (f2 : Buf (Elt F) (arg2.view.loc (c : Thread nD τ)))
    {off : Fin 3 → ℕ} (inb : ∀ a, off a + S1x1x1.size a ≤ S1x1x1024.size a) {p : ℕ} (h : off = ![0, 0, p]) (h0 : 0 < S1x1x1.numel) :
    arg2.view.readAt (Elt F) (Rect.unit (s := S1x1x1024) off S1x1x1.size inb).toLoadRect f2 (Shape.Idx.first h0)
      = ent (arg2.view.read (Elt F) f2) p := by
  subst h
  have hp : p + 1 ≤ 1024 := inb 2
  rw [View.readAt_apply]
  unfold ent
  refine congrArg _ (funext fun a => Fin.ext ?_)
  match a with
  | ⟨0, _⟩ => rfl
  | ⟨1, _⟩ => rfl
  | ⟨2, _⟩ => show p + 1 * 0 = p % 1024; omega

theorem inb_of (w : BitVec 32) (h : (w &&& 65535#32).toNat < 1024) : ∀ a, (k0_off3 w) a + S1x16x640.size a ≤ S1024x16x640.size a := by
  intro a
  match a with
  | ⟨0, _⟩ => show (w &&& 65535#32).toNat + 1 ≤ 1024; omega
  | ⟨1, _⟩ => show 0 + 16 ≤ 16; omega
  | ⟨2, _⟩ => show 0 + 640 ≤ 640; omega

theorem piece_eq (c : Dev nD) (arg7 : Memref sig .tc .vmem S1024x16x640 .bf16) (f7 : Buf (Elt F) (arg7.view.loc (c : Thread nD τ)))
    (x2 : Vec F S1x1x1024 .i32) (k s : ℕ) (w : BitVec 32) (hw : w = ent x2 (16 * k + s)) (inb : ∀ a, (k0_off3 w) a + S1x16x640.size a ≤ S1024x16x640.size a)
    (inb' : ∀ a, (![16 * s, 0] : Fin 2 → ℕ) a + S16x640.size a ≤ S256x640.size a) (x : S16x640.Idx) :
    shapeCast S16x640 (shapeCast S16x640 (arg7.view.readAt (Elt F) (Rect.unit (s := S1024x16x640) (k0_off3 w) S1x16x640.size inb).toLoadRect f7)
        shapeCasts_S1x16x640_S16x640) shapeCasts_S16x640_S16x640 x
      = keysAt x2 (arg7.view.read (Elt F) f7) k ((Rect.unit (s := S256x640) ![16 * s, 0] S16x640.size inb').emb x) := by
  have hx0 : (x 0).val < 16 := (x 0).isLt
  have hw0 : (w &&& 65535#32).toNat + 1 ≤ 1024 := inb 0
  rw [shapeCast_self, shapeCast_dropUnit_apply (![16, 640])]
  rw [View.readAt_apply]
  unfold keysAt
  refine congrArg _ (funext fun a => Fin.ext ?_)
  have e0 : ((((Rect.unit (s := S256x640) ![16 * s, 0] S16x640.size inb').emb x) 0).val) = 16 * s + (x 0).val := by
    show 16 * s + 1 * (x 0).val = _; omega
  have e1 : ((((Rect.unit (s := S256x640) ![16 * s, 0] S16x640.size inb').emb x) 1).val) = (x 1).val := by
    show 0 + 1 * (x 1).val = _; omega
  match a with
  | ⟨0, _⟩ =>
    show (w &&& 65535#32).toNat + 1 * 0 = (ent x2 (16 * k + _ / 16) &&& 65535#32).toNat % 1024
    rw [e0, show (16 * s + (x 0).val) / 16 = s by omega, ← hw]; omega
  | ⟨1, _⟩ => show 0 + 1 * (x 0).val = _ % 16; rw [e0]; omega
  | ⟨2, _⟩ => show 0 + 1 * (x 1).val = _; rw [e1]; omega

/-- The scores of granule `s` of a chunk. -/
def pieceAt (keep : Fin 16 → IVec S16x256 1) (raw : FVec F S256x256 .f32) (s : Fin 16) : FVec F S16x256 .f32 := fun x =>
  if keep s x = 1#1 then raw (ix2 ⟨16 * s.val + (x 0).val, by have h : (x 0).val < 16 := (x 0).isLt; omega⟩ (x 1)) else Scalar.ofBits .f32 0xFF800000#32

theorem piece_score (keep : Fin 16 → IVec S16x256 1) (raw : FVec F S256x256 .f32) (s : Fin 16) (mask : IVec S16x256 1) (hm : mask = keep s)
    {o : ℕ} (ho : o = 16 * s.val) (h : S256x256.Slices ![o, 0] S16x256) :
    select mask (extractStridedSlice S16x256 ![o, 0] raw h) (broadcast S16x256 (Scalar.ofBits .f32 0xFF800000#32)) = pieceAt keep raw s := by
  subst hm ho
  funext x
  have e : extractStridedSlice S16x256 ![16 * s.val, 0] raw h x
      = raw (ix2 ⟨16 * s.val + (x 0).val, by have h : (x 0).val < 16 := (x 0).isLt; omega⟩ (x 1)) := by
    refine congrArg raw (funext fun a => Fin.ext ?_)
    match a with
    | ⟨0, _⟩ => rfl
    | ⟨1, _⟩ => show 0 + (x 1).val = _; rw [Nat.zero_add]
  unfold pieceAt
  rw [← e]
  rfl

theorem cat_eq (keep : Fin 16 → IVec S16x256 1) (raw : FVec F S256x256 .f32) (a0 a1 a2 a3 a4 a5 a6 a7 a8 a9 a10 a11 a12 a13 a14 a15 : FVec F S16x256 .f32) (h0 : a0 = pieceAt keep raw 0) (h1 : a1 = pieceAt keep raw 1) (h2 : a2 = pieceAt keep raw 2) (h3 : a3 = pieceAt keep raw 3) (h4 : a4 = pieceAt keep raw 4) (h5 : a5 = pieceAt keep raw 5) (h6 : a6 = pieceAt keep raw 6) (h7 : a7 = pieceAt keep raw 7) (h8 : a8 = pieceAt keep raw 8) (h9 : a9 = pieceAt keep raw 9) (h10 : a10 = pieceAt keep raw 10) (h11 : a11 = pieceAt keep raw 11) (h12 : a12 = pieceAt keep raw 12) (h13 : a13 = pieceAt keep raw 13) (h14 : a14 = pieceAt keep raw 14) (h15 : a15 = pieceAt keep raw 15)
    (h : Shape.Concatenates (([⟨S16x256, a0⟩, ⟨S16x256, a1⟩, ⟨S16x256, a2⟩, ⟨S16x256, a3⟩, ⟨S16x256, a4⟩, ⟨S16x256, a5⟩, ⟨S16x256, a6⟩, ⟨S16x256, a7⟩, ⟨S16x256, a8⟩, ⟨S16x256, a9⟩, ⟨S16x256, a10⟩, ⟨S16x256, a11⟩, ⟨S16x256, a12⟩, ⟨S16x256, a13⟩, ⟨S16x256, a14⟩, ⟨S16x256, a15⟩] : List ((s : Shape) × (s.Idx → F .f32))).map (·.1)) S256x256 0) :
    concatenate S256x256 0 [⟨S16x256, a0⟩, ⟨S16x256, a1⟩, ⟨S16x256, a2⟩, ⟨S16x256, a3⟩, ⟨S16x256, a4⟩, ⟨S16x256, a5⟩, ⟨S16x256, a6⟩, ⟨S16x256, a7⟩, ⟨S16x256, a8⟩, ⟨S16x256, a9⟩, ⟨S16x256, a10⟩, ⟨S16x256, a11⟩, ⟨S16x256, a12⟩, ⟨S16x256, a13⟩, ⟨S16x256, a14⟩, ⟨S16x256, a15⟩] h = maskAt keep raw := by
  subst h0 h1 h2 h3 h4 h5 h6 h7 h8 h9 h10 h11 h12 h13 h14 h15
  funext y
  have hy : (y 0).val < 256 := (y 0).isLt
  refine (concatenate_ofFn_apply (t := S256x256) (s₁ := S16x256) 0 (pieceAt keep raw) h rfl 16 rfl y ⟨(y 0).val / 16, by omega⟩ rfl
    (ix2 ⟨(y 0).val % 16, Nat.mod_lt _ (by decide)⟩ (y 1)) rfl ?_).trans ?_
  · intro b hb
    match b, hb with
    | ⟨0, _⟩, hb => exact absurd rfl hb
    | ⟨1, _⟩, _ => rfl
  · unfold pieceAt maskAt
    congr 2
    funext a
    refine Fin.ext ?_
    match a with
    | ⟨0, _⟩ => show 16 * ((y 0).val / 16) + (y 0).val % 16 = (y 0).val; omega
    | ⟨1, _⟩ => rfl

/-- Sixteen granules, one below the other, are the chunk's keys. -/
theorem keys_of (x2 : Vec F S1x1x1024 .i32) (x7 : Vec F S1024x16x640 .bf16) (k : ℕ) (v0 v1 v2 v3 v4 v5 v6 v7 v8 v9 v10 v11 v12 v13 v14 v15 : S16x640.Idx → Elt F .bf16) (i0 : ∀ a, (![0, 0] : Fin 2 → ℕ) a + S16x640.size a ≤ S256x640.size a) (i1 : ∀ a, (![16, 0] : Fin 2 → ℕ) a + S16x640.size a ≤ S256x640.size a) (i2 : ∀ a, (![32, 0] : Fin 2 → ℕ) a + S16x640.size a ≤ S256x640.size a) (i3 : ∀ a, (![48, 0] : Fin 2 → ℕ) a + S16x640.size a ≤ S256x640.size a) (i4 : ∀ a, (![64, 0] : Fin 2 → ℕ) a + S16x640.size a ≤ S256x640.size a) (i5 : ∀ a, (![80, 0] : Fin 2 → ℕ) a + S16x640.size a ≤ S256x640.size a) (i6 : ∀ a, (![96, 0] : Fin 2 → ℕ) a + S16x640.size a ≤ S256x640.size a) (i7 : ∀ a, (![112, 0] : Fin 2 → ℕ) a + S16x640.size a ≤ S256x640.size a) (i8 : ∀ a, (![128, 0] : Fin 2 → ℕ) a + S16x640.size a ≤ S256x640.size a) (i9 : ∀ a, (![144, 0] : Fin 2 → ℕ) a + S16x640.size a ≤ S256x640.size a) (i10 : ∀ a, (![160, 0] : Fin 2 → ℕ) a + S16x640.size a ≤ S256x640.size a) (i11 : ∀ a, (![176, 0] : Fin 2 → ℕ) a + S16x640.size a ≤ S256x640.size a) (i12 : ∀ a, (![192, 0] : Fin 2 → ℕ) a + S16x640.size a ≤ S256x640.size a) (i13 : ∀ a, (![208, 0] : Fin 2 → ℕ) a + S16x640.size a ≤ S256x640.size a) (i14 : ∀ a, (![224, 0] : Fin 2 → ℕ) a + S16x640.size a ≤ S256x640.size a) (i15 : ∀ a, (![240, 0] : Fin 2 → ℕ) a + S16x640.size a ≤ S256x640.size a)
    (g0 : ∀ x, v0 x = keysAt x2 x7 k ((Rect.unit (s := S256x640) ![0, 0] S16x640.size i0).emb x))
    (g1 : ∀ x, v1 x = keysAt x2 x7 k ((Rect.unit (s := S256x640) ![16, 0] S16x640.size i1).emb x))
    (g2 : ∀ x, v2 x = keysAt x2 x7 k ((Rect.unit (s := S256x640) ![32, 0] S16x640.size i2).emb x))
    (g3 : ∀ x, v3 x = keysAt x2 x7 k ((Rect.unit (s := S256x640) ![48, 0] S16x640.size i3).emb x))
    (g4 : ∀ x, v4 x = keysAt x2 x7 k ((Rect.unit (s := S256x640) ![64, 0] S16x640.size i4).emb x))
    (g5 : ∀ x, v5 x = keysAt x2 x7 k ((Rect.unit (s := S256x640) ![80, 0] S16x640.size i5).emb x))
    (g6 : ∀ x, v6 x = keysAt x2 x7 k ((Rect.unit (s := S256x640) ![96, 0] S16x640.size i6).emb x))
    (g7 : ∀ x, v7 x = keysAt x2 x7 k ((Rect.unit (s := S256x640) ![112, 0] S16x640.size i7).emb x))
    (g8 : ∀ x, v8 x = keysAt x2 x7 k ((Rect.unit (s := S256x640) ![128, 0] S16x640.size i8).emb x))
    (g9 : ∀ x, v9 x = keysAt x2 x7 k ((Rect.unit (s := S256x640) ![144, 0] S16x640.size i9).emb x))
    (g10 : ∀ x, v10 x = keysAt x2 x7 k ((Rect.unit (s := S256x640) ![160, 0] S16x640.size i10).emb x))
    (g11 : ∀ x, v11 x = keysAt x2 x7 k ((Rect.unit (s := S256x640) ![176, 0] S16x640.size i11).emb x))
    (g12 : ∀ x, v12 x = keysAt x2 x7 k ((Rect.unit (s := S256x640) ![192, 0] S16x640.size i12).emb x))
    (g13 : ∀ x, v13 x = keysAt x2 x7 k ((Rect.unit (s := S256x640) ![208, 0] S16x640.size i13).emb x))
    (g14 : ∀ x, v14 x = keysAt x2 x7 k ((Rect.unit (s := S256x640) ![224, 0] S16x640.size i14).emb x))
    (g15 : ∀ x, v15 x = keysAt x2 x7 k ((Rect.unit (s := S256x640) ![240, 0] S16x640.size i15).emb x)) :
    View.canon (Val := Elt F) (s := S256x640) (e := .bf16) [⟨Rect.unit (s := S256x640) ![240, 0] S16x640.size i15, v15⟩, ⟨Rect.unit (s := S256x640) ![224, 0] S16x640.size i14, v14⟩, ⟨Rect.unit (s := S256x640) ![208, 0] S16x640.size i13, v13⟩, ⟨Rect.unit (s := S256x640) ![192, 0] S16x640.size i12, v12⟩, ⟨Rect.unit (s := S256x640) ![176, 0] S16x640.size i11, v11⟩, ⟨Rect.unit (s := S256x640) ![160, 0] S16x640.size i10, v10⟩, ⟨Rect.unit (s := S256x640) ![144, 0] S16x640.size i9, v9⟩, ⟨Rect.unit (s := S256x640) ![128, 0] S16x640.size i8, v8⟩, ⟨Rect.unit (s := S256x640) ![112, 0] S16x640.size i7, v7⟩, ⟨Rect.unit (s := S256x640) ![96, 0] S16x640.size i6, v6⟩, ⟨Rect.unit (s := S256x640) ![80, 0] S16x640.size i5, v5⟩, ⟨Rect.unit (s := S256x640) ![64, 0] S16x640.size i4, v4⟩, ⟨Rect.unit (s := S256x640) ![48, 0] S16x640.size i3, v3⟩, ⟨Rect.unit (s := S256x640) ![32, 0] S16x640.size i2, v2⟩, ⟨Rect.unit (s := S256x640) ![16, 0] S16x640.size i1, v1⟩, ⟨Rect.unit (s := S256x640) ![0, 0] S16x640.size i0, v0⟩] = keysAt x2 x7 k := by
  funext y
  refine View.canon_apply_of_pieces (keysAt x2 x7 k) _ ?_ y ?_
  · simp only [List.mem_cons, List.not_mem_nil, or_false, forall_eq_or_imp, forall_eq]
    exact ⟨g15, g14, g13, g12, g11, g10, g9, g8, g7, g6, g5, g4, g3, g2, g1, g0⟩
  · have hy0 : (y 0).val < 256 := (y 0).isLt
    have hy1 : (y 1).val < 640 := (y 1).isLt
    have key : ∀ o (inb : ∀ a, (![o, 0] : Fin 2 → ℕ) a + S16x640.size a ≤ S256x640.size a), o ≤ (y 0).val → (y 0).val < o + 16 →
        y ∈ (Rect.unit (s := S256x640) ![o, 0] S16x640.size inb).set := by
      intro o inb h1 h2
      rw [Rect.mem_set_unit]
      intro a
      match a with
      | ⟨0, _⟩ => exact ⟨h1, h2⟩
      | ⟨1, _⟩ => exact ⟨Nat.zero_le _, by show (y 1).val < 0 + 640; omega⟩
    obtain ⟨q, hq⟩ : ∃ q, (y 0).val / 16 = q := ⟨_, rfl⟩
    have hq16 : q < 16 := by omega
    interval_cases q
    · exact ⟨⟨Rect.unit (s := S256x640) ![0, 0] S16x640.size i0, v0⟩, by simp, key _ i0 (by omega) (by omega)⟩
    · exact ⟨⟨Rect.unit (s := S256x640) ![16, 0] S16x640.size i1, v1⟩, by simp, key _ i1 (by omega) (by omega)⟩
    · exact ⟨⟨Rect.unit (s := S256x640) ![32, 0] S16x640.size i2, v2⟩, by simp, key _ i2 (by omega) (by omega)⟩
    · exact ⟨⟨Rect.unit (s := S256x640) ![48, 0] S16x640.size i3, v3⟩, by simp, key _ i3 (by omega) (by omega)⟩
    · exact ⟨⟨Rect.unit (s := S256x640) ![64, 0] S16x640.size i4, v4⟩, by simp, key _ i4 (by omega) (by omega)⟩
    · exact ⟨⟨Rect.unit (s := S256x640) ![80, 0] S16x640.size i5, v5⟩, by simp, key _ i5 (by omega) (by omega)⟩
    · exact ⟨⟨Rect.unit (s := S256x640) ![96, 0] S16x640.size i6, v6⟩, by simp, key _ i6 (by omega) (by omega)⟩
    · exact ⟨⟨Rect.unit (s := S256x640) ![112, 0] S16x640.size i7, v7⟩, by simp, key _ i7 (by omega) (by omega)⟩
    · exact ⟨⟨Rect.unit (s := S256x640) ![128, 0] S16x640.size i8, v8⟩, by simp, key _ i8 (by omega) (by omega)⟩
    · exact ⟨⟨Rect.unit (s := S256x640) ![144, 0] S16x640.size i9, v9⟩, by simp, key _ i9 (by omega) (by omega)⟩
    · exact ⟨⟨Rect.unit (s := S256x640) ![160, 0] S16x640.size i10, v10⟩, by simp, key _ i10 (by omega) (by omega)⟩
    · exact ⟨⟨Rect.unit (s := S256x640) ![176, 0] S16x640.size i11, v11⟩, by simp, key _ i11 (by omega) (by omega)⟩
    · exact ⟨⟨Rect.unit (s := S256x640) ![192, 0] S16x640.size i12, v12⟩, by simp, key _ i12 (by omega) (by omega)⟩
    · exact ⟨⟨Rect.unit (s := S256x640) ![208, 0] S16x640.size i13, v13⟩, by simp, key _ i13 (by omega) (by omega)⟩
    · exact ⟨⟨Rect.unit (s := S256x640) ![224, 0] S16x640.size i14, v14⟩, by simp, key _ i14 (by omega) (by omega)⟩
    · exact ⟨⟨Rect.unit (s := S256x640) ![240, 0] S16x640.size i15, v15⟩, by simp, key _ i15 (by omega) (by omega)⟩

theorem lat_of {c : Dev nD} (M : Memref sig .tc .vmem S256x640 .bf16) (L : List (View.Piece (Elt F) S256x640 .bf16)) {x2 : Vec F S1x1x1024 .i32}
    {x7 : Vec F S1024x16x640 .bf16} {k : ℕ} (hL : View.canon L = keysAt x2 x7 k) (inb : ∀ a, (![0, 0] : Fin 2 → ℕ) a + S256x512.size a ≤ S256x640.size a) :
    M.view.readCov L (Rect.unit (s := S256x640) ![0, 0] S256x512.size inb).toLoadRect = latAt x2 x7 k := by
  rw [View.readCov_eq_canon', hL]
  funext y
  unfold latAt
  refine congrArg _ (funext fun a => Fin.ext ?_)
  match a with
  | ⟨0, _⟩ => show 0 + 1 * (y 0).val = (y 0).val; omega
  | ⟨1, _⟩ => show 0 + 1 * (y 1).val = (y 1).val; omega

theorem rope_of {c : Dev nD} (M : Memref sig .tc .vmem S256x640 .bf16) (L : List (View.Piece (Elt F) S256x640 .bf16)) {x2 : Vec F S1x1x1024 .i32}
    {x7 : Vec F S1024x16x640 .bf16} {k : ℕ} (hL : View.canon L = keysAt x2 x7 k) (inb : ∀ a, (![0, 512] : Fin 2 → ℕ) a + S256x128.size a ≤ S256x640.size a) :
    M.view.readCov L (Rect.unit (s := S256x640) ![0, 512] S256x128.size inb).toLoadRect = ropeAt x2 x7 k := by
  rw [View.readCov_eq_canon', hL]
  funext y
  unfold ropeAt
  refine congrArg _ (funext fun a => Fin.ext ?_)
  match a with
  | ⟨0, _⟩ => show 0 + 1 * (y 0).val = (y 0).val; omega
  | ⟨1, _⟩ => show 512 + 1 * (y 1).val = 512 + (y 1).val; omega

end Cert.Proof.Kernel
-- ==== Proof.KernelTrip.lean ====
/- One trip of the loop over the chunks: the machine's run of it, and what it leaves — the state after the chunk. -/
module

public import proofs.«01_k».proof.Proof.KernelChunk

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

/-- The word of place `s` of chunk `k`, as the trip reads it. -/
theorem off_eq (v41 : Elt F .i32) (hc : v41.toInt ≤ 1024) (k : Fin (k0_t1_loop v41).trips) :
    k0_off2 v41 k = ![0, 0, 16 * k.val + 0] ∧ k0_off4 v41 k = ![0, 0, 16 * k.val + 1] ∧ k0_off6 v41 k = ![0, 0, 16 * k.val + 2] ∧ k0_off8 v41 k = ![0, 0, 16 * k.val + 3] ∧ k0_off10 v41 k = ![0, 0, 16 * k.val + 4] ∧ k0_off12 v41 k = ![0, 0, 16 * k.val + 5] ∧ k0_off14 v41 k = ![0, 0, 16 * k.val + 6] ∧ k0_off16 v41 k = ![0, 0, 16 * k.val + 7] ∧ k0_off18 v41 k = ![0, 0, 16 * k.val + 8] ∧ k0_off20 v41 k = ![0, 0, 16 * k.val + 9] ∧ k0_off22 v41 k = ![0, 0, 16 * k.val + 10] ∧ k0_off24 v41 k = ![0, 0, 16 * k.val + 11] ∧ k0_off26 v41 k = ![0, 0, 16 * k.val + 12] ∧ k0_off28 v41 k = ![0, 0, 16 * k.val + 13] ∧ k0_off30 v41 k = ![0, 0, 16 * k.val + 14] ∧ k0_off32 v41 k = ![0, 0, 16 * k.val + 15] := by
  have hk : k.val < 64 := lt_of_lt_of_le k.isLt ((trips_main hc).le.trans (chunks_le hc))
  refine ⟨?_, ?_, ?_, ?_, ?_, ?_, ?_, ?_, ?_, ?_, ?_, ?_, ?_, ?_, ?_, ?_⟩
  · exact congrArg (fun n => (![0, 0, n] : Fin 3 → ℕ)) (place_toNat hk (s := 0) (by decide))
  · exact congrArg (fun n => (![0, 0, n] : Fin 3 → ℕ)) (place_toNat hk (s := 1) (by decide))
  · exact congrArg (fun n => (![0, 0, n] : Fin 3 → ℕ)) (place_toNat hk (s := 2) (by decide))
  · exact congrArg (fun n => (![0, 0, n] : Fin 3 → ℕ)) (place_toNat hk (s := 3) (by decide))
  · exact congrArg (fun n => (![0, 0, n] : Fin 3 → ℕ)) (place_toNat hk (s := 4) (by decide))
  · exact congrArg (fun n => (![0, 0, n] : Fin 3 → ℕ)) (place_toNat hk (s := 5) (by decide))
  · exact congrArg (fun n => (![0, 0, n] : Fin 3 → ℕ)) (place_toNat hk (s := 6) (by decide))
  · exact congrArg (fun n => (![0, 0, n] : Fin 3 → ℕ)) (place_toNat hk (s := 7) (by decide))
  · exact congrArg (fun n => (![0, 0, n] : Fin 3 → ℕ)) (place_toNat hk (s := 8) (by decide))
  · exact congrArg (fun n => (![0, 0, n] : Fin 3 → ℕ)) (place_toNat hk (s := 9) (by decide))
  · exact congrArg (fun n => (![0, 0, n] : Fin 3 → ℕ)) (place_toNat hk (s := 10) (by decide))
  · exact congrArg (fun n => (![0, 0, n] : Fin 3 → ℕ)) (place_toNat hk (s := 11) (by decide))
  · exact congrArg (fun n => (![0, 0, n] : Fin 3 → ℕ)) (place_toNat hk (s := 12) (by decide))
  · exact congrArg (fun n => (![0, 0, n] : Fin 3 → ℕ)) (place_toNat hk (s := 13) (by decide))
  · exact congrArg (fun n => (![0, 0, n] : Fin 3 → ℕ)) (place_toNat hk (s := 14) (by decide))
  · exact congrArg (fun n => (![0, 0, n] : Fin 3 → ℕ)) (place_toNat hk (s := 15) (by decide))

/-- The state after chunk `k`, from the state before it. -/
def chunkSt (v13 : FVec F S1x256 .f32) (v14 v39 : IVec S16x256 32) (x2 : Vec F S1x1x1024 .i32) (x4 : Vec F S256x128 .bf16) (x7 : Vec F S1024x16x640 .bf16)
    (x11 : Vec F S256x512 .bf16) (k : ℕ) (S : St F) : St F :=
  stepSt (scoreAt v13 v14 v39 x2 x4 x7 x11 k) (latAt x2 x7 k) S

set_option maxHeartbeats 4000000 in
theorem tripRun (c : Dev nD) (i : grid0.Coords) (arg1 : Memref sig .tc .smem S256 .i32) (harg1 : arg1.IsWhole) (arg2 : Memref sig .tc .smem S1x1x1024 .i32) (harg2 : arg2.IsWhole) (arg3 : Memref sig .tc .vmem S16x16x512 .fp8e4m3) (harg3 : arg3.IsWhole) (arg4 : Memref sig .tc .vmem S256x128 .bf16) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1024x16x640 .bf16) (harg7 : arg7.IsWhole) (arg8 : Memref sig .tc .vmem S256x512 .f32) (harg8 : arg8.IsWhole) (arg9 : Memref sig .tc .vmem S1x1x256 .f32) (harg9 : arg9.IsWhole) (arg10 : Memref sig .tc .vmem S256x640 .bf16) (harg10 : arg10.IsWhole) (arg11 : Memref sig .tc .vmem S256x512 .bf16) (harg11 : arg11.IsWhole) (arg12 : Memref sig .tc .vmem S256x512 .f32) (harg12 : arg12.IsWhole) (arg0 : BitVec 32) (v13 : FVec F S1x256 .f32) (v14 : IVec S16x256 32) (v17 : IVec S16x256 32) (v36 : IVec S16x256 1) (v37 : IVec S16x256 32) (v41 : Elt F .i32) (k0_hw1 : k0_chk1 v41) (f2 : Buf (Elt F) (arg2.view.loc (c : Thread nD τ))) (f4 : Buf (Elt F) (arg4.view.loc (c : Thread nD τ))) (f7 : Buf (Elt F) (arg7.view.loc (c : Thread nD τ))) (f10 : Buf (Elt F) (arg10.view.loc (c : Thread nD τ))) (f11 : Buf (Elt F) (arg11.view.loc (c : Thread nD τ))) (f12 : Buf (Elt F) (arg12.view.loc (c : Thread nD τ)))
    (k : Fin (k0_t1_loop v41).trips) (m d : FVec F S1x256 .f32) (hc : v41.toInt ≤ 1024)
   (h2 : k0_chk2 (arg2.view.readAt (Elt F) (Rect.unit (s := S1x1x1024) (k0_off2 v41 k) S1x1x1.size (k0_off2_inb v41 k0_hw1 k)).toLoadRect f2 (Shape.Idx.first (numel1_S1x1x1.symm ▸ Nat.one_pos)))) (h3 : k0_chk3 (arg2.view.readAt (Elt F) (Rect.unit (s := S1x1x1024) (k0_off4 v41 k) S1x1x1.size (k0_off4_inb v41 k0_hw1 k)).toLoadRect f2 (Shape.Idx.first (numel1_S1x1x1.symm ▸ Nat.one_pos)))) (h4 : k0_chk4 (arg2.view.readAt (Elt F) (Rect.unit (s := S1x1x1024) (k0_off6 v41 k) S1x1x1.size (k0_off6_inb v41 k0_hw1 k)).toLoadRect f2 (Shape.Idx.first (numel1_S1x1x1.symm ▸ Nat.one_pos)))) (h5 : k0_chk5 (arg2.view.readAt (Elt F) (Rect.unit (s := S1x1x1024) (k0_off8 v41 k) S1x1x1.size (k0_off8_inb v41 k0_hw1 k)).toLoadRect f2 (Shape.Idx.first (numel1_S1x1x1.symm ▸ Nat.one_pos)))) (h6 : k0_chk6 (arg2.view.readAt (Elt F) (Rect.unit (s := S1x1x1024) (k0_off10 v41 k) S1x1x1.size (k0_off10_inb v41 k0_hw1 k)).toLoadRect f2 (Shape.Idx.first (numel1_S1x1x1.symm ▸ Nat.one_pos)))) (h7 : k0_chk7 (arg2.view.readAt (Elt F) (Rect.unit (s := S1x1x1024) (k0_off12 v41 k) S1x1x1.size (k0_off12_inb v41 k0_hw1 k)).toLoadRect f2 (Shape.Idx.first (numel1_S1x1x1.symm ▸ Nat.one_pos)))) (h8 : k0_chk8 (arg2.view.readAt (Elt F) (Rect.unit (s := S1x1x1024) (k0_off14 v41 k) S1x1x1.size (k0_off14_inb v41 k0_hw1 k)).toLoadRect f2 (Shape.Idx.first (numel1_S1x1x1.symm ▸ Nat.one_pos)))) (h9 : k0_chk9 (arg2.view.readAt (Elt F) (Rect.unit (s := S1x1x1024) (k0_off16 v41 k) S1x1x1.size (k0_off16_inb v41 k0_hw1 k)).toLoadRect f2 (Shape.Idx.first (numel1_S1x1x1.symm ▸ Nat.one_pos)))) (h10 : k0_chk10 (arg2.view.readAt (Elt F) (Rect.unit (s := S1x1x1024) (k0_off18 v41 k) S1x1x1.size (k0_off18_inb v41 k0_hw1 k)).toLoadRect f2 (Shape.Idx.first (numel1_S1x1x1.symm ▸ Nat.one_pos)))) (h11 : k0_chk11 (arg2.view.readAt (Elt F) (Rect.unit (s := S1x1x1024) (k0_off20 v41 k) S1x1x1.size (k0_off20_inb v41 k0_hw1 k)).toLoadRect f2 (Shape.Idx.first (numel1_S1x1x1.symm ▸ Nat.one_pos)))) (h12 : k0_chk12 (arg2.view.readAt (Elt F) (Rect.unit (s := S1x1x1024) (k0_off22 v41 k) S1x1x1.size (k0_off22_inb v41 k0_hw1 k)).toLoadRect f2 (Shape.Idx.first (numel1_S1x1x1.symm ▸ Nat.one_pos)))) (h13 : k0_chk13 (arg2.view.readAt (Elt F) (Rect.unit (s := S1x1x1024) (k0_off24 v41 k) S1x1x1.size (k0_off24_inb v41 k0_hw1 k)).toLoadRect f2 (Shape.Idx.first (numel1_S1x1x1.symm ▸ Nat.one_pos)))) (h14 : k0_chk14 (arg2.view.readAt (Elt F) (Rect.unit (s := S1x1x1024) (k0_off26 v41 k) S1x1x1.size (k0_off26_inb v41 k0_hw1 k)).toLoadRect f2 (Shape.Idx.first (numel1_S1x1x1.symm ▸ Nat.one_pos)))) (h15 : k0_chk15 (arg2.view.readAt (Elt F) (Rect.unit (s := S1x1x1024) (k0_off28 v41 k) S1x1x1.size (k0_off28_inb v41 k0_hw1 k)).toLoadRect f2 (Shape.Idx.first (numel1_S1x1x1.symm ▸ Nat.one_pos)))) (h16 : k0_chk16 (arg2.view.readAt (Elt F) (Rect.unit (s := S1x1x1024) (k0_off30 v41 k) S1x1x1.size (k0_off30_inb v41 k0_hw1 k)).toLoadRect f2 (Shape.Idx.first (numel1_S1x1x1.symm ▸ Nat.one_pos)))) (h17 : k0_chk17 (arg2.view.readAt (Elt F) (Rect.unit (s := S1x1x1024) (k0_off32 v41 k) S1x1x1.size (k0_off32_inb v41 k0_hw1 k)).toLoadRect f2 (Shape.Idx.first (numel1_S1x1x1.symm ▸ Nat.one_pos)))) :
    (iprop((arg2.view.loc (c : Thread nD τ) ↦[arg2.view.set]{fullShare} f2) ∗ (arg4.view.loc (c : Thread nD τ) ↦[arg4.view.set]{fullShare} f4) ∗ (arg7.view.loc (c : Thread nD τ) ↦[arg7.view.set]{fullShare} f7) ∗ (arg11.view.loc (c : Thread nD τ) ↦[arg11.view.set]{fullShare} f11) ∗ (arg10.view.loc (c : Thread nD τ) ↦[arg10.view.set]{fullShare} f10) ∗ (arg12.view.loc (c : Thread nD τ) ↦[arg12.view.set]{fullShare} f12)) : sProp 𝕄)
      ⊢ wp frame (wpE (defs₀ (F := F)) Variants.none (c : Thread nD τ) none) Set.univ (k0_t1_body (F := F) i arg1 harg1 arg2 harg2 arg3 harg3 arg4 harg4 arg5 harg5 arg6 harg6 arg7 harg7 arg8 harg8 arg9 harg9 arg10 harg10 arg11 harg11 arg12 harg12 arg0 v13 v14 v17 v36 v37 v41 k0_hw1 k (m, d))
        (fun r => iprop(⌜r = ((chunkSt v13 v14 (k0_pay112 v17 v36 v37) (arg2.view.read (Elt F) f2) (arg4.view.read (Elt F) f4) (arg7.view.read (Elt F) f7) (arg11.view.read (Elt F) f11) k ⟨m, d, arg12.view.read (Elt F) f12⟩).base, (chunkSt v13 v14 (k0_pay112 v17 v36 v37) (arg2.view.read (Elt F) f2) (arg4.view.read (Elt F) f4) (arg7.view.read (Elt F) f7) (arg11.view.read (Elt F) f11) k ⟨m, d, arg12.view.read (Elt F) f12⟩).den)⌝ ∗ (arg2.view.loc (c : Thread nD τ) ↦[arg2.view.set]{fullShare} f2) ∗ (arg4.view.loc (c : Thread nD τ) ↦[arg4.view.set]{fullShare} f4) ∗ (arg7.view.loc (c : Thread nD τ) ↦[arg7.view.set]{fullShare} f7) ∗ (arg11.view.loc (c : Thread nD τ) ↦[arg11.view.set]{fullShare} f11) ∗ (∃ f, (arg10.view.loc (c : Thread nD τ) ↦[arg10.view.set]{fullShare} f))
          ∗ ∃ f, ⌜arg12.view.read (Elt F) f = (chunkSt v13 v14 (k0_pay112 v17 v36 v37) (arg2.view.read (Elt F) f2) (arg4.view.read (Elt F) f4) (arg7.view.read (Elt F) f7) (arg11.view.read (Elt F) f11) k ⟨m, d, arg12.view.read (Elt F) f12⟩).acc⌝ ∗ (arg12.view.loc (c : Thread nD τ) ↦[arg12.view.set]{fullShare} f))) := by
  iintro ⟨H2, H4, H7, H11, H10, H12⟩
  sl_unfold [k0_t1_body]
  sl_exec (disch := first | assumption)
  sl_step
  obtain ⟨o0, o1, o2, o3, o4, o5, o6, o7, o8, o9, o10, o11, o12, o13, o14, o15⟩ := off_eq v41 hc k
  have w0 : (arg2.view.readAt (Elt F) (Rect.unit (s := S1x1x1024) (k0_off2 v41 k) S1x1x1.size (k0_off2_inb v41 k0_hw1 k)).toLoadRect f2 (Shape.Idx.first (numel1_S1x1x1.symm ▸ Nat.one_pos))) = ent (arg2.view.read (Elt F) f2) (16 * k.val + 0) := word_eq c arg2 f2 _ o0 _
  have w1 : (arg2.view.readAt (Elt F) (Rect.unit (s := S1x1x1024) (k0_off4 v41 k) S1x1x1.size (k0_off4_inb v41 k0_hw1 k)).toLoadRect f2 (Shape.Idx.first (numel1_S1x1x1.symm ▸ Nat.one_pos))) = ent (arg2.view.read (Elt F) f2) (16 * k.val + 1) := word_eq c arg2 f2 _ o1 _
  have w2 : (arg2.view.readAt (Elt F) (Rect.unit (s := S1x1x1024) (k0_off6 v41 k) S1x1x1.size (k0_off6_inb v41 k0_hw1 k)).toLoadRect f2 (Shape.Idx.first (numel1_S1x1x1.symm ▸ Nat.one_pos))) = ent (arg2.view.read (Elt F) f2) (16 * k.val + 2) := word_eq c arg2 f2 _ o2 _
  have w3 : (arg2.view.readAt (Elt F) (Rect.unit (s := S1x1x1024) (k0_off8 v41 k) S1x1x1.size (k0_off8_inb v41 k0_hw1 k)).toLoadRect f2 (Shape.Idx.first (numel1_S1x1x1.symm ▸ Nat.one_pos))) = ent (arg2.view.read (Elt F) f2) (16 * k.val + 3) := word_eq c arg2 f2 _ o3 _
  have w4 : (arg2.view.readAt (Elt F) (Rect.unit (s := S1x1x1024) (k0_off10 v41 k) S1x1x1.size (k0_off10_inb v41 k0_hw1 k)).toLoadRect f2 (Shape.Idx.first (numel1_S1x1x1.symm ▸ Nat.one_pos))) = ent (arg2.view.read (Elt F) f2) (16 * k.val + 4) := word_eq c arg2 f2 _ o4 _
  have w5 : (arg2.view.readAt (Elt F) (Rect.unit (s := S1x1x1024) (k0_off12 v41 k) S1x1x1.size (k0_off12_inb v41 k0_hw1 k)).toLoadRect f2 (Shape.Idx.first (numel1_S1x1x1.symm ▸ Nat.one_pos))) = ent (arg2.view.read (Elt F) f2) (16 * k.val + 5) := word_eq c arg2 f2 _ o5 _
  have w6 : (arg2.view.readAt (Elt F) (Rect.unit (s := S1x1x1024) (k0_off14 v41 k) S1x1x1.size (k0_off14_inb v41 k0_hw1 k)).toLoadRect f2 (Shape.Idx.first (numel1_S1x1x1.symm ▸ Nat.one_pos))) = ent (arg2.view.read (Elt F) f2) (16 * k.val + 6) := word_eq c arg2 f2 _ o6 _
  have w7 : (arg2.view.readAt (Elt F) (Rect.unit (s := S1x1x1024) (k0_off16 v41 k) S1x1x1.size (k0_off16_inb v41 k0_hw1 k)).toLoadRect f2 (Shape.Idx.first (numel1_S1x1x1.symm ▸ Nat.one_pos))) = ent (arg2.view.read (Elt F) f2) (16 * k.val + 7) := word_eq c arg2 f2 _ o7 _
  have w8 : (arg2.view.readAt (Elt F) (Rect.unit (s := S1x1x1024) (k0_off18 v41 k) S1x1x1.size (k0_off18_inb v41 k0_hw1 k)).toLoadRect f2 (Shape.Idx.first (numel1_S1x1x1.symm ▸ Nat.one_pos))) = ent (arg2.view.read (Elt F) f2) (16 * k.val + 8) := word_eq c arg2 f2 _ o8 _
  have w9 : (arg2.view.readAt (Elt F) (Rect.unit (s := S1x1x1024) (k0_off20 v41 k) S1x1x1.size (k0_off20_inb v41 k0_hw1 k)).toLoadRect f2 (Shape.Idx.first (numel1_S1x1x1.symm ▸ Nat.one_pos))) = ent (arg2.view.read (Elt F) f2) (16 * k.val + 9) := word_eq c arg2 f2 _ o9 _
  have w10 : (arg2.view.readAt (Elt F) (Rect.unit (s := S1x1x1024) (k0_off22 v41 k) S1x1x1.size (k0_off22_inb v41 k0_hw1 k)).toLoadRect f2 (Shape.Idx.first (numel1_S1x1x1.symm ▸ Nat.one_pos))) = ent (arg2.view.read (Elt F) f2) (16 * k.val + 10) := word_eq c arg2 f2 _ o10 _
  have w11 : (arg2.view.readAt (Elt F) (Rect.unit (s := S1x1x1024) (k0_off24 v41 k) S1x1x1.size (k0_off24_inb v41 k0_hw1 k)).toLoadRect f2 (Shape.Idx.first (numel1_S1x1x1.symm ▸ Nat.one_pos))) = ent (arg2.view.read (Elt F) f2) (16 * k.val + 11) := word_eq c arg2 f2 _ o11 _
  have w12 : (arg2.view.readAt (Elt F) (Rect.unit (s := S1x1x1024) (k0_off26 v41 k) S1x1x1.size (k0_off26_inb v41 k0_hw1 k)).toLoadRect f2 (Shape.Idx.first (numel1_S1x1x1.symm ▸ Nat.one_pos))) = ent (arg2.view.read (Elt F) f2) (16 * k.val + 12) := word_eq c arg2 f2 _ o12 _
  have w13 : (arg2.view.readAt (Elt F) (Rect.unit (s := S1x1x1024) (k0_off28 v41 k) S1x1x1.size (k0_off28_inb v41 k0_hw1 k)).toLoadRect f2 (Shape.Idx.first (numel1_S1x1x1.symm ▸ Nat.one_pos))) = ent (arg2.view.read (Elt F) f2) (16 * k.val + 13) := word_eq c arg2 f2 _ o13 _
  have w14 : (arg2.view.readAt (Elt F) (Rect.unit (s := S1x1x1024) (k0_off30 v41 k) S1x1x1.size (k0_off30_inb v41 k0_hw1 k)).toLoadRect f2 (Shape.Idx.first (numel1_S1x1x1.symm ▸ Nat.one_pos))) = ent (arg2.view.read (Elt F) f2) (16 * k.val + 14) := word_eq c arg2 f2 _ o14 _
  have w15 : (arg2.view.readAt (Elt F) (Rect.unit (s := S1x1x1024) (k0_off32 v41 k) S1x1x1.size (k0_off32_inb v41 k0_hw1 k)).toLoadRect f2 (Shape.Idx.first (numel1_S1x1x1.symm ▸ Nat.one_pos))) = ent (arg2.view.read (Elt F) f2) (16 * k.val + 15) := word_eq c arg2 f2 _ o15 _
  have hkeys : View.canon (tripRun.sl.H10_16 c arg2 arg7 v41 k0_hw1 f2 f7 k h2 h3 h4 h5 h6 h7 h8 h9 h10 h11 h12 h13 h14 h15 h16 h17) = keysAt (arg2.view.read (Elt F) f2) (arg7.view.read (Elt F) f7) k.val :=
    keys_of (arg2.view.read (Elt F) f2) (arg7.view.read (Elt F) f7) k.val _ _ _ _ _ _ _ _ _ _ _ _ _ _ _ _ _ _ _ _ _ _ _ _ _ _ _ _ _ _ _ _
      (fun x => piece_eq c arg7 f7 (arg2.view.read (Elt F) f2) k.val 0 _ w0 _ _ x)
      (fun x => piece_eq c arg7 f7 (arg2.view.read (Elt F) f2) k.val 1 _ w1 _ _ x)
      (fun x => piece_eq c arg7 f7 (arg2.view.read (Elt F) f2) k.val 2 _ w2 _ _ x)
      (fun x => piece_eq c arg7 f7 (arg2.view.read (Elt F) f2) k.val 3 _ w3 _ _ x)
      (fun x => piece_eq c arg7 f7 (arg2.view.read (Elt F) f2) k.val 4 _ w4 _ _ x)
      (fun x => piece_eq c arg7 f7 (arg2.view.read (Elt F) f2) k.val 5 _ w5 _ _ x)
      (fun x => piece_eq c arg7 f7 (arg2.view.read (Elt F) f2) k.val 6 _ w6 _ _ x)
      (fun x => piece_eq c arg7 f7 (arg2.view.read (Elt F) f2) k.val 7 _ w7 _ _ x)
      (fun x => piece_eq c arg7 f7 (arg2.view.read (Elt F) f2) k.val 8 _ w8 _ _ x)
      (fun x => piece_eq c arg7 f7 (arg2.view.read (Elt F) f2) k.val 9 _ w9 _ _ x)
      (fun x => piece_eq c arg7 f7 (arg2.view.read (Elt F) f2) k.val 10 _ w10 _ _ x)
      (fun x => piece_eq c arg7 f7 (arg2.view.read (Elt F) f2) k.val 11 _ w11 _ _ x)
      (fun x => piece_eq c arg7 f7 (arg2.view.read (Elt F) f2) k.val 12 _ w12 _ _ x)
      (fun x => piece_eq c arg7 f7 (arg2.view.read (Elt F) f2) k.val 13 _ w13 _ _ x)
      (fun x => piece_eq c arg7 f7 (arg2.view.read (Elt F) f2) k.val 14 _ w14 _ _ x)
      (fun x => piece_eq c arg7 f7 (arg2.view.read (Elt F) f2) k.val 15 _ w15 _ _ x)
  have hlat : tripRun.sl.v383 c arg2 arg7 arg10 v41 k0_hw1 f2 f7 k h2 h3 h4 h5 h6 h7 h8 h9 h10 h11 h12 h13 h14 h15 h16 h17 = latAt (arg2.view.read (Elt F) f2) (arg7.view.read (Elt F) f7) k.val := lat_of (c := c) arg10 _ hkeys _
  have hscore : tripRun.sl.v442 c arg2 arg4 arg7 arg10 arg11 v13 v14 v17 v36 v37 v41 k0_hw1 f2 f4 f7 f11 k h2 h3 h4 h5 h6 h7 h8 h9 h10 h11 h12 h13 h14 h15 h16 h17
      = scoreAt v13 v14 (k0_pay112 v17 v36 v37) (arg2.view.read (Elt F) f2) (arg4.view.read (Elt F) f4) (arg7.view.read (Elt F) f7) (arg11.view.read (Elt F) f11) k.val := by
    refine (cat_eq (keepAt v14 (k0_pay112 v17 v36 v37) (arg2.view.read (Elt F) f2) k.val) _ _ _ _ _ _ _ _ _ _ _ _ _ _ _ _ _
      (piece_score _ _ 0 _ (congrArg (keepW v14 (k0_pay112 v17 v36 v37) k.val 0) w0) rfl _)
      (piece_score _ _ 1 _ (congrArg (keepW v14 (k0_pay112 v17 v36 v37) k.val 1) w1) rfl _)
      (piece_score _ _ 2 _ (congrArg (keepW v14 (k0_pay112 v17 v36 v37) k.val 2) w2) rfl _)
      (piece_score _ _ 3 _ (congrArg (keepW v14 (k0_pay112 v17 v36 v37) k.val 3) w3) rfl _)
      (piece_score _ _ 4 _ (congrArg (keepW v14 (k0_pay112 v17 v36 v37) k.val 4) w4) rfl _)
      (piece_score _ _ 5 _ (congrArg (keepW v14 (k0_pay112 v17 v36 v37) k.val 5) w5) rfl _)
      (piece_score _ _ 6 _ (congrArg (keepW v14 (k0_pay112 v17 v36 v37) k.val 6) w6) rfl _)
      (piece_score _ _ 7 _ (congrArg (keepW v14 (k0_pay112 v17 v36 v37) k.val 7) w7) rfl _)
      (piece_score _ _ 8 _ (congrArg (keepW v14 (k0_pay112 v17 v36 v37) k.val 8) w8) rfl _)
      (piece_score _ _ 9 _ (congrArg (keepW v14 (k0_pay112 v17 v36 v37) k.val 9) w9) rfl _)
      (piece_score _ _ 10 _ (congrArg (keepW v14 (k0_pay112 v17 v36 v37) k.val 10) w10) rfl _)
      (piece_score _ _ 11 _ (congrArg (keepW v14 (k0_pay112 v17 v36 v37) k.val 11) w11) rfl _)
      (piece_score _ _ 12 _ (congrArg (keepW v14 (k0_pay112 v17 v36 v37) k.val 12) w12) rfl _)
      (piece_score _ _ 13 _ (congrArg (keepW v14 (k0_pay112 v17 v36 v37) k.val 13) w13) rfl _)
      (piece_score _ _ 14 _ (congrArg (keepW v14 (k0_pay112 v17 v36 v37) k.val 14) w14) rfl _)
      (piece_score _ _ 15 _ (congrArg (keepW v14 (k0_pay112 v17 v36 v37) k.val 15) w15) rfl _) _).trans ?_
    exact congrArg (maskAt _) (congrArg₂ k0_pay39 (congrArg₂ k0_pay37 (rope_of (c := c) arg10 _ hkeys _) (View.readAt_full _ _ _))
      (congrArg₂ (k0_pay38 v13) (lat_of (c := c) arg10 _ hkeys _) (View.readAt_full _ _ _)))
  have e446 : tripRun.sl.v446 c arg2 arg4 arg7 arg10 arg11 v13 v14 v17 v36 v37 v41 k0_hw1 f2 f4 f7 f11 k m h2 h3 h4 h5 h6 h7 h8 h9 h10 h11 h12 h13 h14 h15 h16 h17
      = (chunkSt v13 v14 (k0_pay112 v17 v36 v37) (arg2.view.read (Elt F) f2) (arg4.view.read (Elt F) f4) (arg7.view.read (Elt F) f7) (arg11.view.read (Elt F) f11) k ⟨m, d, arg12.view.read (Elt F) f12⟩).base := congrArg (k0_pay117 m) hscore
  have e449 : tripRun.sl.v449 c arg2 arg4 arg7 arg10 arg11 v13 v14 v17 v36 v37 v41 k0_hw1 f2 f4 f7 f11 k m h2 h3 h4 h5 h6 h7 h8 h9 h10 h11 h12 h13 h14 h15 h16 h17
      = k0_pay118 (scoreAt v13 v14 (k0_pay112 v17 v36 v37) (arg2.view.read (Elt F) f2) (arg4.view.read (Elt F) f4) (arg7.view.read (Elt F) f7) (arg11.view.read (Elt F) f11) k.val) (chunkSt v13 v14 (k0_pay112 v17 v36 v37) (arg2.view.read (Elt F) f2) (arg4.view.read (Elt F) f4) (arg7.view.read (Elt F) f7) (arg11.view.read (Elt F) f11) k ⟨m, d, arg12.view.read (Elt F) f12⟩).base := congrArg₂ k0_pay118 hscore e446
  have e451 : tripRun.sl.v451 c arg2 arg4 arg7 arg10 arg11 v13 v14 v17 v36 v37 v41 k0_hw1 f2 f4 f7 f11 k m h2 h3 h4 h5 h6 h7 h8 h9 h10 h11 h12 h13 h14 h15 h16 h17
      = exp2 (k0_pay119 m (chunkSt v13 v14 (k0_pay112 v17 v36 v37) (arg2.view.read (Elt F) f2) (arg4.view.read (Elt F) f4) (arg7.view.read (Elt F) f7) (arg11.view.read (Elt F) f11) k ⟨m, d, arg12.view.read (Elt F) f12⟩).base) := congrArg (fun M => exp2 (k0_pay119 m M)) e446
  iframe H2 H4 H7 H11
  isplitr
  · ipureintro
    exact congrArg₂ Prod.mk e446 (congrArg₂ (k0_pay121 d) e449 e451)
  isplitl [H10]
  · iexists _; iexact H10
  iexists _
  isplitr
  rotate_left
  · iexact H12
  ipureintro
  refine (View.read_writes_full _ _ _ _ _).trans ?_
  rw [e449, e451, hlat]
  exact congrArg (fun A => k0_pay120 _ _ A _) (View.readAt_full _ _ _)

/-- A trip takes the state to the state after its chunk, and leaves what it reads. -/
theorem trip (c : Dev nD) (i : grid0.Coords) (arg1 : Memref sig .tc .smem S256 .i32) (harg1 : arg1.IsWhole) (arg2 : Memref sig .tc .smem S1x1x1024 .i32) (harg2 : arg2.IsWhole) (arg3 : Memref sig .tc .vmem S16x16x512 .fp8e4m3) (harg3 : arg3.IsWhole) (arg4 : Memref sig .tc .vmem S256x128 .bf16) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1024x16x640 .bf16) (harg7 : arg7.IsWhole) (arg8 : Memref sig .tc .vmem S256x512 .f32) (harg8 : arg8.IsWhole) (arg9 : Memref sig .tc .vmem S1x1x256 .f32) (harg9 : arg9.IsWhole) (arg10 : Memref sig .tc .vmem S256x640 .bf16) (harg10 : arg10.IsWhole) (arg11 : Memref sig .tc .vmem S256x512 .bf16) (harg11 : arg11.IsWhole) (arg12 : Memref sig .tc .vmem S256x512 .f32) (harg12 : arg12.IsWhole) (arg0 : BitVec 32) (v13 : FVec F S1x256 .f32) (v14 : IVec S16x256 32) (v17 : IVec S16x256 32) (v36 : IVec S16x256 1) (v37 : IVec S16x256 32) (v41 : Elt F .i32) (k0_hw1 : k0_chk1 v41) (f2 : Buf (Elt F) (arg2.view.loc (c : Thread nD τ))) (f4 : Buf (Elt F) (arg4.view.loc (c : Thread nD τ))) (f7 : Buf (Elt F) (arg7.view.loc (c : Thread nD τ))) (f10 : Buf (Elt F) (arg10.view.loc (c : Thread nD τ))) (f11 : Buf (Elt F) (arg11.view.loc (c : Thread nD τ))) (f12 : Buf (Elt F) (arg12.view.loc (c : Thread nD τ)))
    (k : Fin (k0_t1_loop v41).trips) (m d : FVec F S1x256 .f32) (hc : v41.toInt ≤ 1024)
    (he : ∀ s < 16, (ent (arg2.view.read (Elt F) f2) (16 * k.val + s) &&& 65535#32).toNat < 1024) :
    (iprop((arg2.view.loc (c : Thread nD τ) ↦[arg2.view.set]{fullShare} f2) ∗ (arg4.view.loc (c : Thread nD τ) ↦[arg4.view.set]{fullShare} f4) ∗ (arg7.view.loc (c : Thread nD τ) ↦[arg7.view.set]{fullShare} f7) ∗ (arg11.view.loc (c : Thread nD τ) ↦[arg11.view.set]{fullShare} f11) ∗ (arg10.view.loc (c : Thread nD τ) ↦[arg10.view.set]{fullShare} f10) ∗ (arg12.view.loc (c : Thread nD τ) ↦[arg12.view.set]{fullShare} f12)) : sProp 𝕄)
      ⊢ wp frame (wpE (defs₀ (F := F)) Variants.none (c : Thread nD τ) none) Set.univ (k0_t1_body (F := F) i arg1 harg1 arg2 harg2 arg3 harg3 arg4 harg4 arg5 harg5 arg6 harg6 arg7 harg7 arg8 harg8 arg9 harg9 arg10 harg10 arg11 harg11 arg12 harg12 arg0 v13 v14 v17 v36 v37 v41 k0_hw1 k (m, d))
        (fun r => iprop(⌜r = ((chunkSt v13 v14 (k0_pay112 v17 v36 v37) (arg2.view.read (Elt F) f2) (arg4.view.read (Elt F) f4) (arg7.view.read (Elt F) f7) (arg11.view.read (Elt F) f11) k ⟨m, d, arg12.view.read (Elt F) f12⟩).base, (chunkSt v13 v14 (k0_pay112 v17 v36 v37) (arg2.view.read (Elt F) f2) (arg4.view.read (Elt F) f4) (arg7.view.read (Elt F) f7) (arg11.view.read (Elt F) f11) k ⟨m, d, arg12.view.read (Elt F) f12⟩).den)⌝ ∗ (arg2.view.loc (c : Thread nD τ) ↦[arg2.view.set]{fullShare} f2) ∗ (arg4.view.loc (c : Thread nD τ) ↦[arg4.view.set]{fullShare} f4) ∗ (arg7.view.loc (c : Thread nD τ) ↦[arg7.view.set]{fullShare} f7) ∗ (arg11.view.loc (c : Thread nD τ) ↦[arg11.view.set]{fullShare} f11) ∗ (∃ f, (arg10.view.loc (c : Thread nD τ) ↦[arg10.view.set]{fullShare} f))
          ∗ ∃ f, ⌜arg12.view.read (Elt F) f = (chunkSt v13 v14 (k0_pay112 v17 v36 v37) (arg2.view.read (Elt F) f2) (arg4.view.read (Elt F) f4) (arg7.view.read (Elt F) f7) (arg11.view.read (Elt F) f11) k ⟨m, d, arg12.view.read (Elt F) f12⟩).acc⌝ ∗ (arg12.view.loc (c : Thread nD τ) ↦[arg12.view.set]{fullShare} f))) := by
  obtain ⟨o0, o1, o2, o3, o4, o5, o6, o7, o8, o9, o10, o11, o12, o13, o14, o15⟩ := off_eq v41 hc k
  have chk : ∀ (off : Fin 3 → ℕ) (inb : ∀ a, off a + S1x1x1.size a ≤ S1x1x1024.size a) (s : ℕ), s < 16 → off = ![0, 0, 16 * k.val + s] → ∀ h0,
      ((arg2.view.readAt (Elt F) (Rect.unit (s := S1x1x1024) off S1x1x1.size inb).toLoadRect f2 (Shape.Idx.first h0) : BitVec 32) &&& 65535#32).toNat < 1024 := by
    intro off inb s hs ho h0; rw [word_eq c arg2 f2 inb ho h0]; exact he s hs
  exact tripRun c i arg1 harg1 arg2 harg2 arg3 harg3 arg4 harg4 arg5 harg5 arg6 harg6 arg7 harg7 arg8 harg8 arg9 harg9 arg10 harg10 arg11 harg11 arg12 harg12 arg0 v13 v14 v17 v36 v37 v41 k0_hw1 f2 f4 f7 f10 f11 f12 k m d hc
    (inb_of _ (chk _ _ 0 (by decide) o0 _))
    (inb_of _ (chk _ _ 1 (by decide) o1 _))
    (inb_of _ (chk _ _ 2 (by decide) o2 _))
    (inb_of _ (chk _ _ 3 (by decide) o3 _))
    (inb_of _ (chk _ _ 4 (by decide) o4 _))
    (inb_of _ (chk _ _ 5 (by decide) o5 _))
    (inb_of _ (chk _ _ 6 (by decide) o6 _))
    (inb_of _ (chk _ _ 7 (by decide) o7 _))
    (inb_of _ (chk _ _ 8 (by decide) o8 _))
    (inb_of _ (chk _ _ 9 (by decide) o9 _))
    (inb_of _ (chk _ _ 10 (by decide) o10 _))
    (inb_of _ (chk _ _ 11 (by decide) o11 _))
    (inb_of _ (chk _ _ 12 (by decide) o12 _))
    (inb_of _ (chk _ _ 13 (by decide) o13 _))
    (inb_of _ (chk _ _ 14 (by decide) o14 _))
    (inb_of _ (chk _ _ 15 (by decide) o15 _))

end Cert.Proof.Kernel
-- ==== Proof.KernelBody.lean ====
/- The body of one grid point: the loop over the row's chunks by an invariant, and the two results the point leaves as plain
   functions of the blocks it is given. -/
module

public import proofs.«01_k».proof.Proof.KernelTrip

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

/-- The side conditions the body checks follow from the count being at most the list's length. -/
theorem chk1_of (v41 : Elt F .i32) (hc : v41.toInt ≤ 1024) : k0_chk1 v41 := by
  have in1 : ∀ (k : Fin (k0_t1_loop v41).trips) (s : ℕ), s < 16 → ∀ off : Fin 3 → ℕ, off = ![0, 0, 16 * k.val + s] → ∀ a, off a + S1x1x1.size a ≤ S1x1x1024.size a := by
    intro k s hs off ho a
    have hk : k.val < 64 := lt_of_lt_of_le k.isLt ((trips_main hc).le.trans (chunks_le hc))
    subst ho
    match a with
    | ⟨0, _⟩ => show 0 + 1 ≤ 1; omega
    | ⟨1, _⟩ => show 0 + 1 ≤ 1; omega
    | ⟨2, _⟩ => show 16 * k.val + s + 1 ≤ 1024; omega
  refine ⟨⟨ok_main hc, ?_, ?_, ?_, ?_, ?_, ?_, ?_, ?_, ?_, ?_, ?_, ?_, ?_, ?_, ?_, ?_, ok_rest hc, fun k => (Scf.rem_no_trip _ _ k).elim, fun k => (Scf.rem_no_trip _ _ k).elim, fun k => (Scf.rem_no_trip _ _ k).elim, fun k => (Scf.rem_no_trip _ _ k).elim, fun k => (Scf.rem_no_trip _ _ k).elim, fun k => (Scf.rem_no_trip _ _ k).elim, fun k => (Scf.rem_no_trip _ _ k).elim, fun k => (Scf.rem_no_trip _ _ k).elim, fun k => (Scf.rem_no_trip _ _ k).elim, fun k => (Scf.rem_no_trip _ _ k).elim, fun k => (Scf.rem_no_trip _ _ k).elim, fun k => (Scf.rem_no_trip _ _ k).elim, fun k => (Scf.rem_no_trip _ _ k).elim, fun k => (Scf.rem_no_trip _ _ k).elim⟩, fun k => (Scf.rem_no_trip _ _ k).elim, fun k => (Scf.rem_no_trip _ _ k).elim⟩
  · intro k; exact in1 k 0 (by decide) _ ((off_eq v41 hc k).1)
  · intro k; exact in1 k 1 (by decide) _ ((off_eq v41 hc k).2.1)
  · intro k; exact in1 k 2 (by decide) _ ((off_eq v41 hc k).2.2.1)
  · intro k; exact in1 k 3 (by decide) _ ((off_eq v41 hc k).2.2.2.1)
  · intro k; exact in1 k 4 (by decide) _ ((off_eq v41 hc k).2.2.2.2.1)
  · intro k; exact in1 k 5 (by decide) _ ((off_eq v41 hc k).2.2.2.2.2.1)
  · intro k; exact in1 k 6 (by decide) _ ((off_eq v41 hc k).2.2.2.2.2.2.1)
  · intro k; exact in1 k 7 (by decide) _ ((off_eq v41 hc k).2.2.2.2.2.2.2.1)
  · intro k; exact in1 k 8 (by decide) _ ((off_eq v41 hc k).2.2.2.2.2.2.2.2.1)
  · intro k; exact in1 k 9 (by decide) _ ((off_eq v41 hc k).2.2.2.2.2.2.2.2.2.1)
  · intro k; exact in1 k 10 (by decide) _ ((off_eq v41 hc k).2.2.2.2.2.2.2.2.2.2.1)
  · intro k; exact in1 k 11 (by decide) _ ((off_eq v41 hc k).2.2.2.2.2.2.2.2.2.2.2.1)
  · intro k; exact in1 k 12 (by decide) _ ((off_eq v41 hc k).2.2.2.2.2.2.2.2.2.2.2.2.1)
  · intro k; exact in1 k 13 (by decide) _ ((off_eq v41 hc k).2.2.2.2.2.2.2.2.2.2.2.2.2.1)
  · intro k; exact in1 k 14 (by decide) _ ((off_eq v41 hc k).2.2.2.2.2.2.2.2.2.2.2.2.2.2.1)
  · intro k; exact in1 k 15 (by decide) _ ((off_eq v41 hc k).2.2.2.2.2.2.2.2.2.2.2.2.2.2.2)

/-- The state after the first `k` chunks of a row, from a given state. -/
def rowSt (v13 : FVec F S1x256 .f32) (v14 v39 : IVec S16x256 32) (x2 : Vec F S1x1x1024 .i32) (x4 : Vec F S256x128 .bf16) (x7 : Vec F S1024x16x640 .bf16)
    (x11 : Vec F S256x512 .bf16) (S : St F) : ℕ → St F
  | 0 => S
  | k + 1 => chunkSt v13 v14 v39 x2 x4 x7 x11 k (rowSt v13 v14 v39 x2 x4 x7 x11 S k)

section Inv
variable (c : Dev nD) (i : grid0.Coords) (arg1 : Memref sig .tc .smem S256 .i32) (harg1 : arg1.IsWhole) (arg2 : Memref sig .tc .smem S1x1x1024 .i32) (harg2 : arg2.IsWhole) (arg3 : Memref sig .tc .vmem S16x16x512 .fp8e4m3) (harg3 : arg3.IsWhole) (arg4 : Memref sig .tc .vmem S256x128 .bf16) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1024x16x640 .bf16) (harg7 : arg7.IsWhole) (arg8 : Memref sig .tc .vmem S256x512 .f32) (harg8 : arg8.IsWhole) (arg9 : Memref sig .tc .vmem S1x1x256 .f32) (harg9 : arg9.IsWhole) (arg10 : Memref sig .tc .vmem S256x640 .bf16) (harg10 : arg10.IsWhole) (arg11 : Memref sig .tc .vmem S256x512 .bf16) (harg11 : arg11.IsWhole) (arg12 : Memref sig .tc .vmem S256x512 .f32) (harg12 : arg12.IsWhole) (arg0 : BitVec 32) (v13 : FVec F S1x256 .f32) (v14 : IVec S16x256 32) (v17 : IVec S16x256 32) (v36 : IVec S16x256 1) (v37 : IVec S16x256 32) (v41 : Elt F .i32) (k0_hw1 : k0_chk1 v41) (init : FVec F S1x256 .f32 × FVec F S1x256 .f32)
  (f2 : Buf (Elt F) (arg2.view.loc (c : Thread nD τ))) (f4 : Buf (Elt F) (arg4.view.loc (c : Thread nD τ))) (f7 : Buf (Elt F) (arg7.view.loc (c : Thread nD τ))) (f11 : Buf (Elt F) (arg11.view.loc (c : Thread nD τ))) (o : Buf (Elt F) (arg12.view.loc (c : Thread nD τ)))

abbrev invSt (k : ℕ) : St F := rowSt v13 v14 (k0_pay112 v17 v36 v37) (arg2.view.read (Elt F) f2) (arg4.view.read (Elt F) f4) (arg7.view.read (Elt F) f7) (arg11.view.read (Elt F) f11) ⟨init.1, init.2, (arg12.view.read (Elt F) o)⟩ k

/-- The accumulator's buffer after the first `k` chunks. -/
def accBuf : ℕ → Buf (Elt F) (arg12.view.loc (c : Thread nD τ))
  | 0 => o
  | k + 1 => harg12.unread (invSt c arg2 arg4 arg7 arg11 arg12 v13 v14 v17 v36 v37 init f2 f4 f7 f11 o (k + 1)).acc

theorem read_accBuf (k : ℕ) : arg12.view.read (Elt F) (accBuf c arg2 arg4 arg7 arg11 arg12 harg12 v13 v14 v17 v36 v37 init f2 f4 f7 f11 o k)
    = (invSt c arg2 arg4 arg7 arg11 arg12 v13 v14 v17 v36 v37 init f2 f4 f7 f11 o k).acc := by
  cases k with
  | zero => rfl
  | succ k => exact harg12.read_unread _

/-- What the words of a row must satisfy: the count is at most the list's length, and the places of its chunks name granules there are. -/
def WordsOK (v : BitVec 32) (x2 : Vec F S1x1x1024 .i32) : Prop :=
  v.toInt ≤ 1024 ∧ ∀ p < 16 * chunks v, (ent x2 p &&& 65535#32).toNat < 1024

set_option warn.classDefReducibility false in
/-- The invariant of the loop over the chunks: the carried values and the accumulator are the state after the chunks done. -/
@[sl_loop] def loopInv_k0_t1 : LoopInvTy_k0_t1 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg0 v13 v14 v17 v36 v37 v41 k0_hw1 init where
  inv k acc := iprop(⌜WordsOK v41 (arg2.view.read (Elt F) f2)⌝ ∗ (arg2.view.loc (c : Thread nD τ) ↦[arg2.view.set]{fullShare} f2) ∗ (arg4.view.loc (c : Thread nD τ) ↦[arg4.view.set]{fullShare} f4) ∗ (arg7.view.loc (c : Thread nD τ) ↦[arg7.view.set]{fullShare} f7) ∗ (arg11.view.loc (c : Thread nD τ) ↦[arg11.view.set]{fullShare} f11) ∗ (∃ f, (arg10.view.loc (c : Thread nD τ) ↦[arg10.view.set]{fullShare} f))
    ∗ (arg12.view.loc (c : Thread nD τ) ↦[arg12.view.set]{fullShare} (accBuf c arg2 arg4 arg7 arg11 arg12 harg12 v13 v14 v17 v36 v37 init f2 f4 f7 f11 o k))
    ∗ ⌜acc = ((invSt c arg2 arg4 arg7 arg11 arg12 v13 v14 v17 v36 v37 init f2 f4 f7 f11 o k).base, (invSt c arg2 arg4 arg7 arg11 arg12 v13 v14 v17 v36 v37 init f2 f4 f7 f11 o k).den)⌝)
  step k acc := by
    iintro ⟨%hw, H2, H4, H7, H11, ⟨%f10, H10⟩, H12, %ha⟩
    subst ha
    have ht : (k0_t1_loop v41).trips = chunks v41 := trips_main hw.1
    have hk : k.val < chunks v41 := lt_of_lt_of_eq k.isLt ht
    have he : ∀ s < 16, (ent (arg2.view.read (Elt F) f2) (16 * k.val + s) &&& 65535#32).toNat < 1024 := fun s hs => hw.2 _ (by omega)
    iapply (wp_wand_r Idealize.ShloMosaic.frame (wpE (defs₀ (F := F)) Variants.none (c : Thread nD τ) none) Set.univ)
    isplitl [H2 H4 H7 H11 H10 H12]
    · iapply (trip c i arg1 harg1 arg2 harg2 arg3 harg3 arg4 harg4 arg5 harg5 arg6 harg6 arg7 harg7 arg8 harg8 arg9 harg9 arg10 harg10 arg11 harg11 arg12 harg12 arg0 v13 v14 v17 v36 v37 v41 k0_hw1 f2 f4 f7 f10 f11 (accBuf c arg2 arg4 arg7 arg11 arg12 harg12 v13 v14 v17 v36 v37 init f2 f4 f7 f11 o k) k _ _ hw.1 he)
      iframe
    · iintro %r ⟨%hr, H2, H4, H7, H11, H10, ⟨%f, %hf, H12⟩⟩
      rw [read_accBuf] at hr hf
      obtain rfl := harg12.eq_unread hf
      iframe H2 H4 H7 H11 H10
      isplitr; · ipureintro; exact hw
      isplitl [H12]; · iexact H12
      ipureintro; exact hr

end Inv

/-! ## What a grid point leaves -/

/-- The row's count. -/
def cnt (x1 : Vec F S256 .i32) (i : grid0.Coords) : BitVec 32 := x1 (ix1 ⟨(i 0).val, (i 0).isLt⟩)

/-- The state after the row's chunks. -/
def endSt (v : BitVec 32) (x2 : Vec F S1x1x1024 .i32) (x3 : Vec F S16x16x512 .fp8e4m3) (x4 : Vec F S256x128 .bf16) (x5 : Vec F S1x1x256 .f32) (x7 : Vec F S1024x16x640 .bf16) : St F :=
  rowSt (k0_pay108 x5) (iota .tc S16x256 32 [0] iota_S16x256_d0_w32) (k0_pay112 k0_pay109 k0_pay110 k0_pay111) x2 x4 x7 (k0_pay106 x3)
    ⟨k0_pay113, k0_pay114, k0_pay107⟩ (chunks v)

/-- The attended values of the row's queries; -/
def outAt (v : BitVec 32) (x2 : Vec F S1x1x1024 .i32) (x3 : Vec F S16x16x512 .fp8e4m3) (x4 : Vec F S256x128 .bf16) (x5 : Vec F S1x1x256 .f32) (x7 : Vec F S1024x16x640 .bf16) : Vec F S256x512 .f32 :=
  k0_pay129 (endSt v x2 x3 x4 x5 x7).den (endSt v x2 x3 x4 x5 x7).acc

/-- and their log-sum-exp, less the log of the kept count. -/
def lseAt (v : BitVec 32) (x2 : Vec F S1x1x1024 .i32) (x3 : Vec F S16x16x512 .fp8e4m3) (x4 : Vec F S256x128 .bf16) (x5 x6 : Vec F S1x1x256 .f32) (x7 : Vec F S1024x16x640 .bf16) : Vec F S1x1x256 .f32 :=
  k0_pay1 (endSt v x2 x3 x4 x5 x7).base (k0_pay130 (endSt v x2 x3 x4 x5 x7).den) (Scalar.ofBits .f32 0x40000000#32) x6

/-- The invariant at the loop's end is that state. -/
theorem invSt_end (c : Dev nD) (arg2 : Memref sig .tc .smem S1x1x1024 .i32) (arg4 : Memref sig .tc .vmem S256x128 .bf16) (arg7 : Memref sig .tc .vmem S1024x16x640 .bf16) (arg11 : Memref sig .tc .vmem S256x512 .bf16) (arg12 : Memref sig .tc .vmem S256x512 .f32) (f2 : Buf (Elt F) (arg2.view.loc (c : Thread nD τ))) (f4 : Buf (Elt F) (arg4.view.loc (c : Thread nD τ))) (f7 : Buf (Elt F) (arg7.view.loc (c : Thread nD τ))) (f11 : Buf (Elt F) (arg11.view.loc (c : Thread nD τ))) (o : Buf (Elt F) (arg12.view.loc (c : Thread nD τ)))
    (v : BitVec 32) (x3 : Vec F S16x16x512 .fp8e4m3) (x5 : Vec F S1x1x256 .f32) {v13 : FVec F S1x256 .f32} (h13 : v13 = k0_pay108 x5)
    (h11 : (arg11.view.read (Elt F) f11) = k0_pay106 x3) (ho : (arg12.view.read (Elt F) o) = k0_pay107) {n : ℕ} (hn : n = chunks v) :
    invSt c arg2 arg4 arg7 arg11 arg12 v13 (iota .tc S16x256 32 [0] iota_S16x256_d0_w32) k0_pay109 k0_pay110 k0_pay111 (k0_pay113, k0_pay114) f2 f4 f7 f11 o n
      = endSt v (arg2.view.read (Elt F) f2) x3 (arg4.view.read (Elt F) f4) x5 (arg7.view.read (Elt F) f7) := by
  subst h13 hn
  unfold invSt endSt
  rw [h11, ho]

theorem invSt_run (c : Dev nD) (arg2 : Memref sig .tc .smem S1x1x1024 .i32) (arg3 : Memref sig .tc .vmem S16x16x512 .fp8e4m3) (arg4 : Memref sig .tc .vmem S256x128 .bf16) (arg7 : Memref sig .tc .vmem S1024x16x640 .bf16) (arg11 : Memref sig .tc .vmem S256x512 .bf16) (arg12 : Memref sig .tc .vmem S256x512 .f32) (f2 : Buf (Elt F) (arg2.view.loc (c : Thread nD τ))) (f3 : Buf (Elt F) (arg3.view.loc (c : Thread nD τ))) (f4 : Buf (Elt F) (arg4.view.loc (c : Thread nD τ))) (f7 : Buf (Elt F) (arg7.view.loc (c : Thread nD τ)))
    (v : BitVec 32) (x5 : Vec F S1x1x256 .f32) {v13 : FVec F S1x256 .f32} (h13 : v13 = k0_pay108 x5) {n : ℕ} (hn : n = chunks v) :
    invSt c arg2 arg4 arg7 arg11 arg12 v13 (iota .tc S16x256 32 [0] iota_S16x256_d0_w32) k0_pay109 k0_pay110 k0_pay111 (k0_pay113, k0_pay114) f2 f4 f7
      (arg11.view.writes (Elt F) arg11.view.junk [⟨Rect.unit (s := S256x512) ![0, 0] S256x512.size inb_S256x512_S256x512_0_0,
        k0_pay106 (arg3.view.readAt (Elt F) (Rect.unit (s := S16x16x512) ![0, 0, 0] S16x16x512.size inb_S16x16x512_S16x16x512_0_0_0).toLoadRect f3)⟩])
      (View.write (Elt F) (arg12.view.slice (Rect.unit (s := S256x512) ![0, 0] S256x512.size inb_S256x512_S256x512_0_0))
        (arg12.view.writes (Elt F) arg12.view.junk []) k0_pay107 Finset.univ) n
      = endSt v (arg2.view.read (Elt F) f2) (arg3.view.read (Elt F) f3) (arg4.view.read (Elt F) f4) x5 (arg7.view.read (Elt F) f7) := by
  refine invSt_end c arg2 arg4 arg7 arg11 arg12 f2 f4 f7 _ _ v (arg3.view.read (Elt F) f3) x5 h13 ?_ ?_ hn
  · exact (View.read_writes_full _ _ _ _ _).trans (congrArg k0_pay106 (View.readAt_full _ _ _))
  · exact View.read_writes_full arg12.view _ inb_S256x512_S256x512_0_0 _ []

set_option maxHeartbeats 4000000 in
theorem bodyRun (c : Dev nD) (i : grid0.Coords) (arg1 : Memref sig .tc .smem S256 .i32) (harg1 : arg1.IsWhole) (arg2 : Memref sig .tc .smem S1x1x1024 .i32) (harg2 : arg2.IsWhole) (arg3 : Memref sig .tc .vmem S16x16x512 .fp8e4m3) (harg3 : arg3.IsWhole) (arg4 : Memref sig .tc .vmem S256x128 .bf16) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1024x16x640 .bf16) (harg7 : arg7.IsWhole) (arg8 : Memref sig .tc .vmem S256x512 .f32) (harg8 : arg8.IsWhole) (arg9 : Memref sig .tc .vmem S1x1x256 .f32) (harg9 : arg9.IsWhole) (arg10 : Memref sig .tc .vmem S256x640 .bf16) (harg10 : arg10.IsWhole) (arg11 : Memref sig .tc .vmem S256x512 .bf16) (harg11 : arg11.IsWhole) (arg12 : Memref sig .tc .vmem S256x512 .f32) (harg12 : arg12.IsWhole) (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ)))
    (hw : WordsOK (cnt (arg1.view.read (Elt F) f1) i) (arg2.view.read (Elt F) f2)) (K : PUnit → sProp 𝕄) :
    (iprop((arg1.view.loc (c : Thread nD τ) ↦{fullShare.right} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12)
      ∗ (((arg1.view.loc (c : Thread nD τ) ↦{fullShare.right} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7)
        ∗ (∃ f, ⌜(arg8.view.read (Elt F) f) = outAt (cnt (arg1.view.read (Elt F) f1) i) (arg2.view.read (Elt F) f2) (arg3.view.read (Elt F) f3) (arg4.view.read (Elt F) f4) (arg5.view.read (Elt F) f5) (arg7.view.read (Elt F) f7)⌝ ∗ (arg8.view.loc (c : Thread nD τ) ↦[arg8.view.set]{fullShare} f))
        ∗ (∃ f, ⌜(arg9.view.read (Elt F) f) = lseAt (cnt (arg1.view.read (Elt F) f1) i) (arg2.view.read (Elt F) f2) (arg3.view.read (Elt F) f3) (arg4.view.read (Elt F) f4) (arg5.view.read (Elt F) f5) (arg6.view.read (Elt F) f6) (arg7.view.read (Elt F) f7)⌝ ∗ (arg9.view.loc (c : Thread nD τ) ↦[arg9.view.set]{fullShare} f))
        ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f))) -∗ K ⟨⟩)) : sProp 𝕄)
      ⊢ wp frame (wpE (defs₀ (F := F)) Variants.none (c : Thread nD τ) none) Set.univ (cc0_attend (F := F) i arg1 harg1 arg2 harg2 arg3 harg3 arg4 harg4 arg5 harg5 arg6 harg6 arg7 harg7 arg8 harg8 arg9 harg9 arg10 harg10 arg11 harg11 arg12 harg12) K := by
  iintro ⟨H1, H2, H3, H4, H5, H6, H7, H8, H9, H10, H11, H12, Hk⟩
  simp only [cc0_attend_eq_skeleton]; unfold cc0_attend_skel
  sl_exec
  have hr : bodyRun.sl.r_1 c i arg1 f1 = cnt (arg1.view.read (Elt F) f1) i := by
    refine congrArg (arg1.view.read (Elt F) f1) (funext fun a => Fin.ext ?_)
    match a with
    | ⟨0, _⟩ =>
      have hi : (i 0).val < 256 := (i 0).isLt
      show (BitVec.ofNat 32 (i 0).val).toNat + 1 * 0 = (i 0).val
      rw [BitVec.toNat_ofNat]; omega
  have hw' : WordsOK (bodyRun.sl.r_1 c i arg1 f1) (arg2.view.read (Elt F) f2) := by rw [hr]; exact hw
  have hchk : k0_chk1 (bodyRun.sl.r_1 c i arg1 f1) := chk1_of _ hw'.1
  have htr : (k0_t2_loop (bodyRun.sl.r_1 c i arg1 f1)).trips = 0 := Scf.rem_trips _ _
  sl_exec
  sl_step
  have hn : Scf.trips (k0_t1_loop (bodyRun.sl.r_1 c i arg1 f1)).lb (k0_t1_loop (bodyRun.sl.r_1 c i arg1 f1)).ub
      (k0_t1_loop (bodyRun.sl.r_1 c i arg1 f1)).st = chunks (cnt (arg1.view.read (Elt F) f1) i) := by rw [← hr]; exact trips_main hw'.1
  have h13 : bodyRun.sl.r c arg5 f5 = k0_pay108 (arg5.view.read (Elt F) f5) := congrArg k0_pay108 (View.readAt_full _ _ _)
  have hS := invSt_run c arg2 arg3 arg4 arg7 arg11 arg12 f2 f3 f4 f7 (cnt (arg1.view.read (Elt F) f1) i) (arg5.view.read (Elt F) f5) h13 hn
  iapply Hk
  iframe H1 H2 H3 H4 H5 H6 H7
  isplitl [H8]
  · iexists _
    isplitr
    rotate_left
    · iexact H8
    ipureintro
    refine (View.read_writes_full _ _ _ _ _).trans ?_
    refine congrArg₂ k0_pay129 (congrArg St.den hS) ((View.readAt_full _ _ _).trans ?_)
    refine (read_accBuf c arg2 arg4 arg7 arg11 arg12 harg12 _ _ _ _ _ _ _ _ _ _ _ _).trans (congrArg St.acc hS)
  isplitl [H9]
  · iexists _
    isplitr
    rotate_left
    · iexact H9
    ipureintro
    refine (View.read_writes_full _ _ _ _ _).trans ?_
    have e2 : bodyRun.sl.r_2 c i arg1 arg2 arg3 arg4 arg5 arg7 arg11 arg12 f1 f2 f3 f4 f5 f7 = _ := congrArg St.base hS
    have e3 : bodyRun.sl.r_3 c i arg1 arg2 arg3 arg4 arg5 arg7 arg11 arg12 f1 f2 f3 f4 f5 f7 = _ := congrArg (fun S => k0_pay130 (St.den S)) hS
    rw [e2, e3]
    exact congrArg (k0_pay1 _ _ _) (View.readAt_full _ _ _)
  isplitl [H10]
  · iexists _; iexact H10
  isplitl [H11]
  · iexists _; iexact H11
  iexists _; iexact H12
end Cert.Proof.Kernel
-- ==== Proof.KernelFrame.lean ====
/- The frame of the attention call: the data of its pipeline (each window holds its block, the two results hold what a grid
   point leaves), the body at every point, and the run. -/
module

public import proofs.«01_k».proof.Proof.KernelBody
public import Idealize.ShloMosaic.Lib.Pipeline.FrameBody
public import Idealize.ShloMosaic.Lib.Claim

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays and the table as the region finds them -/

abbrev V (c : Dev nD) (b : Ref sig .tc) : Buf (Elt F) ((c : Thread nD τ).loc b) := m ((c : Thread nD τ).loc b)

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

def tbl : pre0.Contents (Elt F) := fun j => V m (0 : Dev nD) (pre0.ref j)
theorem V_pre (c : Dev nD) (j : Fin 1) : V m c (pre0.ref j) = tbl m j := by
  obtain rfl : c = 0 := Subsingleton.elim _ _; rfl
theorem ok : ok0 (F := F) (tbl m) := by unfold ok0; trivial
abbrev adm : (pcfg0 (F := F)).Adm := ⟨tbl m, ok m⟩
abbrev cfgM : Pipeline.Cfg sig Λ₀ := cfg0 (adm m)

abbrev tbM0_0 : Memref sig .tc .smem S256 .i32 := Memref.whole main_arg0
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-- The counts, read off the table. -/
def counts : Vec F S256 .i32 := tbM0_0.view.read (Elt F) (tbl m 0 : Buf (Elt F) (tbM0_0.view.loc ((0 : Dev nD) : Thread nD τ)))

/-- Window `w`'s block at point `t`, read off its array. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- The blocks of the six input windows. -/
abbrev blk0 (c : Dev nD) (t : Fin (cfgM m).N) : Vec F S1x1x1024 .i32 := iblk m c 0 t
abbrev blk1 (c : Dev nD) (t : Fin (cfgM m).N) : Vec F S16x16x512 .fp8e4m3 := iblk m c 1 t
abbrev blk2 (c : Dev nD) (t : Fin (cfgM m).N) : Vec F S256x128 .bf16 := iblk m c 2 t
abbrev blk3 (c : Dev nD) (t : Fin (cfgM m).N) : Vec F S1x1x256 .f32 := iblk m c 3 t
abbrev blk4 (c : Dev nD) (t : Fin (cfgM m).N) : Vec F S1x1x256 .f32 := iblk m c 4 t
abbrev blk5 (c : Dev nD) (t : Fin (cfgM m).N) : Vec F S1024x16x640 .bf16 := iblk m c 5 t

/-- The row of a grid point. -/
abbrev cnt_t (t : Fin (cfgM m).N) : BitVec 32 := cnt (counts m) (grid0.coords t)

/-- What a point leaves of the attended values -/
def outB (c : Dev nD) (t : Fin (cfgM m).N) : Vec F S256x512 .f32 := outAt (cnt_t m t) (blk0 m c t) (blk1 m c t) (blk2 m c t) (blk3 m c t) (blk5 m c t)
/-- and of their log-sum-exp. -/
def lseB (c : Dev nD) (t : Fin (cfgM m).N) : Vec F S1x1x256 .f32 := lseAt (cnt_t m t) (blk0 m c t) (blk1 m c t) (blk2 m c t) (blk3 m c t) (blk4 m c t) (blk5 m c t)

/-- The words of every row are as they must be. -/
def Hyps : Prop := ∀ (c : Dev nD) (t : Fin (cfgM m).N), WordsOK (cnt_t m t) (blk0 m c t)

/-! ## The pipeline's data -/

def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outB m c t
    | ⟨7, _⟩ => lseB m c t
  Φ _ := iprop(Pipeline.ΦA spec0 c ∗ Pipeline.ΦT pre0 (tbl m) c)
  q _ := fullShare
  owed _ := 0

theorem A_eq (c : Dev nD) (w : Fin (cfgM m).W) : (dats m 0 c).A w = V m c (Pipeline.arrRef spec0 w) := by
  dsimp only [dats]
theorem after0_0 (c : Dev nD) (t : Fin (cfgM m).N) : (dats m 0 c).after 0 t = iblk m c 0 t := by dsimp only [dats]; try rfl
theorem before0_0 (c : Dev nD) (t : Fin (cfgM m).N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem after0_1 (c : Dev nD) (t : Fin (cfgM m).N) : (dats m 0 c).after 1 t = iblk m c 1 t := by dsimp only [dats]; try rfl
theorem before0_1 (c : Dev nD) (t : Fin (cfgM m).N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem after0_2 (c : Dev nD) (t : Fin (cfgM m).N) : (dats m 0 c).after 2 t = iblk m c 2 t := by dsimp only [dats]; try rfl
theorem before0_2 (c : Dev nD) (t : Fin (cfgM m).N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem after0_3 (c : Dev nD) (t : Fin (cfgM m).N) : (dats m 0 c).after 3 t = iblk m c 3 t := by dsimp only [dats]; try rfl
theorem before0_3 (c : Dev nD) (t : Fin (cfgM m).N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem after0_4 (c : Dev nD) (t : Fin (cfgM m).N) : (dats m 0 c).after 4 t = iblk m c 4 t := by dsimp only [dats]; try rfl
theorem before0_4 (c : Dev nD) (t : Fin (cfgM m).N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem after0_5 (c : Dev nD) (t : Fin (cfgM m).N) : (dats m 0 c).after 5 t = iblk m c 5 t := by dsimp only [dats]; try rfl
theorem before0_5 (c : Dev nD) (t : Fin (cfgM m).N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem after0_6 (c : Dev nD) (t : Fin (cfgM m).N) : (dats m 0 c).after 6 t = outB m c t := by dsimp only [dats]; try rfl
theorem after0_7 (c : Dev nD) (t : Fin (cfgM m).N) : (dats m 0 c).after 7 t = lseB m c t := by dsimp only [dats]; try rfl

/-! ## The body at every point -/

abbrev ms0_0 (t : Fin (cfgM m).N) := ((cfgM m).win 0).stage ((cfgM m).slots t 0)
abbrev ms0_1 (t : Fin (cfgM m).N) := ((cfgM m).win 1).stage ((cfgM m).slots t 1)
abbrev ms0_2 (t : Fin (cfgM m).N) := ((cfgM m).win 2).stage ((cfgM m).slots t 2)
abbrev ms0_3 (t : Fin (cfgM m).N) := ((cfgM m).win 3).stage ((cfgM m).slots t 3)
abbrev ms0_4 (t : Fin (cfgM m).N) := ((cfgM m).win 4).stage ((cfgM m).slots t 4)
abbrev ms0_5 (t : Fin (cfgM m).N) := ((cfgM m).win 5).stage ((cfgM m).slots t 5)
abbrev ms0_6 (t : Fin (cfgM m).N) := ((cfgM m).win 6).stage ((cfgM m).slots t 6)
abbrev ms0_7 (t : Fin (cfgM m).N) := ((cfgM m).win 7).stage ((cfgM m).slots t 7)

abbrev bodyAt0 (a : (pcfg0 (F := F)).Adm) (t : Fin (cfg0 a).N) : Prog (TpuEff nD τ sig (Elt F) Λ₀ .tc) PUnit :=
  cc0_attend (grid0.coords t) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (Memref.whole cc0_scratch0) (Memref.isWhole_whole _) (Memref.whole cc0_scratch1) (Memref.isWhole_whole _) (Memref.whole cc0_scratch2) (Memref.isWhole_whole _)

def bodyPre (c : Dev nD) (t : Fin (cfgM m).N) : sProp 𝕄 :=
  iprop((dats m 0 c).Φ t.castSucc ∗ (dats m 0 c).owesAt () t.castSucc
    ∗ (∃ d, owns (c : Thread nD τ) (ms0_0 m t) fullShare ((dats m 0 c).before 0 t d))
    ∗ (∃ d, owns (c : Thread nD τ) (ms0_1 m t) fullShare ((dats m 0 c).before 1 t d))
    ∗ (∃ d, owns (c : Thread nD τ) (ms0_2 m t) fullShare ((dats m 0 c).before 2 t d))
    ∗ (∃ d, owns (c : Thread nD τ) (ms0_3 m t) fullShare ((dats m 0 c).before 3 t d))
    ∗ (∃ d, owns (c : Thread nD τ) (ms0_4 m t) fullShare ((dats m 0 c).before 4 t d))
    ∗ (∃ d, owns (c : Thread nD τ) (ms0_5 m t) fullShare ((dats m 0 c).before 5 t d))
    ∗ (∃ d, owns (c : Thread nD τ) (ms0_6 m t) fullShare ((dats m 0 c).before 6 t d))
    ∗ (∃ d, owns (c : Thread nD τ) (ms0_7 m t) fullShare ((dats m 0 c).before 7 t d)))

def bodyPost (c : Dev nD) (t : Fin (cfgM m).N) : sProp 𝕄 :=
  iprop((dats m 0 c).Φ t.succ ∗ (dats m 0 c).owesAt () t.succ
    ∗ owns (c : Thread nD τ) (ms0_0 m t) fullShare ((dats m 0 c).after 0 t)
    ∗ owns (c : Thread nD τ) (ms0_1 m t) fullShare ((dats m 0 c).after 1 t)
    ∗ owns (c : Thread nD τ) (ms0_2 m t) fullShare ((dats m 0 c).after 2 t)
    ∗ owns (c : Thread nD τ) (ms0_3 m t) fullShare ((dats m 0 c).after 3 t)
    ∗ owns (c : Thread nD τ) (ms0_4 m t) fullShare ((dats m 0 c).after 4 t)
    ∗ owns (c : Thread nD τ) (ms0_5 m t) fullShare ((dats m 0 c).after 5 t)
    ∗ owns (c : Thread nD τ) (ms0_6 m t) fullShare ((dats m 0 c).after 6 t)
    ∗ owns (c : Thread nD τ) (ms0_7 m t) fullShare ((dats m 0 c).after 7 t))

theorem whole_pt (c : Dev nD) (b : Ref sig .tc) (f : Buf (Elt F) ((c : Thread nD τ).loc b)) :
    (((Memref.whole b).view.loc (c : Thread nD τ) ↦[(Memref.whole b).view.set]{fullShare} f) : sProp 𝕄) = ((c : Thread nD τ).loc b ↦{fullShare} f) := by
  rw [show (Memref.whole b).view.set = Finset.univ from View.set_whole _]

set_option maxHeartbeats 2000000 in
theorem sound_body (hH : Hyps m) (c : Dev nD) (t : Fin (cfgM m).N) :
    bodyPre m c t ⊢ wp frame (wpE (defs₀ (F := F)) Variants.none c none) Set.univ (bodyAt0 (adm m) t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [show (dats m 0 c).Φ t.castSucc = iprop(Pipeline.ΦA spec0 c ∗ Pipeline.ΦT pre0 (tbl m) c) from rfl, PhiT0_eq]
  unfold Pipeline.ΦA
  rw [scopedRest0_eq]
  unfold owns
  iintro ⟨⟨⟨⟨⟨%g0, G0⟩, ⟨%g1, G1⟩, ⟨%g2, G2⟩⟩, HR⟩, HT0⟩, Ho, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩, ⟨%d7, %f7, %h7, H7⟩⟩
  iapply (bodyRun c (grid0.coords t) (Memref.whole main_arg0) (Memref.isWhole_whole _) (spec0_0.stage ((cfgM m).slots t 0)) (hstage0_0 (((cfgM m).slots t 0).cast nbuf0_0)) (spec0_1.stage ((cfgM m).slots t 1)) (hstage0_1 (((cfgM m).slots t 1).cast nbuf0_1)) (spec0_2.stage ((cfgM m).slots t 2)) (hstage0_2 (((cfgM m).slots t 2).cast nbuf0_2)) (spec0_3.stage ((cfgM m).slots t 3)) (hstage0_3 (((cfgM m).slots t 3).cast nbuf0_3)) (spec0_4.stage ((cfgM m).slots t 4)) (hstage0_4 (((cfgM m).slots t 4).cast nbuf0_4)) (spec0_5.stage ((cfgM m).slots t 5)) (hstage0_5 (((cfgM m).slots t 5).cast nbuf0_5)) (spec0_6.stage ((cfgM m).slots t 6)) (hstage0_6 (((cfgM m).slots t 6).cast nbuf0_6)) (spec0_7.stage ((cfgM m).slots t 7)) (hstage0_7 (((cfgM m).slots t 7).cast nbuf0_7)) (Memref.whole cc0_scratch0) (Memref.isWhole_whole _) (Memref.whole cc0_scratch1) (Memref.isWhole_whole _) (Memref.whole cc0_scratch2) (Memref.isWhole_whole _)
    (tbl m 0) f0 f1 f2 f3 f4 f5 f6 f7 g0 g1 g2 (by have := hH c t; unfold cnt_t counts at this; exact h0 ▸ this) _)
  isplitl [HT0]; · iexact HT0
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [G0]; · iapply (Entails.of_eq (whole_pt c cc0_scratch0 g0).symm); iexact G0
  isplitl [G1]; · iapply (Entails.of_eq (whole_pt c cc0_scratch1 g1).symm); iexact G1
  isplitl [G2]; · iapply (Entails.of_eq (whole_pt c cc0_scratch2 g2).symm); iexact G2
  iintro ⟨HT0, H0, H1, H2, H3, H4, H5, ⟨%o6, %e6, H6⟩, ⟨%o7, %e7, H7⟩, ⟨%s0, G0⟩, ⟨%s1, G1⟩, ⟨%s2, G2⟩⟩
  isplitl [HT0 HR G0 G1 G2]
  · isplitl [HR G0 G1 G2]
    · isplitl [G0 G1 G2]
      · isplitl [G0]; · iexists s0; iapply (Entails.of_eq (whole_pt c cc0_scratch0 s0)); iexact G0
        isplitl [G1]; · iexists s1; iapply (Entails.of_eq (whole_pt c cc0_scratch1 s1)); iexact G1
        iexists s2; iapply (Entails.of_eq (whole_pt c cc0_scratch2 s2)); iexact G2
      iexact HR
    iexact HT0
  isplitl [Ho]; · iexact Ho
  isplitl [H0]
  · iexists f0; isplitr; · ipureintro; exact h0
    iexact H0
  isplitl [H1]
  · iexists f1; isplitr; · ipureintro; exact h1
    iexact H1
  isplitl [H2]
  · iexists f2; isplitr; · ipureintro; exact h2
    iexact H2
  isplitl [H3]
  · iexists f3; isplitr; · ipureintro; exact h3
    iexact H3
  isplitl [H4]
  · iexists f4; isplitr; · ipureintro; exact h4
    iexact H4
  isplitl [H5]
  · iexists f5; isplitr; · ipureintro; exact h5
    iexact H5
  isplitl [H6]
  · iexists o6; isplitr
    · ipureintro; exact e6.trans (by unfold outB cnt_t counts blk0 blk1 blk2 blk3 blk5; exact congr (congr (congr (congr (congrArg (outAt _) h0) h1) h2) h3) h5)
    iexact H6
  · iexists o7; isplitr
    · ipureintro; exact e7.trans (by unfold lseB cnt_t counts blk0 blk1 blk2 blk3 blk4 blk5; exact congr (congr (congr (congr (congr (congrArg (lseAt _) h0) h1) h2) h3) h4) h5)
    iexact H7

theorem defs₀_row (t : Fin (cfgM m).N) :
    defs₀ (F := F) .tc (cfgM m).body ((cfgM m).bodyArgs t ((cfgM m).slots t)) = bodyAt0 (adm m) t := by
  unfold defs₀; rw [Defs.onTc_tc]

theorem body_obligation (hH : Hyps m) (c : Dev nD) : BodyObligation (dats (F := F) m 0 c) (defs₀ (F := F)) Variants.none () Set.univ := fun t => by
  rw [bigSep_W0, bigSep_W0, defs₀_row m]
  exact triple_restated (sound_body m hH c t) rfl .rfl fun _ => .rfl

/-! ## The run and the frame -/

set_option backward.isDefEq.respectTransparency.types false in
theorem run_main (hH : Hyps m) : θ_run defs (onTc (τ := τ) (main (F := F))) (s₀ m ρ) (fun r => Pipeline.FramePost (Pipeline.pin pcfgs fun _ => adm m) (dats m) 0 (V m) r ∧ r.2.sem = fun _ => 0) :=
  Pipeline.θ_run_frameP (Q' := _) pcfgs (fun _ => adm m) (dats m) (0 : Fin 1) launch0 defs₀ Variants.none m ρ main
    (hbody := fun c => (body_obligation m hH c).loose) (hshare := fun c => (dats m 0 c).share_full fun _ => rfl)
    (howed := fun _ _ => rfl) (V := V m) (hmain := hmain m Variants.none) (hA := A_eq m) (hpf := V_pre m) (hΦ := fun _ _ => rfl)

/-- What the run says of a window's array. -/
theorem arr_of {r : PUnit × MemSt nD τ sig (Elt F)} (h : Pipeline.FramePost (Pipeline.pin pcfgs fun _ => adm m) (dats m) 0 (V m) r) (c : Dev nD) (w : Fin (cfgM m).W) :
    r.2.mem (((cfgM m).spec w).arr.view.loc (c.tc : Thread nD τ)) = (dats m 0 c).arrAt w (cfgM m).N := (h c).1 w

theorem arr_in {r : PUnit × MemSt nD τ sig (Elt F)} (h : Pipeline.FramePost (Pipeline.pin pcfgs fun _ => adm m) (dats m) 0 (V m) r) (c : Dev nD) (w : Fin (cfgM m).W)
    (hin : ((cfgM m).win w).isOut = false) : r.2.mem (((cfgM m).spec w).arr.view.loc (c.tc : Thread nD τ)) = V m c (Pipeline.arrRef spec0 w) :=
  (arr_of m h c w).trans (((dats m 0 c).arrAt_in w hin _).trans (A_eq m c w))

theorem args_of {r : PUnit × MemSt nD τ sig (Elt F)} (h : Pipeline.FramePost (Pipeline.pin pcfgs fun _ => adm m) (dats m) 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6) :=
  ⟨(h c).2 main_arg0 (by decide : main_arg0 ∈ Pipeline.restRefs sig spec0), arr_in m h c 0 rfl, arr_in m h c 1 rfl, arr_in m h c 2 rfl, arr_in m h c 3 rfl, arr_in m h c 4 rfl, arr_in m h c 5 rfl⟩

theorem frame (hH : Hyps m) : θ_run defs (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6))
    ∧ r.2.sem = fun _ => 0) :=
  (θ_run defs _ _).mono (fun _ h => ⟨fun c => args_of m h.1 c, h.2⟩) (run_main m ρ hH)

end Cert.Proof.Kernel

end
-- ==== Proof.Listed.lean ====
/- What the precondition says of a row's words: its count is at most the list's length; the places of its chunks name
   granules that are there; those of them past the count choose no key. -/
module

public import proofs.«01_k».proof.Proof.Gen.Pre_listed
public import proofs.«01_k».proof.Proof.Words
public import Idealize.ShloMosaic.Lib.ValueIdxCore

@[expose] public section

noncomputable section

namespace Cert.Proof

open Idealize.ShloMosaic Idealize.ShloMosaic.ValueIdx Cert.Pre_listed

variable {F : FTy → Type} [FloatOps F]

/-- A list's word, by row and place. -/
abbrev wordAt (a1 : IVec S256x1x1024 32) (i : Fin 256) (p : Fin 1024) : BitVec 32 := a1 (ix3 i (0 : Fin 1) p)

private theorem ori_one (a b : BitVec 1) : IntOp.ori a b = 1#1 ↔ a = 1#1 ∨ b = 1#1 := by revert a b; decide
private theorem andi_one (a b : BitVec 1) : IntOp.andi a b = 1#1 ↔ a = 1#1 ∧ b = 1#1 := by revert a b; decide
private theorem noti_one (a : BitVec 1) : (~~~ a) = 1#1 ↔ ¬ a = 1#1 := by revert a; decide
private theorem ofBool_one (p : Bool) : (BitVec.ofBool p = 1#1) ↔ p = true := by cases p <;> decide

variable {a0 : IVec S256 32} {a1 : IVec S256x1x1024 32} {a2 : FVec F S4096x16x512 .fp8e4m3} {a3 : FVec F S65536x128 .bf16}
  {a4 a5 : FVec F S256x1x256 .f32} {a6 : FVec F S1024x16x640 .bf16}

theorem count_le (h : (fn (F := F) a0 a1 a2 a3 a4 a5 a6).1 = fun _ => 1#1) (i : Fin 256) : (a0 (ix1 i)).toInt ≤ 1024 := by
  have e := congrFun h (ix1 i)
  simp only [fn, fn_part1, constantI, broadcastInDim, cmpi, IntOp.cmpi, ofBool_one, BitVec.sle, decide_eq_true_eq] at e
  exact of_decide_eq_true e

private theorem bc (h) (i : Fin 256) (p : Fin 1024) : broadcastInDim S256x1x1024 ![0] h a0 (ix3 i (0 : Fin 1) p) = a0 (ix1 i) :=
  congrArg a0 (funext fun a => by obtain rfl : a = 0 := Subsingleton.elim _ _; rfl)

private theorem slt_one {a b : BitVec 32} : IntOp.cmpi .slt a b = 1#1 ↔ a.toInt < b.toInt := by
  simp only [IntOp.cmpi, ofBool_one, BitVec.slt, decide_eq_true_eq]
private theorem sge_one {a b : BitVec 32} : IntOp.cmpi .sge a b = 1#1 ↔ b.toInt ≤ a.toInt := by
  simp only [IntOp.cmpi, ofBool_one, BitVec.sle, decide_eq_true_eq]
private theorem eq_one {a b : BitVec 32} : IntOp.cmpi .eq a b = 1#1 ↔ a = b := by
  simp only [IntOp.cmpi, ofBool_one, beq_iff_eq]

private theorem mask_toInt {p : ℕ} (hp : p < 1024) : (BitVec.ofNat 32 p &&& 4294967280#32).toInt = (16 * (p / 16) : ℕ) := by
  have : (BitVec.ofNat 32 p &&& 4294967280#32) = BitVec.ofNat 32 (16 * (p / 16)) := by
    revert hp; revert p;
    have : ∀ p : Fin 1024, (BitVec.ofNat 32 p.val &&& 4294967280#32) = BitVec.ofNat 32 (16 * (p.val / 16)) := by decide +kernel
    exact fun {p} hp => this ⟨p, hp⟩
  rw [this, BitVec.toInt_eq_toNat_cond, BitVec.toNat_ofNat]
  rw [Nat.mod_eq_of_lt (by omega), if_pos (by omega)]

private theorem reached {v : BitVec 32} {p : ℕ} (hp : p < 16 * chunks v) (h1 : p < 1024) :
    (BitVec.ofNat 32 p &&& 4294967280#32).toInt < v.toInt := by
  rw [mask_toInt h1]; unfold chunks at hp; omega

theorem granule_lt (h : (fn (F := F) a0 a1 a2 a3 a4 a5 a6).2.1 = fun _ => 1#1) (i : Fin 256) (p : Fin 1024) (hp : p.val < 16 * chunks (a0 (ix1 i))) :
    (wordAt a1 i p &&& 65535#32).toNat < 1024 := by
  have e := congrFun h (ix3 i (0 : Fin 1) p)
  simp only [fn, fn_part1, ori, noti, andi, cmpi, ori_one, noti_one, slt_one] at e
  rcases e with e | e
  · refine absurd ?_ e
    show (BitVec.ofNat 32 p.val &&& 4294967280#32).toInt < (broadcastInDim S256x1x1024 ![0] _ a0 (ix3 i (0 : Fin 1) p)).toInt
    rw [bc]; exact reached hp p.isLt
  · have e' : (wordAt a1 i p &&& 65535#32).toInt < 1024 := e
    have hl : (wordAt a1 i p &&& 65535#32).toNat ≤ 65535 := by rw [BitVec.toNat_and]; exact Nat.and_le_right
    rw [BitVec.toInt_eq_toNat_cond, if_pos (by omega)] at e'
    omega

theorem unchosen (h : (fn (F := F) a0 a1 a2 a3 a4 a5 a6).2.2 = fun _ => 1#1) (i : Fin 256) (p : Fin 1024) (hp : p.val < 16 * chunks (a0 (ix1 i)))
    (hc : (a0 (ix1 i)).toInt ≤ p.val) : wordAt a1 i p >>> 16 = 0#32 := by
  have e := congrFun h (ix3 i (0 : Fin 1) p)
  simp only [fn, fn_part1, ori, noti, andi, cmpi, ori_one, noti_one, andi_one, slt_one, sge_one, eq_one] at e
  rcases e with e | e
  · refine absurd ?_ e
    show (BitVec.ofNat 32 p.val &&& 4294967280#32).toInt < (broadcastInDim S256x1x1024 ![0] _ a0 (ix3 i (0 : Fin 1) p)).toInt
      ∧ (broadcastInDim S256x1x1024 ![0] _ a0 (ix3 i (0 : Fin 1) p)).toInt ≤ (BitVec.ofNat 32 p.val).toInt
    rw [bc]
    refine ⟨reached hp p.isLt, ?_⟩
    have := p.isLt
    rw [BitVec.toInt_eq_toNat_cond (x := BitVec.ofNat 32 p.val), BitVec.toNat_ofNat, Nat.mod_eq_of_lt (by omega), if_pos (by omega)]
    exact hc
  · exact e

end Cert.Proof

end
-- ==== Proof.KernelBlocks.lean ====
/- The blocks of the input windows as the arguments' elements, and what the precondition says of the words of every row. -/
module

public import proofs.«01_k».proof.Proof.KernelFrame
public import proofs.«01_k».proof.Proof.Listed
public import Idealize.ShloMosaic.Lib.Pipeline.Value

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The row of a grid point. -/
def rowOf (t : Fin (cfgM m).N) : Fin 256 := ⟨(grid0.coords t 0).val, (grid0.coords t 0).isLt⟩

theorem row_word (t : Fin (cfgM m).N) : (BitVec.ofNat 32 (grid0.coords t 0).val).toNat = (rowOf m t).val := by
  have := (rowOf m t).isLt
  rw [BitVec.toNat_ofNat]
  exact Nat.mod_eq_of_lt (lt_trans this (by decide))

theorem cnt_eq (t : Fin (cfgM m).N) : cnt_t m t = m (((0 : Dev nD) : Thread nD τ).loc main_arg0) (ix1 (rowOf m t)) := by
  unfold cnt_t cnt counts
  rfl

theorem blk0_apply (c : Dev nD) (t : Fin (cfgM m).N) (p : Fin 1024) :
    blk0 m c t (ix3 (0 : Fin 1) (0 : Fin 1) p) = m ((c : Thread nD τ).loc main_arg1) (ix3 (rowOf m t) (0 : Fin 1) p) := by
  refine congrArg (V m c (Pipeline.arrRef spec0 0)) (funext fun a => Fin.ext ?_)
  refine (Pipeline.Window.rect_emb_val ((cfgM m).win 0) t (ix3 (0 : Fin 1) (0 : Fin 1) p) a rfl).trans ?_
  match a with
  | ⟨0, _⟩ =>
    have h := row_word m t
    show (BitVec.ofNat 32 (grid0.coords t 0).val).toNat * 1 + 0 = (rowOf m t).val
    rw [h]; omega
  | ⟨1, _⟩ => show 0 * 1 + 0 = 0; omega
  | ⟨2, _⟩ => show 0 * 1024 + p.val = p.val; omega
theorem blk1_apply (c : Dev nD) (t : Fin (cfgM m).N) (q : Fin 16) (h : Fin 16) (r : Fin 512) :
    blk1 m c t (ix3 q h r) = m ((c : Thread nD τ).loc main_arg2) (ix3 (⟨16 * (rowOf m t).val + q.val, by have := (rowOf m t).isLt; omega⟩ : Fin 4096) h r) := by
  refine congrArg (V m c (Pipeline.arrRef spec0 1)) (funext fun a => Fin.ext ?_)
  refine (Pipeline.Window.rect_emb_val ((cfgM m).win 1) t (ix3 q h r) a rfl).trans ?_
  match a with
  | ⟨0, _⟩ =>
    have h := row_word m t
    show (BitVec.ofNat 32 (grid0.coords t 0).val).toNat * 16 + q.val = 16 * (rowOf m t).val + q.val
    rw [h]; omega
  | ⟨1, _⟩ => show 0 * 16 + h.val = h.val; omega
  | ⟨2, _⟩ => show 0 * 512 + r.val = r.val; omega
theorem blk2_apply (c : Dev nD) (t : Fin (cfgM m).N) (q : Fin 256) (r : Fin 128) :
    blk2 m c t (ix2 q r) = m ((c : Thread nD τ).loc main_arg3) (ix2 (⟨256 * (rowOf m t).val + q.val, by have := (rowOf m t).isLt; omega⟩ : Fin 65536) r) := by
  refine congrArg (V m c (Pipeline.arrRef spec0 2)) (funext fun a => Fin.ext ?_)
  refine (Pipeline.Window.rect_emb_val ((cfgM m).win 2) t (ix2 q r) a rfl).trans ?_
  match a with
  | ⟨0, _⟩ =>
    have h := row_word m t
    show (BitVec.ofNat 32 (grid0.coords t 0).val).toNat * 256 + q.val = 256 * (rowOf m t).val + q.val
    rw [h]; omega
  | ⟨1, _⟩ => show 0 * 128 + r.val = r.val; omega
theorem blk3_apply (c : Dev nD) (t : Fin (cfgM m).N) (q : Fin 256) :
    blk3 m c t (ix3 (0 : Fin 1) (0 : Fin 1) q) = m ((c : Thread nD τ).loc main_arg4) (ix3 (rowOf m t) (0 : Fin 1) q) := by
  refine congrArg (V m c (Pipeline.arrRef spec0 3)) (funext fun a => Fin.ext ?_)
  refine (Pipeline.Window.rect_emb_val ((cfgM m).win 3) t (ix3 (0 : Fin 1) (0 : Fin 1) q) a rfl).trans ?_
  match a with
  | ⟨0, _⟩ =>
    have h := row_word m t
    show (BitVec.ofNat 32 (grid0.coords t 0).val).toNat * 1 + 0 = (rowOf m t).val
    rw [h]; omega
  | ⟨1, _⟩ => show 0 * 1 + 0 = 0; omega
  | ⟨2, _⟩ => show 0 * 256 + q.val = q.val; omega
theorem blk4_apply (c : Dev nD) (t : Fin (cfgM m).N) (q : Fin 256) :
    blk4 m c t (ix3 (0 : Fin 1) (0 : Fin 1) q) = m ((c : Thread nD τ).loc main_arg5) (ix3 (rowOf m t) (0 : Fin 1) q) := by
  refine congrArg (V m c (Pipeline.arrRef spec0 4)) (funext fun a => Fin.ext ?_)
  refine (Pipeline.Window.rect_emb_val ((cfgM m).win 4) t (ix3 (0 : Fin 1) (0 : Fin 1) q) a rfl).trans ?_
  match a with
  | ⟨0, _⟩ =>
    have h := row_word m t
    show (BitVec.ofNat 32 (grid0.coords t 0).val).toNat * 1 + 0 = (rowOf m t).val
    rw [h]; omega
  | ⟨1, _⟩ => show 0 * 1 + 0 = 0; omega
  | ⟨2, _⟩ => show 0 * 256 + q.val = q.val; omega
theorem blk5_apply (c : Dev nD) (t : Fin (cfgM m).N) (g : Fin 1024) (k : Fin 16) (r : Fin 640) :
    blk5 m c t (ix3 g k r) = m ((c : Thread nD τ).loc main_arg6) (ix3 g k r) := by
  refine congrArg (V m c (Pipeline.arrRef spec0 5)) (funext fun a => Fin.ext ?_)
  refine (Pipeline.Window.rect_emb_val ((cfgM m).win 5) t (ix3 g k r) a rfl).trans ?_
  match a with
  | ⟨0, _⟩ => show 0 * 1024 + g.val = g.val; omega
  | ⟨1, _⟩ => show 0 * 16 + k.val = k.val; omega
  | ⟨2, _⟩ => show 0 * 640 + r.val = r.val; omega

/-- The words of every row are as they must be, under the precondition. -/
theorem hyps_of_pre (h : ∀ c : Dev nD, (Cert.Pre_listed.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))).1 = (fun _ => 1#1)
    ∧ (Cert.Pre_listed.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))).2.1 = (fun _ => 1#1)) : Hyps m := by
  intro c t
  have hc := (h c).1
  have hg := (h c).2
  obtain rfl : c = 0 := Subsingleton.elim _ _
  have h1 := Cert.Proof.count_le hc (rowOf m t)
  refine ⟨by rw [cnt_eq]; exact h1, fun p hp => ?_⟩
  rw [cnt_eq] at hp
  have hp' : p < 1024 := by have := chunks_le h1; omega
  have := Cert.Proof.granule_lt hg (rowOf m t) ⟨p, hp'⟩ hp
  have e : ent (blk0 m 0 t) p = m (((0 : Dev nD) : Thread nD τ).loc main_arg1) (ix3 (rowOf m t) (0 : Fin 1) ⟨p, hp'⟩) := by
    unfold ent
    refine (congrArg (fun q => blk0 m 0 t (ix3 0 0 q)) (Fin.ext (Nat.mod_eq_of_lt hp') : (⟨p % 1024, _⟩ : Fin 1024) = ⟨p, hp'⟩)).trans ?_
    exact blk0_apply m 0 t ⟨p, hp'⟩
  rw [e]; exact this

end Cert.Proof.Kernel

end
-- ==== Proof.KernelIdealChunk.lean ====
/- One chunk of the list: what the sixteen granules of a chunk hold as one array of keys, which of their scores are kept, and the
   softmax state after the chunk, each as a plain function of the row's list, the keys, the queries and the state before. -/
module

public import proofs.«01_k».proof.Proof.Words
public import proofs.«01_k».proof.Proof.Gen.KernelIdeal.Loops
public import proofs.«01_k».proof.Proof.Gen.KernelIdeal.Launch
public import Idealize.ShloMosaic.Lib.Pipeline.FrameBody
public import Idealize.ShloMosaic.Lib.Pipeline.Value
public import Idealize.ShloMosaic.Lib.ValueIdxCore
public import Idealize.ShloMosaic.Lib.VecWindow
public import Idealize.ShloMosaic.Lib.Tactic

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

/-- The word at place `p` of a row's list. -/
def ent (x2 : Vec F S1x1x1024 .i32) (p : ℕ) : BitVec 32 := x2 (ix3 0 0 ⟨p % 1024, Nat.mod_lt _ (by decide)⟩)

/-- The keys of chunk `k`: sixteen granules of sixteen keys, the granule of key `y` the one its list place names. -/
def keysAt (x2 : Vec F S1x1x1024 .i32) (x7 : Vec F S1024x16x640 .bf16) (k : ℕ) : Vec F S256x640 .bf16 := fun y =>
  x7 (ix3 ⟨(ent x2 (16 * k + (y 0).val / 16) &&& 65535#32).toNat % 1024, Nat.mod_lt _ (by decide)⟩
    ⟨(y 0).val % 16, Nat.mod_lt _ (by decide)⟩ (y 1))

/-- their latent part, -/
def latAt (x2 : Vec F S1x1x1024 .i32) (x7 : Vec F S1024x16x640 .bf16) (k : ℕ) : Vec F S256x512 .bf16 := fun y =>
  keysAt x2 x7 k (ix2 (y 0) ⟨(y 1).val, by have h : (y 1).val < 512 := (y 1).isLt; omega⟩)
/-- and their rotary part. -/
def ropeAt (x2 : Vec F S1x1x1024 .i32) (x7 : Vec F S1024x16x640 .bf16) (k : ℕ) : Vec F S256x128 .bf16 := fun y =>
  keysAt x2 x7 k (ix2 (y 0) ⟨512 + (y 1).val, by have h : (y 1).val < 128 := (y 1).isLt; omega⟩)

/-- Which scores of granule `s` of chunk `k` are kept, the granule's word being `w`: those whose key is set in the word; in
    the row's first granule also only the keys not after the query. -/
def keepW (v14 v39 : IVec S16x256 32) (k : ℕ) (s : Fin 16) (w : BitVec 32) : IVec S16x256 1 :=
  if s.val = 0 then
    andi (cmpi .ne (andi (shrui (broadcast S16x256 (Scalar.shrsi w 16#32)) v14) (broadcast S16x256 1#32)) (broadcast S16x256 0#32))
      (cmpi .sle (subi v14 (broadcast S16x256 (Scalar.select (Scalar.cmpi .eq (Scf.iv 0#32 1#32 k) 0#32) 0#32 16#32))) v39)
  else cmpi .ne (andi (shrui (broadcast S16x256 (Scalar.shrsi w 16#32)) v14) (broadcast S16x256 1#32)) (broadcast S16x256 0#32)

/-- The same, the word taken from the list. -/
def keepAt (v14 v39 : IVec S16x256 32) (x2 : Vec F S1x1x1024 .i32) (k : ℕ) (s : Fin 16) : IVec S16x256 1 :=
  keepW v14 v39 k s (ent x2 (16 * k + s.val))

/-- The scores of a chunk, before any is dropped; -/
def rawAt (v13 : FVec F S1x256 .f32) (x4 : Vec F S256x128 .bf16) (x11 : Vec F S256x512 .bf16) (lat : Vec F S256x512 .bf16) (rope : Vec F S256x128 .bf16) : FVec F S256x256 .f32 :=
  k0_pay39 (k0_pay37 rope x4) (k0_pay38 v13 lat x11)

/-- a score not kept is −∞. -/
def maskAt (keep : Fin 16 → IVec S16x256 1) (raw : FVec F S256x256 .f32) : FVec F S256x256 .f32 := fun y =>
  if keep ⟨(y 0).val / 16, by have h : (y 0).val < 256 := (y 0).isLt; omega⟩ (ix2 ⟨(y 0).val % 16, Nat.mod_lt _ (by decide)⟩ (y 1)) = 1#1
  then raw y else Scalar.ofBits .f32 0xFF800000#32

/-- The scores of chunk `k`. -/
def scoreAt (v13 : FVec F S1x256 .f32) (v14 v39 : IVec S16x256 32) (x2 : Vec F S1x1x1024 .i32) (x4 : Vec F S256x128 .bf16) (x7 : Vec F S1024x16x640 .bf16)
    (x11 : Vec F S256x512 .bf16) (k : ℕ) : FVec F S256x256 .f32 :=
  maskAt (keepAt v14 v39 x2 k) (rawAt v13 x4 x11 (latAt x2 x7 k) (ropeAt x2 x7 k))

/-- The state of the online softmax: per query the base of the exponents and the sum of the weights, and the weighted sum of the values. -/
structure St (F : FTy → Type) [FloatOps F] where
  base : FVec F S1x256 .f32
  den : FVec F S1x256 .f32
  acc : FVec F S256x512 .f32

/-- The state after a chunk of scores `sc` and latent keys `lat`. -/
def stepSt (sc : FVec F S256x256 .f32) (lat : Vec F S256x512 .bf16) (S : St F) : St F :=
  let M := k0_pay117 S.base sc
  let P := k0_pay118 sc M
  let R := exp2 (k0_pay119 S.base M)
  ⟨M, k0_pay121 S.den P R, k0_pay120 P R S.acc lat⟩

/-! ## What a chunk's run reads -/

theorem word_eq (c : Dev nD) (arg2 : Memref sig .tc .smem S1x1x1024 .i32) (f2 : Buf (Elt F) (arg2.view.loc (c : Thread nD τ)))
    {off : Fin 3 → ℕ} (inb : ∀ a, off a + S1x1x1.size a ≤ S1x1x1024.size a) {p : ℕ} (h : off = ![0, 0, p]) (h0 : 0 < S1x1x1.numel) :
    arg2.view.readAt (Elt F) (Rect.unit (s := S1x1x1024) off S1x1x1.size inb).toLoadRect f2 (Shape.Idx.first h0)
      = ent (arg2.view.read (Elt F) f2) p := by
  subst h
  have hp : p + 1 ≤ 1024 := inb 2
  rw [View.readAt_apply]
  unfold ent
  refine congrArg _ (funext fun a => Fin.ext ?_)
  match a with
  | ⟨0, _⟩ => rfl
  | ⟨1, _⟩ => rfl
  | ⟨2, _⟩ => show p + 1 * 0 = p % 1024; omega

theorem inb_of (w : BitVec 32) (h : (w &&& 65535#32).toNat < 1024) : ∀ a, (k0_off3 w) a + S1x16x640.size a ≤ S1024x16x640.size a := by
  intro a
  match a with
  | ⟨0, _⟩ => show (w &&& 65535#32).toNat + 1 ≤ 1024; omega
  | ⟨1, _⟩ => show 0 + 16 ≤ 16; omega
  | ⟨2, _⟩ => show 0 + 640 ≤ 640; omega

theorem piece_eq (c : Dev nD) (arg7 : Memref sig .tc .vmem S1024x16x640 .bf16) (f7 : Buf (Elt F) (arg7.view.loc (c : Thread nD τ)))
    (x2 : Vec F S1x1x1024 .i32) (k s : ℕ) (w : BitVec 32) (hw : w = ent x2 (16 * k + s)) (inb : ∀ a, (k0_off3 w) a + S1x16x640.size a ≤ S1024x16x640.size a)
    (inb' : ∀ a, (![16 * s, 0] : Fin 2 → ℕ) a + S16x640.size a ≤ S256x640.size a) (x : S16x640.Idx) :
    shapeCast S16x640 (shapeCast S16x640 (arg7.view.readAt (Elt F) (Rect.unit (s := S1024x16x640) (k0_off3 w) S1x16x640.size inb).toLoadRect f7)
        shapeCasts_S1x16x640_S16x640) shapeCasts_S16x640_S16x640 x
      = keysAt x2 (arg7.view.read (Elt F) f7) k ((Rect.unit (s := S256x640) ![16 * s, 0] S16x640.size inb').emb x) := by
  have hx0 : (x 0).val < 16 := (x 0).isLt
  have hw0 : (w &&& 65535#32).toNat + 1 ≤ 1024 := inb 0
  rw [shapeCast_self, shapeCast_dropUnit_apply (![16, 640])]
  rw [View.readAt_apply]
  unfold keysAt
  refine congrArg _ (funext fun a => Fin.ext ?_)
  have e0 : ((((Rect.unit (s := S256x640) ![16 * s, 0] S16x640.size inb').emb x) 0).val) = 16 * s + (x 0).val := by
    show 16 * s + 1 * (x 0).val = _; omega
  have e1 : ((((Rect.unit (s := S256x640) ![16 * s, 0] S16x640.size inb').emb x) 1).val) = (x 1).val := by
    show 0 + 1 * (x 1).val = _; omega
  match a with
  | ⟨0, _⟩ =>
    show (w &&& 65535#32).toNat + 1 * 0 = (ent x2 (16 * k + _ / 16) &&& 65535#32).toNat % 1024
    rw [e0, show (16 * s + (x 0).val) / 16 = s by omega, ← hw]; omega
  | ⟨1, _⟩ => show 0 + 1 * (x 0).val = _ % 16; rw [e0]; omega
  | ⟨2, _⟩ => show 0 + 1 * (x 1).val = _; rw [e1]; omega

/-- The scores of granule `s` of a chunk. -/
def pieceAt (keep : Fin 16 → IVec S16x256 1) (raw : FVec F S256x256 .f32) (s : Fin 16) : FVec F S16x256 .f32 := fun x =>
  if keep s x = 1#1 then raw (ix2 ⟨16 * s.val + (x 0).val, by have h : (x 0).val < 16 := (x 0).isLt; omega⟩ (x 1)) else Scalar.ofBits .f32 0xFF800000#32

theorem piece_score (keep : Fin 16 → IVec S16x256 1) (raw : FVec F S256x256 .f32) (s : Fin 16) (mask : IVec S16x256 1) (hm : mask = keep s)
    {o : ℕ} (ho : o = 16 * s.val) (h : S256x256.Slices ![o, 0] S16x256) :
    select mask (extractStridedSlice S16x256 ![o, 0] raw h) (broadcast S16x256 (Scalar.ofBits .f32 0xFF800000#32)) = pieceAt keep raw s := by
  subst hm ho
  funext x
  have e : extractStridedSlice S16x256 ![16 * s.val, 0] raw h x
      = raw (ix2 ⟨16 * s.val + (x 0).val, by have h : (x 0).val < 16 := (x 0).isLt; omega⟩ (x 1)) := by
    refine congrArg raw (funext fun a => Fin.ext ?_)
    match a with
    | ⟨0, _⟩ => rfl
    | ⟨1, _⟩ => show 0 + (x 1).val = _; rw [Nat.zero_add]
  unfold pieceAt
  rw [← e]
  rfl

theorem cat_eq (keep : Fin 16 → IVec S16x256 1) (raw : FVec F S256x256 .f32) (a0 a1 a2 a3 a4 a5 a6 a7 a8 a9 a10 a11 a12 a13 a14 a15 : FVec F S16x256 .f32) (h0 : a0 = pieceAt keep raw 0) (h1 : a1 = pieceAt keep raw 1) (h2 : a2 = pieceAt keep raw 2) (h3 : a3 = pieceAt keep raw 3) (h4 : a4 = pieceAt keep raw 4) (h5 : a5 = pieceAt keep raw 5) (h6 : a6 = pieceAt keep raw 6) (h7 : a7 = pieceAt keep raw 7) (h8 : a8 = pieceAt keep raw 8) (h9 : a9 = pieceAt keep raw 9) (h10 : a10 = pieceAt keep raw 10) (h11 : a11 = pieceAt keep raw 11) (h12 : a12 = pieceAt keep raw 12) (h13 : a13 = pieceAt keep raw 13) (h14 : a14 = pieceAt keep raw 14) (h15 : a15 = pieceAt keep raw 15)
    (h : Shape.Concatenates (([⟨S16x256, a0⟩, ⟨S16x256, a1⟩, ⟨S16x256, a2⟩, ⟨S16x256, a3⟩, ⟨S16x256, a4⟩, ⟨S16x256, a5⟩, ⟨S16x256, a6⟩, ⟨S16x256, a7⟩, ⟨S16x256, a8⟩, ⟨S16x256, a9⟩, ⟨S16x256, a10⟩, ⟨S16x256, a11⟩, ⟨S16x256, a12⟩, ⟨S16x256, a13⟩, ⟨S16x256, a14⟩, ⟨S16x256, a15⟩] : List ((s : Shape) × (s.Idx → F .f32))).map (·.1)) S256x256 0) :
    concatenate S256x256 0 [⟨S16x256, a0⟩, ⟨S16x256, a1⟩, ⟨S16x256, a2⟩, ⟨S16x256, a3⟩, ⟨S16x256, a4⟩, ⟨S16x256, a5⟩, ⟨S16x256, a6⟩, ⟨S16x256, a7⟩, ⟨S16x256, a8⟩, ⟨S16x256, a9⟩, ⟨S16x256, a10⟩, ⟨S16x256, a11⟩, ⟨S16x256, a12⟩, ⟨S16x256, a13⟩, ⟨S16x256, a14⟩, ⟨S16x256, a15⟩] h = maskAt keep raw := by
  subst h0 h1 h2 h3 h4 h5 h6 h7 h8 h9 h10 h11 h12 h13 h14 h15
  funext y
  have hy : (y 0).val < 256 := (y 0).isLt
  refine (concatenate_ofFn_apply (t := S256x256) (s₁ := S16x256) 0 (pieceAt keep raw) h rfl 16 rfl y ⟨(y 0).val / 16, by omega⟩ rfl
    (ix2 ⟨(y 0).val % 16, Nat.mod_lt _ (by decide)⟩ (y 1)) rfl ?_).trans ?_
  · intro b hb
    match b, hb with
    | ⟨0, _⟩, hb => exact absurd rfl hb
    | ⟨1, _⟩, _ => rfl
  · unfold pieceAt maskAt
    congr 2
    funext a
    refine Fin.ext ?_
    match a with
    | ⟨0, _⟩ => show 16 * ((y 0).val / 16) + (y 0).val % 16 = (y 0).val; omega
    | ⟨1, _⟩ => rfl

/-- Sixteen granules, one below the other, are the chunk's keys. -/
theorem keys_of (x2 : Vec F S1x1x1024 .i32) (x7 : Vec F S1024x16x640 .bf16) (k : ℕ) (v0 v1 v2 v3 v4 v5 v6 v7 v8 v9 v10 v11 v12 v13 v14 v15 : S16x640.Idx → Elt F .bf16) (i0 : ∀ a, (![0, 0] : Fin 2 → ℕ) a + S16x640.size a ≤ S256x640.size a) (i1 : ∀ a, (![16, 0] : Fin 2 → ℕ) a + S16x640.size a ≤ S256x640.size a) (i2 : ∀ a, (![32, 0] : Fin 2 → ℕ) a + S16x640.size a ≤ S256x640.size a) (i3 : ∀ a, (![48, 0] : Fin 2 → ℕ) a + S16x640.size a ≤ S256x640.size a) (i4 : ∀ a, (![64, 0] : Fin 2 → ℕ) a + S16x640.size a ≤ S256x640.size a) (i5 : ∀ a, (![80, 0] : Fin 2 → ℕ) a + S16x640.size a ≤ S256x640.size a) (i6 : ∀ a, (![96, 0] : Fin 2 → ℕ) a + S16x640.size a ≤ S256x640.size a) (i7 : ∀ a, (![112, 0] : Fin 2 → ℕ) a + S16x640.size a ≤ S256x640.size a) (i8 : ∀ a, (![128, 0] : Fin 2 → ℕ) a + S16x640.size a ≤ S256x640.size a) (i9 : ∀ a, (![144, 0] : Fin 2 → ℕ) a + S16x640.size a ≤ S256x640.size a) (i10 : ∀ a, (![160, 0] : Fin 2 → ℕ) a + S16x640.size a ≤ S256x640.size a) (i11 : ∀ a, (![176, 0] : Fin 2 → ℕ) a + S16x640.size a ≤ S256x640.size a) (i12 : ∀ a, (![192, 0] : Fin 2 → ℕ) a + S16x640.size a ≤ S256x640.size a) (i13 : ∀ a, (![208, 0] : Fin 2 → ℕ) a + S16x640.size a ≤ S256x640.size a) (i14 : ∀ a, (![224, 0] : Fin 2 → ℕ) a + S16x640.size a ≤ S256x640.size a) (i15 : ∀ a, (![240, 0] : Fin 2 → ℕ) a + S16x640.size a ≤ S256x640.size a)
    (g0 : ∀ x, v0 x = keysAt x2 x7 k ((Rect.unit (s := S256x640) ![0, 0] S16x640.size i0).emb x))
    (g1 : ∀ x, v1 x = keysAt x2 x7 k ((Rect.unit (s := S256x640) ![16, 0] S16x640.size i1).emb x))
    (g2 : ∀ x, v2 x = keysAt x2 x7 k ((Rect.unit (s := S256x640) ![32, 0] S16x640.size i2).emb x))
    (g3 : ∀ x, v3 x = keysAt x2 x7 k ((Rect.unit (s := S256x640) ![48, 0] S16x640.size i3).emb x))
    (g4 : ∀ x, v4 x = keysAt x2 x7 k ((Rect.unit (s := S256x640) ![64, 0] S16x640.size i4).emb x))
    (g5 : ∀ x, v5 x = keysAt x2 x7 k ((Rect.unit (s := S256x640) ![80, 0] S16x640.size i5).emb x))
    (g6 : ∀ x, v6 x = keysAt x2 x7 k ((Rect.unit (s := S256x640) ![96, 0] S16x640.size i6).emb x))
    (g7 : ∀ x, v7 x = keysAt x2 x7 k ((Rect.unit (s := S256x640) ![112, 0] S16x640.size i7).emb x))
    (g8 : ∀ x, v8 x = keysAt x2 x7 k ((Rect.unit (s := S256x640) ![128, 0] S16x640.size i8).emb x))
    (g9 : ∀ x, v9 x = keysAt x2 x7 k ((Rect.unit (s := S256x640) ![144, 0] S16x640.size i9).emb x))
    (g10 : ∀ x, v10 x = keysAt x2 x7 k ((Rect.unit (s := S256x640) ![160, 0] S16x640.size i10).emb x))
    (g11 : ∀ x, v11 x = keysAt x2 x7 k ((Rect.unit (s := S256x640) ![176, 0] S16x640.size i11).emb x))
    (g12 : ∀ x, v12 x = keysAt x2 x7 k ((Rect.unit (s := S256x640) ![192, 0] S16x640.size i12).emb x))
    (g13 : ∀ x, v13 x = keysAt x2 x7 k ((Rect.unit (s := S256x640) ![208, 0] S16x640.size i13).emb x))
    (g14 : ∀ x, v14 x = keysAt x2 x7 k ((Rect.unit (s := S256x640) ![224, 0] S16x640.size i14).emb x))
    (g15 : ∀ x, v15 x = keysAt x2 x7 k ((Rect.unit (s := S256x640) ![240, 0] S16x640.size i15).emb x)) :
    View.canon (Val := Elt F) (s := S256x640) (e := .bf16) [⟨Rect.unit (s := S256x640) ![240, 0] S16x640.size i15, v15⟩, ⟨Rect.unit (s := S256x640) ![224, 0] S16x640.size i14, v14⟩, ⟨Rect.unit (s := S256x640) ![208, 0] S16x640.size i13, v13⟩, ⟨Rect.unit (s := S256x640) ![192, 0] S16x640.size i12, v12⟩, ⟨Rect.unit (s := S256x640) ![176, 0] S16x640.size i11, v11⟩, ⟨Rect.unit (s := S256x640) ![160, 0] S16x640.size i10, v10⟩, ⟨Rect.unit (s := S256x640) ![144, 0] S16x640.size i9, v9⟩, ⟨Rect.unit (s := S256x640) ![128, 0] S16x640.size i8, v8⟩, ⟨Rect.unit (s := S256x640) ![112, 0] S16x640.size i7, v7⟩, ⟨Rect.unit (s := S256x640) ![96, 0] S16x640.size i6, v6⟩, ⟨Rect.unit (s := S256x640) ![80, 0] S16x640.size i5, v5⟩, ⟨Rect.unit (s := S256x640) ![64, 0] S16x640.size i4, v4⟩, ⟨Rect.unit (s := S256x640) ![48, 0] S16x640.size i3, v3⟩, ⟨Rect.unit (s := S256x640) ![32, 0] S16x640.size i2, v2⟩, ⟨Rect.unit (s := S256x640) ![16, 0] S16x640.size i1, v1⟩, ⟨Rect.unit (s := S256x640) ![0, 0] S16x640.size i0, v0⟩] = keysAt x2 x7 k := by
  funext y
  refine View.canon_apply_of_pieces (keysAt x2 x7 k) _ ?_ y ?_
  · simp only [List.mem_cons, List.not_mem_nil, or_false, forall_eq_or_imp, forall_eq]
    exact ⟨g15, g14, g13, g12, g11, g10, g9, g8, g7, g6, g5, g4, g3, g2, g1, g0⟩
  · have hy0 : (y 0).val < 256 := (y 0).isLt
    have hy1 : (y 1).val < 640 := (y 1).isLt
    have key : ∀ o (inb : ∀ a, (![o, 0] : Fin 2 → ℕ) a + S16x640.size a ≤ S256x640.size a), o ≤ (y 0).val → (y 0).val < o + 16 →
        y ∈ (Rect.unit (s := S256x640) ![o, 0] S16x640.size inb).set := by
      intro o inb h1 h2
      rw [Rect.mem_set_unit]
      intro a
      match a with
      | ⟨0, _⟩ => exact ⟨h1, h2⟩
      | ⟨1, _⟩ => exact ⟨Nat.zero_le _, by show (y 1).val < 0 + 640; omega⟩
    obtain ⟨q, hq⟩ : ∃ q, (y 0).val / 16 = q := ⟨_, rfl⟩
    have hq16 : q < 16 := by omega
    interval_cases q
    · exact ⟨⟨Rect.unit (s := S256x640) ![0, 0] S16x640.size i0, v0⟩, by simp, key _ i0 (by omega) (by omega)⟩
    · exact ⟨⟨Rect.unit (s := S256x640) ![16, 0] S16x640.size i1, v1⟩, by simp, key _ i1 (by omega) (by omega)⟩
    · exact ⟨⟨Rect.unit (s := S256x640) ![32, 0] S16x640.size i2, v2⟩, by simp, key _ i2 (by omega) (by omega)⟩
    · exact ⟨⟨Rect.unit (s := S256x640) ![48, 0] S16x640.size i3, v3⟩, by simp, key _ i3 (by omega) (by omega)⟩
    · exact ⟨⟨Rect.unit (s := S256x640) ![64, 0] S16x640.size i4, v4⟩, by simp, key _ i4 (by omega) (by omega)⟩
    · exact ⟨⟨Rect.unit (s := S256x640) ![80, 0] S16x640.size i5, v5⟩, by simp, key _ i5 (by omega) (by omega)⟩
    · exact ⟨⟨Rect.unit (s := S256x640) ![96, 0] S16x640.size i6, v6⟩, by simp, key _ i6 (by omega) (by omega)⟩
    · exact ⟨⟨Rect.unit (s := S256x640) ![112, 0] S16x640.size i7, v7⟩, by simp, key _ i7 (by omega) (by omega)⟩
    · exact ⟨⟨Rect.unit (s := S256x640) ![128, 0] S16x640.size i8, v8⟩, by simp, key _ i8 (by omega) (by omega)⟩
    · exact ⟨⟨Rect.unit (s := S256x640) ![144, 0] S16x640.size i9, v9⟩, by simp, key _ i9 (by omega) (by omega)⟩
    · exact ⟨⟨Rect.unit (s := S256x640) ![160, 0] S16x640.size i10, v10⟩, by simp, key _ i10 (by omega) (by omega)⟩
    · exact ⟨⟨Rect.unit (s := S256x640) ![176, 0] S16x640.size i11, v11⟩, by simp, key _ i11 (by omega) (by omega)⟩
    · exact ⟨⟨Rect.unit (s := S256x640) ![192, 0] S16x640.size i12, v12⟩, by simp, key _ i12 (by omega) (by omega)⟩
    · exact ⟨⟨Rect.unit (s := S256x640) ![208, 0] S16x640.size i13, v13⟩, by simp, key _ i13 (by omega) (by omega)⟩
    · exact ⟨⟨Rect.unit (s := S256x640) ![224, 0] S16x640.size i14, v14⟩, by simp, key _ i14 (by omega) (by omega)⟩
    · exact ⟨⟨Rect.unit (s := S256x640) ![240, 0] S16x640.size i15, v15⟩, by simp, key _ i15 (by omega) (by omega)⟩

theorem lat_of {c : Dev nD} (M : Memref sig .tc .vmem S256x640 .bf16) (L : List (View.Piece (Elt F) S256x640 .bf16)) {x2 : Vec F S1x1x1024 .i32}
    {x7 : Vec F S1024x16x640 .bf16} {k : ℕ} (hL : View.canon L = keysAt x2 x7 k) (inb : ∀ a, (![0, 0] : Fin 2 → ℕ) a + S256x512.size a ≤ S256x640.size a) :
    M.view.readCov L (Rect.unit (s := S256x640) ![0, 0] S256x512.size inb).toLoadRect = latAt x2 x7 k := by
  rw [View.readCov_eq_canon', hL]
  funext y
  unfold latAt
  refine congrArg _ (funext fun a => Fin.ext ?_)
  match a with
  | ⟨0, _⟩ => show 0 + 1 * (y 0).val = (y 0).val; omega
  | ⟨1, _⟩ => show 0 + 1 * (y 1).val = (y 1).val; omega

theorem rope_of {c : Dev nD} (M : Memref sig .tc .vmem S256x640 .bf16) (L : List (View.Piece (Elt F) S256x640 .bf16)) {x2 : Vec F S1x1x1024 .i32}
    {x7 : Vec F S1024x16x640 .bf16} {k : ℕ} (hL : View.canon L = keysAt x2 x7 k) (inb : ∀ a, (![0, 512] : Fin 2 → ℕ) a + S256x128.size a ≤ S256x640.size a) :
    M.view.readCov L (Rect.unit (s := S256x640) ![0, 512] S256x128.size inb).toLoadRect = ropeAt x2 x7 k := by
  rw [View.readCov_eq_canon', hL]
  funext y
  unfold ropeAt
  refine congrArg _ (funext fun a => Fin.ext ?_)
  match a with
  | ⟨0, _⟩ => show 0 + 1 * (y 0).val = (y 0).val; omega
  | ⟨1, _⟩ => show 512 + 1 * (y 1).val = 512 + (y 1).val; omega

end Cert.Proof.KernelIdeal
-- ==== Proof.KernelIdealTrip.lean ====
/- One trip of the loop over the chunks: the machine's run of it, and what it leaves — the state after the chunk. -/
module

public import proofs.«01_k».proof.Proof.KernelIdealChunk

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

/-- The word of place `s` of chunk `k`, as the trip reads it. -/
theorem off_eq (v41 : Elt F .i32) (hc : v41.toInt ≤ 1024) (k : Fin (k0_t1_loop v41).trips) :
    k0_off2 v41 k = ![0, 0, 16 * k.val + 0] ∧ k0_off4 v41 k = ![0, 0, 16 * k.val + 1] ∧ k0_off6 v41 k = ![0, 0, 16 * k.val + 2] ∧ k0_off8 v41 k = ![0, 0, 16 * k.val + 3] ∧ k0_off10 v41 k = ![0, 0, 16 * k.val + 4] ∧ k0_off12 v41 k = ![0, 0, 16 * k.val + 5] ∧ k0_off14 v41 k = ![0, 0, 16 * k.val + 6] ∧ k0_off16 v41 k = ![0, 0, 16 * k.val + 7] ∧ k0_off18 v41 k = ![0, 0, 16 * k.val + 8] ∧ k0_off20 v41 k = ![0, 0, 16 * k.val + 9] ∧ k0_off22 v41 k = ![0, 0, 16 * k.val + 10] ∧ k0_off24 v41 k = ![0, 0, 16 * k.val + 11] ∧ k0_off26 v41 k = ![0, 0, 16 * k.val + 12] ∧ k0_off28 v41 k = ![0, 0, 16 * k.val + 13] ∧ k0_off30 v41 k = ![0, 0, 16 * k.val + 14] ∧ k0_off32 v41 k = ![0, 0, 16 * k.val + 15] := by
  have hk : k.val < 64 := lt_of_lt_of_le k.isLt ((trips_main hc).le.trans (chunks_le hc))
  refine ⟨?_, ?_, ?_, ?_, ?_, ?_, ?_, ?_, ?_, ?_, ?_, ?_, ?_, ?_, ?_, ?_⟩
  · exact congrArg (fun n => (![0, 0, n] : Fin 3 → ℕ)) (place_toNat hk (s := 0) (by decide))
  · exact congrArg (fun n => (![0, 0, n] : Fin 3 → ℕ)) (place_toNat hk (s := 1) (by decide))
  · exact congrArg (fun n => (![0, 0, n] : Fin 3 → ℕ)) (place_toNat hk (s := 2) (by decide))
  · exact congrArg (fun n => (![0, 0, n] : Fin 3 → ℕ)) (place_toNat hk (s := 3) (by decide))
  · exact congrArg (fun n => (![0, 0, n] : Fin 3 → ℕ)) (place_toNat hk (s := 4) (by decide))
  · exact congrArg (fun n => (![0, 0, n] : Fin 3 → ℕ)) (place_toNat hk (s := 5) (by decide))
  · exact congrArg (fun n => (![0, 0, n] : Fin 3 → ℕ)) (place_toNat hk (s := 6) (by decide))
  · exact congrArg (fun n => (![0, 0, n] : Fin 3 → ℕ)) (place_toNat hk (s := 7) (by decide))
  · exact congrArg (fun n => (![0, 0, n] : Fin 3 → ℕ)) (place_toNat hk (s := 8) (by decide))
  · exact congrArg (fun n => (![0, 0, n] : Fin 3 → ℕ)) (place_toNat hk (s := 9) (by decide))
  · exact congrArg (fun n => (![0, 0, n] : Fin 3 → ℕ)) (place_toNat hk (s := 10) (by decide))
  · exact congrArg (fun n => (![0, 0, n] : Fin 3 → ℕ)) (place_toNat hk (s := 11) (by decide))
  · exact congrArg (fun n => (![0, 0, n] : Fin 3 → ℕ)) (place_toNat hk (s := 12) (by decide))
  · exact congrArg (fun n => (![0, 0, n] : Fin 3 → ℕ)) (place_toNat hk (s := 13) (by decide))
  · exact congrArg (fun n => (![0, 0, n] : Fin 3 → ℕ)) (place_toNat hk (s := 14) (by decide))
  · exact congrArg (fun n => (![0, 0, n] : Fin 3 → ℕ)) (place_toNat hk (s := 15) (by decide))

/-- The state after chunk `k`, from the state before it. -/
def chunkSt (v13 : FVec F S1x256 .f32) (v14 v39 : IVec S16x256 32) (x2 : Vec F S1x1x1024 .i32) (x4 : Vec F S256x128 .bf16) (x7 : Vec F S1024x16x640 .bf16)
    (x11 : Vec F S256x512 .bf16) (k : ℕ) (S : St F) : St F :=
  stepSt (scoreAt v13 v14 v39 x2 x4 x7 x11 k) (latAt x2 x7 k) S

set_option maxHeartbeats 4000000 in
theorem tripRun (c : Dev nD) (i : grid0.Coords) (arg1 : Memref sig .tc .smem S256 .i32) (harg1 : arg1.IsWhole) (arg2 : Memref sig .tc .smem S1x1x1024 .i32) (harg2 : arg2.IsWhole) (arg3 : Memref sig .tc .vmem S16x16x512 .fp8e4m3) (harg3 : arg3.IsWhole) (arg4 : Memref sig .tc .vmem S256x128 .bf16) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1024x16x640 .bf16) (harg7 : arg7.IsWhole) (arg8 : Memref sig .tc .vmem S256x512 .f32) (harg8 : arg8.IsWhole) (arg9 : Memref sig .tc .vmem S1x1x256 .f32) (harg9 : arg9.IsWhole) (arg10 : Memref sig .tc .vmem S256x640 .bf16) (harg10 : arg10.IsWhole) (arg11 : Memref sig .tc .vmem S256x512 .bf16) (harg11 : arg11.IsWhole) (arg12 : Memref sig .tc .vmem S256x512 .f32) (harg12 : arg12.IsWhole) (arg0 : BitVec 32) (v13 : FVec F S1x256 .f32) (v14 : IVec S16x256 32) (v17 : IVec S16x256 32) (v36 : IVec S16x256 1) (v37 : IVec S16x256 32) (v41 : Elt F .i32) (k0_hw1 : k0_chk1 v41) (f2 : Buf (Elt F) (arg2.view.loc (c : Thread nD τ))) (f4 : Buf (Elt F) (arg4.view.loc (c : Thread nD τ))) (f7 : Buf (Elt F) (arg7.view.loc (c : Thread nD τ))) (f10 : Buf (Elt F) (arg10.view.loc (c : Thread nD τ))) (f11 : Buf (Elt F) (arg11.view.loc (c : Thread nD τ))) (f12 : Buf (Elt F) (arg12.view.loc (c : Thread nD τ)))
    (k : Fin (k0_t1_loop v41).trips) (m d : FVec F S1x256 .f32) (hc : v41.toInt ≤ 1024)
   (h2 : k0_chk2 (arg2.view.readAt (Elt F) (Rect.unit (s := S1x1x1024) (k0_off2 v41 k) S1x1x1.size (k0_off2_inb v41 k0_hw1 k)).toLoadRect f2 (Shape.Idx.first (numel1_S1x1x1.symm ▸ Nat.one_pos)))) (h3 : k0_chk3 (arg2.view.readAt (Elt F) (Rect.unit (s := S1x1x1024) (k0_off4 v41 k) S1x1x1.size (k0_off4_inb v41 k0_hw1 k)).toLoadRect f2 (Shape.Idx.first (numel1_S1x1x1.symm ▸ Nat.one_pos)))) (h4 : k0_chk4 (arg2.view.readAt (Elt F) (Rect.unit (s := S1x1x1024) (k0_off6 v41 k) S1x1x1.size (k0_off6_inb v41 k0_hw1 k)).toLoadRect f2 (Shape.Idx.first (numel1_S1x1x1.symm ▸ Nat.one_pos)))) (h5 : k0_chk5 (arg2.view.readAt (Elt F) (Rect.unit (s := S1x1x1024) (k0_off8 v41 k) S1x1x1.size (k0_off8_inb v41 k0_hw1 k)).toLoadRect f2 (Shape.Idx.first (numel1_S1x1x1.symm ▸ Nat.one_pos)))) (h6 : k0_chk6 (arg2.view.readAt (Elt F) (Rect.unit (s := S1x1x1024) (k0_off10 v41 k) S1x1x1.size (k0_off10_inb v41 k0_hw1 k)).toLoadRect f2 (Shape.Idx.first (numel1_S1x1x1.symm ▸ Nat.one_pos)))) (h7 : k0_chk7 (arg2.view.readAt (Elt F) (Rect.unit (s := S1x1x1024) (k0_off12 v41 k) S1x1x1.size (k0_off12_inb v41 k0_hw1 k)).toLoadRect f2 (Shape.Idx.first (numel1_S1x1x1.symm ▸ Nat.one_pos)))) (h8 : k0_chk8 (arg2.view.readAt (Elt F) (Rect.unit (s := S1x1x1024) (k0_off14 v41 k) S1x1x1.size (k0_off14_inb v41 k0_hw1 k)).toLoadRect f2 (Shape.Idx.first (numel1_S1x1x1.symm ▸ Nat.one_pos)))) (h9 : k0_chk9 (arg2.view.readAt (Elt F) (Rect.unit (s := S1x1x1024) (k0_off16 v41 k) S1x1x1.size (k0_off16_inb v41 k0_hw1 k)).toLoadRect f2 (Shape.Idx.first (numel1_S1x1x1.symm ▸ Nat.one_pos)))) (h10 : k0_chk10 (arg2.view.readAt (Elt F) (Rect.unit (s := S1x1x1024) (k0_off18 v41 k) S1x1x1.size (k0_off18_inb v41 k0_hw1 k)).toLoadRect f2 (Shape.Idx.first (numel1_S1x1x1.symm ▸ Nat.one_pos)))) (h11 : k0_chk11 (arg2.view.readAt (Elt F) (Rect.unit (s := S1x1x1024) (k0_off20 v41 k) S1x1x1.size (k0_off20_inb v41 k0_hw1 k)).toLoadRect f2 (Shape.Idx.first (numel1_S1x1x1.symm ▸ Nat.one_pos)))) (h12 : k0_chk12 (arg2.view.readAt (Elt F) (Rect.unit (s := S1x1x1024) (k0_off22 v41 k) S1x1x1.size (k0_off22_inb v41 k0_hw1 k)).toLoadRect f2 (Shape.Idx.first (numel1_S1x1x1.symm ▸ Nat.one_pos)))) (h13 : k0_chk13 (arg2.view.readAt (Elt F) (Rect.unit (s := S1x1x1024) (k0_off24 v41 k) S1x1x1.size (k0_off24_inb v41 k0_hw1 k)).toLoadRect f2 (Shape.Idx.first (numel1_S1x1x1.symm ▸ Nat.one_pos)))) (h14 : k0_chk14 (arg2.view.readAt (Elt F) (Rect.unit (s := S1x1x1024) (k0_off26 v41 k) S1x1x1.size (k0_off26_inb v41 k0_hw1 k)).toLoadRect f2 (Shape.Idx.first (numel1_S1x1x1.symm ▸ Nat.one_pos)))) (h15 : k0_chk15 (arg2.view.readAt (Elt F) (Rect.unit (s := S1x1x1024) (k0_off28 v41 k) S1x1x1.size (k0_off28_inb v41 k0_hw1 k)).toLoadRect f2 (Shape.Idx.first (numel1_S1x1x1.symm ▸ Nat.one_pos)))) (h16 : k0_chk16 (arg2.view.readAt (Elt F) (Rect.unit (s := S1x1x1024) (k0_off30 v41 k) S1x1x1.size (k0_off30_inb v41 k0_hw1 k)).toLoadRect f2 (Shape.Idx.first (numel1_S1x1x1.symm ▸ Nat.one_pos)))) (h17 : k0_chk17 (arg2.view.readAt (Elt F) (Rect.unit (s := S1x1x1024) (k0_off32 v41 k) S1x1x1.size (k0_off32_inb v41 k0_hw1 k)).toLoadRect f2 (Shape.Idx.first (numel1_S1x1x1.symm ▸ Nat.one_pos)))) :
    (iprop((arg2.view.loc (c : Thread nD τ) ↦[arg2.view.set]{fullShare} f2) ∗ (arg4.view.loc (c : Thread nD τ) ↦[arg4.view.set]{fullShare} f4) ∗ (arg7.view.loc (c : Thread nD τ) ↦[arg7.view.set]{fullShare} f7) ∗ (arg11.view.loc (c : Thread nD τ) ↦[arg11.view.set]{fullShare} f11) ∗ (arg10.view.loc (c : Thread nD τ) ↦[arg10.view.set]{fullShare} f10) ∗ (arg12.view.loc (c : Thread nD τ) ↦[arg12.view.set]{fullShare} f12)) : sProp 𝕄)
      ⊢ wp frame (wpE (defs₀ (F := F)) Variants.none (c : Thread nD τ) none) Set.univ (k0_t1_body (F := F) i arg1 harg1 arg2 harg2 arg3 harg3 arg4 harg4 arg5 harg5 arg6 harg6 arg7 harg7 arg8 harg8 arg9 harg9 arg10 harg10 arg11 harg11 arg12 harg12 arg0 v13 v14 v17 v36 v37 v41 k0_hw1 k (m, d))
        (fun r => iprop(⌜r = ((chunkSt v13 v14 (k0_pay112 v17 v36 v37) (arg2.view.read (Elt F) f2) (arg4.view.read (Elt F) f4) (arg7.view.read (Elt F) f7) (arg11.view.read (Elt F) f11) k ⟨m, d, arg12.view.read (Elt F) f12⟩).base, (chunkSt v13 v14 (k0_pay112 v17 v36 v37) (arg2.view.read (Elt F) f2) (arg4.view.read (Elt F) f4) (arg7.view.read (Elt F) f7) (arg11.view.read (Elt F) f11) k ⟨m, d, arg12.view.read (Elt F) f12⟩).den)⌝ ∗ (arg2.view.loc (c : Thread nD τ) ↦[arg2.view.set]{fullShare} f2) ∗ (arg4.view.loc (c : Thread nD τ) ↦[arg4.view.set]{fullShare} f4) ∗ (arg7.view.loc (c : Thread nD τ) ↦[arg7.view.set]{fullShare} f7) ∗ (arg11.view.loc (c : Thread nD τ) ↦[arg11.view.set]{fullShare} f11) ∗ (∃ f, (arg10.view.loc (c : Thread nD τ) ↦[arg10.view.set]{fullShare} f))
          ∗ ∃ f, ⌜arg12.view.read (Elt F) f = (chunkSt v13 v14 (k0_pay112 v17 v36 v37) (arg2.view.read (Elt F) f2) (arg4.view.read (Elt F) f4) (arg7.view.read (Elt F) f7) (arg11.view.read (Elt F) f11) k ⟨m, d, arg12.view.read (Elt F) f12⟩).acc⌝ ∗ (arg12.view.loc (c : Thread nD τ) ↦[arg12.view.set]{fullShare} f))) := by
  iintro ⟨H2, H4, H7, H11, H10, H12⟩
  sl_unfold [k0_t1_body]
  sl_exec (disch := first | assumption)
  sl_step
  obtain ⟨o0, o1, o2, o3, o4, o5, o6, o7, o8, o9, o10, o11, o12, o13, o14, o15⟩ := off_eq v41 hc k
  have w0 : (arg2.view.readAt (Elt F) (Rect.unit (s := S1x1x1024) (k0_off2 v41 k) S1x1x1.size (k0_off2_inb v41 k0_hw1 k)).toLoadRect f2 (Shape.Idx.first (numel1_S1x1x1.symm ▸ Nat.one_pos))) = ent (arg2.view.read (Elt F) f2) (16 * k.val + 0) := word_eq c arg2 f2 _ o0 _
  have w1 : (arg2.view.readAt (Elt F) (Rect.unit (s := S1x1x1024) (k0_off4 v41 k) S1x1x1.size (k0_off4_inb v41 k0_hw1 k)).toLoadRect f2 (Shape.Idx.first (numel1_S1x1x1.symm ▸ Nat.one_pos))) = ent (arg2.view.read (Elt F) f2) (16 * k.val + 1) := word_eq c arg2 f2 _ o1 _
  have w2 : (arg2.view.readAt (Elt F) (Rect.unit (s := S1x1x1024) (k0_off6 v41 k) S1x1x1.size (k0_off6_inb v41 k0_hw1 k)).toLoadRect f2 (Shape.Idx.first (numel1_S1x1x1.symm ▸ Nat.one_pos))) = ent (arg2.view.read (Elt F) f2) (16 * k.val + 2) := word_eq c arg2 f2 _ o2 _
  have w3 : (arg2.view.readAt (Elt F) (Rect.unit (s := S1x1x1024) (k0_off8 v41 k) S1x1x1.size (k0_off8_inb v41 k0_hw1 k)).toLoadRect f2 (Shape.Idx.first (numel1_S1x1x1.symm ▸ Nat.one_pos))) = ent (arg2.view.read (Elt F) f2) (16 * k.val + 3) := word_eq c arg2 f2 _ o3 _
  have w4 : (arg2.view.readAt (Elt F) (Rect.unit (s := S1x1x1024) (k0_off10 v41 k) S1x1x1.size (k0_off10_inb v41 k0_hw1 k)).toLoadRect f2 (Shape.Idx.first (numel1_S1x1x1.symm ▸ Nat.one_pos))) = ent (arg2.view.read (Elt F) f2) (16 * k.val + 4) := word_eq c arg2 f2 _ o4 _
  have w5 : (arg2.view.readAt (Elt F) (Rect.unit (s := S1x1x1024) (k0_off12 v41 k) S1x1x1.size (k0_off12_inb v41 k0_hw1 k)).toLoadRect f2 (Shape.Idx.first (numel1_S1x1x1.symm ▸ Nat.one_pos))) = ent (arg2.view.read (Elt F) f2) (16 * k.val + 5) := word_eq c arg2 f2 _ o5 _
  have w6 : (arg2.view.readAt (Elt F) (Rect.unit (s := S1x1x1024) (k0_off14 v41 k) S1x1x1.size (k0_off14_inb v41 k0_hw1 k)).toLoadRect f2 (Shape.Idx.first (numel1_S1x1x1.symm ▸ Nat.one_pos))) = ent (arg2.view.read (Elt F) f2) (16 * k.val + 6) := word_eq c arg2 f2 _ o6 _
  have w7 : (arg2.view.readAt (Elt F) (Rect.unit (s := S1x1x1024) (k0_off16 v41 k) S1x1x1.size (k0_off16_inb v41 k0_hw1 k)).toLoadRect f2 (Shape.Idx.first (numel1_S1x1x1.symm ▸ Nat.one_pos))) = ent (arg2.view.read (Elt F) f2) (16 * k.val + 7) := word_eq c arg2 f2 _ o7 _
  have w8 : (arg2.view.readAt (Elt F) (Rect.unit (s := S1x1x1024) (k0_off18 v41 k) S1x1x1.size (k0_off18_inb v41 k0_hw1 k)).toLoadRect f2 (Shape.Idx.first (numel1_S1x1x1.symm ▸ Nat.one_pos))) = ent (arg2.view.read (Elt F) f2) (16 * k.val + 8) := word_eq c arg2 f2 _ o8 _
  have w9 : (arg2.view.readAt (Elt F) (Rect.unit (s := S1x1x1024) (k0_off20 v41 k) S1x1x1.size (k0_off20_inb v41 k0_hw1 k)).toLoadRect f2 (Shape.Idx.first (numel1_S1x1x1.symm ▸ Nat.one_pos))) = ent (arg2.view.read (Elt F) f2) (16 * k.val + 9) := word_eq c arg2 f2 _ o9 _
  have w10 : (arg2.view.readAt (Elt F) (Rect.unit (s := S1x1x1024) (k0_off22 v41 k) S1x1x1.size (k0_off22_inb v41 k0_hw1 k)).toLoadRect f2 (Shape.Idx.first (numel1_S1x1x1.symm ▸ Nat.one_pos))) = ent (arg2.view.read (Elt F) f2) (16 * k.val + 10) := word_eq c arg2 f2 _ o10 _
  have w11 : (arg2.view.readAt (Elt F) (Rect.unit (s := S1x1x1024) (k0_off24 v41 k) S1x1x1.size (k0_off24_inb v41 k0_hw1 k)).toLoadRect f2 (Shape.Idx.first (numel1_S1x1x1.symm ▸ Nat.one_pos))) = ent (arg2.view.read (Elt F) f2) (16 * k.val + 11) := word_eq c arg2 f2 _ o11 _
  have w12 : (arg2.view.readAt (Elt F) (Rect.unit (s := S1x1x1024) (k0_off26 v41 k) S1x1x1.size (k0_off26_inb v41 k0_hw1 k)).toLoadRect f2 (Shape.Idx.first (numel1_S1x1x1.symm ▸ Nat.one_pos))) = ent (arg2.view.read (Elt F) f2) (16 * k.val + 12) := word_eq c arg2 f2 _ o12 _
  have w13 : (arg2.view.readAt (Elt F) (Rect.unit (s := S1x1x1024) (k0_off28 v41 k) S1x1x1.size (k0_off28_inb v41 k0_hw1 k)).toLoadRect f2 (Shape.Idx.first (numel1_S1x1x1.symm ▸ Nat.one_pos))) = ent (arg2.view.read (Elt F) f2) (16 * k.val + 13) := word_eq c arg2 f2 _ o13 _
  have w14 : (arg2.view.readAt (Elt F) (Rect.unit (s := S1x1x1024) (k0_off30 v41 k) S1x1x1.size (k0_off30_inb v41 k0_hw1 k)).toLoadRect f2 (Shape.Idx.first (numel1_S1x1x1.symm ▸ Nat.one_pos))) = ent (arg2.view.read (Elt F) f2) (16 * k.val + 14) := word_eq c arg2 f2 _ o14 _
  have w15 : (arg2.view.readAt (Elt F) (Rect.unit (s := S1x1x1024) (k0_off32 v41 k) S1x1x1.size (k0_off32_inb v41 k0_hw1 k)).toLoadRect f2 (Shape.Idx.first (numel1_S1x1x1.symm ▸ Nat.one_pos))) = ent (arg2.view.read (Elt F) f2) (16 * k.val + 15) := word_eq c arg2 f2 _ o15 _
  have hkeys : View.canon (tripRun.sl.H10_16 c arg2 arg7 v41 k0_hw1 f2 f7 k h2 h3 h4 h5 h6 h7 h8 h9 h10 h11 h12 h13 h14 h15 h16 h17) = keysAt (arg2.view.read (Elt F) f2) (arg7.view.read (Elt F) f7) k.val :=
    keys_of (arg2.view.read (Elt F) f2) (arg7.view.read (Elt F) f7) k.val _ _ _ _ _ _ _ _ _ _ _ _ _ _ _ _ _ _ _ _ _ _ _ _ _ _ _ _ _ _ _ _
      (fun x => piece_eq c arg7 f7 (arg2.view.read (Elt F) f2) k.val 0 _ w0 _ _ x)
      (fun x => piece_eq c arg7 f7 (arg2.view.read (Elt F) f2) k.val 1 _ w1 _ _ x)
      (fun x => piece_eq c arg7 f7 (arg2.view.read (Elt F) f2) k.val 2 _ w2 _ _ x)
      (fun x => piece_eq c arg7 f7 (arg2.view.read (Elt F) f2) k.val 3 _ w3 _ _ x)
      (fun x => piece_eq c arg7 f7 (arg2.view.read (Elt F) f2) k.val 4 _ w4 _ _ x)
      (fun x => piece_eq c arg7 f7 (arg2.view.read (Elt F) f2) k.val 5 _ w5 _ _ x)
      (fun x => piece_eq c arg7 f7 (arg2.view.read (Elt F) f2) k.val 6 _ w6 _ _ x)
      (fun x => piece_eq c arg7 f7 (arg2.view.read (Elt F) f2) k.val 7 _ w7 _ _ x)
      (fun x => piece_eq c arg7 f7 (arg2.view.read (Elt F) f2) k.val 8 _ w8 _ _ x)
      (fun x => piece_eq c arg7 f7 (arg2.view.read (Elt F) f2) k.val 9 _ w9 _ _ x)
      (fun x => piece_eq c arg7 f7 (arg2.view.read (Elt F) f2) k.val 10 _ w10 _ _ x)
      (fun x => piece_eq c arg7 f7 (arg2.view.read (Elt F) f2) k.val 11 _ w11 _ _ x)
      (fun x => piece_eq c arg7 f7 (arg2.view.read (Elt F) f2) k.val 12 _ w12 _ _ x)
      (fun x => piece_eq c arg7 f7 (arg2.view.read (Elt F) f2) k.val 13 _ w13 _ _ x)
      (fun x => piece_eq c arg7 f7 (arg2.view.read (Elt F) f2) k.val 14 _ w14 _ _ x)
      (fun x => piece_eq c arg7 f7 (arg2.view.read (Elt F) f2) k.val 15 _ w15 _ _ x)
  have hlat : tripRun.sl.v383 c arg2 arg7 arg10 v41 k0_hw1 f2 f7 k h2 h3 h4 h5 h6 h7 h8 h9 h10 h11 h12 h13 h14 h15 h16 h17 = latAt (arg2.view.read (Elt F) f2) (arg7.view.read (Elt F) f7) k.val := lat_of (c := c) arg10 _ hkeys _
  have hscore : tripRun.sl.v442 c arg2 arg4 arg7 arg10 arg11 v13 v14 v17 v36 v37 v41 k0_hw1 f2 f4 f7 f11 k h2 h3 h4 h5 h6 h7 h8 h9 h10 h11 h12 h13 h14 h15 h16 h17
      = scoreAt v13 v14 (k0_pay112 v17 v36 v37) (arg2.view.read (Elt F) f2) (arg4.view.read (Elt F) f4) (arg7.view.read (Elt F) f7) (arg11.view.read (Elt F) f11) k.val := by
    refine (cat_eq (keepAt v14 (k0_pay112 v17 v36 v37) (arg2.view.read (Elt F) f2) k.val) _ _ _ _ _ _ _ _ _ _ _ _ _ _ _ _ _
      (piece_score _ _ 0 _ (congrArg (keepW v14 (k0_pay112 v17 v36 v37) k.val 0) w0) rfl _)
      (piece_score _ _ 1 _ (congrArg (keepW v14 (k0_pay112 v17 v36 v37) k.val 1) w1) rfl _)
      (piece_score _ _ 2 _ (congrArg (keepW v14 (k0_pay112 v17 v36 v37) k.val 2) w2) rfl _)
      (piece_score _ _ 3 _ (congrArg (keepW v14 (k0_pay112 v17 v36 v37) k.val 3) w3) rfl _)
      (piece_score _ _ 4 _ (congrArg (keepW v14 (k0_pay112 v17 v36 v37) k.val 4) w4) rfl _)
      (piece_score _ _ 5 _ (congrArg (keepW v14 (k0_pay112 v17 v36 v37) k.val 5) w5) rfl _)
      (piece_score _ _ 6 _ (congrArg (keepW v14 (k0_pay112 v17 v36 v37) k.val 6) w6) rfl _)
      (piece_score _ _ 7 _ (congrArg (keepW v14 (k0_pay112 v17 v36 v37) k.val 7) w7) rfl _)
      (piece_score _ _ 8 _ (congrArg (keepW v14 (k0_pay112 v17 v36 v37) k.val 8) w8) rfl _)
      (piece_score _ _ 9 _ (congrArg (keepW v14 (k0_pay112 v17 v36 v37) k.val 9) w9) rfl _)
      (piece_score _ _ 10 _ (congrArg (keepW v14 (k0_pay112 v17 v36 v37) k.val 10) w10) rfl _)
      (piece_score _ _ 11 _ (congrArg (keepW v14 (k0_pay112 v17 v36 v37) k.val 11) w11) rfl _)
      (piece_score _ _ 12 _ (congrArg (keepW v14 (k0_pay112 v17 v36 v37) k.val 12) w12) rfl _)
      (piece_score _ _ 13 _ (congrArg (keepW v14 (k0_pay112 v17 v36 v37) k.val 13) w13) rfl _)
      (piece_score _ _ 14 _ (congrArg (keepW v14 (k0_pay112 v17 v36 v37) k.val 14) w14) rfl _)
      (piece_score _ _ 15 _ (congrArg (keepW v14 (k0_pay112 v17 v36 v37) k.val 15) w15) rfl _) _).trans ?_
    exact congrArg (maskAt _) (congrArg₂ k0_pay39 (congrArg₂ k0_pay37 (rope_of (c := c) arg10 _ hkeys _) (View.readAt_full _ _ _))
      (congrArg₂ (k0_pay38 v13) (lat_of (c := c) arg10 _ hkeys _) (View.readAt_full _ _ _)))
  have e446 : tripRun.sl.v446 c arg2 arg4 arg7 arg10 arg11 v13 v14 v17 v36 v37 v41 k0_hw1 f2 f4 f7 f11 k m h2 h3 h4 h5 h6 h7 h8 h9 h10 h11 h12 h13 h14 h15 h16 h17
      = (chunkSt v13 v14 (k0_pay112 v17 v36 v37) (arg2.view.read (Elt F) f2) (arg4.view.read (Elt F) f4) (arg7.view.read (Elt F) f7) (arg11.view.read (Elt F) f11) k ⟨m, d, arg12.view.read (Elt F) f12⟩).base := congrArg (k0_pay117 m) hscore
  have e449 : tripRun.sl.v449 c arg2 arg4 arg7 arg10 arg11 v13 v14 v17 v36 v37 v41 k0_hw1 f2 f4 f7 f11 k m h2 h3 h4 h5 h6 h7 h8 h9 h10 h11 h12 h13 h14 h15 h16 h17
      = k0_pay118 (scoreAt v13 v14 (k0_pay112 v17 v36 v37) (arg2.view.read (Elt F) f2) (arg4.view.read (Elt F) f4) (arg7.view.read (Elt F) f7) (arg11.view.read (Elt F) f11) k.val) (chunkSt v13 v14 (k0_pay112 v17 v36 v37) (arg2.view.read (Elt F) f2) (arg4.view.read (Elt F) f4) (arg7.view.read (Elt F) f7) (arg11.view.read (Elt F) f11) k ⟨m, d, arg12.view.read (Elt F) f12⟩).base := congrArg₂ k0_pay118 hscore e446
  have e451 : tripRun.sl.v451 c arg2 arg4 arg7 arg10 arg11 v13 v14 v17 v36 v37 v41 k0_hw1 f2 f4 f7 f11 k m h2 h3 h4 h5 h6 h7 h8 h9 h10 h11 h12 h13 h14 h15 h16 h17
      = exp2 (k0_pay119 m (chunkSt v13 v14 (k0_pay112 v17 v36 v37) (arg2.view.read (Elt F) f2) (arg4.view.read (Elt F) f4) (arg7.view.read (Elt F) f7) (arg11.view.read (Elt F) f11) k ⟨m, d, arg12.view.read (Elt F) f12⟩).base) := congrArg (fun M => exp2 (k0_pay119 m M)) e446
  iframe H2 H4 H7 H11
  isplitr
  · ipureintro
    exact congrArg₂ Prod.mk e446 (congrArg₂ (k0_pay121 d) e449 e451)
  isplitl [H10]
  · iexists _; iexact H10
  iexists _
  isplitr
  rotate_left
  · iexact H12
  ipureintro
  refine (View.read_writes_full _ _ _ _ _).trans ?_
  rw [e449, e451, hlat]
  exact congrArg (fun A => k0_pay120 _ _ A _) (View.readAt_full _ _ _)

/-- A trip takes the state to the state after its chunk, and leaves what it reads. -/
theorem trip (c : Dev nD) (i : grid0.Coords) (arg1 : Memref sig .tc .smem S256 .i32) (harg1 : arg1.IsWhole) (arg2 : Memref sig .tc .smem S1x1x1024 .i32) (harg2 : arg2.IsWhole) (arg3 : Memref sig .tc .vmem S16x16x512 .fp8e4m3) (harg3 : arg3.IsWhole) (arg4 : Memref sig .tc .vmem S256x128 .bf16) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1024x16x640 .bf16) (harg7 : arg7.IsWhole) (arg8 : Memref sig .tc .vmem S256x512 .f32) (harg8 : arg8.IsWhole) (arg9 : Memref sig .tc .vmem S1x1x256 .f32) (harg9 : arg9.IsWhole) (arg10 : Memref sig .tc .vmem S256x640 .bf16) (harg10 : arg10.IsWhole) (arg11 : Memref sig .tc .vmem S256x512 .bf16) (harg11 : arg11.IsWhole) (arg12 : Memref sig .tc .vmem S256x512 .f32) (harg12 : arg12.IsWhole) (arg0 : BitVec 32) (v13 : FVec F S1x256 .f32) (v14 : IVec S16x256 32) (v17 : IVec S16x256 32) (v36 : IVec S16x256 1) (v37 : IVec S16x256 32) (v41 : Elt F .i32) (k0_hw1 : k0_chk1 v41) (f2 : Buf (Elt F) (arg2.view.loc (c : Thread nD τ))) (f4 : Buf (Elt F) (arg4.view.loc (c : Thread nD τ))) (f7 : Buf (Elt F) (arg7.view.loc (c : Thread nD τ))) (f10 : Buf (Elt F) (arg10.view.loc (c : Thread nD τ))) (f11 : Buf (Elt F) (arg11.view.loc (c : Thread nD τ))) (f12 : Buf (Elt F) (arg12.view.loc (c : Thread nD τ)))
    (k : Fin (k0_t1_loop v41).trips) (m d : FVec F S1x256 .f32) (hc : v41.toInt ≤ 1024)
    (he : ∀ s < 16, (ent (arg2.view.read (Elt F) f2) (16 * k.val + s) &&& 65535#32).toNat < 1024) :
    (iprop((arg2.view.loc (c : Thread nD τ) ↦[arg2.view.set]{fullShare} f2) ∗ (arg4.view.loc (c : Thread nD τ) ↦[arg4.view.set]{fullShare} f4) ∗ (arg7.view.loc (c : Thread nD τ) ↦[arg7.view.set]{fullShare} f7) ∗ (arg11.view.loc (c : Thread nD τ) ↦[arg11.view.set]{fullShare} f11) ∗ (arg10.view.loc (c : Thread nD τ) ↦[arg10.view.set]{fullShare} f10) ∗ (arg12.view.loc (c : Thread nD τ) ↦[arg12.view.set]{fullShare} f12)) : sProp 𝕄)
      ⊢ wp frame (wpE (defs₀ (F := F)) Variants.none (c : Thread nD τ) none) Set.univ (k0_t1_body (F := F) i arg1 harg1 arg2 harg2 arg3 harg3 arg4 harg4 arg5 harg5 arg6 harg6 arg7 harg7 arg8 harg8 arg9 harg9 arg10 harg10 arg11 harg11 arg12 harg12 arg0 v13 v14 v17 v36 v37 v41 k0_hw1 k (m, d))
        (fun r => iprop(⌜r = ((chunkSt v13 v14 (k0_pay112 v17 v36 v37) (arg2.view.read (Elt F) f2) (arg4.view.read (Elt F) f4) (arg7.view.read (Elt F) f7) (arg11.view.read (Elt F) f11) k ⟨m, d, arg12.view.read (Elt F) f12⟩).base, (chunkSt v13 v14 (k0_pay112 v17 v36 v37) (arg2.view.read (Elt F) f2) (arg4.view.read (Elt F) f4) (arg7.view.read (Elt F) f7) (arg11.view.read (Elt F) f11) k ⟨m, d, arg12.view.read (Elt F) f12⟩).den)⌝ ∗ (arg2.view.loc (c : Thread nD τ) ↦[arg2.view.set]{fullShare} f2) ∗ (arg4.view.loc (c : Thread nD τ) ↦[arg4.view.set]{fullShare} f4) ∗ (arg7.view.loc (c : Thread nD τ) ↦[arg7.view.set]{fullShare} f7) ∗ (arg11.view.loc (c : Thread nD τ) ↦[arg11.view.set]{fullShare} f11) ∗ (∃ f, (arg10.view.loc (c : Thread nD τ) ↦[arg10.view.set]{fullShare} f))
          ∗ ∃ f, ⌜arg12.view.read (Elt F) f = (chunkSt v13 v14 (k0_pay112 v17 v36 v37) (arg2.view.read (Elt F) f2) (arg4.view.read (Elt F) f4) (arg7.view.read (Elt F) f7) (arg11.view.read (Elt F) f11) k ⟨m, d, arg12.view.read (Elt F) f12⟩).acc⌝ ∗ (arg12.view.loc (c : Thread nD τ) ↦[arg12.view.set]{fullShare} f))) := by
  obtain ⟨o0, o1, o2, o3, o4, o5, o6, o7, o8, o9, o10, o11, o12, o13, o14, o15⟩ := off_eq v41 hc k
  have chk : ∀ (off : Fin 3 → ℕ) (inb : ∀ a, off a + S1x1x1.size a ≤ S1x1x1024.size a) (s : ℕ), s < 16 → off = ![0, 0, 16 * k.val + s] → ∀ h0,
      ((arg2.view.readAt (Elt F) (Rect.unit (s := S1x1x1024) off S1x1x1.size inb).toLoadRect f2 (Shape.Idx.first h0) : BitVec 32) &&& 65535#32).toNat < 1024 := by
    intro off inb s hs ho h0; rw [word_eq c arg2 f2 inb ho h0]; exact he s hs
  exact tripRun c i arg1 harg1 arg2 harg2 arg3 harg3 arg4 harg4 arg5 harg5 arg6 harg6 arg7 harg7 arg8 harg8 arg9 harg9 arg10 harg10 arg11 harg11 arg12 harg12 arg0 v13 v14 v17 v36 v37 v41 k0_hw1 f2 f4 f7 f10 f11 f12 k m d hc
    (inb_of _ (chk _ _ 0 (by decide) o0 _))
    (inb_of _ (chk _ _ 1 (by decide) o1 _))
    (inb_of _ (chk _ _ 2 (by decide) o2 _))
    (inb_of _ (chk _ _ 3 (by decide) o3 _))
    (inb_of _ (chk _ _ 4 (by decide) o4 _))
    (inb_of _ (chk _ _ 5 (by decide) o5 _))
    (inb_of _ (chk _ _ 6 (by decide) o6 _))
    (inb_of _ (chk _ _ 7 (by decide) o7 _))
    (inb_of _ (chk _ _ 8 (by decide) o8 _))
    (inb_of _ (chk _ _ 9 (by decide) o9 _))
    (inb_of _ (chk _ _ 10 (by decide) o10 _))
    (inb_of _ (chk _ _ 11 (by decide) o11 _))
    (inb_of _ (chk _ _ 12 (by decide) o12 _))
    (inb_of _ (chk _ _ 13 (by decide) o13 _))
    (inb_of _ (chk _ _ 14 (by decide) o14 _))
    (inb_of _ (chk _ _ 15 (by decide) o15 _))

end Cert.Proof.KernelIdeal
-- ==== Proof.KernelIdealBody.lean ====
/- The body of one grid point: the loop over the row's chunks by an invariant, and the two results the point leaves as plain
   functions of the blocks it is given. -/
module

public import proofs.«01_k».proof.Proof.KernelIdealTrip

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

/-- The side conditions the body checks follow from the count being at most the list's length. -/
theorem chk1_of (v41 : Elt F .i32) (hc : v41.toInt ≤ 1024) : k0_chk1 v41 := by
  have in1 : ∀ (k : Fin (k0_t1_loop v41).trips) (s : ℕ), s < 16 → ∀ off : Fin 3 → ℕ, off = ![0, 0, 16 * k.val + s] → ∀ a, off a + S1x1x1.size a ≤ S1x1x1024.size a := by
    intro k s hs off ho a
    have hk : k.val < 64 := lt_of_lt_of_le k.isLt ((trips_main hc).le.trans (chunks_le hc))
    subst ho
    match a with
    | ⟨0, _⟩ => show 0 + 1 ≤ 1; omega
    | ⟨1, _⟩ => show 0 + 1 ≤ 1; omega
    | ⟨2, _⟩ => show 16 * k.val + s + 1 ≤ 1024; omega
  refine ⟨⟨ok_main hc, ?_, ?_, ?_, ?_, ?_, ?_, ?_, ?_, ?_, ?_, ?_, ?_, ?_, ?_, ?_, ?_, ok_rest hc, fun k => (Scf.rem_no_trip _ _ k).elim, fun k => (Scf.rem_no_trip _ _ k).elim, fun k => (Scf.rem_no_trip _ _ k).elim, fun k => (Scf.rem_no_trip _ _ k).elim, fun k => (Scf.rem_no_trip _ _ k).elim, fun k => (Scf.rem_no_trip _ _ k).elim, fun k => (Scf.rem_no_trip _ _ k).elim, fun k => (Scf.rem_no_trip _ _ k).elim, fun k => (Scf.rem_no_trip _ _ k).elim, fun k => (Scf.rem_no_trip _ _ k).elim, fun k => (Scf.rem_no_trip _ _ k).elim, fun k => (Scf.rem_no_trip _ _ k).elim, fun k => (Scf.rem_no_trip _ _ k).elim, fun k => (Scf.rem_no_trip _ _ k).elim⟩, fun k => (Scf.rem_no_trip _ _ k).elim, fun k => (Scf.rem_no_trip _ _ k).elim⟩
  · intro k; exact in1 k 0 (by decide) _ ((off_eq v41 hc k).1)
  · intro k; exact in1 k 1 (by decide) _ ((off_eq v41 hc k).2.1)
  · intro k; exact in1 k 2 (by decide) _ ((off_eq v41 hc k).2.2.1)
  · intro k; exact in1 k 3 (by decide) _ ((off_eq v41 hc k).2.2.2.1)
  · intro k; exact in1 k 4 (by decide) _ ((off_eq v41 hc k).2.2.2.2.1)
  · intro k; exact in1 k 5 (by decide) _ ((off_eq v41 hc k).2.2.2.2.2.1)
  · intro k; exact in1 k 6 (by decide) _ ((off_eq v41 hc k).2.2.2.2.2.2.1)
  · intro k; exact in1 k 7 (by decide) _ ((off_eq v41 hc k).2.2.2.2.2.2.2.1)
  · intro k; exact in1 k 8 (by decide) _ ((off_eq v41 hc k).2.2.2.2.2.2.2.2.1)
  · intro k; exact in1 k 9 (by decide) _ ((off_eq v41 hc k).2.2.2.2.2.2.2.2.2.1)
  · intro k; exact in1 k 10 (by decide) _ ((off_eq v41 hc k).2.2.2.2.2.2.2.2.2.2.1)
  · intro k; exact in1 k 11 (by decide) _ ((off_eq v41 hc k).2.2.2.2.2.2.2.2.2.2.2.1)
  · intro k; exact in1 k 12 (by decide) _ ((off_eq v41 hc k).2.2.2.2.2.2.2.2.2.2.2.2.1)
  · intro k; exact in1 k 13 (by decide) _ ((off_eq v41 hc k).2.2.2.2.2.2.2.2.2.2.2.2.2.1)
  · intro k; exact in1 k 14 (by decide) _ ((off_eq v41 hc k).2.2.2.2.2.2.2.2.2.2.2.2.2.2.1)
  · intro k; exact in1 k 15 (by decide) _ ((off_eq v41 hc k).2.2.2.2.2.2.2.2.2.2.2.2.2.2.2)

/-- The state after the first `k` chunks of a row, from a given state. -/
def rowSt (v13 : FVec F S1x256 .f32) (v14 v39 : IVec S16x256 32) (x2 : Vec F S1x1x1024 .i32) (x4 : Vec F S256x128 .bf16) (x7 : Vec F S1024x16x640 .bf16)
    (x11 : Vec F S256x512 .bf16) (S : St F) : ℕ → St F
  | 0 => S
  | k + 1 => chunkSt v13 v14 v39 x2 x4 x7 x11 k (rowSt v13 v14 v39 x2 x4 x7 x11 S k)

section Inv
variable (c : Dev nD) (i : grid0.Coords) (arg1 : Memref sig .tc .smem S256 .i32) (harg1 : arg1.IsWhole) (arg2 : Memref sig .tc .smem S1x1x1024 .i32) (harg2 : arg2.IsWhole) (arg3 : Memref sig .tc .vmem S16x16x512 .fp8e4m3) (harg3 : arg3.IsWhole) (arg4 : Memref sig .tc .vmem S256x128 .bf16) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1024x16x640 .bf16) (harg7 : arg7.IsWhole) (arg8 : Memref sig .tc .vmem S256x512 .f32) (harg8 : arg8.IsWhole) (arg9 : Memref sig .tc .vmem S1x1x256 .f32) (harg9 : arg9.IsWhole) (arg10 : Memref sig .tc .vmem S256x640 .bf16) (harg10 : arg10.IsWhole) (arg11 : Memref sig .tc .vmem S256x512 .bf16) (harg11 : arg11.IsWhole) (arg12 : Memref sig .tc .vmem S256x512 .f32) (harg12 : arg12.IsWhole) (arg0 : BitVec 32) (v13 : FVec F S1x256 .f32) (v14 : IVec S16x256 32) (v17 : IVec S16x256 32) (v36 : IVec S16x256 1) (v37 : IVec S16x256 32) (v41 : Elt F .i32) (k0_hw1 : k0_chk1 v41) (init : FVec F S1x256 .f32 × FVec F S1x256 .f32)
  (f2 : Buf (Elt F) (arg2.view.loc (c : Thread nD τ))) (f4 : Buf (Elt F) (arg4.view.loc (c : Thread nD τ))) (f7 : Buf (Elt F) (arg7.view.loc (c : Thread nD τ))) (f11 : Buf (Elt F) (arg11.view.loc (c : Thread nD τ))) (o : Buf (Elt F) (arg12.view.loc (c : Thread nD τ)))

abbrev invSt (k : ℕ) : St F := rowSt v13 v14 (k0_pay112 v17 v36 v37) (arg2.view.read (Elt F) f2) (arg4.view.read (Elt F) f4) (arg7.view.read (Elt F) f7) (arg11.view.read (Elt F) f11) ⟨init.1, init.2, (arg12.view.read (Elt F) o)⟩ k

/-- The accumulator's buffer after the first `k` chunks. -/
def accBuf : ℕ → Buf (Elt F) (arg12.view.loc (c : Thread nD τ))
  | 0 => o
  | k + 1 => harg12.unread (invSt c arg2 arg4 arg7 arg11 arg12 v13 v14 v17 v36 v37 init f2 f4 f7 f11 o (k + 1)).acc

theorem read_accBuf (k : ℕ) : arg12.view.read (Elt F) (accBuf c arg2 arg4 arg7 arg11 arg12 harg12 v13 v14 v17 v36 v37 init f2 f4 f7 f11 o k)
    = (invSt c arg2 arg4 arg7 arg11 arg12 v13 v14 v17 v36 v37 init f2 f4 f7 f11 o k).acc := by
  cases k with
  | zero => rfl
  | succ k => exact harg12.read_unread _

/-- What the words of a row must satisfy: the count is at most the list's length, and the places of its chunks name granules there are. -/
def WordsOK (v : BitVec 32) (x2 : Vec F S1x1x1024 .i32) : Prop :=
  v.toInt ≤ 1024 ∧ ∀ p < 16 * chunks v, (ent x2 p &&& 65535#32).toNat < 1024

set_option warn.classDefReducibility false in
/-- The invariant of the loop over the chunks: the carried values and the accumulator are the state after the chunks done. -/
@[sl_loop] def loopInv_k0_t1 : LoopInvTy_k0_t1 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg0 v13 v14 v17 v36 v37 v41 k0_hw1 init where
  inv k acc := iprop(⌜WordsOK v41 (arg2.view.read (Elt F) f2)⌝ ∗ (arg2.view.loc (c : Thread nD τ) ↦[arg2.view.set]{fullShare} f2) ∗ (arg4.view.loc (c : Thread nD τ) ↦[arg4.view.set]{fullShare} f4) ∗ (arg7.view.loc (c : Thread nD τ) ↦[arg7.view.set]{fullShare} f7) ∗ (arg11.view.loc (c : Thread nD τ) ↦[arg11.view.set]{fullShare} f11) ∗ (∃ f, (arg10.view.loc (c : Thread nD τ) ↦[arg10.view.set]{fullShare} f))
    ∗ (arg12.view.loc (c : Thread nD τ) ↦[arg12.view.set]{fullShare} (accBuf c arg2 arg4 arg7 arg11 arg12 harg12 v13 v14 v17 v36 v37 init f2 f4 f7 f11 o k))
    ∗ ⌜acc = ((invSt c arg2 arg4 arg7 arg11 arg12 v13 v14 v17 v36 v37 init f2 f4 f7 f11 o k).base, (invSt c arg2 arg4 arg7 arg11 arg12 v13 v14 v17 v36 v37 init f2 f4 f7 f11 o k).den)⌝)
  step k acc := by
    iintro ⟨%hw, H2, H4, H7, H11, ⟨%f10, H10⟩, H12, %ha⟩
    subst ha
    have ht : (k0_t1_loop v41).trips = chunks v41 := trips_main hw.1
    have hk : k.val < chunks v41 := lt_of_lt_of_eq k.isLt ht
    have he : ∀ s < 16, (ent (arg2.view.read (Elt F) f2) (16 * k.val + s) &&& 65535#32).toNat < 1024 := fun s hs => hw.2 _ (by omega)
    iapply (wp_wand_r Idealize.ShloMosaic.frame (wpE (defs₀ (F := F)) Variants.none (c : Thread nD τ) none) Set.univ)
    isplitl [H2 H4 H7 H11 H10 H12]
    · iapply (trip c i arg1 harg1 arg2 harg2 arg3 harg3 arg4 harg4 arg5 harg5 arg6 harg6 arg7 harg7 arg8 harg8 arg9 harg9 arg10 harg10 arg11 harg11 arg12 harg12 arg0 v13 v14 v17 v36 v37 v41 k0_hw1 f2 f4 f7 f10 f11 (accBuf c arg2 arg4 arg7 arg11 arg12 harg12 v13 v14 v17 v36 v37 init f2 f4 f7 f11 o k) k _ _ hw.1 he)
      iframe
    · iintro %r ⟨%hr, H2, H4, H7, H11, H10, ⟨%f, %hf, H12⟩⟩
      rw [read_accBuf] at hr hf
      obtain rfl := harg12.eq_unread hf
      iframe H2 H4 H7 H11 H10
      isplitr; · ipureintro; exact hw
      isplitl [H12]; · iexact H12
      ipureintro; exact hr

end Inv

/-! ## What a grid point leaves -/

/-- The row's count. -/
def cnt (x1 : Vec F S256 .i32) (i : grid0.Coords) : BitVec 32 := x1 (ix1 ⟨(i 0).val, (i 0).isLt⟩)

/-- The state after the row's chunks. -/
def endSt (v : BitVec 32) (x2 : Vec F S1x1x1024 .i32) (x3 : Vec F S16x16x512 .fp8e4m3) (x4 : Vec F S256x128 .bf16) (x5 : Vec F S1x1x256 .f32) (x7 : Vec F S1024x16x640 .bf16) : St F :=
  rowSt (k0_pay108 x5) (iota .tc S16x256 32 [0] iota_S16x256_d0_w32) (k0_pay112 k0_pay109 k0_pay110 k0_pay111) x2 x4 x7 (k0_pay106 x3)
    ⟨k0_pay113, k0_pay114, k0_pay107⟩ (chunks v)

/-- The attended values of the row's queries; -/
def outAt (v : BitVec 32) (x2 : Vec F S1x1x1024 .i32) (x3 : Vec F S16x16x512 .fp8e4m3) (x4 : Vec F S256x128 .bf16) (x5 : Vec F S1x1x256 .f32) (x7 : Vec F S1024x16x640 .bf16) : Vec F S256x512 .f32 :=
  k0_pay129 (endSt v x2 x3 x4 x5 x7).den (endSt v x2 x3 x4 x5 x7).acc

/-- and their log-sum-exp, less the log of the kept count. -/
def lseAt (v : BitVec 32) (x2 : Vec F S1x1x1024 .i32) (x3 : Vec F S16x16x512 .fp8e4m3) (x4 : Vec F S256x128 .bf16) (x5 x6 : Vec F S1x1x256 .f32) (x7 : Vec F S1024x16x640 .bf16) : Vec F S1x1x256 .f32 :=
  k0_pay1 (endSt v x2 x3 x4 x5 x7).base (k0_pay130 (endSt v x2 x3 x4 x5 x7).den) (Scalar.ofBits .f32 0x40000000#32) x6

/-- The invariant at the loop's end is that state. -/
theorem invSt_end (c : Dev nD) (arg2 : Memref sig .tc .smem S1x1x1024 .i32) (arg4 : Memref sig .tc .vmem S256x128 .bf16) (arg7 : Memref sig .tc .vmem S1024x16x640 .bf16) (arg11 : Memref sig .tc .vmem S256x512 .bf16) (arg12 : Memref sig .tc .vmem S256x512 .f32) (f2 : Buf (Elt F) (arg2.view.loc (c : Thread nD τ))) (f4 : Buf (Elt F) (arg4.view.loc (c : Thread nD τ))) (f7 : Buf (Elt F) (arg7.view.loc (c : Thread nD τ))) (f11 : Buf (Elt F) (arg11.view.loc (c : Thread nD τ))) (o : Buf (Elt F) (arg12.view.loc (c : Thread nD τ)))
    (v : BitVec 32) (x3 : Vec F S16x16x512 .fp8e4m3) (x5 : Vec F S1x1x256 .f32) {v13 : FVec F S1x256 .f32} (h13 : v13 = k0_pay108 x5)
    (h11 : (arg11.view.read (Elt F) f11) = k0_pay106 x3) (ho : (arg12.view.read (Elt F) o) = k0_pay107) {n : ℕ} (hn : n = chunks v) :
    invSt c arg2 arg4 arg7 arg11 arg12 v13 (iota .tc S16x256 32 [0] iota_S16x256_d0_w32) k0_pay109 k0_pay110 k0_pay111 (k0_pay113, k0_pay114) f2 f4 f7 f11 o n
      = endSt v (arg2.view.read (Elt F) f2) x3 (arg4.view.read (Elt F) f4) x5 (arg7.view.read (Elt F) f7) := by
  subst h13 hn
  unfold invSt endSt
  rw [h11, ho]

theorem invSt_run (c : Dev nD) (arg2 : Memref sig .tc .smem S1x1x1024 .i32) (arg3 : Memref sig .tc .vmem S16x16x512 .fp8e4m3) (arg4 : Memref sig .tc .vmem S256x128 .bf16) (arg7 : Memref sig .tc .vmem S1024x16x640 .bf16) (arg11 : Memref sig .tc .vmem S256x512 .bf16) (arg12 : Memref sig .tc .vmem S256x512 .f32) (f2 : Buf (Elt F) (arg2.view.loc (c : Thread nD τ))) (f3 : Buf (Elt F) (arg3.view.loc (c : Thread nD τ))) (f4 : Buf (Elt F) (arg4.view.loc (c : Thread nD τ))) (f7 : Buf (Elt F) (arg7.view.loc (c : Thread nD τ)))
    (v : BitVec 32) (x5 : Vec F S1x1x256 .f32) {v13 : FVec F S1x256 .f32} (h13 : v13 = k0_pay108 x5) {n : ℕ} (hn : n = chunks v) :
    invSt c arg2 arg4 arg7 arg11 arg12 v13 (iota .tc S16x256 32 [0] iota_S16x256_d0_w32) k0_pay109 k0_pay110 k0_pay111 (k0_pay113, k0_pay114) f2 f4 f7
      (arg11.view.writes (Elt F) arg11.view.junk [⟨Rect.unit (s := S256x512) ![0, 0] S256x512.size inb_S256x512_S256x512_0_0,
        k0_pay106 (arg3.view.readAt (Elt F) (Rect.unit (s := S16x16x512) ![0, 0, 0] S16x16x512.size inb_S16x16x512_S16x16x512_0_0_0).toLoadRect f3)⟩])
      (View.write (Elt F) (arg12.view.slice (Rect.unit (s := S256x512) ![0, 0] S256x512.size inb_S256x512_S256x512_0_0))
        (arg12.view.writes (Elt F) arg12.view.junk []) k0_pay107 Finset.univ) n
      = endSt v (arg2.view.read (Elt F) f2) (arg3.view.read (Elt F) f3) (arg4.view.read (Elt F) f4) x5 (arg7.view.read (Elt F) f7) := by
  refine invSt_end c arg2 arg4 arg7 arg11 arg12 f2 f4 f7 _ _ v (arg3.view.read (Elt F) f3) x5 h13 ?_ ?_ hn
  · exact (View.read_writes_full _ _ _ _ _).trans (congrArg k0_pay106 (View.readAt_full _ _ _))
  · exact View.read_writes_full arg12.view _ inb_S256x512_S256x512_0_0 _ []

set_option maxHeartbeats 4000000 in
theorem bodyRun (c : Dev nD) (i : grid0.Coords) (arg1 : Memref sig .tc .smem S256 .i32) (harg1 : arg1.IsWhole) (arg2 : Memref sig .tc .smem S1x1x1024 .i32) (harg2 : arg2.IsWhole) (arg3 : Memref sig .tc .vmem S16x16x512 .fp8e4m3) (harg3 : arg3.IsWhole) (arg4 : Memref sig .tc .vmem S256x128 .bf16) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1024x16x640 .bf16) (harg7 : arg7.IsWhole) (arg8 : Memref sig .tc .vmem S256x512 .f32) (harg8 : arg8.IsWhole) (arg9 : Memref sig .tc .vmem S1x1x256 .f32) (harg9 : arg9.IsWhole) (arg10 : Memref sig .tc .vmem S256x640 .bf16) (harg10 : arg10.IsWhole) (arg11 : Memref sig .tc .vmem S256x512 .bf16) (harg11 : arg11.IsWhole) (arg12 : Memref sig .tc .vmem S256x512 .f32) (harg12 : arg12.IsWhole) (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ)))
    (hw : WordsOK (cnt (arg1.view.read (Elt F) f1) i) (arg2.view.read (Elt F) f2)) (K : PUnit → sProp 𝕄) :
    (iprop((arg1.view.loc (c : Thread nD τ) ↦{fullShare.right} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12)
      ∗ (((arg1.view.loc (c : Thread nD τ) ↦{fullShare.right} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7)
        ∗ (∃ f, ⌜(arg8.view.read (Elt F) f) = outAt (cnt (arg1.view.read (Elt F) f1) i) (arg2.view.read (Elt F) f2) (arg3.view.read (Elt F) f3) (arg4.view.read (Elt F) f4) (arg5.view.read (Elt F) f5) (arg7.view.read (Elt F) f7)⌝ ∗ (arg8.view.loc (c : Thread nD τ) ↦[arg8.view.set]{fullShare} f))
        ∗ (∃ f, ⌜(arg9.view.read (Elt F) f) = lseAt (cnt (arg1.view.read (Elt F) f1) i) (arg2.view.read (Elt F) f2) (arg3.view.read (Elt F) f3) (arg4.view.read (Elt F) f4) (arg5.view.read (Elt F) f5) (arg6.view.read (Elt F) f6) (arg7.view.read (Elt F) f7)⌝ ∗ (arg9.view.loc (c : Thread nD τ) ↦[arg9.view.set]{fullShare} f))
        ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f))) -∗ K ⟨⟩)) : sProp 𝕄)
      ⊢ wp frame (wpE (defs₀ (F := F)) Variants.none (c : Thread nD τ) none) Set.univ (cc0_attend (F := F) i arg1 harg1 arg2 harg2 arg3 harg3 arg4 harg4 arg5 harg5 arg6 harg6 arg7 harg7 arg8 harg8 arg9 harg9 arg10 harg10 arg11 harg11 arg12 harg12) K := by
  iintro ⟨H1, H2, H3, H4, H5, H6, H7, H8, H9, H10, H11, H12, Hk⟩
  simp only [cc0_attend_eq_skeleton]; unfold cc0_attend_skel
  sl_exec
  have hr : bodyRun.sl.r_1 c i arg1 f1 = cnt (arg1.view.read (Elt F) f1) i := by
    refine congrArg (arg1.view.read (Elt F) f1) (funext fun a => Fin.ext ?_)
    match a with
    | ⟨0, _⟩ =>
      have hi : (i 0).val < 256 := (i 0).isLt
      show (BitVec.ofNat 32 (i 0).val).toNat + 1 * 0 = (i 0).val
      rw [BitVec.toNat_ofNat]; omega
  have hw' : WordsOK (bodyRun.sl.r_1 c i arg1 f1) (arg2.view.read (Elt F) f2) := by rw [hr]; exact hw
  have hchk : k0_chk1 (bodyRun.sl.r_1 c i arg1 f1) := chk1_of _ hw'.1
  have htr : (k0_t2_loop (bodyRun.sl.r_1 c i arg1 f1)).trips = 0 := Scf.rem_trips _ _
  sl_exec
  sl_step
  have hn : Scf.trips (k0_t1_loop (bodyRun.sl.r_1 c i arg1 f1)).lb (k0_t1_loop (bodyRun.sl.r_1 c i arg1 f1)).ub
      (k0_t1_loop (bodyRun.sl.r_1 c i arg1 f1)).st = chunks (cnt (arg1.view.read (Elt F) f1) i) := by rw [← hr]; exact trips_main hw'.1
  have h13 : bodyRun.sl.r c arg5 f5 = k0_pay108 (arg5.view.read (Elt F) f5) := congrArg k0_pay108 (View.readAt_full _ _ _)
  have hS := invSt_run c arg2 arg3 arg4 arg7 arg11 arg12 f2 f3 f4 f7 (cnt (arg1.view.read (Elt F) f1) i) (arg5.view.read (Elt F) f5) h13 hn
  iapply Hk
  iframe H1 H2 H3 H4 H5 H6 H7
  isplitl [H8]
  · iexists _
    isplitr
    rotate_left
    · iexact H8
    ipureintro
    refine (View.read_writes_full _ _ _ _ _).trans ?_
    refine congrArg₂ k0_pay129 (congrArg St.den hS) ((View.readAt_full _ _ _).trans ?_)
    refine (read_accBuf c arg2 arg4 arg7 arg11 arg12 harg12 _ _ _ _ _ _ _ _ _ _ _ _).trans (congrArg St.acc hS)
  isplitl [H9]
  · iexists _
    isplitr
    rotate_left
    · iexact H9
    ipureintro
    refine (View.read_writes_full _ _ _ _ _).trans ?_
    have e2 : bodyRun.sl.r_2 c i arg1 arg2 arg3 arg4 arg5 arg7 arg11 arg12 f1 f2 f3 f4 f5 f7 = _ := congrArg St.base hS
    have e3 : bodyRun.sl.r_3 c i arg1 arg2 arg3 arg4 arg5 arg7 arg11 arg12 f1 f2 f3 f4 f5 f7 = _ := congrArg (fun S => k0_pay130 (St.den S)) hS
    rw [e2, e3]
    exact congrArg (k0_pay1 _ _ _) (View.readAt_full _ _ _)
  isplitl [H10]
  · iexists _; iexact H10
  isplitl [H11]
  · iexists _; iexact H11
  iexists _; iexact H12
end Cert.Proof.KernelIdeal
-- ==== Proof.KernelIdealFrame.lean ====
/- The frame of the attention call: the data of its pipeline (each window holds its block, the two results hold what a grid
   point leaves), the body at every point, and the run. -/
module

public import proofs.«01_k».proof.Proof.KernelIdealBody
public import Idealize.ShloMosaic.Lib.Pipeline.FrameBody
public import Idealize.ShloMosaic.Lib.Claim

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays and the table as the region finds them -/

abbrev V (c : Dev nD) (b : Ref sig .tc) : Buf (Elt F) ((c : Thread nD τ).loc b) := m ((c : Thread nD τ).loc b)

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

def tbl : pre0.Contents (Elt F) := fun j => V m (0 : Dev nD) (pre0.ref j)
theorem V_pre (c : Dev nD) (j : Fin 1) : V m c (pre0.ref j) = tbl m j := by
  obtain rfl : c = 0 := Subsingleton.elim _ _; rfl
theorem ok : ok0 (F := F) (tbl m) := by unfold ok0; trivial
abbrev adm : (pcfg0 (F := F)).Adm := ⟨tbl m, ok m⟩
abbrev cfgM : Pipeline.Cfg sig Λ₀ := cfg0 (adm m)

abbrev tbM0_0 : Memref sig .tc .smem S256 .i32 := Memref.whole main_arg0
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-- The counts, read off the table. -/
def counts : Vec F S256 .i32 := tbM0_0.view.read (Elt F) (tbl m 0 : Buf (Elt F) (tbM0_0.view.loc ((0 : Dev nD) : Thread nD τ)))

/-- Window `w`'s block at point `t`, read off its array. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- The blocks of the six input windows. -/
abbrev blk0 (c : Dev nD) (t : Fin (cfgM m).N) : Vec F S1x1x1024 .i32 := iblk m c 0 t
abbrev blk1 (c : Dev nD) (t : Fin (cfgM m).N) : Vec F S16x16x512 .fp8e4m3 := iblk m c 1 t
abbrev blk2 (c : Dev nD) (t : Fin (cfgM m).N) : Vec F S256x128 .bf16 := iblk m c 2 t
abbrev blk3 (c : Dev nD) (t : Fin (cfgM m).N) : Vec F S1x1x256 .f32 := iblk m c 3 t
abbrev blk4 (c : Dev nD) (t : Fin (cfgM m).N) : Vec F S1x1x256 .f32 := iblk m c 4 t
abbrev blk5 (c : Dev nD) (t : Fin (cfgM m).N) : Vec F S1024x16x640 .bf16 := iblk m c 5 t

/-- The row of a grid point. -/
abbrev cnt_t (t : Fin (cfgM m).N) : BitVec 32 := cnt (counts m) (grid0.coords t)

/-- What a point leaves of the attended values -/
def outB (c : Dev nD) (t : Fin (cfgM m).N) : Vec F S256x512 .f32 := outAt (cnt_t m t) (blk0 m c t) (blk1 m c t) (blk2 m c t) (blk3 m c t) (blk5 m c t)
/-- and of their log-sum-exp. -/
def lseB (c : Dev nD) (t : Fin (cfgM m).N) : Vec F S1x1x256 .f32 := lseAt (cnt_t m t) (blk0 m c t) (blk1 m c t) (blk2 m c t) (blk3 m c t) (blk4 m c t) (blk5 m c t)

/-- The words of every row are as they must be. -/
def Hyps : Prop := ∀ (c : Dev nD) (t : Fin (cfgM m).N), WordsOK (cnt_t m t) (blk0 m c t)

/-! ## The pipeline's data -/

def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outB m c t
    | ⟨7, _⟩ => lseB m c t
  Φ _ := iprop(Pipeline.ΦA spec0 c ∗ Pipeline.ΦT pre0 (tbl m) c)
  q _ := fullShare
  owed _ := 0

theorem A_eq (c : Dev nD) (w : Fin (cfgM m).W) : (dats m 0 c).A w = V m c (Pipeline.arrRef spec0 w) := by
  dsimp only [dats]
theorem after0_0 (c : Dev nD) (t : Fin (cfgM m).N) : (dats m 0 c).after 0 t = iblk m c 0 t := by dsimp only [dats]; try rfl
theorem before0_0 (c : Dev nD) (t : Fin (cfgM m).N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem after0_1 (c : Dev nD) (t : Fin (cfgM m).N) : (dats m 0 c).after 1 t = iblk m c 1 t := by dsimp only [dats]; try rfl
theorem before0_1 (c : Dev nD) (t : Fin (cfgM m).N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem after0_2 (c : Dev nD) (t : Fin (cfgM m).N) : (dats m 0 c).after 2 t = iblk m c 2 t := by dsimp only [dats]; try rfl
theorem before0_2 (c : Dev nD) (t : Fin (cfgM m).N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem after0_3 (c : Dev nD) (t : Fin (cfgM m).N) : (dats m 0 c).after 3 t = iblk m c 3 t := by dsimp only [dats]; try rfl
theorem before0_3 (c : Dev nD) (t : Fin (cfgM m).N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem after0_4 (c : Dev nD) (t : Fin (cfgM m).N) : (dats m 0 c).after 4 t = iblk m c 4 t := by dsimp only [dats]; try rfl
theorem before0_4 (c : Dev nD) (t : Fin (cfgM m).N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem after0_5 (c : Dev nD) (t : Fin (cfgM m).N) : (dats m 0 c).after 5 t = iblk m c 5 t := by dsimp only [dats]; try rfl
theorem before0_5 (c : Dev nD) (t : Fin (cfgM m).N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem after0_6 (c : Dev nD) (t : Fin (cfgM m).N) : (dats m 0 c).after 6 t = outB m c t := by dsimp only [dats]; try rfl
theorem after0_7 (c : Dev nD) (t : Fin (cfgM m).N) : (dats m 0 c).after 7 t = lseB m c t := by dsimp only [dats]; try rfl

/-! ## The body at every point -/

abbrev ms0_0 (t : Fin (cfgM m).N) := ((cfgM m).win 0).stage ((cfgM m).slots t 0)
abbrev ms0_1 (t : Fin (cfgM m).N) := ((cfgM m).win 1).stage ((cfgM m).slots t 1)
abbrev ms0_2 (t : Fin (cfgM m).N) := ((cfgM m).win 2).stage ((cfgM m).slots t 2)
abbrev ms0_3 (t : Fin (cfgM m).N) := ((cfgM m).win 3).stage ((cfgM m).slots t 3)
abbrev ms0_4 (t : Fin (cfgM m).N) := ((cfgM m).win 4).stage ((cfgM m).slots t 4)
abbrev ms0_5 (t : Fin (cfgM m).N) := ((cfgM m).win 5).stage ((cfgM m).slots t 5)
abbrev ms0_6 (t : Fin (cfgM m).N) := ((cfgM m).win 6).stage ((cfgM m).slots t 6)
abbrev ms0_7 (t : Fin (cfgM m).N) := ((cfgM m).win 7).stage ((cfgM m).slots t 7)

abbrev bodyAt0 (a : (pcfg0 (F := F)).Adm) (t : Fin (cfg0 a).N) : Prog (TpuEff nD τ sig (Elt F) Λ₀ .tc) PUnit :=
  cc0_attend (grid0.coords t) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (Memref.whole cc0_scratch0) (Memref.isWhole_whole _) (Memref.whole cc0_scratch1) (Memref.isWhole_whole _) (Memref.whole cc0_scratch2) (Memref.isWhole_whole _)

def bodyPre (c : Dev nD) (t : Fin (cfgM m).N) : sProp 𝕄 :=
  iprop((dats m 0 c).Φ t.castSucc ∗ (dats m 0 c).owesAt () t.castSucc
    ∗ (∃ d, owns (c : Thread nD τ) (ms0_0 m t) fullShare ((dats m 0 c).before 0 t d))
    ∗ (∃ d, owns (c : Thread nD τ) (ms0_1 m t) fullShare ((dats m 0 c).before 1 t d))
    ∗ (∃ d, owns (c : Thread nD τ) (ms0_2 m t) fullShare ((dats m 0 c).before 2 t d))
    ∗ (∃ d, owns (c : Thread nD τ) (ms0_3 m t) fullShare ((dats m 0 c).before 3 t d))
    ∗ (∃ d, owns (c : Thread nD τ) (ms0_4 m t) fullShare ((dats m 0 c).before 4 t d))
    ∗ (∃ d, owns (c : Thread nD τ) (ms0_5 m t) fullShare ((dats m 0 c).before 5 t d))
    ∗ (∃ d, owns (c : Thread nD τ) (ms0_6 m t) fullShare ((dats m 0 c).before 6 t d))
    ∗ (∃ d, owns (c : Thread nD τ) (ms0_7 m t) fullShare ((dats m 0 c).before 7 t d)))

def bodyPost (c : Dev nD) (t : Fin (cfgM m).N) : sProp 𝕄 :=
  iprop((dats m 0 c).Φ t.succ ∗ (dats m 0 c).owesAt () t.succ
    ∗ owns (c : Thread nD τ) (ms0_0 m t) fullShare ((dats m 0 c).after 0 t)
    ∗ owns (c : Thread nD τ) (ms0_1 m t) fullShare ((dats m 0 c).after 1 t)
    ∗ owns (c : Thread nD τ) (ms0_2 m t) fullShare ((dats m 0 c).after 2 t)
    ∗ owns (c : Thread nD τ) (ms0_3 m t) fullShare ((dats m 0 c).after 3 t)
    ∗ owns (c : Thread nD τ) (ms0_4 m t) fullShare ((dats m 0 c).after 4 t)
    ∗ owns (c : Thread nD τ) (ms0_5 m t) fullShare ((dats m 0 c).after 5 t)
    ∗ owns (c : Thread nD τ) (ms0_6 m t) fullShare ((dats m 0 c).after 6 t)
    ∗ owns (c : Thread nD τ) (ms0_7 m t) fullShare ((dats m 0 c).after 7 t))

theorem whole_pt (c : Dev nD) (b : Ref sig .tc) (f : Buf (Elt F) ((c : Thread nD τ).loc b)) :
    (((Memref.whole b).view.loc (c : Thread nD τ) ↦[(Memref.whole b).view.set]{fullShare} f) : sProp 𝕄) = ((c : Thread nD τ).loc b ↦{fullShare} f) := by
  rw [show (Memref.whole b).view.set = Finset.univ from View.set_whole _]

set_option maxHeartbeats 2000000 in
theorem sound_body (hH : Hyps m) (c : Dev nD) (t : Fin (cfgM m).N) :
    bodyPre m c t ⊢ wp frame (wpE (defs₀ (F := F)) Variants.none c none) Set.univ (bodyAt0 (adm m) t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [show (dats m 0 c).Φ t.castSucc = iprop(Pipeline.ΦA spec0 c ∗ Pipeline.ΦT pre0 (tbl m) c) from rfl, PhiT0_eq]
  unfold Pipeline.ΦA
  rw [scopedRest0_eq]
  unfold owns
  iintro ⟨⟨⟨⟨⟨%g0, G0⟩, ⟨%g1, G1⟩, ⟨%g2, G2⟩⟩, HR⟩, HT0⟩, Ho, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩, ⟨%d7, %f7, %h7, H7⟩⟩
  iapply (bodyRun c (grid0.coords t) (Memref.whole main_arg0) (Memref.isWhole_whole _) (spec0_0.stage ((cfgM m).slots t 0)) (hstage0_0 (((cfgM m).slots t 0).cast nbuf0_0)) (spec0_1.stage ((cfgM m).slots t 1)) (hstage0_1 (((cfgM m).slots t 1).cast nbuf0_1)) (spec0_2.stage ((cfgM m).slots t 2)) (hstage0_2 (((cfgM m).slots t 2).cast nbuf0_2)) (spec0_3.stage ((cfgM m).slots t 3)) (hstage0_3 (((cfgM m).slots t 3).cast nbuf0_3)) (spec0_4.stage ((cfgM m).slots t 4)) (hstage0_4 (((cfgM m).slots t 4).cast nbuf0_4)) (spec0_5.stage ((cfgM m).slots t 5)) (hstage0_5 (((cfgM m).slots t 5).cast nbuf0_5)) (spec0_6.stage ((cfgM m).slots t 6)) (hstage0_6 (((cfgM m).slots t 6).cast nbuf0_6)) (spec0_7.stage ((cfgM m).slots t 7)) (hstage0_7 (((cfgM m).slots t 7).cast nbuf0_7)) (Memref.whole cc0_scratch0) (Memref.isWhole_whole _) (Memref.whole cc0_scratch1) (Memref.isWhole_whole _) (Memref.whole cc0_scratch2) (Memref.isWhole_whole _)
    (tbl m 0) f0 f1 f2 f3 f4 f5 f6 f7 g0 g1 g2 (by have := hH c t; unfold cnt_t counts at this; exact h0 ▸ this) _)
  isplitl [HT0]; · iexact HT0
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [G0]; · iapply (Entails.of_eq (whole_pt c cc0_scratch0 g0).symm); iexact G0
  isplitl [G1]; · iapply (Entails.of_eq (whole_pt c cc0_scratch1 g1).symm); iexact G1
  isplitl [G2]; · iapply (Entails.of_eq (whole_pt c cc0_scratch2 g2).symm); iexact G2
  iintro ⟨HT0, H0, H1, H2, H3, H4, H5, ⟨%o6, %e6, H6⟩, ⟨%o7, %e7, H7⟩, ⟨%s0, G0⟩, ⟨%s1, G1⟩, ⟨%s2, G2⟩⟩
  isplitl [HT0 HR G0 G1 G2]
  · isplitl [HR G0 G1 G2]
    · isplitl [G0 G1 G2]
      · isplitl [G0]; · iexists s0; iapply (Entails.of_eq (whole_pt c cc0_scratch0 s0)); iexact G0
        isplitl [G1]; · iexists s1; iapply (Entails.of_eq (whole_pt c cc0_scratch1 s1)); iexact G1
        iexists s2; iapply (Entails.of_eq (whole_pt c cc0_scratch2 s2)); iexact G2
      iexact HR
    iexact HT0
  isplitl [Ho]; · iexact Ho
  isplitl [H0]
  · iexists f0; isplitr; · ipureintro; exact h0
    iexact H0
  isplitl [H1]
  · iexists f1; isplitr; · ipureintro; exact h1
    iexact H1
  isplitl [H2]
  · iexists f2; isplitr; · ipureintro; exact h2
    iexact H2
  isplitl [H3]
  · iexists f3; isplitr; · ipureintro; exact h3
    iexact H3
  isplitl [H4]
  · iexists f4; isplitr; · ipureintro; exact h4
    iexact H4
  isplitl [H5]
  · iexists f5; isplitr; · ipureintro; exact h5
    iexact H5
  isplitl [H6]
  · iexists o6; isplitr
    · ipureintro; exact e6.trans (by unfold outB cnt_t counts blk0 blk1 blk2 blk3 blk5; exact congr (congr (congr (congr (congrArg (outAt _) h0) h1) h2) h3) h5)
    iexact H6
  · iexists o7; isplitr
    · ipureintro; exact e7.trans (by unfold lseB cnt_t counts blk0 blk1 blk2 blk3 blk4 blk5; exact congr (congr (congr (congr (congr (congrArg (lseAt _) h0) h1) h2) h3) h4) h5)
    iexact H7

theorem defs₀_row (t : Fin (cfgM m).N) :
    defs₀ (F := F) .tc (cfgM m).body ((cfgM m).bodyArgs t ((cfgM m).slots t)) = bodyAt0 (adm m) t := by
  unfold defs₀; rw [Defs.onTc_tc]

theorem body_obligation (hH : Hyps m) (c : Dev nD) : BodyObligation (dats (F := F) m 0 c) (defs₀ (F := F)) Variants.none () Set.univ := fun t => by
  rw [bigSep_W0, bigSep_W0, defs₀_row m]
  exact triple_restated (sound_body m hH c t) rfl .rfl fun _ => .rfl

/-! ## The run and the frame -/

set_option backward.isDefEq.respectTransparency.types false in
theorem run_main (hH : Hyps m) : θ_run defs (onTc (τ := τ) (main (F := F))) (s₀ m ρ) (fun r => Pipeline.FramePost (Pipeline.pin pcfgs fun _ => adm m) (dats m) 0 (V m) r ∧ r.2.sem = fun _ => 0) :=
  Pipeline.θ_run_frameP (Q' := _) pcfgs (fun _ => adm m) (dats m) (0 : Fin 1) launch0 defs₀ Variants.none m ρ main
    (hbody := fun c => (body_obligation m hH c).loose) (hshare := fun c => (dats m 0 c).share_full fun _ => rfl)
    (howed := fun _ _ => rfl) (V := V m) (hmain := hmain m Variants.none) (hA := A_eq m) (hpf := V_pre m) (hΦ := fun _ _ => rfl)

/-- What the run says of a window's array. -/
theorem arr_of {r : PUnit × MemSt nD τ sig (Elt F)} (h : Pipeline.FramePost (Pipeline.pin pcfgs fun _ => adm m) (dats m) 0 (V m) r) (c : Dev nD) (w : Fin (cfgM m).W) :
    r.2.mem (((cfgM m).spec w).arr.view.loc (c.tc : Thread nD τ)) = (dats m 0 c).arrAt w (cfgM m).N := (h c).1 w

theorem arr_in {r : PUnit × MemSt nD τ sig (Elt F)} (h : Pipeline.FramePost (Pipeline.pin pcfgs fun _ => adm m) (dats m) 0 (V m) r) (c : Dev nD) (w : Fin (cfgM m).W)
    (hin : ((cfgM m).win w).isOut = false) : r.2.mem (((cfgM m).spec w).arr.view.loc (c.tc : Thread nD τ)) = V m c (Pipeline.arrRef spec0 w) :=
  (arr_of m h c w).trans (((dats m 0 c).arrAt_in w hin _).trans (A_eq m c w))

theorem args_of {r : PUnit × MemSt nD τ sig (Elt F)} (h : Pipeline.FramePost (Pipeline.pin pcfgs fun _ => adm m) (dats m) 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6) :=
  ⟨(h c).2 main_arg0 (by decide : main_arg0 ∈ Pipeline.restRefs sig spec0), arr_in m h c 0 rfl, arr_in m h c 1 rfl, arr_in m h c 2 rfl, arr_in m h c 3 rfl, arr_in m h c 4 rfl, arr_in m h c 5 rfl⟩

theorem frame (hH : Hyps m) : θ_run defs (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6))
    ∧ r.2.sem = fun _ => 0) :=
  (θ_run defs _ _).mono (fun _ h => ⟨fun c => args_of m h.1 c, h.2⟩) (run_main m ρ hH)

end Cert.Proof.KernelIdeal

end
-- ==== Proof.KernelIdealBlocks.lean ====
/- The blocks of the input windows as the arguments' elements, and what the precondition says of the words of every row. -/
module

public import proofs.«01_k».proof.Proof.KernelIdealFrame
public import proofs.«01_k».proof.Proof.Listed
public import Idealize.ShloMosaic.Lib.Pipeline.Value

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The row of a grid point. -/
def rowOf (t : Fin (cfgM m).N) : Fin 256 := ⟨(grid0.coords t 0).val, (grid0.coords t 0).isLt⟩

theorem row_word (t : Fin (cfgM m).N) : (BitVec.ofNat 32 (grid0.coords t 0).val).toNat = (rowOf m t).val := by
  have := (rowOf m t).isLt
  rw [BitVec.toNat_ofNat]
  exact Nat.mod_eq_of_lt (lt_trans this (by decide))

theorem cnt_eq (t : Fin (cfgM m).N) : cnt_t m t = m (((0 : Dev nD) : Thread nD τ).loc main_arg0) (ix1 (rowOf m t)) := by
  unfold cnt_t cnt counts
  rfl

theorem blk0_apply (c : Dev nD) (t : Fin (cfgM m).N) (p : Fin 1024) :
    blk0 m c t (ix3 (0 : Fin 1) (0 : Fin 1) p) = m ((c : Thread nD τ).loc main_arg1) (ix3 (rowOf m t) (0 : Fin 1) p) := by
  refine congrArg (V m c (Pipeline.arrRef spec0 0)) (funext fun a => Fin.ext ?_)
  refine (Pipeline.Window.rect_emb_val ((cfgM m).win 0) t (ix3 (0 : Fin 1) (0 : Fin 1) p) a rfl).trans ?_
  match a with
  | ⟨0, _⟩ =>
    have h := row_word m t
    show (BitVec.ofNat 32 (grid0.coords t 0).val).toNat * 1 + 0 = (rowOf m t).val
    rw [h]; omega
  | ⟨1, _⟩ => show 0 * 1 + 0 = 0; omega
  | ⟨2, _⟩ => show 0 * 1024 + p.val = p.val; omega
theorem blk1_apply (c : Dev nD) (t : Fin (cfgM m).N) (q : Fin 16) (h : Fin 16) (r : Fin 512) :
    blk1 m c t (ix3 q h r) = m ((c : Thread nD τ).loc main_arg2) (ix3 (⟨16 * (rowOf m t).val + q.val, by have := (rowOf m t).isLt; omega⟩ : Fin 4096) h r) := by
  refine congrArg (V m c (Pipeline.arrRef spec0 1)) (funext fun a => Fin.ext ?_)
  refine (Pipeline.Window.rect_emb_val ((cfgM m).win 1) t (ix3 q h r) a rfl).trans ?_
  match a with
  | ⟨0, _⟩ =>
    have h := row_word m t
    show (BitVec.ofNat 32 (grid0.coords t 0).val).toNat * 16 + q.val = 16 * (rowOf m t).val + q.val
    rw [h]; omega
  | ⟨1, _⟩ => show 0 * 16 + h.val = h.val; omega
  | ⟨2, _⟩ => show 0 * 512 + r.val = r.val; omega
theorem blk2_apply (c : Dev nD) (t : Fin (cfgM m).N) (q : Fin 256) (r : Fin 128) :
    blk2 m c t (ix2 q r) = m ((c : Thread nD τ).loc main_arg3) (ix2 (⟨256 * (rowOf m t).val + q.val, by have := (rowOf m t).isLt; omega⟩ : Fin 65536) r) := by
  refine congrArg (V m c (Pipeline.arrRef spec0 2)) (funext fun a => Fin.ext ?_)
  refine (Pipeline.Window.rect_emb_val ((cfgM m).win 2) t (ix2 q r) a rfl).trans ?_
  match a with
  | ⟨0, _⟩ =>
    have h := row_word m t
    show (BitVec.ofNat 32 (grid0.coords t 0).val).toNat * 256 + q.val = 256 * (rowOf m t).val + q.val
    rw [h]; omega
  | ⟨1, _⟩ => show 0 * 128 + r.val = r.val; omega
theorem blk3_apply (c : Dev nD) (t : Fin (cfgM m).N) (q : Fin 256) :
    blk3 m c t (ix3 (0 : Fin 1) (0 : Fin 1) q) = m ((c : Thread nD τ).loc main_arg4) (ix3 (rowOf m t) (0 : Fin 1) q) := by
  refine congrArg (V m c (Pipeline.arrRef spec0 3)) (funext fun a => Fin.ext ?_)
  refine (Pipeline.Window.rect_emb_val ((cfgM m).win 3) t (ix3 (0 : Fin 1) (0 : Fin 1) q) a rfl).trans ?_
  match a with
  | ⟨0, _⟩ =>
    have h := row_word m t
    show (BitVec.ofNat 32 (grid0.coords t 0).val).toNat * 1 + 0 = (rowOf m t).val
    rw [h]; omega
  | ⟨1, _⟩ => show 0 * 1 + 0 = 0; omega
  | ⟨2, _⟩ => show 0 * 256 + q.val = q.val; omega
theorem blk4_apply (c : Dev nD) (t : Fin (cfgM m).N) (q : Fin 256) :
    blk4 m c t (ix3 (0 : Fin 1) (0 : Fin 1) q) = m ((c : Thread nD τ).loc main_arg5) (ix3 (rowOf m t) (0 : Fin 1) q) := by
  refine congrArg (V m c (Pipeline.arrRef spec0 4)) (funext fun a => Fin.ext ?_)
  refine (Pipeline.Window.rect_emb_val ((cfgM m).win 4) t (ix3 (0 : Fin 1) (0 : Fin 1) q) a rfl).trans ?_
  match a with
  | ⟨0, _⟩ =>
    have h := row_word m t
    show (BitVec.ofNat 32 (grid0.coords t 0).val).toNat * 1 + 0 = (rowOf m t).val
    rw [h]; omega
  | ⟨1, _⟩ => show 0 * 1 + 0 = 0; omega
  | ⟨2, _⟩ => show 0 * 256 + q.val = q.val; omega
theorem blk5_apply (c : Dev nD) (t : Fin (cfgM m).N) (g : Fin 1024) (k : Fin 16) (r : Fin 640) :
    blk5 m c t (ix3 g k r) = m ((c : Thread nD τ).loc main_arg6) (ix3 g k r) := by
  refine congrArg (V m c (Pipeline.arrRef spec0 5)) (funext fun a => Fin.ext ?_)
  refine (Pipeline.Window.rect_emb_val ((cfgM m).win 5) t (ix3 g k r) a rfl).trans ?_
  match a with
  | ⟨0, _⟩ => show 0 * 1024 + g.val = g.val; omega
  | ⟨1, _⟩ => show 0 * 16 + k.val = k.val; omega
  | ⟨2, _⟩ => show 0 * 640 + r.val = r.val; omega

/-- The words of every row are as they must be, under the precondition. -/
theorem hyps_of_pre (h : ∀ c : Dev nD, (Cert.Pre_listed.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))).1 = (fun _ => 1#1)
    ∧ (Cert.Pre_listed.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))).2.1 = (fun _ => 1#1)) : Hyps m := by
  intro c t
  have hc := (h c).1
  have hg := (h c).2
  obtain rfl : c = 0 := Subsingleton.elim _ _
  have h1 := Cert.Proof.count_le hc (rowOf m t)
  refine ⟨by rw [cnt_eq]; exact h1, fun p hp => ?_⟩
  rw [cnt_eq] at hp
  have hp' : p < 1024 := by have := chunks_le h1; omega
  have := Cert.Proof.granule_lt hg (rowOf m t) ⟨p, hp'⟩ hp
  have e : ent (blk0 m 0 t) p = m (((0 : Dev nD) : Thread nD τ).loc main_arg1) (ix3 (rowOf m t) (0 : Fin 1) ⟨p, hp'⟩) := by
    unfold ent
    refine (congrArg (fun q => blk0 m 0 t (ix3 0 0 q)) (Fin.ext (Nat.mod_eq_of_lt hp') : (⟨p % 1024, _⟩ : Fin 1024) = ⟨p, hp'⟩)).trans ?_
    exact blk0_apply m 0 t ⟨p, hp'⟩
  rw [e]; exact this

end Cert.Proof.KernelIdeal

end
-- ==== Proof.KernelIdealPay.lean ====
/- Over the extended reals, what one chunk does to the state of the online softmax, read at one query. -/
module

public import proofs.«01_k».proof.Proof.KernelIdealBody
public import Idealize.ShloMosaic.Lib.Pointwise

@[expose] public section

set_option maxRecDepth 16384

noncomputable section

namespace Cert.Proof.KernelIdeal

open Cert.KernelIdeal Cert.KernelIdeal.Gen
open Idealize.ShloMosaic Idealize.ShloMosaic.Pointwise

/-- The rotary products. -/
theorem pay37_apply (a b : Vec Ideal S256x128 .bf16) (y q : Fin 256) :
    k0_pay37 (F := Ideal) a b (ix2 y q) = ∑ r : Fin 128, a (ix2 y r) * b (ix2 q r) := by
  pointwise [k0_pay37]

/-- The latent products, scaled by the query's scale. -/
theorem pay38_apply (v : FVec Ideal S1x256 .f32) (a b : Vec Ideal S256x512 .bf16) (y q : Fin 256) :
    k0_pay38 (F := Ideal) v a b (ix2 y q) = v (ix2 0 q) * ∑ r : Fin 512, a (ix2 y r) * b (ix2 q r) := by
  pointwise [k0_pay38]

theorem pay39_apply (a b : FVec Ideal S256x256 .f32) (y q : Fin 256) :
    k0_pay39 (F := Ideal) a b (ix2 y q) = b (ix2 y q) + Ideal.ofBits .f32 0x3DD53B95#32 * a (ix2 y q) := by
  pointwise [k0_pay39]

theorem pay117_apply (M : FVec Ideal S1x256 .f32) (sc : FVec Ideal S256x256 .f32) (q : Fin 256) :
    k0_pay117 (F := Ideal) M sc (ix2 0 q) = max (M (ix2 0 q)) (Ideal.liftRound Int.ceil
      (Finset.univ.fold max (Ideal.ofBits .f32 0xFF800000#32) fun y : Fin 256 => sc (ix2 y q))) := by
  pointwise [k0_pay117]

theorem pay118_apply (sc : FVec Ideal S256x256 .f32) (M : FVec Ideal S1x256 .f32) (y q : Fin 256) :
    k0_pay118 (F := Ideal) sc M (ix2 y q) = Ideal.exp2 (sc (ix2 y q) - M (ix2 0 q)) := by
  pointwise [k0_pay118]
  rfl

theorem pay119_apply (a b : FVec Ideal S1x256 .f32) (q : Fin 256) :
    k0_pay119 (F := Ideal) a b (ix2 0 q) = a (ix2 0 q) - b (ix2 0 q) := by
  pointwise [k0_pay119]

theorem pay120_apply (P : FVec Ideal S256x256 .f32) (R : FVec Ideal S1x256 .f32) (acc : Vec Ideal S256x512 .f32) (lat : Vec Ideal S256x512 .bf16)
    (q : Fin 256) (r : Fin 512) :
    k0_pay120 (F := Ideal) P R acc lat (ix2 q r) = acc (ix2 q r) * R (ix2 0 q) + ∑ y : Fin 256, P (ix2 y q) * lat (ix2 y r) := by
  pointwise [k0_pay120]

theorem pay121_apply (d : FVec Ideal S1x256 .f32) (P : FVec Ideal S256x256 .f32) (R : FVec Ideal S1x256 .f32) (q : Fin 256) :
    k0_pay121 (F := Ideal) d P R (ix2 0 q) = d (ix2 0 q) * R (ix2 0 q) + ∑ y : Fin 256, P (ix2 y q) := by
  pointwise [k0_pay121]

theorem pay106_apply (x : Vec Ideal S16x16x512 .fp8e4m3) (q : Fin 256) (r : Fin 512) :
    k0_pay106 (F := Ideal) x (ix2 q r) = x (ix3 ⟨q.val / 16, by omega⟩ ⟨q.val % 16, by omega⟩ r) := by
  pointwise [k0_pay106]

theorem pay107_apply (q : Fin 256) (r : Fin 512) : k0_pay107 (F := Ideal) (ix2 q r) = 0 := by
  pointwise [k0_pay107]

theorem pay108_apply (x : Vec Ideal S1x1x256 .f32) (q : Fin 256) :
    k0_pay108 (F := Ideal) x (ix2 0 q) = x (ix3 0 0 q) * Ideal.ofBits .f32 0x3DD53B95#32 := by
  pointwise [k0_pay108]

theorem pay113_apply (q : Fin 256) : k0_pay113 (F := Ideal) (ix2 0 q) = Ideal.ofBits .f32 0xF149F2CA#32 := by
  pointwise [k0_pay113]

theorem pay114_apply (q : Fin 256) : k0_pay114 (F := Ideal) (ix2 0 q) = 0 := by
  pointwise [k0_pay114]

theorem pay129_apply (d : FVec Ideal S1x256 .f32) (acc : Vec Ideal S256x512 .f32) (q : Fin 256) (r : Fin 512) :
    k0_pay129 (F := Ideal) d acc (ix2 q r) = Ideal.div (acc (ix2 q r)) (d (ix2 0 q)) := by
  pointwise [k0_pay129]

theorem pay130_apply (d : FVec Ideal S1x256 .f32) (q : Fin 256) : k0_pay130 (F := Ideal) d (ix2 0 q) = Ideal.log (d (ix2 0 q)) := by
  pointwise [k0_pay130]

theorem pay1_apply (b l : FVec Ideal S1x256 .f32) (two : Ideal .f32) (x : Vec Ideal S1x1x256 .f32) (q : Fin 256) :
    k0_pay1 (F := Ideal) b l two x (ix3 0 0 q)
      = (b (ix2 0 q) + Ideal.div (l (ix2 0 q)) (Ideal.log two)) * Ideal.ofBits .f32 0x3F317218#32 - Ideal.log (x (ix3 0 0 q)) := by
  pointwise [k0_pay1]

end Cert.Proof.KernelIdeal
-- ==== Proof.Softmax.lean ====
/- The algebra of the online softmax over the extended reals: scores and values arrive in chunks of 256; what is kept is a base
   of the exponents that is at least every score so far, the sum of the weights at that base, and the weighted sum of the values.
   At the end the quotient and the logarithm do not depend on the base. -/
module

public import Idealize.ShloMosaic.PureOps.Ideal
public import Mathlib.Analysis.SpecialFunctions.Pow.Real

@[expose] public section

noncomputable section

namespace Cert.Proof.Softmax

open Idealize.ShloMosaic

/-- A weight: a power of two. -/
abbrev E (x : EReal) : EReal := Ideal.exp2 x

theorem E_nonneg (x : EReal) : 0 ≤ E x := by
  induction x with
  | bot => exact le_refl _
  | top => exact le_top
  | coe r => exact EReal.coe_nonneg.mpr (Real.rpow_nonneg (by norm_num) r)

/-- A base below the next one shrinks by a finite factor. -/
theorem E_sub_ne_top {m m' : EReal} (h : m ≠ ⊥) (hm : m ≤ m') : E (m - m') ≠ ⊤ := by
  induction m with
  | bot => exact absurd rfl h
  | top => obtain rfl := top_le_iff.mp hm; exact EReal.zero_ne_top
  | coe r =>
    induction m' with
    | bot => exact absurd (le_bot_iff.mp hm) h
    | top => exact EReal.zero_ne_top
    | coe r' => rw [← EReal.coe_sub]; exact EReal.coe_ne_top _

/-- A weight at one base, from the weight at a smaller base. -/
theorem E_shift {m m' : EReal} (s : EReal) (h : m ≠ ⊥) (hm : m ≤ m') : E (s - m) * E (m - m') = E (s - m') := by
  induction m with
  | bot => exact absurd rfl h
  | top =>
    obtain rfl := top_le_iff.mp hm
    rw [EReal.sub_top, EReal.sub_top]; exact mul_zero _
  | coe r =>
    induction m' with
    | bot => exact absurd (le_bot_iff.mp hm) h
    | top => rw [EReal.sub_top, EReal.sub_top]; exact mul_zero _
    | coe r' =>
      rw [← EReal.coe_sub]
      induction s with
      | bot => rw [EReal.bot_sub, EReal.bot_sub]; exact zero_mul _
      | top => rw [EReal.top_sub_coe, EReal.top_sub_coe]; exact EReal.top_mul_coe_of_pos (Real.rpow_pos_of_pos (by norm_num) _)
      | coe x =>
        rw [← EReal.coe_sub, ← EReal.coe_sub]
        show ((Real.rpow 2 (x - r) : ℝ) : EReal) * ((Real.rpow 2 (r - r') : ℝ) : EReal) = ((Real.rpow 2 (x - r') : ℝ) : EReal)
        rw [← EReal.coe_mul]
        refine congrArg _ ?_
        have := Real.rpow_add (x := 2) (by norm_num) (x - r) (r - r')
        rw [show x - r + (r - r') = x - r' by ring] at this
        exact this.symm

/-- A finite nonnegative factor goes into a sum. -/
theorem sum_mul {ι : Type*} (s : Finset ι) (f : ι → EReal) {c : EReal} (h0 : 0 ≤ c) (ht : c ≠ ⊤) : (∑ k ∈ s, f k) * c = ∑ k ∈ s, f k * c := by
  classical
  induction s using Finset.induction_on with
  | empty => simp
  | insert a s ha ih => rw [Finset.sum_insert ha, Finset.sum_insert ha, EReal.right_distrib_of_nonneg_of_ne_top h0 ht, ih]

/-- What is kept: the base is at least every score, is infinite only if a score is, and the two sums are taken at it. -/
structure Inv (s v : ℕ → EReal) (n : ℕ) (m d : EReal) : Prop where
  ne_bot : m ≠ ⊥
  le : ∀ k < n, s k ≤ m
  top : m = ⊤ → ∃ k < n, s k = ⊤
  den : d = ∑ k ∈ Finset.range n, E (s k - m)

theorem Inv.zero {s v : ℕ → EReal} {m : EReal} (h : m ≠ ⊥) (h' : m ≠ ⊤) : Inv s v 0 m 0 :=
  ⟨h, fun _ hk => absurd hk (Nat.not_lt_zero _), fun e => absurd e h', by simp⟩

theorem le_ceil (c : EReal) : c ≤ Ideal.liftRound Int.ceil c := by
  induction c with
  | bot => exact le_refl _
  | top => exact le_refl _
  | coe r => exact EReal.coe_le_coe_iff.mpr (Int.le_ceil r)

theorem ceil_top {c : EReal} (h : Ideal.liftRound Int.ceil c = ⊤) : c = ⊤ := by
  induction c with
  | bot => exact absurd h (by decide)
  | top => rfl
  | coe r => exact absurd h (EReal.coe_ne_top _)

/-- One more chunk. -/
theorem Inv.step {s v : ℕ → EReal} {n w : ℕ} {m d c : EReal} (h : Inv s v n m d)
    (hc : ∀ y < w, s (n + y) ≤ c) (ht : c = ⊤ → ∃ y < w, s (n + y) = ⊤) :
    Inv s v (n + w) (max m (Ideal.liftRound Int.ceil c))
      (d * E (m - max m (Ideal.liftRound Int.ceil c)) + ∑ y ∈ Finset.range w, E (s (n + y) - max m (Ideal.liftRound Int.ceil c))) := by
  have hm : m ≤ max m (Ideal.liftRound Int.ceil c) := le_max_left _ _
  refine ⟨fun e => h.ne_bot (le_bot_iff.mp (e ▸ hm)), fun k hk => ?_, fun e => ?_, ?_⟩
  · rcases lt_or_ge k n with hk' | hk'
    · exact (h.le k hk').trans hm
    · have := hc (k - n) (by omega)
      rw [show n + (k - n) = k by omega] at this
      exact this.trans ((le_ceil c).trans (le_max_right _ _))
  · rcases max_eq_iff.mp e with ⟨e, -⟩ | ⟨e, -⟩
    · obtain ⟨k, hk, e⟩ := h.top e; exact ⟨k, by omega, e⟩
    · obtain ⟨y, hy, e⟩ := ht (ceil_top e); exact ⟨n + y, by omega, e⟩
  · rw [h.den, sum_mul _ _ (E_nonneg _) (E_sub_ne_top h.ne_bot hm), Finset.sum_range_add]
    exact congrArg (· + _) (Finset.sum_congr rfl fun k _ => E_shift _ h.ne_bot hm)

/-- The weighted sum, one more chunk. -/
theorem acc_step {s v : ℕ → EReal} {n w : ℕ} {m m' a : EReal} (h : m ≠ ⊥) (hm : m ≤ m') (ha : a = ∑ k ∈ Finset.range n, E (s k - m) * v k) :
    a * E (m - m') + ∑ y ∈ Finset.range w, E (s (n + y) - m') * v (n + y) = ∑ k ∈ Finset.range (n + w), E (s k - m') * v k := by
  rw [ha, sum_mul _ _ (E_nonneg _) (E_sub_ne_top h hm), Finset.sum_range_add]
  refine congrArg (· + _) (Finset.sum_congr rfl fun k _ => ?_)
  rw [mul_right_comm, E_shift _ h hm]

/-! ## The end -/

theorem E_bot_sub (m : EReal) : E (⊥ - m) = 0 := by rw [EReal.bot_sub]; rfl

/-- Positions of score −∞ add nothing. -/
theorem sum_tail {s f : ℕ → EReal} {n N : ℕ} (hN : n ≤ N) (hs : ∀ k, n ≤ k → s k = ⊥) (m : EReal) :
    ∑ k ∈ Finset.range n, E (s k - m) * f k = ∑ k ∈ Finset.range N, E (s k - m) * f k := by
  refine Finset.sum_subset (Finset.range_subset_range.mpr hN) fun k _ hk => ?_
  rw [hs k (by simpa using hk), E_bot_sub, zero_mul]

/-- The base the plain softmax takes: the largest score, or 0 if every score is −∞. -/
def base (M : EReal) : EReal := if M = ⊥ then 0 else M

theorem exp_mul_log (x : EReal) : Ideal.exp (x * ((Real.log 2 : ℝ) : EReal)) = E x := by
  have hl : 0 < Real.log 2 := Real.log_pos (by norm_num)
  induction x with
  | bot => rw [EReal.bot_mul_coe_of_pos hl]; rfl
  | top => rw [EReal.top_mul_coe_of_pos hl]; rfl
  | coe r =>
    rw [← EReal.coe_mul]
    show ((Real.exp (r * Real.log 2) : ℝ) : EReal) = ((Real.rpow 2 r : ℝ) : EReal)
    refine congrArg _ ?_
    show _ = (2 : ℝ) ^ r
    rw [Real.rpow_def_of_pos (by norm_num), mul_comm]

theorem div_shift (a : EReal) {D f : ℝ} (hD : 0 ≤ D) (hf : 0 < f) : Ideal.div (a * (f : EReal)) ((D : EReal) * (f : EReal)) = Ideal.div a (D : EReal) := by
  unfold Ideal.div
  rcases eq_or_lt_of_le hD with rfl | hD
  · rw [EReal.coe_zero, zero_mul, if_pos rfl, if_pos rfl]
    have : 0 < a * (f : EReal) ↔ 0 < a := by
      constructor
      · intro h
        by_contra hn
        exact absurd h (not_lt.mpr (mul_nonpos_of_nonpos_of_nonneg (not_lt.mp hn) (EReal.coe_nonneg.mpr hf.le)))
      · exact fun h => EReal.mul_pos h (EReal.coe_pos.mpr hf)
    simp only [this]
  · rw [← EReal.coe_mul, if_neg (by exact_mod_cast (mul_pos hD hf).ne'), if_neg (by exact_mod_cast hD.ne'), mul_assoc]
    refine congrArg (a * ·) ?_
    rw [← EReal.coe_inv, ← EReal.coe_inv, ← EReal.coe_mul]
    refine congrArg _ ?_
    field_simp

theorem log_shift {M b D : ℝ} (hD : 0 ≤ D) {l : EReal} (hl : l = ((Real.log 2 : ℝ) : EReal)) :
    (b : EReal) + Ideal.div (Ideal.log ((D : EReal) * ((Real.rpow 2 (M - b) : ℝ) : EReal))) l = (M : EReal) + Ideal.div (Ideal.log (D : EReal)) l := by
  have h2 : 0 < Real.log 2 := Real.log_pos (by norm_num)
  have hne : ((Real.log 2 : ℝ) : EReal) ≠ 0 := by exact_mod_cast h2.ne'
  subst hl
  unfold Ideal.div
  rw [if_neg hne, if_neg hne, ← EReal.coe_mul, ← EReal.coe_inv]
  have hf : 0 < Real.rpow 2 (M - b) := Real.rpow_pos_of_pos (by norm_num) _
  rcases eq_or_lt_of_le hD with rfl | hD
  · rw [zero_mul]
    have : Ideal.log ((0 : ℝ) : EReal) = ⊥ := by rw [Ideal.log_coe, if_pos le_rfl]
    rw [this, EReal.bot_mul_coe_of_pos (inv_pos.mpr h2), EReal.add_bot, EReal.add_bot]
  · rw [Ideal.log_coe, Ideal.log_coe, if_neg (not_le.mpr (mul_pos hD hf)), if_neg (not_le.mpr hD), ← EReal.coe_mul, ← EReal.coe_mul, ← EReal.coe_add, ← EReal.coe_add]
    refine congrArg _ ?_
    rw [Real.log_mul hD.ne' hf.ne']
    have : Real.log (Real.rpow 2 (M - b)) = (M - b) * Real.log 2 := Real.log_rpow (by norm_num) _
    rw [this]
    field_simp
    ring

/-- The base the plain softmax takes gives the same quotient and logarithm as the base kept. -/
theorem final {s v : ℕ → EReal} {n N : ℕ} {m d a M l : EReal} (h : Inv s v n m d) (ha : a = ∑ k ∈ Finset.range n, E (s k - m) * v k)
    (hN : n ≤ N) (hs : ∀ k, n ≤ k → s k = ⊥) (hM : ∀ k < N, s k ≤ M) (hM' : M = ⊥ ∨ ∃ k < N, s k = M) (hl : l = ((Real.log 2 : ℝ) : EReal)) :
    Ideal.div a d = Ideal.div (∑ k ∈ Finset.range N, E (s k - base M) * v k) (∑ k ∈ Finset.range N, E (s k - base M))
      ∧ m + Ideal.div (Ideal.log d) l = base M + Ideal.div (Ideal.log (∑ k ∈ Finset.range N, E (s k - base M))) l := by
  have hd : d = ∑ k ∈ Finset.range N, E (s k - m) := by
    have := sum_tail (f := fun _ => 1) hN hs m
    simp only [mul_one] at this
    rw [h.den, this]
  rw [sum_tail hN hs] at ha
  have hle : ∀ k, s k ≤ m := fun k => by
    rcases lt_or_ge k n with hk | hk
    · exact h.le k hk
    · rw [hs k hk]; exact bot_le
  by_cases hm : m = ⊤
  · obtain ⟨k, hk, e⟩ := h.top hm
    have hMt : M = ⊤ := top_le_iff.mp (e ▸ hM k (by omega))
    have hb : base M = m := by unfold base; rw [if_neg (by rw [hMt]; decide), hMt, hm]
    rw [hb, ← hd, ← ha]
    exact ⟨rfl, rfl⟩
  · have hb : ∃ b : ℝ, base M = b := by
      have hMt : M ≠ ⊤ := by
        rintro rfl
        rcases hM' with e | ⟨k, -, e⟩
        · exact absurd e (by decide)
        · exact hm (top_le_iff.mp (e ▸ hle k))
      unfold base
      split
      · exact ⟨0, rfl⟩
      · rename_i hMb; exact ⟨M.toReal, (EReal.coe_toReal hMt hMb).symm⟩
    obtain ⟨b, hb⟩ := hb
    rw [hb]
    obtain ⟨r, rfl⟩ : ∃ r : ℝ, m = r := ⟨m.toReal, (EReal.coe_toReal hm h.ne_bot).symm⟩
    have hw : ∀ k, E (s k - (b : EReal)) = E (s k - (r : EReal)) * ((Real.rpow 2 (r - b) : ℝ) : EReal) := by
      intro k
      have hk := hle k
      generalize s k = x at hk
      induction x with
      | bot => rw [E_bot_sub, E_bot_sub, zero_mul]
      | top => exact absurd (top_le_iff.mp hk) hm
      | coe x =>
        rw [← EReal.coe_sub, ← EReal.coe_sub]
        show ((Real.rpow 2 (x - b) : ℝ) : EReal) = ((Real.rpow 2 (x - r) : ℝ) : EReal) * _
        rw [← EReal.coe_mul]
        refine congrArg _ ?_
        have := Real.rpow_add (x := 2) (by norm_num) (x - r) (r - b)
        rw [show x - r + (r - b) = x - b by ring] at this
        exact this
    have hf : 0 < Real.rpow 2 (r - b) := Real.rpow_pos_of_pos (by norm_num) _
    have hdr : ∑ k ∈ Finset.range N, E (s k - (b : EReal)) = d * ((Real.rpow 2 (r - b) : ℝ) : EReal) := by
      rw [hd, sum_mul _ _ (EReal.coe_nonneg.mpr hf.le) (EReal.coe_ne_top _)]
      exact Finset.sum_congr rfl fun k _ => hw k
    have har : ∑ k ∈ Finset.range N, E (s k - (b : EReal)) * v k = a * ((Real.rpow 2 (r - b) : ℝ) : EReal) := by
      rw [ha, sum_mul _ _ (EReal.coe_nonneg.mpr hf.le) (EReal.coe_ne_top _)]
      exact Finset.sum_congr rfl fun k _ => by rw [hw k, mul_right_comm]
    have hD : ∃ D : ℝ, 0 ≤ D ∧ d = D := by
      have h0 : 0 ≤ d := hd ▸ Finset.sum_nonneg fun k _ => E_nonneg _
      have ht : d ≠ ⊤ := by
        rw [hd]
        have : ∀ k, ∃ x : ℝ, E (s k - (r : EReal)) = x := by
          intro k
          have hk := hle k
          generalize s k = x at hk
          induction x with
          | bot => exact ⟨0, by rw [E_bot_sub]; rfl⟩
          | top => exact absurd (top_le_iff.mp hk) hm
          | coe x => exact ⟨Real.rpow 2 (x - r), by rw [← EReal.coe_sub]; rfl⟩
        choose x hx using this
        have e : ∀ t : Finset ℕ, ∑ k ∈ t, E (s k - (r : EReal)) = ((∑ k ∈ t, x k : ℝ) : EReal) := by
          classical
          intro t
          induction t using Finset.induction_on with
          | empty => simp
          | insert a t ha ih => rw [Finset.sum_insert ha, Finset.sum_insert ha, EReal.coe_add, ih, hx]
        rw [e]; exact EReal.coe_ne_top _
      have hb' : d ≠ ⊥ := fun e => absurd (e ▸ h0 : (0 : EReal) ≤ ⊥) (by decide)
      refine ⟨d.toReal, EReal.toReal_nonneg h0, (EReal.coe_toReal ht hb').symm⟩
    obtain ⟨D, hD, rfl⟩ := hD
    rw [hdr, har]
    exact ⟨(div_shift a hD hf).symm, (log_shift hD hl).symm⟩

/-- A positive finite factor of a score goes into its two parts. -/
theorem score_eq {C : ℝ} (hC : 0 < C) (q x y : EReal) : (q * (C : EReal)) * x + (C : EReal) * y = (C : EReal) * (q * x + y) := by
  rw [EReal.left_distrib_of_nonneg_of_ne_top (EReal.coe_nonneg.mpr hC.le) (EReal.coe_ne_top _)]
  rw [mul_comm q, mul_assoc]

end Cert.Proof.Softmax

end
-- ==== Proof.Consts.lean ====
/- The constants of the two programs as extended reals, and a largest element as a fold. -/
module

public import proofs.«01_k».proof.Proof.Softmax
public import Idealize.ShloMosaic.Lib.Pointwise

@[expose] public section

noncomputable section

namespace Cert.Proof.Softmax

open Idealize.ShloMosaic

theorem neg_inf : Ideal.ofBits .f32 0xFF800000#32 = ⊥ := by
  simp [Ideal.ofBits, Ideal.ieee]

theorem two : Ideal.ofBits .f32 0x40000000#32 = ((2 : ℝ) : EReal) := by
  simp [Ideal.ofBits, Ideal.ieee, -EReal.coe_mul]; norm_num

theorem log_two : Ideal.log (Ideal.ofBits .f32 0x40000000#32) = ((Real.log 2 : ℝ) : EReal) := by
  rw [two, Ideal.log_coe, if_neg (by norm_num)]

theorem scale_real : ∃ C : ℝ, 0 < C ∧ Ideal.ofBits .f32 0x3DD53B95#32 = (C : EReal) := by
  refine ⟨13974421 * (2 : ℝ) ^ (-27 : ℤ), by positivity, ?_⟩
  simp [Ideal.ofBits, Ideal.ieee, -EReal.coe_mul]

theorem start_real : ∃ C : ℝ, Ideal.ofBits .f32 0xF149F2CA#32 = (C : EReal) := by
  refine ⟨-(13234890 * (2 : ℝ) ^ (76 : ℤ)), ?_⟩
  simp [Ideal.ofBits, Ideal.ieee, -EReal.coe_mul, -EReal.coe_neg]

/-! ## The largest of finitely many -/

theorem le_fold {n : ℕ} (f : Fin n → EReal) (k : Fin n) : f k ≤ Finset.univ.fold max ⊥ f :=
  Finset.le_fold_max (f k) |>.mpr (.inr ⟨k, Finset.mem_univ k, le_refl _⟩)

theorem fold_mem {n : ℕ} (f : Fin n → EReal) : Finset.univ.fold max ⊥ f = ⊥ ∨ ∃ k, f k = Finset.univ.fold max ⊥ f := by
  classical
  generalize (Finset.univ : Finset (Fin n)) = s
  induction s using Finset.induction_on with
  | empty => exact .inl rfl
  | insert a s ha ih =>
    rw [Finset.fold_insert ha]
    rcases le_total (f a) (s.fold max ⊥ f) with h | h
    · rw [max_eq_right h]; exact ih
    · rw [max_eq_left h]; exact .inr ⟨a, rfl⟩

end Cert.Proof.Softmax

end
-- ==== Proof.KernelIdealRow.lean ====
/- Over the extended reals, what a row's chunks leave: the base, the sum and the weighted sum of an online softmax over the keys of
   the list's first `16 * chunks` places. -/
module

public import proofs.«01_k».proof.Proof.KernelIdealPay
public import proofs.«01_k».proof.Proof.Consts

@[expose] public section

set_option maxRecDepth 16384

noncomputable section

namespace Cert.Proof.KernelIdeal

open Cert.KernelIdeal Cert.KernelIdeal.Gen
open Idealize.ShloMosaic Idealize.ShloMosaic.Pointwise
open Cert.Proof.Softmax

section step
variable (sc : FVec Ideal S256x256 .f32) (lat : Vec Ideal S256x512 .bf16) (S : St Ideal) (q : Fin 256) {s : ℕ → EReal} {n : ℕ}

theorem step_base : (stepSt sc lat S).base (ix2 0 q) = max (S.base (ix2 0 q)) (Ideal.liftRound Int.ceil
      (Finset.univ.fold max ⊥ fun y : Fin 256 => sc (ix2 y q))) := by
  show k0_pay117 (F := Ideal) S.base sc (ix2 0 q) = _
  rw [pay117_apply, neg_inf]

theorem step_rate : exp2 (k0_pay119 (F := Ideal) S.base (stepSt sc lat S).base) (ix2 0 q)
    = E (S.base (ix2 0 q) - (stepSt sc lat S).base (ix2 0 q)) := by
  show Ideal.exp2 (k0_pay119 (F := Ideal) S.base (stepSt sc lat S).base (ix2 0 q)) = _
  rw [pay119_apply]

/-- The base and the sum after one more chunk. -/
theorem step_inv {v : ℕ → EReal} (h : Inv s v n (S.base (ix2 0 q)) (S.den (ix2 0 q))) (hs : ∀ y : Fin 256, sc (ix2 y q) = s (n + y.val)) :
    Inv s v (n + 256) ((stepSt sc lat S).base (ix2 0 q)) ((stepSt sc lat S).den (ix2 0 q)) := by
  have hd : (stepSt sc lat S).den (ix2 0 q) = S.den (ix2 0 q) * E (S.base (ix2 0 q) - (stepSt sc lat S).base (ix2 0 q))
      + ∑ y ∈ Finset.range 256, E (s (n + y) - (stepSt sc lat S).base (ix2 0 q)) := by
    show k0_pay121 (F := Ideal) S.den (k0_pay118 sc (stepSt sc lat S).base) (exp2 (k0_pay119 S.base (stepSt sc lat S).base)) (ix2 0 q) = _
    rw [pay121_apply, step_rate, Finset.sum_range]
    refine congrArg _ (Finset.sum_congr rfl fun y _ => ?_)
    rw [pay118_apply, hs]
  rw [hd, step_base]
  refine h.step (fun y hy => ?_) (fun e => ?_)
  · rw [← hs ⟨y, hy⟩]; exact le_fold (fun y : Fin 256 => sc (ix2 y q)) ⟨y, hy⟩
  · rcases fold_mem (fun y : Fin 256 => sc (ix2 y q)) with h' | ⟨y, hy⟩
    · rw [e] at h'; exact absurd h' (by decide)
    · exact ⟨y.val, y.isLt, by rw [← hs y]; exact hy.trans e⟩

/-- The weighted sum after one more chunk. -/
theorem step_acc {v : ℕ → EReal} (r : Fin 512) (h : S.base (ix2 0 q) ≠ ⊥)
    (ha : S.acc (ix2 q r) = ∑ k ∈ Finset.range n, E (s k - S.base (ix2 0 q)) * v k)
    (hs : ∀ y : Fin 256, sc (ix2 y q) = s (n + y.val)) (hv : ∀ y : Fin 256, lat (ix2 y r) = v (n + y.val)) :
    (stepSt sc lat S).acc (ix2 q r) = ∑ k ∈ Finset.range (n + 256), E (s k - (stepSt sc lat S).base (ix2 0 q)) * v k := by
  rw [← acc_step h (by rw [step_base]; exact le_max_left _ _) ha]
  show k0_pay120 (F := Ideal) (k0_pay118 sc (stepSt sc lat S).base) (exp2 (k0_pay119 S.base (stepSt sc lat S).base)) S.acc lat (ix2 q r) = _
  rw [pay120_apply, step_rate, Finset.sum_range]
  refine congrArg _ (Finset.sum_congr rfl fun y _ => ?_)
  rw [pay118_apply, hs, hv]

end step

/-- The state before the first chunk. -/
abbrev St0 : St Ideal := ⟨k0_pay113, k0_pay114, k0_pay107⟩

/-- After `n` chunks. -/
theorem row_inv (v13 : FVec Ideal S1x256 .f32) (v14 v39 : IVec S16x256 32) (x2 : Vec Ideal S1x1x1024 .i32) (x4 : Vec Ideal S256x128 .bf16)
    (x7 : Vec Ideal S1024x16x640 .bf16) (x11 : Vec Ideal S256x512 .bf16) (q : Fin 256) {s v : ℕ → EReal} (r : Fin 512) (N : ℕ)
    (hs : ∀ t < N, ∀ y : Fin 256, scoreAt v13 v14 v39 x2 x4 x7 x11 t (ix2 y q) = s (256 * t + y.val))
    (hv : ∀ t < N, ∀ y : Fin 256, latAt x2 x7 t (ix2 y r) = v (256 * t + y.val)) (n : ℕ) (hn : n ≤ N) :
    Inv s v (256 * n) ((rowSt v13 v14 v39 x2 x4 x7 x11 St0 n).base (ix2 0 q)) ((rowSt v13 v14 v39 x2 x4 x7 x11 St0 n).den (ix2 0 q))
      ∧ (rowSt v13 v14 v39 x2 x4 x7 x11 St0 n).acc (ix2 q r)
        = ∑ k ∈ Finset.range (256 * n), E (s k - (rowSt v13 v14 v39 x2 x4 x7 x11 St0 n).base (ix2 0 q)) * v k := by
  induction n with
  | zero =>
    obtain ⟨C, hC⟩ := start_real
    refine ⟨?_, ?_⟩
    · show Inv s v (256 * 0) (k0_pay113 (F := Ideal) (ix2 0 q)) (k0_pay114 (F := Ideal) (ix2 0 q))
      rw [pay113_apply, pay114_apply, hC]
      exact Inv.zero (EReal.coe_ne_bot _) (EReal.coe_ne_top _)
    · show k0_pay107 (F := Ideal) (ix2 q r) = _
      rw [pay107_apply]; simp
  | succ n ih =>
    obtain ⟨h, ha⟩ := ih (by omega)
    have e : 256 * (n + 1) = 256 * n + 256 := by omega
    rw [e]
    exact ⟨step_inv _ _ _ q h (hs n (by omega)), step_acc _ _ _ q r h.ne_bot ha (hs n (by omega)) (hv n (by omega))⟩

end Cert.Proof.KernelIdeal
-- ==== Proof.RefRun.lean ====
/- The reference as plain functions of its arguments, and that its run leaves their values in the two results. -/
module

public import proofs.«01_k».proof.Proof.Gen.ReferenceIdeal.Frame
public import Idealize.ShloMosaic.Lib.Pipeline.Value
public import Idealize.ShloMosaic.Lib.StableHlo.RunRead

@[expose] public section

set_option maxRecDepth 16384

noncomputable section

namespace Cert.Proof.Reference

open Cert.ReferenceIdeal Cert.ReferenceIdeal.Gen
open Idealize.ShloMosaic Idealize.ShloMosaic.TcCoe Idealize.SL.Sem

variable {F : FTy → Type} [FloatOps F]

/-- Which keys the reference keeps, by row, query row, place in the list and key of the granule. -/
def refKeep (arg0 : Vec F S256 .i32) (arg1 : Vec F S256x1x1024 .i32) : Vec F S256x16x1024x16 .i1 :=
  have v4 : Vec F S256x16x1024x16 .i32 := (iotaInDim S256x16x1024x16 32 2)
  have v5 : Vec F S256x16x1024x16 .i32 := (iotaInDim S256x16x1024x16 32 3)
  have v6 : Vec F S256x16x1024x16 .i32 := (iotaInDim S256x16x1024x16 32 1)
  have v7 : Vec F S256x1024 .i32 := shapeCast S256x1024 arg1 shapeCasts_S256x1x1024_S256x1024
  have v8 : Vec F S256x16x1024x16 .i32 := broadcastInDim S256x16x1024x16 ![0, 2] bcast_S256x1024_S256x16x1024x16_0_2 v7
  have v9 : Vec F S256x16x1024x16 .i32 := broadcastInDim S256x16x1024x16 ![0] bcast_S256_S256x16x1024x16_0 arg0
  have c : Vec F S_ .i32 := (constantI S_ 32 16#32)
  have v10 : Vec F S256x16x1024x16 .i32 := broadcastInDim S256x16x1024x16 ![] bcast_S_S256x16x1024x16 c
  have v11 : Vec F S256x16x1024x16 .i32 := addi v5 v10
  have v12 : Vec F S256x16x1024x16 .i32 := Host.shrsi v8 v11
  have c_0 : Vec F S_ .i32 := (constantI S_ 32 1#32)
  have v13 : Vec F S256x16x1024x16 .i32 := broadcastInDim S256x16x1024x16 ![] bcast_S_S256x16x1024x16 c_0
  have v14 : Vec F S256x16x1024x16 .i32 := andi v12 v13
  have c_1 : Vec F S_ .i32 := (constantI S_ 32 0#32)
  have v15 : Vec F S256x16x1024x16 .i32 := broadcastInDim S256x16x1024x16 ![] bcast_S_S256x16x1024x16 c_1
  have v16 : Vec F S256x16x1024x16 .i1 := cmpi .ne v14 v15
  have v17 : Vec F S256x16x1024x16 .i1 := cmpi .slt v4 v9
  have v18 : Vec F S256x16x1024x16 .i1 := andi v16 v17
  have c_2 : Vec F S_ .i32 := (constantI S_ 32 0#32)
  have v19 : Vec F S256x16x1024x16 .i32 := broadcastInDim S256x16x1024x16 ![] bcast_S_S256x16x1024x16 c_2
  have v20 : Vec F S256x16x1024x16 .i1 := cmpi .sgt v4 v19
  have v21 : Vec F S256x16x1024x16 .i1 := cmpi .sle v5 v6
  have v22 : Vec F S256x16x1024x16 .i1 := ori v20 v21
  andi v18 v22

/-- The keys of a row in the order of its list. -/
def refKeys (arg1 : Vec F S256x1x1024 .i32) (arg6 : Vec F S1024x16x640 .bf16) : Vec F S256x16384x640 .bf16 :=
  have c_3 : Vec F S_ .i32 := (constantI S_ 32 65535#32)
  have v26 : Vec F S256x1x1024 .i32 := broadcastInDim S256x1x1024 ![] bcast_S_S256x1x1024 c_3
  have v27 : Vec F S256x1x1024 .i32 := andi arg1 v26
  have v28 : Vec F S256x1024x1 .i32 := shapeCast S256x1024x1 v27 shapeCasts_S256x1x1024_S256x1024x1
  have v29 : Vec F S256x1024x16x640 .bf16 := Host.gather gather_S1024x16x640_S256x1024x1_S256x1024x16x640_23_0_n_n_0_2_116640 arg6 v28
  shapeCast S256x16384x640 v29 shapeCasts_S256x1024x16x640_S256x16384x640

/-- The scores, −∞ where the key is not kept. -/
def refScore (v23 : Vec F S256x16x1024x16 .i1) (v30 : Vec F S256x16384x640 .bf16) (v0 : Vec F S4096x16x512 .bf16) (arg3 : Vec F S65536x128 .bf16) (arg4 : Vec F S256x1x256 .f32) : Vec F S256x16x16x16384 .f32 :=
  have v1 : Vec F S256x16x16x512 .bf16 := shapeCast S256x16x16x512 v0 shapeCasts_S4096x16x512_S256x16x16x512
  have v2 : Vec F S256x16x16x128 .bf16 := shapeCast S256x16x16x128 arg3 shapeCasts_S65536x128_S256x16x16x128
  have v3 : Vec F S256x16x16x1 .f32 := shapeCast S256x16x16x1 arg4 shapeCasts_S256x1x256_S256x16x16x1
  have v24 : Vec F S256x16x16384 .i1 := shapeCast S256x16x16384 v23 shapeCasts_S256x16x1024x16_S256x16x16384
  have v25 : Vec F S256x16x16x16384 .i1 := broadcastInDim S256x16x16x16384 ![0, 1, 3] bcast_S256x16x16384_S256x16x16x16384_0_1_3 v24
  have v31 : Vec F S256x16384x512 .bf16 := extractStridedSlice S256x16384x512 ![0, 0, 0] v30 slices_S256x16384x640_S256x16384x512_0_0_0
  have v32 : Vec F S256x16384x128 .bf16 := extractStridedSlice S256x16384x128 ![0, 0, 512] v30 slices_S256x16384x640_S256x16384x128_0_0_512
  have v33 : Vec F S256x16x16x16384 .f32 := Host.dotGeneral dot_S256x16x16x512_S256x16384x512_S256x16x16x16384_3_2_12_1_0_0 none v1 v31
  have v34 : Vec F S256x16x16x16384 .f32 := Host.dotGeneral dot_S256x16x16x128_S256x16384x128_S256x16x16x16384_3_2_12_1_0_0 none v2 v32
  have v35 : Vec F S256x16x16x16384 .f32 := broadcastInDim S256x16x16x16384 ![0, 1, 2, 3] bcast_S256x16x16x1_S256x16x16x16384_0_1_2_3 v3
  have v36 : Vec F S256x16x16x16384 .f32 := mulf v35 v33
  have v37 : Vec F S256x16x16x16384 .f32 := addf v36 v34
  have cst : Vec F S_ .f32 := (constant S_ .f32 0x3DD53B95#32)
  have v38 : Vec F S256x16x16x16384 .f32 := broadcastInDim S256x16x16x16384 ![] bcast_S_S256x16x16x16384 cst
  have v39 : Vec F S256x16x16x16384 .f32 := mulf v38 v37
  have cst_4 : Vec F S_ .f32 := (constant S_ .f32 0xFF800000#32)
  have v40 : Vec F S256x16x16x16384 .f32 := broadcastInDim S256x16x16x16384 ![] bcast_S_S256x16x16x16384 cst_4
  select v25 v39 v40

/-- The base of the exponents: the largest score, 0 if no key is kept. -/
def refBase (v41 : Vec F S256x16x16x16384 .f32) : Vec F S256x16x16x1 .f32 :=
  have cst_5 : Vec F S_ .f32 := (constant S_ .f32 0xFF800000#32)
  have v42 : Vec F S256x16x16 .f32 := Host.reduce FloatOps.maximumf v41 cst_5 reducesTo_S256x16x16x16384_S256x16x16_d3 h_S_
  have v43 : Vec F S256x16x16x1 .f32 := broadcastInDim S256x16x16x1 ![0, 1, 2] bcast_S256x16x16_S256x16x16x1_0_1_2 v42
  have cst_6 : Vec F S_ .f32 := (constant S_ .f32 0xFF800000#32)
  have v44 : Vec F S256x16x16x1 .f32 := broadcastInDim S256x16x16x1 ![] bcast_S_S256x16x16x1 cst_6
  have v45 : Vec F S256x16x16x1 .i1 := cmpf .oeq v43 v44
  have cst_7 : Vec F S_ .f32 := (constant S_ .f32 0x00000000#32)
  have v46 : Vec F S256x16x16x1 .f32 := broadcastInDim S256x16x16x1 ![] bcast_S_S256x16x16x1 cst_7
  select v45 v46 v43

/-- The weights. -/
def refP (v41 : Vec F S256x16x16x16384 .f32) (v47 : Vec F S256x16x16x1 .f32) : Vec F S256x16x16x16384 .f32 :=
  have v48 : Vec F S256x16x16x16384 .f32 := broadcastInDim S256x16x16x16384 ![0, 1, 2, 3] bcast_S256x16x16x1_S256x16x16x16384_0_1_2_3 v47
  have v49 : Vec F S256x16x16x16384 .f32 := subf v41 v48
  have cst_8 : Vec F S_ .f32 := (constant S_ .f32 0x40000000#32)
  have v50 : Vec F S256x16x16x16384 .f32 := broadcastInDim S256x16x16x16384 ![] bcast_S_S256x16x16x16384 cst_8
  have v51 : Vec F S256x16x16x16384 .f32 := Host.log v50
  have v52 : Vec F S256x16x16x16384 .f32 := mulf v49 v51
  Host.exp v52

/-- Their sum. -/
def refDen (v53 : Vec F S256x16x16x16384 .f32) : Vec F S256x16x16x1 .f32 :=
  have cst_9 : Vec F S_ .f32 := (constant S_ .f32 0x00000000#32)
  have v54 : Vec F S256x16x16 .f32 := Host.reduceAdd v53 cst_9 reducesTo_S256x16x16x16384_S256x16x16_d3 h_S_
  broadcastInDim S256x16x16x1 ![0, 1, 2] bcast_S256x16x16_S256x16x16x1_0_1_2 v54

/-- The weighted mean of the latent keys. -/
def refOut (v30 : Vec F S256x16384x640 .bf16) (v53 : Vec F S256x16x16x16384 .f32) (v55 : Vec F S256x16x16x1 .f32) : Vec F S65536x512 .f32 :=
  have v31 : Vec F S256x16384x512 .bf16 := extractStridedSlice S256x16384x512 ![0, 0, 0] v30 slices_S256x16384x640_S256x16384x512_0_0_0
  have v56 : Vec F S256x16x16x16384 .bf16 := truncf .bf16 v53 bitsLt_bf16_f32
  have v57 : Vec F S256x16x16x512 .f32 := Host.dotGeneral dot_S256x16x16x16384_S256x16384x512_S256x16x16x512_3_1_12_2_0_0 none v56 v31
  have v68 : Vec F S256x16x16x512 .f32 := broadcastInDim S256x16x16x512 ![0, 1, 2, 3] bcast_S256x16x16x1_S256x16x16x512_0_1_2_3 v55
  have v69 : Vec F S256x16x16x512 .f32 := Host.divf v57 v68
  shapeCast S65536x512 v69 shapeCasts_S256x16x16x512_S65536x512

/-- The centred logarithm of the sum of the weights. -/
def refLse (v47 : Vec F S256x16x16x1 .f32) (v55 : Vec F S256x16x16x1 .f32) (arg5 : Vec F S256x1x256 .f32) : Vec F S256x1x256 .f32 :=
  have v58 : Vec F S256x16x16x1 .f32 := Host.log v55
  have cst_10 : Vec F S_ .f32 := (constant S_ .f32 0x40000000#32)
  have v59 : Vec F S256x16x16x1 .f32 := broadcastInDim S256x16x16x1 ![] bcast_S_S256x16x16x1 cst_10
  have v60 : Vec F S256x16x16x1 .f32 := Host.log v59
  have v61 : Vec F S256x16x16x1 .f32 := Host.divf v58 v60
  have v62 : Vec F S256x16x16x1 .f32 := addf v47 v61
  have cst_11 : Vec F S_ .f32 := (constant S_ .f32 0x3F317218#32)
  have v63 : Vec F S256x16x16x1 .f32 := broadcastInDim S256x16x16x1 ![] bcast_S_S256x16x16x1 cst_11
  have v64 : Vec F S256x16x16x1 .f32 := mulf v62 v63
  have v65 : Vec F S256x1x256 .f32 := shapeCast S256x1x256 v64 shapeCasts_S256x16x16x1_S256x1x256
  have v66 : Vec F S256x1x256 .f32 := Host.log arg5
  subf v65 v66

/-- The scores of the reference, -/
abbrev scores (a0 : Vec F S256 .i32) (a1 : Vec F S256x1x1024 .i32) (w : Vec F S4096x16x512 .bf16) (a3 : Vec F S65536x128 .bf16)
    (a4 : Vec F S256x1x256 .f32) (a6 : Vec F S1024x16x640 .bf16) : Vec F S256x16x16x16384 .f32 :=
  refScore (refKeep a0 a1) (refKeys a1 a6) w a3 a4
/-- and its two results. -/
def outR (a0 : Vec F S256 .i32) (a1 : Vec F S256x1x1024 .i32) (w : Vec F S4096x16x512 .bf16) (a3 : Vec F S65536x128 .bf16)
    (a4 : Vec F S256x1x256 .f32) (a6 : Vec F S1024x16x640 .bf16) : Vec F S65536x512 .f32 :=
  refOut (refKeys a1 a6) (refP (scores a0 a1 w a3 a4 a6) (refBase (scores a0 a1 w a3 a4 a6)))
    (refDen (refP (scores a0 a1 w a3 a4 a6) (refBase (scores a0 a1 w a3 a4 a6))))
def lseR (a0 : Vec F S256 .i32) (a1 : Vec F S256x1x1024 .i32) (w : Vec F S4096x16x512 .bf16) (a3 : Vec F S65536x128 .bf16)
    (a4 : Vec F S256x1x256 .f32) (a5 : Vec F S256x1x256 .f32) (a6 : Vec F S1024x16x640 .bf16) : Vec F S256x1x256 .f32 :=
  refLse (refBase (scores a0 a1 w a3 a4 a6)) (refDen (refP (scores a0 a1 w a3 a4 a6) (refBase (scores a0 a1 w a3 a4 a6)))) a5

/-- The values after the host operations. -/
theorem read_out (V : Valuation τ sig (Elt F)) :
    StableHlo.after hostOps1 V (Proc.devRef .tc main_v70) = outR (V (Proc.devRef .tc main_arg0)) (V (Proc.devRef .tc main_arg1))
      (V (Proc.devRef .tc main_v0)) (V (Proc.devRef .tc main_arg3)) (V (Proc.devRef .tc main_arg4)) (V (Proc.devRef .tc main_arg6)) := by
  after_reads_simp
  rfl

theorem read_lse (V : Valuation τ sig (Elt F)) :
    StableHlo.after hostOps1 V (Proc.devRef .tc main_v67) = lseR (V (Proc.devRef .tc main_arg0)) (V (Proc.devRef .tc main_arg1))
      (V (Proc.devRef .tc main_v0)) (V (Proc.devRef .tc main_arg3)) (V (Proc.devRef .tc main_arg4)) (V (Proc.devRef .tc main_arg5))
      (V (Proc.devRef .tc main_arg6)) := by
  after_reads_simp
  rfl

variable (m : (ℓ : Loc nD τ sig) → Buf (Elt F) ℓ) (ρ : Dev nD → PrngReg)

/-- The codes, widened. -/
def wide (a2 : Vec F S4096x16x512 .fp8e4m3) : Vec F S4096x16x512 .bf16 := extf .bf16 a2 bitsLt_fp8e4m3_bf16

theorem hz3 : (![0, 0, 0] : Fin 3 → Nat) = fun _ => 0 := funext fun a => by fin_cases a <;> rfl

theorem out_wide (x : Vec F S4096x16x512 .fp8e4m3) : out0_1 x = wide x := by
  unfold out0_1 k0_pay1 wide
  rw [View.canon_unit_zero hz3, View.ld_unit_zero (S := S4096x16x512) hz3]

theorem arr_wide (c : Dev nD) : (dats m 0 c).arrAt 1 cfg0.N = wide (m ((c : Thread nD τ).loc main_arg2)) :=
  (dats m 0 c).arrAt_eq_of_cover 1 (wide (m ((c : Thread nD τ).loc main_arg2)))
    (fun t hf => by
      obtain rfl := fin_N0 t
      show (cfg0.win 1).cut (grid0.coords t0_0) ((dats m 0 c).after 1 t0_0) = _
      rw [after0_1, out_wide]
      rfl)
    fun i => ⟨t0_0, flush0_1 _, by
      show i ∈ ((View.whole main_v0).slice (win0_1.rect t0_0)).set
      rw [View.set_slice_whole, Rect.mem_set_unit]
      intro a
      have h0 := (i a).isLt
      match a with
      | ⟨0, _⟩ => exact ⟨Nat.zero_le _, h0⟩
      | ⟨1, _⟩ => exact ⟨Nat.zero_le _, h0⟩
      | ⟨2, _⟩ => exact ⟨Nat.zero_le _, h0⟩⟩

/-- What the host operations find. -/
abbrev W (c : Dev nD) : Valuation τ sig (Elt F) :=
  Pipeline.withArrays (cfgs 0).spec c (V0 m c) fun w => (dats m 0 c).arrAt w (cfgs 0).N

theorem W_of_ne (c : Dev nD) (b : Ref sig .tc) (h : ∀ w, Pipeline.arrRef spec0 w ≠ b) : W m c (Proc.devRef .tc b) = m ((c : Thread nD τ).loc b) :=
  Pipeline.withArrays_of_ne _ c (V0 m c) _ b h

theorem W_wide (c : Dev nD) : W m c (Proc.devRef .tc main_v0) = wide (m ((c : Thread nD τ).loc main_arg2)) :=
  (Pipeline.withArrays_arr spec0 (by decide) c (V0 m c) _ 1).trans (arr_wide m c)

theorem tail_eq (c : Dev nD) (b : Ref sig .tc) :
    Pipeline.afterTail₀ cfgs (dats m) 0 (V0 m) [hostOps1] c b = StableHlo.after hostOps1 (W m c) (Proc.devRef .tc b) := by
  unfold Pipeline.afterTail₀
  rw [List.flatten_cons, List.flatten_nil, List.append_nil]

/-- The run: the two results hold these values, the arguments are unchanged. -/
theorem run : θ_run defs (onTc (τ := τ) (main (F := F))) ⟨m, fun _ => 0, ρ⟩ (fun r => ∀ c : Dev nD,
      r.2.mem ((c.tc : Thread nD τ).loc main_v70) = outR (m ((c.tc : Thread nD τ).loc main_arg0)) (m ((c.tc : Thread nD τ).loc main_arg1))
        (wide (m ((c.tc : Thread nD τ).loc main_arg2))) (m ((c.tc : Thread nD τ).loc main_arg3)) (m ((c.tc : Thread nD τ).loc main_arg4))
        (m ((c.tc : Thread nD τ).loc main_arg6))
      ∧ r.2.mem ((c.tc : Thread nD τ).loc main_v67) = lseR (m ((c.tc : Thread nD τ).loc main_arg0)) (m ((c.tc : Thread nD τ).loc main_arg1))
        (wide (m ((c.tc : Thread nD τ).loc main_arg2))) (m ((c.tc : Thread nD τ).loc main_arg3)) (m ((c.tc : Thread nD τ).loc main_arg4))
        (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => by
    have hf := (h.2 c)
    refine ⟨((h.1 c).2 main_v70 (Pipeline.mem_restRefs_of main_v70 (by decide) (by decide))).trans ?_,
      ((h.1 c).2 main_v67 (Pipeline.mem_restRefs_of main_v67 (by decide) (by decide))).trans ?_, hf⟩
    · rw [tail_eq, read_out, W_wide, W_of_ne m c main_arg0 (by decide), W_of_ne m c main_arg1 (by decide), W_of_ne m c main_arg3 (by decide),
        W_of_ne m c main_arg4 (by decide), W_of_ne m c main_arg6 (by decide)]
    · rw [tail_eq, read_lse, W_wide, W_of_ne m c main_arg0 (by decide), W_of_ne m c main_arg1 (by decide), W_of_ne m c main_arg3 (by decide),
        W_of_ne m c main_arg4 (by decide), W_of_ne m c main_arg5 (by decide), W_of_ne m c main_arg6 (by decide)])
    (θ_run_and (run_main m ρ) (unchanged m ρ))

end Cert.Proof.Reference
-- ==== Proof.RefValue.lean ====
/- The reference's two results over the extended reals, read at one query. -/
module

public import proofs.«01_k».proof.Proof.RefRun
public import proofs.«01_k».proof.Proof.Consts

@[expose] public section

set_option maxRecDepth 16384

noncomputable section

namespace Cert.Proof.Reference

open Cert.ReferenceIdeal Cert.ReferenceIdeal.Gen
open Idealize.ShloMosaic Idealize.ShloMosaic.Pointwise
open Cert.Proof.Softmax

theorem keep_apply (a0 : Vec Ideal S256 .i32) (a1 : Vec Ideal S256x1x1024 .i32) (i : Fin 256) (q : Fin 16) (p : Fin 1024) (g : Fin 16) :
    refKeep (F := Ideal) a0 a1 (ix4 i q p g) = IntOp.andi
      (IntOp.andi
        (IntOp.cmpi .ne (IntOp.andi (IntOp.shrsi .host (a1 (ix3 i 0 p)) (IntOp.addi (BitVec.ofNat 32 g.val) 16#32)) 1#32) 0#32)
        (IntOp.cmpi .slt (BitVec.ofNat 32 p.val) (a0 (ix1 i))))
      (IntOp.ori (IntOp.cmpi .sgt (BitVec.ofNat 32 p.val) 0#32) (IntOp.cmpi .sle (BitVec.ofNat 32 g.val) (BitVec.ofNat 32 q.val))) := by
  pointwise [refKeep]

/-- A granule per place of the list. -/
theorem gather_apply (x : Vec Ideal S1024x16x640 .bf16) (idx : IVec S256x1024x1 32) (i : Fin 256) (p : Fin 1024) (g : Fin 16) (r : Fin 640) :
    Host.gather gather_S1024x16x640_S256x1024x1_S256x1024x16x640_23_0_n_n_0_2_116640 x idx (ix4 i p g r)
      = x (ix3 ⟨min (idx (ix3 i p 0)).toInt.toNat 1023, by omega⟩ g r) := by
  have hidx : gather_S1024x16x640_S256x1024x1_S256x1024x16x640_23_0_n_n_0_2_116640.siIdx (ix4 i p g r) ⟨0, by decide⟩ = ix3 i p 0 := by
    funext a
    match a with
    | ⟨0, _⟩ => rfl
    | ⟨1, _⟩ => rfl
    | ⟨2, _⟩ => rfl
  unfold Host.gather
  refine congrArg x (funext fun a => Fin.ext ?_)
  match a with
  | ⟨0, _⟩ =>
    show min (idx (gather_S1024x16x640_S256x1024x1_S256x1024x16x640_23_0_n_n_0_2_116640.siIdx (ix4 i p g r) ⟨0, by decide⟩)).toInt.toNat 1023 + 0 + 0 = _
    rw [hidx]; rfl
  | ⟨1, _⟩ => show 0 + 0 + g.val = g.val; omega
  | ⟨2, _⟩ => show 0 + 0 + r.val = r.val; omega

theorem keys_apply (a1 : Vec Ideal S256x1x1024 .i32) (a6 : Vec Ideal S1024x16x640 .bf16) (i : Fin 256) (k : Fin 16384) (r : Fin 640) :
    refKeys (F := Ideal) a1 a6 (ix3 i k r)
      = a6 (ix3 ⟨min (a1 (ix3 i 0 ⟨k.val / 16, by omega⟩) &&& 65535#32).toInt.toNat 1023, by omega⟩ ⟨k.val % 16, by omega⟩ r) := by
  pointwise [refKeys]
  rw [gather_apply]
  pointwise
  rfl

theorem score_apply (keep : Vec Ideal S256x16x1024x16 .i1) (keys : Vec Ideal S256x16384x640 .bf16) (w : Vec Ideal S4096x16x512 .bf16)
    (a3 : Vec Ideal S65536x128 .bf16) (a4 : Vec Ideal S256x1x256 .f32) (i : Fin 256) (q h : Fin 16) (k : Fin 16384) :
    refScore (F := Ideal) keep keys w a3 a4 (ix4 i q h k)
      = Scalar.select (keep (ix4 i q ⟨k.val / 16, by omega⟩ ⟨k.val % 16, by omega⟩))
      (Ideal.ofBits .f32 0x3DD53B95#32 *
        (a4 (ix3 i 0 ⟨q.val * 16 + h.val, by omega⟩) * ∑ x : Fin 512, w (ix3 ⟨i.val * 16 + q.val, by omega⟩ h x) * keys (ix3 i k ⟨x.val, by omega⟩) +
          ∑ x : Fin 128, a3 (ix2 ⟨i.val * 256 + q.val * 16 + h.val, by omega⟩ x) * keys (ix3 i k ⟨512 + x.val, by omega⟩)))
      (Ideal.ofBits .f32 0xFF800000#32) := by
  pointwise [refScore]

theorem reduce_apply {n0 n1 n2 n3 : ℕ} {u : Shape} (h : (⟨4, ![n0, n1, n2, n3]⟩ : Shape).ReducesTo [3] ⟨3, ![n0, n1, n2]⟩)
    (x : FVec Ideal ⟨4, ![n0, n1, n2, n3]⟩ .f32) (b : FVec Ideal u .f32) (hu : 0 < u.numel) (i : Fin n0) (q : Fin n1) (g : Fin n2) :
    Host.reduce (FloatOps.maximumf (F := Ideal) (φ := .f32)) x b h hu (ix3 i q g)
      = Finset.univ.fold max (b (Shape.Idx.first hu)) fun k : Fin n3 => x (ix4 i q g k) := by
  rw [Host.reduce_eq_fold, Shape.ReducesTo.fold_fiber_r4_a3]
  rfl

theorem base_of (v42 : FVec Ideal S256x16x16 .f32) (i : Fin 256) (q h : Fin 16) :
    select (cmpf .oeq (broadcastInDim S256x16x16x1 ![0, 1, 2] bcast_S256x16x16_S256x16x16x1_0_1_2 v42)
        (broadcastInDim S256x16x16x1 ![] bcast_S_S256x16x16x1 (constant (F := Ideal) S_ .f32 0xFF800000#32)))
      (broadcastInDim S256x16x16x1 ![] bcast_S_S256x16x16x1 (constant (F := Ideal) S_ .f32 0x00000000#32))
      (broadcastInDim S256x16x16x1 ![0, 1, 2] bcast_S256x16x16_S256x16x16x1_0_1_2 v42) (ix4 i q h 0)
      = base (v42 (ix3 i q h)) := by
  pointwise
  rw [neg_inf]; rfl

theorem base_apply (s : Vec Ideal S256x16x16x16384 .f32) (i : Fin 256) (q h : Fin 16) :
    refBase (F := Ideal) s (ix4 i q h 0) = base (Finset.univ.fold max ⊥ fun k : Fin 16384 => s (ix4 i q h k)) := by
  refine (base_of _ i q h).trans (congrArg base ((reduce_apply _ s _ _ i q h).trans ?_))
  exact congrArg (fun b => Finset.univ.fold max b fun k : Fin 16384 => s (ix4 i q h k)) neg_inf

theorem p_apply (s : Vec Ideal S256x16x16x16384 .f32) (b : Vec Ideal S256x16x16x1 .f32) (i : Fin 256) (q h : Fin 16) (k : Fin 16384) :
    refP (F := Ideal) s b (ix4 i q h k) = E (s (ix4 i q h k) - b (ix4 i q h 0)) := by
  pointwise [refP]
  rw [log_two, exp_mul_log]

theorem den_apply (p : Vec Ideal S256x16x16x16384 .f32) (i : Fin 256) (q h : Fin 16) :
    refDen (F := Ideal) p (ix4 i q h 0) = ∑ k : Fin 16384, p (ix4 i q h k) := by
  pointwise [refDen]

theorem out_apply (keys : Vec Ideal S256x16384x640 .bf16) (p : Vec Ideal S256x16x16x16384 .f32) (d : Vec Ideal S256x16x16x1 .f32)
    (i q : Fin 256) (r : Fin 512) :
    refOut (F := Ideal) keys p d (ix2 ⟨256 * i.val + q.val, by omega⟩ r)
      = Ideal.div (∑ k : Fin 16384, p (ix4 i ⟨q.val / 16, by omega⟩ ⟨q.val % 16, by omega⟩ k) * keys (ix3 i k ⟨r.val, by omega⟩))
        (d (ix4 i ⟨q.val / 16, by omega⟩ ⟨q.val % 16, by omega⟩ 0)) := by
  have e1 : (⟨(256 * i.val + q.val) / 16 % 16, by omega⟩ : Fin 16) = ⟨q.val / 16, by omega⟩ := Fin.ext (by simp only; omega)
  have e2 : (⟨(256 * i.val + q.val) % 16, by omega⟩ : Fin 16) = ⟨q.val % 16, by omega⟩ := Fin.ext (by simp only; omega)
  rw [← e1, ← e2]
  pointwise [refOut]

theorem lse_apply (b d : Vec Ideal S256x16x16x1 .f32) (a5 : Vec Ideal S256x1x256 .f32) (i q : Fin 256) :
    refLse (F := Ideal) b d a5 (ix3 i 0 q)
      = (b (ix4 i ⟨q.val / 16, by omega⟩ ⟨q.val % 16, by omega⟩ 0) +
          Ideal.div (Ideal.log (d (ix4 i ⟨q.val / 16, by omega⟩ ⟨q.val % 16, by omega⟩ 0)))
            (Ideal.log (Ideal.ofBits .f32 0x40000000#32))) *
        Ideal.ofBits .f32 0x3F317218#32 -
      Ideal.log (a5 (ix3 i 0 q)) := by
  pointwise [refLse]

end Cert.Proof.Reference
-- ==== Proof.Keep.lean ====
/- Which keys a row keeps, on words: the bit of a key read from a word's upper half, the places before the count, and in the row's
   first granule the keys not after the query. -/
module

public import proofs.«01_k».proof.Proof.Words

@[expose] public section

namespace Cert.Proof

open Idealize.ShloMosaic

/-- The key's bit, from the word's upper half; -/
def bitK (w : BitVec 32) (g : ℕ) : BitVec 1 :=
  IntOp.cmpi .ne (IntOp.andi (IntOp.shrui .vector (Scalar.shrsi w 16#32) (BitVec.ofNat 32 g)) 1#32) 0#32
/-- the same bit, from the word. -/
def bitR (w : BitVec 32) (g : ℕ) : BitVec 1 :=
  IntOp.cmpi .ne (IntOp.andi (IntOp.shrsi .host w (IntOp.addi (BitVec.ofNat 32 g) 16#32)) 1#32) 0#32

private theorem and_one (x : BitVec 32) : IntOp.cmpi .ne (IntOp.andi x 1#32) 0#32 = BitVec.ofBool (x.getLsbD 0) := by
  simp only [IntOp.cmpi, IntOp.andi, BitVec.and_one_eq_setWidth_ofBool_getLsbD]
  cases x.getLsbD 0 <;> rfl

private theorem ofNat_toNat {g : ℕ} (h : g < 16) : (BitVec.ofNat 32 g).toNat = g := by
  rw [BitVec.toNat_ofNat]; omega

private theorem add_toNat {g : ℕ} (h : g < 16) : (IntOp.addi (BitVec.ofNat 32 g) 16#32).toNat = g + 16 := by
  simp only [IntOp.addi, BitVec.toNat_add, BitVec.toNat_ofNat]; omega

theorem bitR_eq (w : BitVec 32) {g : ℕ} (h : g < 16) : bitR w g = BitVec.ofBool (w.getLsbD (g + 16)) := by
  unfold bitR
  rw [and_one, IntOp.shrsi, add_toNat h, if_pos (by omega), BitVec.sshiftRight', add_toNat h, BitVec.getLsbD_sshiftRight]
  have : g + 16 + 0 < 32 := by omega
  simp [this]

theorem bitK_eq (w : BitVec 32) {g : ℕ} (h : g < 16) : bitK w g = BitVec.ofBool (w.getLsbD (g + 16)) := by
  unfold bitK
  rw [and_one, IntOp.shrui, ofNat_toNat h, if_pos (by omega), BitVec.ushiftRight_eq', ofNat_toNat h, BitVec.getLsbD_ushiftRight,
    Scalar.shrsi, IntOp.shrsi, if_pos (by decide), BitVec.sshiftRight', BitVec.getLsbD_sshiftRight]
  have h1 : 16 + (g + 0) < 32 := by omega
  have h2 : ¬ 32 ≤ g := by omega
  have h3 : g + 16 < 32 := by omega
  simp [h1, h2, h3, Nat.add_comm]

theorem bit_zero {w : BitVec 32} (hw : w >>> 16 = 0#32) {g : ℕ} (h : g < 16) : w.getLsbD (g + 16) = false := by
  have := congrArg (fun x => x.getLsbD g) hw
  simpa [BitVec.getLsbD_ushiftRight, Nat.add_comm] using this

/-- The rule over the whole list, at key `g` of place `p`, for the query row `q` of a row of `v` places. -/
def keepR (w v : BitVec 32) (p g q : ℕ) : BitVec 1 :=
  IntOp.andi (IntOp.andi (bitR w g) (IntOp.cmpi .slt (BitVec.ofNat 32 p) v))
    (IntOp.ori (IntOp.cmpi .sgt (BitVec.ofNat 32 p) 0#32) (IntOp.cmpi .sle (BitVec.ofNat 32 g) (BitVec.ofNat 32 q)))

/-- The rule within a chunk `k`, at key `g` of its place `s`. -/
def keepK (w : BitVec 32) (k s g q : ℕ) : BitVec 1 :=
  if s = 0 then IntOp.andi (bitK w g)
    (IntOp.cmpi .sle (IntOp.subi (BitVec.ofNat 32 g) (Scalar.select (Scalar.cmpi .eq (Scf.iv 0#32 1#32 k) 0#32) 0#32 16#32)) (BitVec.ofNat 32 q))
  else bitK w g

private theorem toInt_small {p : ℕ} (h : p < 1024) : (BitVec.ofNat 32 p).toInt = p := by
  rw [BitVec.toInt_eq_toNat_cond, BitVec.toNat_ofNat, Nat.mod_eq_of_lt (by omega), if_pos (by omega)]

private theorem slt_eq {p : ℕ} (h : p < 1024) (v : BitVec 32) : IntOp.cmpi .slt (BitVec.ofNat 32 p) v = if (p : ℤ) < v.toInt then 1#1 else 0#1 := by
  simp only [IntOp.cmpi, BitVec.slt, toInt_small h]
  split <;> rename_i h' <;> simp [h']

private theorem and_zero_l (c : BitVec 1) : IntOp.andi 0#1 c = 0#1 := by revert c; decide
private theorem and_zero_r (c : BitVec 1) : IntOp.andi c 0#1 = 0#1 := by revert c; decide
private theorem and_one_r (c : BitVec 1) : IntOp.andi c 1#1 = c := by revert c; decide
private theorem or_one_l (c : BitVec 1) : IntOp.ori 1#1 c = 1#1 := by revert c; decide
private theorem or_zero_l (c : BitVec 1) : IntOp.ori 0#1 c = c := by revert c; decide

/-- A place not before the count keeps nothing. -/
theorem keepR_past {v : BitVec 32} {p : ℕ} (hp : p < 1024) (h : v.toInt ≤ p) (w : BitVec 32) (g q : ℕ) : keepR w v p g q = 0#1 := by
  unfold keepR
  rw [slt_eq hp, if_neg (by omega), and_zero_r, and_zero_l]

private theorem sgt_eq {p : ℕ} (h : p < 1024) : IntOp.cmpi .sgt (BitVec.ofNat 32 p) 0#32 = if 0 < p then 1#1 else 0#1 := by
  simp only [IntOp.cmpi, BitVec.slt, toInt_small h]
  split <;> rename_i h' <;> simp [h']

private theorem sle_eq : ∀ g : Fin 16, ∀ q : Fin 16, IntOp.cmpi .sle (IntOp.subi (BitVec.ofNat 32 g.val) 16#32) (BitVec.ofNat 32 q.val) = 1#1 := by
  decide +kernel

private theorem iv_eq {k : ℕ} (h : k < 64) : Scalar.cmpi .eq (Scf.iv 0#32 1#32 k) 0#32 = if k = 0 then 1#1 else 0#1 := by
  have : ∀ k : Fin 64, Scalar.cmpi .eq (Scf.iv 0#32 1#32 k.val) 0#32 = if k.val = 0 then 1#1 else 0#1 := by decide +kernel
  exact this ⟨k, h⟩

/-- The two rules agree where a word past the count chooses nothing. -/
theorem keep_eq {w v : BitVec 32} {k s g q : ℕ} (hk : k < 64) (hs : s < 16) (hg : g < 16) (hq : q < 16)
    (hz : v.toInt ≤ (16 * k + s : ℕ) → w >>> 16 = 0#32) : keepK w k s g q = keepR w v (16 * k + s) g q := by
  by_cases hp : ((16 * k + s : ℕ) : ℤ) < v.toInt
  · unfold keepK keepR
    rw [slt_eq (by omega), if_pos hp, and_one_r, sgt_eq (by omega), bitK_eq w hg, bitR_eq w hg, iv_eq hk]
    by_cases h0 : s = 0
    · rw [if_pos h0]
      by_cases h1 : k = 0
      · rw [if_pos h1, if_neg (by omega), or_zero_l, show Scalar.select 1#1 0#32 16#32 = 0#32 from rfl]
        simp only [IntOp.subi, BitVec.sub_zero]
      · rw [if_neg h1, if_pos (by omega), or_one_l, show Scalar.select 0#1 0#32 16#32 = 16#32 from rfl, sle_eq ⟨g, hg⟩ ⟨q, hq⟩]
    · rw [if_neg h0, if_pos (by omega), or_one_l, and_one_r]
  · rw [keepR_past (by omega) (by omega)]
    have hb := bit_zero (hz (by omega)) hg
    unfold keepK
    rw [bitK_eq w hg, hb]
    split
    · exact and_zero_l _
    · rfl

end Cert.Proof
-- ==== Proof.KernelIdealValue.lean ====
/- A row's results over the extended reals: what the chunks leave is what the softmax over the whole list says. -/
module

public import proofs.«01_k».proof.Proof.KernelIdealRow
public import proofs.«01_k».proof.Proof.RefValue
public import proofs.«01_k».proof.Proof.Keep
public import proofs.«01_k».proof.Proof.Listed

@[expose] public section

set_option maxRecDepth 16384

noncomputable section

namespace Cert.Proof.KernelIdeal

open Cert.KernelIdeal Cert.KernelIdeal.Gen
open Idealize.ShloMosaic Idealize.ShloMosaic.Pointwise
open Cert.Proof.Softmax Cert.Proof.Reference

/-- The key of a lane is its row; -/
abbrev keyIx : IVec S16x256 32 := iota .tc S16x256 32 [0] iota_S16x256_d0_w32
/-- the query row of a lane is its column's sixteenth. -/
abbrev rowIx : IVec S16x256 32 := k0_pay112 k0_pay109 k0_pay110 k0_pay111

theorem keyIx_apply (g : Fin 16) (Q : Fin 256) : keyIx (ix2 g Q) = BitVec.ofNat 32 g.val := by
  pointwise

theorem rowIx_apply (g : Fin 16) (Q : Fin 256) : rowIx (ix2 g Q) = BitVec.ofNat 32 (Q.val / 16) := by
  pointwise [k0_pay112, k0_pay109, k0_pay110, k0_pay111]
  revert Q
  decide +kernel

theorem keepW_apply (k : ℕ) (s g : Fin 16) (Q : Fin 256) (w : BitVec 32) :
    keepW keyIx rowIx k s w (ix2 g Q) = keepK w k s.val g.val (Q.val / 16) := by
  unfold keepW keepK
  split
  · show IntOp.andi (IntOp.cmpi .ne (IntOp.andi (IntOp.shrui .vector (Scalar.shrsi w 16#32) (keyIx (ix2 g Q))) 1#32) 0#32)
      (IntOp.cmpi .sle (IntOp.subi (keyIx (ix2 g Q)) _) (rowIx (ix2 g Q))) = _
    rw [keyIx_apply, rowIx_apply]
    rfl
  · show IntOp.cmpi .ne (IntOp.andi (IntOp.shrui .vector (Scalar.shrsi w 16#32) (keyIx (ix2 g Q))) 1#32) 0#32 = _
    rw [keyIx_apply]
    rfl

section row
variable (a0 : Vec Ideal S256 .i32) (a1 : Vec Ideal S256x1x1024 .i32) (a2 : Vec Ideal S4096x16x512 .fp8e4m3) (a3 : Vec Ideal S65536x128 .bf16)
  (a4 a5 : Vec Ideal S256x1x256 .f32) (a6 : Vec Ideal S1024x16x640 .bf16) (i : Fin 256)

/-- A query's scores over the list's keys; -/
def sR (Q : Fin 256) (k : ℕ) : EReal :=
  if h : k < 16384 then scores (F := Ideal) a0 a1 (wide a2) a3 a4 a6 (ix4 i ⟨Q.val / 16, by omega⟩ ⟨Q.val % 16, by omega⟩ ⟨k, h⟩) else ⊥
/-- the largest of them; -/
def topR (Q : Fin 256) : EReal :=
  Finset.univ.fold max ⊥ fun k : Fin 16384 => scores (F := Ideal) a0 a1 (wide a2) a3 a4 a6 (ix4 i ⟨Q.val / 16, by omega⟩ ⟨Q.val % 16, by omega⟩ k)

/-- a column of the list's keys. -/
def vR (r : Fin 512) (k : ℕ) : EReal :=
  if h : k < 16384 then refKeys (F := Ideal) a1 a6 (ix3 i ⟨k, h⟩ ⟨r.val, by omega⟩) else 0

theorem scores_apply (Q : Fin 256) (k : Fin 16384) :
    scores (F := Ideal) a0 a1 (wide a2) a3 a4 a6 (ix4 i ⟨Q.val / 16, by omega⟩ ⟨Q.val % 16, by omega⟩ k)
      = Scalar.select (keepR (a1 (ix3 i 0 ⟨k.val / 16, by omega⟩)) (a0 (ix1 i)) (k.val / 16) (k.val % 16) (Q.val / 16))
      (Ideal.ofBits .f32 0x3DD53B95#32 *
        (a4 (ix3 i 0 Q) * ∑ x : Fin 512, a2 (ix3 ⟨16 * i.val + Q.val / 16, by omega⟩ ⟨Q.val % 16, by omega⟩ x) * refKeys (F := Ideal) a1 a6 (ix3 i k ⟨x.val, by omega⟩) +
          ∑ x : Fin 128, a3 (ix2 ⟨256 * i.val + Q.val, by omega⟩ x) * refKeys (F := Ideal) a1 a6 (ix3 i k ⟨512 + x.val, by omega⟩))) ⊥ := by
  unfold scores
  rw [score_apply, keep_apply, neg_inf]
  have e1 : (⟨Q.val / 16 * 16 + Q.val % 16, by omega⟩ : Fin 256) = Q := Fin.ext (by simp only; omega)
  have e2 : (⟨i.val * 256 + Q.val / 16 * 16 + Q.val % 16, by omega⟩ : Fin 65536) = ⟨256 * i.val + Q.val, by omega⟩ := Fin.ext (by simp only; omega)
  have e3 : (⟨i.val * 16 + Q.val / 16, by omega⟩ : Fin 4096) = ⟨16 * i.val + Q.val / 16, by omega⟩ := Fin.ext (by simp only; omega)
  simp only [e1, e2, e3]
  rfl

variable {a0 a1 a2 a3 a4 a5 a6}
variable {x2 : Vec Ideal S1x1x1024 .i32} {x3 : Vec Ideal S16x16x512 .fp8e4m3} {x4 : Vec Ideal S256x128 .bf16} {x5 x6 : Vec Ideal S1x1x256 .f32}
  {x7 : Vec Ideal S1024x16x640 .bf16}

/-- The row's blocks are those of the arrays. -/
structure RowOf (a1 : Vec Ideal S256x1x1024 .i32) (a2 : Vec Ideal S4096x16x512 .fp8e4m3) (a3 : Vec Ideal S65536x128 .bf16)
    (a4 a5 : Vec Ideal S256x1x256 .f32) (a6 : Vec Ideal S1024x16x640 .bf16) (i : Fin 256) (x2 : Vec Ideal S1x1x1024 .i32)
    (x3 : Vec Ideal S16x16x512 .fp8e4m3) (x4 : Vec Ideal S256x128 .bf16) (x5 x6 : Vec Ideal S1x1x256 .f32) (x7 : Vec Ideal S1024x16x640 .bf16) : Prop where
  h2 : ∀ p : Fin 1024, x2 (ix3 (0 : Fin 1) (0 : Fin 1) p) = a1 (ix3 i (0 : Fin 1) p)
  h3 : ∀ (q h : Fin 16) (r : Fin 512), x3 (ix3 q h r) = a2 (ix3 (⟨16 * i.val + q.val, by omega⟩ : Fin 4096) h r)
  h4 : ∀ (q : Fin 256) (r : Fin 128), x4 (ix2 q r) = a3 (ix2 (⟨256 * i.val + q.val, by omega⟩ : Fin 65536) r)
  h5 : ∀ q : Fin 256, x5 (ix3 (0 : Fin 1) (0 : Fin 1) q) = a4 (ix3 i (0 : Fin 1) q)
  h6 : ∀ q : Fin 256, x6 (ix3 (0 : Fin 1) (0 : Fin 1) q) = a5 (ix3 i (0 : Fin 1) q)
  h7 : ∀ (g : Fin 1024) (k : Fin 16) (r : Fin 640), x7 (ix3 g k r) = a6 (ix3 g k r)

variable (hx : RowOf a1 a2 a3 a4 a5 a6 i x2 x3 x4 x5 x6 x7)

include hx in
theorem ent_eq {p : ℕ} (hp : p < 1024) : ent x2 p = wordAt a1 i ⟨p, hp⟩ := by
  unfold ent
  refine (hx.h2 _).trans ?_
  exact congrArg (fun q => a1 (ix3 i (0 : Fin 1) q)) (Fin.ext (Nat.mod_eq_of_lt hp))

variable (hg : ∀ p : Fin 1024, p.val < 16 * chunks (a0 (ix1 i)) → (wordAt a1 i p &&& 65535#32).toNat < 1024)
  (hu : ∀ p : Fin 1024, p.val < 16 * chunks (a0 (ix1 i)) → (a0 (ix1 i)).toInt ≤ p.val → wordAt a1 i p >>> 16 = 0#32)
  (hc : (a0 (ix1 i)).toInt ≤ 1024)

include hx hg hc in
/-- The keys of a chunk are those of the list. -/
theorem keysAt_eq {t : ℕ} (ht : t < chunks (a0 (ix1 i))) (y : Fin 256) (r : Fin 640) :
    keysAt x2 x7 t (ix2 y r) = refKeys (F := Ideal) a1 a6 (ix3 i ⟨256 * t + y.val, by have := chunks_le hc; omega⟩ r) := by
  have hl := chunks_le hc
  have hp : 16 * t + y.val / 16 < 1024 := by omega
  have hw := hg ⟨16 * t + y.val / 16, hp⟩ (by simp only; omega)
  have ep : (⟨(256 * t + y.val) / 16, by omega⟩ : Fin 1024) = ⟨16 * t + y.val / 16, hp⟩ := Fin.ext (by simp only; omega)
  have eg : (⟨(256 * t + y.val) % 16, by omega⟩ : Fin 16) = ⟨y.val % 16, by omega⟩ := Fin.ext (by simp only; omega)
  rw [keys_apply]
  simp only [ep, eg]
  show x7 (ix3 ⟨(ent x2 (16 * t + y.val / 16) &&& 65535#32).toNat % 1024, _⟩ ⟨y.val % 16, _⟩ r) = _
  rw [hx.h7]
  refine congrArg (fun g => a6 (ix3 g (⟨y.val % 16, by omega⟩ : Fin 16) r)) (Fin.ext ?_)
  show (ent x2 (16 * t + y.val / 16) &&& 65535#32).toNat % 1024 = min (wordAt a1 i ⟨16 * t + y.val / 16, hp⟩ &&& 65535#32).toInt.toNat 1023
  rw [ent_eq i hx hp, BitVec.toInt_eq_toNat_cond, if_pos (by omega)]
  omega

include hx hg hu hc in
/-- The scores of a chunk are those of the list. -/
theorem scoreAt_eq (Q : Fin 256) {t : ℕ} (ht : t < chunks (a0 (ix1 i))) (y : Fin 256) :
    scoreAt (k0_pay108 x5) keyIx rowIx x2 x4 x7 (k0_pay106 x3) t (ix2 y Q) = sR a0 a1 a2 a3 a4 a6 i Q (256 * t + y.val) := by
  have hl := chunks_le hc
  have hp : 16 * t + y.val / 16 < 1024 := by omega
  have hk : 256 * t + y.val < 16384 := by omega
  have ep : (⟨(256 * t + y.val) / 16, by omega⟩ : Fin 1024) = ⟨16 * t + y.val / 16, hp⟩ := Fin.ext (by simp only; omega)
  have ep' : (256 * t + y.val) / 16 = 16 * t + y.val / 16 := by omega
  have eg : (256 * t + y.val) % 16 = y.val % 16 := by omega
  unfold sR
  rw [dif_pos hk, scores_apply]
  simp only [ep, ep', eg]
  have e : keepK (a1 (ix3 i 0 ⟨16 * t + y.val / 16, hp⟩)) t (y.val / 16) (y.val % 16) (Q.val / 16)
      = keepR (a1 (ix3 i 0 ⟨16 * t + y.val / 16, hp⟩)) (a0 (ix1 i)) (16 * t + y.val / 16) (y.val % 16) (Q.val / 16) :=
    keep_eq (by omega) (by omega) (by omega) (by omega) (hu ⟨16 * t + y.val / 16, hp⟩ (by simp only; omega))
  rw [← e]
  show (if keepAt keyIx rowIx x2 t ⟨y.val / 16, _⟩ (ix2 ⟨y.val % 16, _⟩ Q) = 1#1
    then rawAt (k0_pay108 x5) x4 (k0_pay106 x3) (latAt x2 x7 t) (ropeAt x2 x7 t) (ix2 y Q) else Ideal.ofBits .f32 0xFF800000#32) = _
  unfold keepAt
  rw [keepW_apply, ent_eq i hx hp, neg_inf]
  unfold Scalar.select
  refine if_congr Iff.rfl ?_ rfl
  unfold rawAt
  rw [pay39_apply, pay38_apply, pay37_apply, pay108_apply, hx.h5]
  obtain ⟨C, hC, eC⟩ := scale_real
  rw [eC, score_eq hC]
  refine congrArg (fun z => (C : EReal) * z) (congrArg₂ (· + ·) (congrArg (fun z => a4 (ix3 i (0 : Fin 1) Q) * z) (Finset.sum_congr rfl fun x _ => ?_))
    (Finset.sum_congr rfl fun x _ => ?_))
  · rw [pay106_apply, hx.h3, mul_comm]
    exact congrArg₂ (· * ·) rfl (keysAt_eq i hx hg hc ht y ⟨x.val, by omega⟩)
  · rw [hx.h4, mul_comm]
    exact congrArg₂ (· * ·) rfl (keysAt_eq i hx hg hc ht y ⟨512 + x.val, by omega⟩)

include hx hg hc in
theorem latAt_eq (r : Fin 512) {t : ℕ} (ht : t < chunks (a0 (ix1 i))) (y : Fin 256) :
    latAt x2 x7 t (ix2 y r) = vR a1 a6 i r (256 * t + y.val) := by
  have hl := chunks_le hc
  unfold vR
  rw [dif_pos (by omega)]
  exact keysAt_eq i hx hg hc ht y ⟨r.val, by omega⟩

/-- Past the chunks the list keeps nothing. -/
theorem sR_past (Q : Fin 256) {k : ℕ} (hk : 256 * chunks (a0 (ix1 i)) ≤ k) : sR a0 a1 a2 a3 a4 a6 i Q k = ⊥ := by
  unfold sR
  split
  · rename_i h
    rw [scores_apply, keepR_past (by simp only; omega) (by unfold chunks at hk; simp only; omega)]
    rfl
  · rfl

theorem base_eq (Q : Fin 256) : refBase (F := Ideal) (scores a0 a1 (wide a2) a3 a4 a6) (ix4 i ⟨Q.val / 16, by omega⟩ ⟨Q.val % 16, by omega⟩ 0)
    = base (topR a0 a1 a2 a3 a4 a6 i Q) := base_apply _ _ _ _

theorem den_eq (Q : Fin 256) : refDen (F := Ideal) (refP (scores a0 a1 (wide a2) a3 a4 a6) (refBase (scores a0 a1 (wide a2) a3 a4 a6)))
      (ix4 i ⟨Q.val / 16, by omega⟩ ⟨Q.val % 16, by omega⟩ 0)
    = ∑ k ∈ Finset.range 16384, E (sR a0 a1 a2 a3 a4 a6 i Q k - base (topR a0 a1 a2 a3 a4 a6 i Q)) := by
  rw [den_apply, Finset.sum_range]
  refine Finset.sum_congr rfl fun k _ => ?_
  rw [p_apply, base_eq]
  unfold sR
  rw [dif_pos k.isLt]

theorem num_eq (Q : Fin 256) (r : Fin 512) :
    ∑ k : Fin 16384, refP (F := Ideal) (scores a0 a1 (wide a2) a3 a4 a6) (refBase (scores a0 a1 (wide a2) a3 a4 a6))
        (ix4 i ⟨Q.val / 16, by omega⟩ ⟨Q.val % 16, by omega⟩ k) * refKeys (F := Ideal) a1 a6 (ix3 i k ⟨r.val, by omega⟩)
      = ∑ k ∈ Finset.range 16384, E (sR a0 a1 a2 a3 a4 a6 i Q k - base (topR a0 a1 a2 a3 a4 a6 i Q)) * vR a1 a6 i r k := by
  rw [Finset.sum_range]
  refine Finset.sum_congr rfl fun k _ => ?_
  rw [p_apply, base_eq]
  unfold sR vR
  rw [dif_pos k.isLt, dif_pos k.isLt]

include hx hg hu hc in
/-- What the chunks leave, as the softmax over the list. -/
theorem end_eq (Q : Fin 256) (r : Fin 512) {l : EReal} (hl : l = ((Real.log 2 : ℝ) : EReal)) :
    Ideal.div ((endSt (a0 (ix1 i)) x2 x3 x4 x5 x7).acc (ix2 Q r)) ((endSt (a0 (ix1 i)) x2 x3 x4 x5 x7).den (ix2 0 Q))
        = Ideal.div (∑ k ∈ Finset.range 16384, E (sR a0 a1 a2 a3 a4 a6 i Q k - base (topR a0 a1 a2 a3 a4 a6 i Q)) * vR a1 a6 i r k)
          (∑ k ∈ Finset.range 16384, E (sR a0 a1 a2 a3 a4 a6 i Q k - base (topR a0 a1 a2 a3 a4 a6 i Q)))
      ∧ (endSt (a0 (ix1 i)) x2 x3 x4 x5 x7).base (ix2 0 Q) + Ideal.div (Ideal.log ((endSt (a0 (ix1 i)) x2 x3 x4 x5 x7).den (ix2 0 Q))) l
        = base (topR a0 a1 a2 a3 a4 a6 i Q) + Ideal.div (Ideal.log (∑ k ∈ Finset.range 16384, E (sR a0 a1 a2 a3 a4 a6 i Q k - base (topR a0 a1 a2 a3 a4 a6 i Q)))) l := by
  have h := row_inv (k0_pay108 x5) keyIx rowIx x2 x4 x7 (k0_pay106 x3) Q r (chunks (a0 (ix1 i)))
    (fun t ht y => scoreAt_eq i hx hg hu hc Q ht y) (fun t ht y => latAt_eq i hx hg hc r ht y) _ (le_refl _)
  refine final h.1 h.2 (by have := chunks_le hc; omega) (fun k hk => sR_past i Q hk) (fun k hk => ?_) ?_ hl
  · unfold sR
    rw [dif_pos hk]
    exact le_fold (fun k : Fin 16384 => scores (F := Ideal) a0 a1 (wide a2) a3 a4 a6 (ix4 i ⟨Q.val / 16, by omega⟩ ⟨Q.val % 16, by omega⟩ k)) ⟨k, hk⟩
  · rcases fold_mem (fun k : Fin 16384 => scores (F := Ideal) a0 a1 (wide a2) a3 a4 a6 (ix4 i ⟨Q.val / 16, by omega⟩ ⟨Q.val % 16, by omega⟩ k)) with h' | ⟨k, h'⟩
    · exact .inl h'
    · refine .inr ⟨k.val, k.isLt, ?_⟩
      unfold sR
      rw [dif_pos k.isLt]
      exact h'

include hx hg hu hc in
theorem outAt_eq (Q : Fin 256) (r : Fin 512) : outAt (a0 (ix1 i)) x2 x3 x4 x5 x7 (ix2 Q r)
    = outR (F := Ideal) a0 a1 (wide a2) a3 a4 a6 (ix2 ⟨256 * i.val + Q.val, by omega⟩ r) := by
  unfold outAt outR
  rw [pay129_apply, out_apply, num_eq, den_eq]
  exact (end_eq i hx hg hu hc Q r rfl).1

include hx hg hu hc in
theorem lseAt_eq (Q : Fin 256) : lseAt (a0 (ix1 i)) x2 x3 x4 x5 x6 x7 (ix3 0 0 Q)
    = lseR (F := Ideal) a0 a1 (wide a2) a3 a4 a5 a6 (ix3 i 0 Q) := by
  unfold lseAt lseR
  rw [pay1_apply, lse_apply, pay130_apply, base_eq, den_eq, hx.h6]
  exact congrArg (fun z => z * Ideal.ofBits .f32 0x3F317218#32 - Ideal.log (a5 (ix3 i (0 : Fin 1) Q))) (end_eq i hx hg hu hc Q 0 log_two).2

end row

end Cert.Proof.KernelIdeal
-- ==== Proof.KernelIdealArrays.lean ====
/- The kernel's two result arrays over the extended reals are the reference's. -/
module

public import proofs.«01_k».proof.Proof.KernelIdealBlocks
public import proofs.«01_k».proof.Proof.KernelIdealValue
public import Idealize.ShloMosaic.Lib.Pipeline.Covers

@[expose] public section

set_option maxRecDepth 16384

noncomputable section

namespace Cert.Proof.KernelIdeal

open Cert.KernelIdeal Cert.KernelIdeal.Gen
open Idealize.ShloMosaic Idealize.ShloMosaic.TcCoe
open Idealize.SL.Sem
open Idealize.ShloMosaic.Pipeline (Dat Cfg Window)
open Cert.Proof.Reference

variable (m : (ℓ : Loc nD τ sig) → Buf (Elt Ideal) ℓ) (ρ : Dev nD → PrngReg)

/-- The arguments. -/
abbrev A0 (c : Dev nD) := m ((c.tc : Thread nD τ).loc main_arg0)
abbrev A1 (c : Dev nD) := m ((c.tc : Thread nD τ).loc main_arg1)
abbrev A2 (c : Dev nD) := m ((c.tc : Thread nD τ).loc main_arg2)
abbrev A3 (c : Dev nD) := m ((c.tc : Thread nD τ).loc main_arg3)
abbrev A4 (c : Dev nD) := m ((c.tc : Thread nD τ).loc main_arg4)
abbrev A5 (c : Dev nD) := m ((c.tc : Thread nD τ).loc main_arg5)
abbrev A6 (c : Dev nD) := m ((c.tc : Thread nD τ).loc main_arg6)

theorem rowOf_blocks (c : Dev nD) (t : Fin (cfgM m).N) : RowOf (A1 m c) (A2 m c) (A3 m c) (A4 m c) (A5 m c) (A6 m c) (rowOf m t)
    (blk0 m c t) (blk1 m c t) (blk2 m c t) (blk3 m c t) (blk4 m c t) (blk5 m c t) :=
  ⟨fun p => blk0_apply m c t p, fun q h r => blk1_apply m c t q h r, fun q r => blk2_apply m c t q r, fun q => blk3_apply m c t q,
    fun q => blk4_apply m c t q, fun g k r => blk5_apply m c t g k r⟩

/-- What the precondition says of the list. -/
abbrev Listed (c : Dev nD) : Prop :=
  (Cert.Pre_listed.fn (F := Ideal) (A0 m c) (A1 m c) (A2 m c) (A3 m c) (A4 m c) (A5 m c) (A6 m c)).1 = (fun _ => 1#1)
    ∧ (Cert.Pre_listed.fn (F := Ideal) (A0 m c) (A1 m c) (A2 m c) (A3 m c) (A4 m c) (A5 m c) (A6 m c)).2.1 = (fun _ => 1#1)
    ∧ (Cert.Pre_listed.fn (F := Ideal) (A0 m c) (A1 m c) (A2 m c) (A3 m c) (A4 m c) (A5 m c) (A6 m c)).2.2 = (fun _ => 1#1)

variable {m} (h : ∀ c : Dev nD, Listed m c)

include h in
theorem outB_apply (c : Dev nD) (t : Fin (cfgM m).N) (Q : Fin 256) (r : Fin 512) : outB m c t (ix2 Q r)
    = outR (F := Ideal) (A0 m c) (A1 m c) (wide (A2 m c)) (A3 m c) (A4 m c) (A6 m c)
      (ix2 (⟨256 * (rowOf m t).val + Q.val, by have := (rowOf m t).isLt; omega⟩ : Fin 65536) r) := by
  obtain rfl : c = 0 := Subsingleton.elim _ _
  unfold outB
  rw [cnt_eq]
  exact outAt_eq (rowOf m t) (rowOf_blocks m 0 t) (fun p hp => granule_lt (h 0).2.1 (rowOf m t) p hp)
    (fun p hp hc => unchosen (h 0).2.2 (rowOf m t) p hp hc) (count_le (h 0).1 (rowOf m t)) Q r

include h in
theorem lseB_apply (c : Dev nD) (t : Fin (cfgM m).N) (Q : Fin 256) : lseB m c t (ix3 (0 : Fin 1) (0 : Fin 1) Q)
    = lseR (F := Ideal) (A0 m c) (A1 m c) (wide (A2 m c)) (A3 m c) (A4 m c) (A5 m c) (A6 m c) (ix3 (rowOf m t) (0 : Fin 1) Q) := by
  obtain rfl : c = 0 := Subsingleton.elim _ _
  unfold lseB
  rw [cnt_eq]
  exact lseAt_eq (rowOf m t) (rowOf_blocks m 0 t) (fun p hp => granule_lt (h 0).2.1 (rowOf m t) p hp)
    (fun p hp hc => unchosen (h 0).2.2 (rowOf m t) p hp hc) (count_le (h 0).1 (rowOf m t)) Q

/-- The grid point of a row. -/
def rowPoint (i : Fin 256) : grid0.Coords := fun a => match a with | ⟨0, _⟩ => i

theorem rowPoint_word (i : Fin 256) : (BitVec.ofNat 32 (rowPoint i 0).val).toNat = i.val := by
  rw [BitVec.toNat_ofNat]
  exact Nat.mod_eq_of_lt (lt_trans i.isLt (by decide))

theorem nblk6_0 : ((cfgM m).win 6).nblk (⟨0, by decide⟩ : Fin 2) = 256 := by
  show (65536 + 256 - 1) / 256 = 256
  decide

theorem nblk6_1 : ((cfgM m).win 6).nblk (⟨1, by decide⟩ : Fin 2) = 1 := by
  show (512 + 512 - 1) / 512 = 1
  decide

theorem covers6 : ((cfgM m).win 6).Covers := by
  refine Window.covers_of_indexMap_surj _ rfl (fun a => ?_) fun β => ?_
  · match a with
    | ⟨0, _⟩ => exact (by decide : 0 < 256)
    | ⟨1, _⟩ => exact (by decide : 0 < 512)
  · have h0 : (β (⟨0, by decide⟩ : Fin 2)).val < 256 := lt_of_lt_of_eq (β (⟨0, by decide⟩ : Fin 2)).isLt nblk6_0
    let i : Fin 256 := ⟨(β (⟨0, by decide⟩ : Fin 2)).val, h0⟩
    have h1 : (β (⟨1, by decide⟩ : Fin 2)).val < 1 := lt_of_lt_of_eq (β (⟨1, by decide⟩ : Fin 2)).isLt nblk6_1
    refine ⟨rowPoint i, fun a => ?_⟩
    match a with
    | ⟨0, _⟩ => exact rowPoint_word i
    | ⟨1, _⟩ => exact (by omega : 0 = (β (⟨1, by decide⟩ : Fin 2)).val)

theorem nblk7_0 : ((cfgM m).win 7).nblk (⟨0, by decide⟩ : Fin 3) = 256 := by
  show (256 + 1 - 1) / 1 = 256
  decide

theorem nblk7_1 : ((cfgM m).win 7).nblk (⟨1, by decide⟩ : Fin 3) = 1 := by
  show (1 + 1 - 1) / 1 = 1
  decide

theorem nblk7_2 : ((cfgM m).win 7).nblk (⟨2, by decide⟩ : Fin 3) = 1 := by
  show (256 + 256 - 1) / 256 = 1
  decide

theorem covers7 : ((cfgM m).win 7).Covers := by
  refine Window.covers_of_indexMap_surj _ rfl (fun a => ?_) fun β => ?_
  · match a with
    | ⟨0, _⟩ => exact (by decide : 0 < 1)
    | ⟨1, _⟩ => exact (by decide : 0 < 1)
    | ⟨2, _⟩ => exact (by decide : 0 < 256)
  · have h0 : (β (⟨0, by decide⟩ : Fin 3)).val < 256 := lt_of_lt_of_eq (β (⟨0, by decide⟩ : Fin 3)).isLt nblk7_0
    let i : Fin 256 := ⟨(β (⟨0, by decide⟩ : Fin 3)).val, h0⟩
    have h1 : (β (⟨1, by decide⟩ : Fin 3)).val < 1 := lt_of_lt_of_eq (β (⟨1, by decide⟩ : Fin 3)).isLt nblk7_1
    have h2 : (β (⟨2, by decide⟩ : Fin 3)).val < 1 := lt_of_lt_of_eq (β (⟨2, by decide⟩ : Fin 3)).isLt nblk7_2
    refine ⟨rowPoint i, fun a => ?_⟩
    match a with
    | ⟨0, _⟩ => exact rowPoint_word i
    | ⟨1, _⟩ => exact (by omega : 0 = (β (⟨1, by decide⟩ : Fin 3)).val)
    | ⟨2, _⟩ => exact (by omega : 0 = (β (⟨2, by decide⟩ : Fin 3)).val)

include h in
theorem arr_out (c : Dev nD) : (dats m 0 c).arrAt 6 (cfgM m).N
    = outR (F := Ideal) (A0 m c) (A1 m c) (wide (A2 m c)) (A3 m c) (A4 m c) (A6 m c) := by
  refine (dats m 0 c).arrAt_eq_of_covers 6 _ covers6 fun t _ y' => ?_
  let y : S256x512.Idx := y'
  show (dats m 0 c).after 6 t y = _
  rw [after0_6]
  have e : y = ix2 (n0 := 256) (n1 := 512) (y 0) (y 1) := funext fun a => by match a with | ⟨0, _⟩ => rfl | ⟨1, _⟩ => rfl
  refine (congrArg (outB m c t) e).trans ((outB_apply h c t (y 0) (y 1)).trans ?_)
  refine congrArg (outR (F := Ideal) (A0 m c) (A1 m c) (wide (A2 m c)) (A3 m c) (A4 m c) (A6 m c)) (funext fun a => Fin.ext ?_)
  refine Eq.trans ?_ (Pipeline.Window.rect_emb_val ((cfgM m).win 6) t y a rfl).symm
  have hw := row_word m t
  match a with
  | ⟨0, _⟩ =>
    show 256 * (rowOf m t).val + (y 0).val = (BitVec.ofNat 32 (grid0.coords t 0).val).toNat * 256 + (y 0).val
    rw [hw]; omega
  | ⟨1, _⟩ => show (y 1).val = 0 * 512 + (y 1).val; omega

include h in
theorem arr_lse (c : Dev nD) : (dats m 0 c).arrAt 7 (cfgM m).N
    = lseR (F := Ideal) (A0 m c) (A1 m c) (wide (A2 m c)) (A3 m c) (A4 m c) (A5 m c) (A6 m c) := by
  refine (dats m 0 c).arrAt_eq_of_covers 7 _ covers7 fun t _ y' => ?_
  let y : S1x1x256.Idx := y'
  show (dats m 0 c).after 7 t y = _
  rw [after0_7]
  have h0 : (y 0).val < 1 := (y 0).isLt
  have h1 : (y 1).val < 1 := (y 1).isLt
  have e : y = ix3 (n0 := 1) (n1 := 1) (n2 := 256) (0 : Fin 1) (0 : Fin 1) (y 2) := funext fun a => by
    match a with
    | ⟨0, _⟩ => exact Fin.ext (by show (y 0).val = 0; omega)
    | ⟨1, _⟩ => exact Fin.ext (by show (y 1).val = 0; omega)
    | ⟨2, _⟩ => rfl
  refine (congrArg (lseB m c t) e).trans ((lseB_apply h c t (y 2)).trans ?_)
  refine congrArg (lseR (F := Ideal) (A0 m c) (A1 m c) (wide (A2 m c)) (A3 m c) (A4 m c) (A5 m c) (A6 m c)) (funext fun a => Fin.ext ?_)
  refine Eq.trans ?_ (Pipeline.Window.rect_emb_val ((cfgM m).win 7) t y a rfl).symm
  have hw := row_word m t
  match a with
  | ⟨0, _⟩ =>
    show (rowOf m t).val = (BitVec.ofNat 32 (grid0.coords t 0).val).toNat * 1 + (y 0).val
    rw [hw]; omega
  | ⟨1, _⟩ => show 0 = 0 * 1 + (y 1).val; omega
  | ⟨2, _⟩ => show (y 2).val = 0 * 256 + (y 2).val; omega

include h in
/-- The run: the two results are the reference's, the arguments are unchanged. -/
theorem run : θ_run defs (onTc (τ := τ) (main (F := Ideal))) ⟨m, fun _ => 0, ρ⟩ (fun r => ∀ c : Dev nD,
      r.2.mem ((c.tc : Thread nD τ).loc main_v0_0) = outR (F := Ideal) (A0 m c) (A1 m c) (wide (A2 m c)) (A3 m c) (A4 m c) (A6 m c)
      ∧ r.2.mem ((c.tc : Thread nD τ).loc main_v0_1) = lseR (F := Ideal) (A0 m c) (A1 m c) (wide (A2 m c)) (A3 m c) (A4 m c) (A5 m c) (A6 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ hr c => ⟨(arr_of m hr.1 c 6).trans (arr_out h c), (arr_of m hr.1 c 7).trans (arr_lse h c), args_of m hr.1 c⟩)
    (run_main m ρ (hyps_of_pre m fun c => ⟨(h c).1, (h c).2.1⟩))

end Cert.Proof.KernelIdeal
-- ==== Proof.KeysSpec.lean ====
/- What the array of keys holds, lane by lane: a group of 128 codes times its scale, the rotary part, and zeros. -/
module

public import Idealize.ShloMosaic.Lib.Pointwise

@[expose] public section

noncomputable section

namespace Cert.Proof.Keys

/-- A key's lane from its codes, its scales and its rotary part. -/
def lane (codes : Fin 512 → EReal) (scales : Fin 4 → EReal) (rope : Fin 64 → EReal) (r : Fin 640) : EReal :=
  if h : r.val < 512 then codes ⟨r.val, h⟩ * scales ⟨r.val / 128, by omega⟩
  else if h' : r.val < 576 then rope ⟨r.val - 512, by omega⟩ else 0

/-- A lane of a key: the first 12288 keys are the cache's, the others the new ones. -/
def keyLane (cc : Fin 12288 → Fin 512 → EReal) (cs : Fin 12288 → Fin 4 → EReal) (cr : Fin 12288 → Fin 64 → EReal)
    (nc : Fin 4096 → Fin 512 → EReal) (ns : Fin 4096 → Fin 4 → EReal) (nr : Fin 4096 → Fin 64 → EReal)
    (n : Fin 16384) (r : Fin 640) : EReal :=
  if h : n.val < 12288 then lane (cc ⟨n.val, h⟩) (cs ⟨n.val, h⟩) (cr ⟨n.val, h⟩) r
  else lane (nc ⟨n.val - 12288, by omega⟩) (ns ⟨n.val - 12288, by omega⟩) (nr ⟨n.val - 12288, by omega⟩) r

/-- A lane below 512 lies in one of the four groups. -/
theorem lane_group {codes : Fin 512 → EReal} {scales : Fin 4 → EReal} {rope : Fin 64 → EReal} {r : Fin 640} {o g : ℕ} {w : ℕ}
    (hr : r.val = o + w) (hw : w < 128) (hg : g < 4) (ho : o = 128 * g) :
    lane codes scales rope r = codes ⟨o + w, by omega⟩ * scales ⟨g, hg⟩ := by
  unfold lane
  have e : r.val / 128 = g := by omega
  rw [dif_pos (by omega)]
  congr 2 <;> apply Fin.ext <;> simp only <;> omega

/-- A lane from 512 on is the rotary part, or zero. -/
theorem lane_rope {codes : Fin 512 → EReal} {scales : Fin 4 → EReal} {rope : Fin 64 → EReal} {r : Fin 640} {w : ℕ} (hr : r.val = 512 + w) :
    lane codes scales rope r = if h : w < 64 then rope ⟨w, h⟩ else 0 := by
  unfold lane
  rw [dif_neg (by omega)]
  by_cases h : w < 64
  · rw [dif_pos (by omega), dif_pos h]; congr 1; apply Fin.ext; simp only; omega
  · rw [dif_neg (by omega), dif_neg h]

end Cert.Proof.Keys

end
-- ==== Proof.KeysBlock.lean ====
/- What one block of the keys holds: a group of 128 codes times its scale, the rotary part, and zeros. -/
module

public import proofs.«01_k».proof.Proof.Gen.KeysIdeal.Value
public import Idealize.ShloMosaic.Lib.Pipeline.ValueKit
public import proofs.«01_k».proof.Proof.KeysSpec

@[expose] public section

set_option maxRecDepth 16384

noncomputable section

namespace Cert.Proof.Keys

open Cert.KeysIdeal Cert.KeysIdeal.Gen
open Idealize.ShloMosaic Idealize.ShloMosaic.TcCoe Idealize.ShloMosaic.Pointwise

variable (c : Dev nD) (i : grid0.Coords)
  (arg1 : Memref sig .tc .vmem S512x512 .fp8e4m3) (harg1 : arg1.IsWhole) (arg2 : Memref sig .tc .vmem S512x4 .f32) (harg2 : arg2.IsWhole)
  (arg3 : Memref sig .tc .vmem S512x64 .bf16) (harg3 : arg3.IsWhole) (arg4 : Memref sig .tc .vmem S512x512 .fp8e4m3) (harg4 : arg4.IsWhole)
  (arg5 : Memref sig .tc .vmem S512x4 .f32) (harg5 : arg5.IsWhole) (arg6 : Memref sig .tc .vmem S512x64 .bf16) (harg6 : arg6.IsWhole)
  (arg7 : Memref sig .tc .vmem S512x640 .bf16) (harg7 : arg7.IsWhole)
  (x0 : Vec Ideal S512x512 .fp8e4m3) (x1 : Vec Ideal S512x4 .f32) (x2 : Vec Ideal S512x64 .bf16)
  (x3 : Vec Ideal S512x512 .fp8e4m3) (x4 : Vec Ideal S512x4 .f32) (x5 : Vec Ideal S512x64 .bf16) (y : Fin 512) (r : Fin 640)

/-- A group of codes times the bfloat16 of its scale. -/
theorem group_apply {o g : ℕ} (h : ∀ a, (![0, o] : Fin 2 → ℕ) a + (![512, 128] : Fin 2 → ℕ) a ≤ S512x512.size a)
    (h' : ∀ a, (![0, g] : Fin 2 → ℕ) a + (![512, 1] : Fin 2 → ℕ) a ≤ S512x4.size a) (ho : o + 128 ≤ 512) (hg : g < 4) (u : Fin 512) (w : Fin 128) :
    @Eq EReal (mulf (F := Ideal) (extf (F := Ideal) (φ := .fp8e4m3) .bf16 (View.ld x0 (Rect.unit ![0, o] ![512, 128] h)) bitsLt_fp8e4m3_bf16)
      (broadcastTo S512x128 (truncf (F := Ideal) (φ := .f32) .bf16 (View.ld x1 (Rect.unit ![0, g] ![512, 1] h')) bitsLt_bf16_f32) broadcasts_S512x1_S512x128)
      (ix2 u w)) (x0 (ix2 u ⟨o + w.val, by omega⟩) * x1 (ix2 u ⟨g, hg⟩)) := by
  pointwise [View.ld]

/-- So a group is its lanes of the key. -/
theorem group_lane {o g : ℕ} (h : ∀ a, (![0, o] : Fin 2 → ℕ) a + (![512, 128] : Fin 2 → ℕ) a ≤ S512x512.size a)
    (h' : ∀ a, (![0, g] : Fin 2 → ℕ) a + (![512, 1] : Fin 2 → ℕ) a ≤ S512x4.size a) (ho : o = 128 * g) (hg : g < 4) (u : Fin 512) (w : Fin 128)
    (hr : r.val = o + w.val) :
    @Eq EReal (mulf (F := Ideal) (extf (F := Ideal) (φ := .fp8e4m3) .bf16 (View.ld x0 (Rect.unit ![0, o] ![512, 128] h)) bitsLt_fp8e4m3_bf16)
      (broadcastTo S512x128 (truncf (F := Ideal) (φ := .f32) .bf16 (View.ld x1 (Rect.unit ![0, g] ![512, 1] h')) bitsLt_bf16_f32) broadcasts_S512x1_S512x128)
      (ix2 u w)) (lane (fun k => x0 (ix2 u k)) (fun k => x1 (ix2 u k)) (fun k => x2 (ix2 u k)) r) :=
  (group_apply x0 x1 h h' (by omega) hg u w).trans (lane_group (codes := fun k => x0 (ix2 u k)) (scales := fun k => x1 (ix2 u k)) (rope := fun k => x2 (ix2 u k)) hr w.isLt hg ho).symm

/-- The rotary part with zeros beside it. -/
theorem rope_apply (z : EReal) (hz : z = 0) (u : Fin 512) (w : Fin 128) :
    @Eq EReal (concatenate S512x128 1 [⟨S512x64, (View.ld x2 (Rect.unit ![0, 0] ![512, 64] inb_S512x64_S512x64_0_0) : Vec Ideal S512x64 .bf16)⟩,
      ⟨S512x64, (broadcast S512x64 z : Vec Ideal S512x64 .bf16)⟩] concatenates_S512x64_S512x64_S512x128_d1 (ix2 u w))
      (if h : w.val < 64 then x2 (ix2 u ⟨w.val, h⟩) else 0) := by
  subst hz
  pointwise [View.ld]

/-- What a step of the cache stores at a key and a lane. -/
theorem out_A (hc0 : cond0_0 i) (hc1 : ¬cond0_1 i) :
    out0_A_6 c i arg1 harg1 arg2 harg2 arg3 harg3 arg4 harg4 arg5 harg5 arg6 harg6 arg7 harg7 hc0 hc1 x0 x1 x2 x3 x4 x5 (ix2 y r)
      = lane (fun k => x0 (ix2 y k)) (fun g => x1 (ix2 y g)) (fun k => x2 (ix2 y k)) r := by
  unfold out0_A_6
  rw [View.read_writes_apply_eq_canon _ _ _ _ (cover0_A_6 ..)]
  dsimp only [kernelRun0_A]
  canon_tiles x h
  all_goals obtain ⟨u, w, rfl⟩ : ∃ (u : Fin 512) (w : Fin 128), x = ix2 u w := ⟨x 0, x 1, funext fun a => by match a with | ⟨0, _⟩ => rfl | ⟨1, _⟩ => rfl⟩
  all_goals obtain rfl : y = u := Fin.ext h0
  all_goals open_payloads
  · unfold kernelRun0_A.sl.r kernelRun0_A.sl.cst
    exact (rope_apply (arg3.view.read (Elt Ideal) (harg3.unread x2)) _ (by simp [FloatOps.ofBits, Ideal.ofBits, Ideal.ieee]) y w).trans
      (by rw [harg3.read_unread, lane_rope (r := r) (w := w.val) h1])
  all_goals
    simp only [harg1.read_unread, harg2.read_unread]
    exact group_lane x0 x1 x2 r _ _ (by omega) (by omega) y w (by first | exact h1 | exact h1.trans (Nat.zero_add _).symm)

/-- What a step of the new keys stores at a key and a lane. -/
theorem out_B (hc0 : ¬cond0_0 i) (hc1 : cond0_1 i) :
    out0_B_6 c i arg1 harg1 arg2 harg2 arg3 harg3 arg4 harg4 arg5 harg5 arg6 harg6 arg7 harg7 hc0 hc1 x0 x1 x2 x3 x4 x5 (ix2 y r)
      = lane (fun k => x3 (ix2 y k)) (fun g => x4 (ix2 y g)) (fun k => x5 (ix2 y k)) r := by
  unfold out0_B_6
  rw [View.read_writes_apply_eq_canon _ _ _ _ (cover0_B_6 ..)]
  dsimp only [kernelRun0_B]
  canon_tiles x h
  all_goals obtain ⟨u, w, rfl⟩ : ∃ (u : Fin 512) (w : Fin 128), x = ix2 u w := ⟨x 0, x 1, funext fun a => by match a with | ⟨0, _⟩ => rfl | ⟨1, _⟩ => rfl⟩
  all_goals obtain rfl : y = u := Fin.ext h0
  all_goals open_payloads
  · unfold kernelRun0_B.sl.r kernelRun0_B.sl.cst
    exact (rope_apply (arg6.view.read (Elt Ideal) (harg6.unread x5)) _ (by simp [FloatOps.ofBits, Ideal.ofBits, Ideal.ieee]) y w).trans
      (by rw [harg6.read_unread, lane_rope (r := r) (w := w.val) h1])
  all_goals
    simp only [harg4.read_unread, harg5.read_unread]
    exact group_lane x3 x4 x5 r _ _ (by omega) (by omega) y w (by first | exact h1 | exact h1.trans (Nat.zero_add _).symm)

end Cert.Proof.Keys

end
-- ==== Proof.KeysRef.lean ====
/- The reference's keys, read at one lane. -/
module

public import proofs.«01_k».proof.Proof.Gen.RefKeysIdeal.Value
public import proofs.«01_k».proof.Proof.KeysSpec

@[expose] public section

set_option maxRecDepth 16384

noncomputable section

namespace Cert.Proof.RefKeys

open Cert.RefKeysIdeal Cert.RefKeysIdeal.Gen Cert.Proof.Keys
open Idealize.ShloMosaic Idealize.ShloMosaic.TcCoe Idealize.ShloMosaic.Pointwise

/-- The reference's array at a key and a lane. -/
theorem G_apply (a0 : Vec Ideal S12288x512 .fp8e4m3) (a1 : Vec Ideal S12288x4 .f32) (a2 : Vec Ideal S12288x64 .bf16)
    (a3 : Vec Ideal S4096x512 .fp8e4m3) (a4 : Vec Ideal S4096x4 .f32) (a5 : Vec Ideal S4096x64 .bf16) (n : Fin 16384) (r : Fin 640) :
    @Eq EReal (Value.G6 (F := Ideal) a0 a1 a2 a3 a4 a5 (ix2 n r))
      (keyLane (fun n k => a0 (ix2 n k)) (fun n k => a1 (ix2 n k)) (fun n k => a2 (ix2 n k))
        (fun n k => a3 (ix2 n k)) (fun n k => a4 (ix2 n k)) (fun n k => a5 (ix2 n k)) n r) := by
  have e : r.val / 128 * 128 + r.val % 128 = r.val := by omega
  have e' : r.val - 512 < 64 ↔ r.val < 576 := by omega
  unfold Value.G6
  pointwise [k0_pay1]
  unfold keyLane lane
  by_cases hn : n.val < 12288 <;> simp only [hn, e, e', dite_true, dite_false]

end Cert.Proof.RefKeys

end
-- ==== Proof.KeysArray.lean ====
/- The array of keys that the run leaves, lane by lane, and the claim that it is the reference's. -/
module

public import proofs.«01_k».proof.Defs
public import proofs.«01_k».proof.Proof.KeysBlock
public import proofs.«01_k».proof.Proof.KeysRef

@[expose] public section

set_option maxRecDepth 16384

noncomputable section

namespace Cert.Proof.Keys

open Cert.KeysIdeal Cert.KeysIdeal.Gen
open Idealize.ShloMosaic Idealize.ShloMosaic.TcCoe Idealize.ShloMosaic.Pointwise
open Idealize.SL.Sem

variable (m : (ℓ : Loc nD τ sig) → Buf (Elt Ideal) ℓ)

/-- The block of the cache at a step: the step's own, and the last one after the cache. -/
theorem idx_cache : ∀ t : Fin cfg0.N, (win0_0.index t (0 : Fin 2) = min t.val 23 ∧ win0_0.index t (1 : Fin 2) = 0)
    ∧ (win0_1.index t (0 : Fin 2) = min t.val 23 ∧ win0_1.index t (1 : Fin 2) = 0)
    ∧ (win0_2.index t (0 : Fin 2) = min t.val 23 ∧ win0_2.index t (1 : Fin 2) = 0) :=
  (by decide +kernel : ∀ t : Fin grid0.N, _)

/-- The block of the new keys at a step: the first one before them. -/
theorem idx_new : ∀ t : Fin cfg0.N, (win0_3.index t (0 : Fin 2) = t.val - 24 ∧ win0_3.index t (1 : Fin 2) = 0)
    ∧ (win0_4.index t (0 : Fin 2) = t.val - 24 ∧ win0_4.index t (1 : Fin 2) = 0)
    ∧ (win0_5.index t (0 : Fin 2) = t.val - 24 ∧ win0_5.index t (1 : Fin 2) = 0) :=
  (by decide +kernel : ∀ t : Fin grid0.N, _)

/-- The block of the result at a step. -/
theorem idx_out : ∀ t : Fin cfg0.N, win0_6.index t (0 : Fin 2) = t.val ∧ win0_6.index t (1 : Fin 2) = 0 :=
  (by decide +kernel : ∀ t : Fin grid0.N, _)

/-- The arguments. -/
abbrev B0 (c : Dev nD) : Vec Ideal S12288x512 .fp8e4m3 := m ((c.tc : Thread nD τ).loc main_arg0)
abbrev B1 (c : Dev nD) : Vec Ideal S12288x4 .f32 := m ((c.tc : Thread nD τ).loc main_arg1)
abbrev B2 (c : Dev nD) : Vec Ideal S12288x64 .bf16 := m ((c.tc : Thread nD τ).loc main_arg2)
abbrev B3 (c : Dev nD) : Vec Ideal S4096x512 .fp8e4m3 := m ((c.tc : Thread nD τ).loc main_arg3)
abbrev B4 (c : Dev nD) : Vec Ideal S4096x4 .f32 := m ((c.tc : Thread nD τ).loc main_arg4)
abbrev B5 (c : Dev nD) : Vec Ideal S4096x64 .bf16 := m ((c.tc : Thread nD τ).loc main_arg5)

/-- The array of keys as a function of the arguments. -/
def keys (c : Dev nD) : Vec Ideal S16384x640 .bf16 := fun i =>
  keyLane (fun n k => B0 m c (ix2 n k)) (fun n k => B1 m c (ix2 n k)) (fun n k => B2 m c (ix2 n k))
    (fun n k => B3 m c (ix2 n k)) (fun n k => B4 m c (ix2 n k)) (fun n k => B5 m c (ix2 n k)) (i 0) (i 1)

theorem blk0_apply (c : Dev nD) (t : Fin cfg0.N) (ht : t.val < 24) (u : Fin 512) (k : Fin 512) :
    iblk m c 0 t (ix2 u k) = B0 m c (ix2 ⟨512 * t.val + u.val, by omega⟩ k) := by
  obtain ⟨⟨e0, e1⟩, -⟩ := idx_cache t
  show V m c main_arg0 (((cfg0.win 0).blk t).view.emb (ix2 u k)) = _
  rw [V_main_arg0]
  refine congrArg (B0 m c) (funext fun a => Fin.ext ?_)
  match a with
  | ⟨0, _⟩ => show win0_0.index t (0 : Fin 2) * 512 + 1 * u.val = 512 * t.val + u.val; omega
  | ⟨1, _⟩ => show win0_0.index t (1 : Fin 2) * 512 + 1 * k.val = k.val; omega

theorem blk1_apply (c : Dev nD) (t : Fin cfg0.N) (ht : t.val < 24) (u : Fin 512) (k : Fin 4) :
    iblk m c 1 t (ix2 u k) = B1 m c (ix2 ⟨512 * t.val + u.val, by omega⟩ k) := by
  obtain ⟨-, ⟨e0, e1⟩, -⟩ := idx_cache t
  show V m c main_arg1 (((cfg0.win 1).blk t).view.emb (ix2 u k)) = _
  rw [V_main_arg1]
  refine congrArg (B1 m c) (funext fun a => Fin.ext ?_)
  match a with
  | ⟨0, _⟩ => show win0_1.index t (0 : Fin 2) * 512 + 1 * u.val = 512 * t.val + u.val; omega
  | ⟨1, _⟩ => show win0_1.index t (1 : Fin 2) * 4 + 1 * k.val = k.val; omega

theorem blk2_apply (c : Dev nD) (t : Fin cfg0.N) (ht : t.val < 24) (u : Fin 512) (k : Fin 64) :
    iblk m c 2 t (ix2 u k) = B2 m c (ix2 ⟨512 * t.val + u.val, by omega⟩ k) := by
  obtain ⟨-, -, e0, e1⟩ := idx_cache t
  show V m c main_arg2 (((cfg0.win 2).blk t).view.emb (ix2 u k)) = _
  rw [V_main_arg2]
  refine congrArg (B2 m c) (funext fun a => Fin.ext ?_)
  match a with
  | ⟨0, _⟩ => show win0_2.index t (0 : Fin 2) * 512 + 1 * u.val = 512 * t.val + u.val; omega
  | ⟨1, _⟩ => show win0_2.index t (1 : Fin 2) * 64 + 1 * k.val = k.val; omega

theorem new_lt (t : Fin cfg0.N) (u : Fin 512) : 512 * (t.val - 24) + u.val < 4096 := by
  have h : t.val < 32 := t.isLt
  omega

theorem blk3_apply (c : Dev nD) (t : Fin cfg0.N) (u : Fin 512) (k : Fin 512) :
    iblk m c 3 t (ix2 u k) = B3 m c (ix2 ⟨512 * (t.val - 24) + u.val, new_lt t u⟩ k) := by
  obtain ⟨⟨e0, e1⟩, -⟩ := idx_new t
  show V m c main_arg3 (((cfg0.win 3).blk t).view.emb (ix2 u k)) = _
  rw [V_main_arg3]
  refine congrArg (B3 m c) (funext fun a => Fin.ext ?_)
  match a with
  | ⟨0, _⟩ => show win0_3.index t (0 : Fin 2) * 512 + 1 * u.val = 512 * (t.val - 24) + u.val; omega
  | ⟨1, _⟩ => show win0_3.index t (1 : Fin 2) * 512 + 1 * k.val = k.val; omega

theorem blk4_apply (c : Dev nD) (t : Fin cfg0.N) (u : Fin 512) (k : Fin 4) :
    iblk m c 4 t (ix2 u k) = B4 m c (ix2 ⟨512 * (t.val - 24) + u.val, new_lt t u⟩ k) := by
  obtain ⟨-, ⟨e0, e1⟩, -⟩ := idx_new t
  show V m c main_arg4 (((cfg0.win 4).blk t).view.emb (ix2 u k)) = _
  rw [V_main_arg4]
  refine congrArg (B4 m c) (funext fun a => Fin.ext ?_)
  match a with
  | ⟨0, _⟩ => show win0_4.index t (0 : Fin 2) * 512 + 1 * u.val = 512 * (t.val - 24) + u.val; omega
  | ⟨1, _⟩ => show win0_4.index t (1 : Fin 2) * 4 + 1 * k.val = k.val; omega

theorem blk5_apply (c : Dev nD) (t : Fin cfg0.N) (u : Fin 512) (k : Fin 64) :
    iblk m c 5 t (ix2 u k) = B5 m c (ix2 ⟨512 * (t.val - 24) + u.val, new_lt t u⟩ k) := by
  obtain ⟨-, -, e0, e1⟩ := idx_new t
  show V m c main_arg5 (((cfg0.win 5).blk t).view.emb (ix2 u k)) = _
  rw [V_main_arg5]
  refine congrArg (B5 m c) (funext fun a => Fin.ext ?_)
  match a with
  | ⟨0, _⟩ => show win0_5.index t (0 : Fin 2) * 512 + 1 * u.val = 512 * (t.val - 24) + u.val; omega
  | ⟨1, _⟩ => show win0_5.index t (1 : Fin 2) * 64 + 1 * k.val = k.val; omega

/-- What a step leaves in its block is the keys of the block. -/
theorem step_apply (c : Dev nD) (t : Fin cfg0.N) (u : Fin 512) (r : Fin 640) (n : Fin 16384) (hn : n.val = 512 * t.val + u.val) :
    outsAt0 m c t.val t.isLt (ix2 u r) = keys m c (ix2 n r) := by
  have hN : t.val < 32 := t.isLt
  show _ = keyLane _ _ _ _ _ _ n r
  unfold keyLane
  by_cases ht : t.val < 24
  · rw [outsAt0_A m c t ht (by omega), out_A, dif_pos (by omega)]
    simp only [blk0_apply m c t ht, blk1_apply m c t ht, blk2_apply m c t ht, ← hn]
  · rw [outsAt0_B m c t ht (by omega), out_B, dif_neg (by omega)]
    have e : n.val - 12288 = 512 * (t.val - 24) + u.val := by omega
    simp only [blk3_apply, blk4_apply, blk5_apply, e]

/-- What a step writes back is its block of the keys. -/
theorem flushed_eq (c : Dev nD) (t : Fin cfg0.N) :
    (dats m 0 c).flushed 6 t = ((cfg0.win 6).blk t).view.read (Elt Ideal) (keys m c) := by
  obtain ⟨e0, e1⟩ := idx_out t
  rw [Value.flushed6]
  funext j
  have hj : j = ix2 (n0 := 512) (n1 := 640) (j 0) (j 1) := funext fun a => by match a with | ⟨0, _⟩ => rfl | ⟨1, _⟩ => rfl
  show outsAt0 m c t.val t.isLt j = keys m c (((cfg0.win 6).blk t).view.emb j)
  have hN : t.val < 32 := t.isLt
  have h0 : (j 0).val < 512 := (j 0).isLt
  refine (congrArg (outsAt0 m c t.val t.isLt) hj).trans
    ((step_apply m c t (j 0) (j 1) ⟨512 * t.val + (j 0).val, by omega⟩ rfl).trans (congrArg (keys m c) (funext fun a => Fin.ext ?_)))
  match a with
  | ⟨0, _⟩ => show 512 * t.val + (j 0).val = win0_6.index t (0 : Fin 2) * 512 + 1 * (j 0).val; omega
  | ⟨1, _⟩ => show (j 1).val = win0_6.index t (1 : Fin 2) * 640 + 1 * (j 1).val; omega

/-- Every entry of the array lies in some step's block. -/
theorem covered (i : S16384x640.Idx) : ∃ t : Fin cfg0.N, (cfg0.win 6).flush t = true ∧ i ∈ ((cfg0.win 6).blk t).view.set := by
  have h0 : (i 0).val < 16384 := (i 0).isLt
  have h1 : (i 1).val < 640 := (i 1).isLt
  let t : Fin cfg0.N := ⟨(i 0).val / 512, by show _ < 32; omega⟩
  obtain ⟨e0, e1⟩ := idx_out t
  refine ⟨t, flush0_6 t, ?_⟩
  have h := ((cfg0.win 6).blk t).view.emb_mem_set (ix2 (n0 := 512) (n1 := 640) ⟨(i 0).val % 512, by omega⟩ ⟨(i 1).val, h1⟩)
  have e : ((cfg0.win 6).blk t).view.emb (ix2 (n0 := 512) (n1 := 640) ⟨(i 0).val % 512, by omega⟩ ⟨(i 1).val, h1⟩) = i := funext fun a => Fin.ext (by
    match a with
    | ⟨0, _⟩ =>
      show win0_6.index t (0 : Fin 2) * 512 + 1 * ((i 0).val % 512) = (i 0).val
      rw [e0]; show (i 0).val / 512 * 512 + 1 * ((i 0).val % 512) = (i 0).val; omega
    | ⟨1, _⟩ => show win0_6.index t (1 : Fin 2) * 640 + 1 * (i 1).val = (i 1).val; omega)
  rwa [e] at h

/-- The array after the run is the keys. -/
theorem final (c : Dev nD) : (dats m 0 c).arrAt 6 cfg0.N = keys m c :=
  (dats m 0 c).arrAt_eq_of_cover 6 (keys m c) (fun t _ => flushed_eq m c t) covered

/-- The reference's array is the same keys. -/
theorem ref_keys (c : Dev nD) : Cert.RefKeysIdeal.Value.G6 (F := Ideal) (B0 m c) (B1 m c) (B2 m c) (B3 m c) (B4 m c) (B5 m c) = keys m c := by
  funext i
  have hi : i = ix2 (n0 := 16384) (n1 := 640) (i 0) (i 1) := funext fun a => by match a with | ⟨0, _⟩ => rfl | ⟨1, _⟩ => rfl
  exact (congrArg (Cert.RefKeysIdeal.Value.G6 (F := Ideal) (B0 m c) (B1 m c) (B2 m c) (B3 m c) (B4 m c) (B5 m c)) hi).trans
    (Cert.Proof.RefKeys.G_apply _ _ _ _ _ _ (i 0) (i 1))

/-- Over the extended reals the keys that the kernel builds are the reference's. -/
theorem algebraic : Cert.algebraic_KeysIdeal_RefKeysIdeal (hKeysIdeal := Cert.KeysIdeal.Gen.facts)
    (hRefKeysIdeal := Cert.RefKeysIdeal.Gen.facts) := fun m g m' g' _ hargs =>
  ⟨fun c => keys m c,
    (θ_run Cert.KeysIdeal.defs _ _).mono (fun _ hr c => ⟨(hr c).1.trans (final m c), (hr c).2⟩) (Value.run_blocks m g),
    (θ_run Cert.RefKeysIdeal.defs _ _).mono (fun _ hr c => by
      obtain ⟨e0, e1, e2, e3, e4, e5⟩ := hargs c
      obtain ⟨h0, hf⟩ := hr c
      refine ⟨h0.trans ?_, hf⟩
      rw [e0, e1, e2, e3, e4, e5]
      exact ref_keys m c) (Cert.RefKeysIdeal.Value.run m' g')⟩

end Cert.Proof.Keys

end
-- ==== Proof.ListPop.lean ====
/- The number of ones of a sixteen-bit word. -/
module

public import Idealize.ShloMosaic.Lib.Pipeline.ValueKit

@[expose] public section

set_option maxRecDepth 16384

namespace Cert.Proof.List

/-- The count of ones by sums of pairs, fours, bytes. -/
def pop (x : BitVec 32) : BitVec 32 :=
  let a := x - (x.sshiftRight 1 &&& 21845#32)
  let b := (a &&& 13107#32) + (a.sshiftRight 2 &&& 13107#32)
  let c := (b + b.sshiftRight 4) &&& 3855#32
  (c + c.sshiftRight 8) &&& 31#32

/-- The sum of the lowest bits. -/
def ones (x : BitVec 32) : Nat → BitVec 32
  | 0 => 0
  | k + 1 => ones x k + (x >>> k &&& 1#32)

/-- The steps of the count on numbers. -/
def pairs (n : Nat) : Nat := Nat.sub n (Nat.land (Nat.shiftRight n 1) 21845)
def fours (n : Nat) : Nat := Nat.add (Nat.land n 13107) (Nat.land (Nat.shiftRight n 2) 13107)
def bytes (n : Nat) : Nat := Nat.land (Nat.add n (Nat.shiftRight n 4)) 3855
def last (n : Nat) : Nat := Nat.land (Nat.add n (Nat.shiftRight n 8)) 31

/-- The sum of the lowest bits of a number. -/
def digits (n : Nat) : Nat → Nat
  | 0 => 0
  | k + 1 => Nat.add (digits n k) (Nat.land (Nat.shiftRight n k) 1)

/-- The two agree at the numbers that start with `b` and have `k` further bits. -/
def agree : Nat → Nat → Nat → Bool
  | 0, b, d => Nat.beq (last (bytes (fours (pairs b)))) d
  | k + 1, b, d => and (agree k (Nat.mul 2 b) d) (agree k (Nat.succ (Nat.mul 2 b)) (Nat.succ d))

theorem agree_16 : agree 16 0 0 = true := by decide +kernel

theorem digits_add (m q k : Nat) : ∀ j, j ≤ k → digits (m + 2 ^ k * q) j = digits m j := by
  intro j
  induction j with
  | zero => intro _; rfl
  | succ j ih =>
    intro h
    show digits (m + 2 ^ k * q) j + ((m + 2 ^ k * q) >>> j &&& 1) = digits m j + (m >>> j &&& 1)
    rw [ih (by omega), Nat.shiftRight_eq_div_pow, Nat.shiftRight_eq_div_pow, Nat.and_one_is_mod, Nat.and_one_is_mod]
    have e : 2 ^ k * q = 2 ^ j * (2 * (2 ^ (k - j - 1) * q)) := by
      rw [show k = j + (1 + (k - j - 1)) by omega, pow_add, pow_add, show j + (1 + (k - j - 1)) - j - 1 = k - j - 1 by omega]
      ring
    rw [e, Nat.add_mul_div_left _ _ (by positivity)]
    omega

theorem agree_digits : ∀ k b d, agree k b d = true → ∀ m, m < 2 ^ k → last (bytes (fours (pairs (b * 2 ^ k + m)))) = d + digits m k := by
  intro k
  induction k with
  | zero =>
    intro b d h m hm
    obtain rfl : m = 0 := by simpa using hm
    have := Nat.eq_of_beq_eq_true h
    simpa [digits] using this
  | succ k ih =>
    intro b d h m hm
    have h' : (agree k (2 * b) d && agree k (2 * b + 1) (d + 1)) = true := h
    rw [Bool.and_eq_true] at h'
    rw [pow_succ] at hm
    have hd : ∀ q, q < 2 → ∀ r, r < 2 ^ k → digits (r + 2 ^ k * q) (k + 1) = digits r k + q := by
      intro q hq r hr
      show digits (r + 2 ^ k * q) k + ((r + 2 ^ k * q) >>> k &&& 1) = _
      rw [digits_add r q k k le_rfl, Nat.shiftRight_eq_div_pow, Nat.and_one_is_mod, Nat.add_mul_div_left _ _ (by positivity), Nat.div_eq_of_lt hr]
      omega
    by_cases hlt : m < 2 ^ k
    · have := ih (2 * b) d h'.1 m hlt
      have e : digits m (k + 1) = digits m k := hd 0 (by omega) m hlt
      rw [e, ← this, pow_succ]
      congr 4
      ring
    · have := ih (2 * b + 1) (d + 1) h'.2 (m - 2 ^ k) (by omega)
      have e := hd 1 (by omega) (m - 2 ^ k) (by omega)
      rw [Nat.mul_one, Nat.sub_add_cancel (by omega)] at e
      rw [e, show d + (digits (m - 2 ^ k) k + 1) = d + 1 + digits (m - 2 ^ k) k by omega, ← this, pow_succ]
      congr 4
      rw [show (2 * b + 1) * 2 ^ k = b * (2 ^ k * 2) + 2 ^ k by ring]
      omega

theorem toNat_sshiftRight (x : BitVec 32) (k : Nat) (h : x.toNat < 2 ^ 31) : (x.sshiftRight k).toNat = x.toNat >>> k := by
  rw [BitVec.sshiftRight_eq_of_msb_false (BitVec.msb_eq_false_iff_two_mul_lt.2 (by omega)), BitVec.toNat_ushiftRight]

theorem toNat_ones (x : BitVec 32) : ∀ k, k ≤ 16 → (ones x k).toNat = digits x.toNat k ∧ digits x.toNat k ≤ k := by
  intro k
  induction k with
  | zero => intro _; exact ⟨rfl, le_rfl⟩
  | succ k ih =>
    intro h
    obtain ⟨e, l⟩ := ih (by omega)
    have hb : x.toNat >>> k &&& 1 ≤ 1 := Nat.and_le_right
    refine ⟨?_, ?_⟩
    · show (ones x k + (x >>> k &&& 1#32)).toNat = digits x.toNat k + (x.toNat >>> k &&& 1)
      rw [BitVec.toNat_add, e, BitVec.toNat_and, BitVec.toNat_ushiftRight]
      show (digits x.toNat k + (x.toNat >>> k &&& 1)) % 2 ^ 32 = _
      omega
    · show digits x.toNat k + (x.toNat >>> k &&& 1) ≤ k + 1
      omega

/-- The count of ones of a sixteen-bit word is the sum of its bits. -/
theorem pop_eq (x : BitVec 32) (h : x.toNat < 2 ^ 16) : pop x = ones x 16 := by
  apply BitVec.eq_of_toNat_eq
  have h0 := agree_digits 16 0 0 agree_16 x.toNat h
  rw [Nat.zero_mul, Nat.zero_add, Nat.zero_add] at h0
  rw [(toNat_ones x 16 le_rfl).1, ← h0]
  set a := x - (x.sshiftRight 1 &&& 21845#32) with ha
  set b := (a &&& 13107#32) + (a.sshiftRight 2 &&& 13107#32) with hb
  set c := (b + b.sshiftRight 4) &&& 3855#32 with hc
  have l1 : x.toNat >>> 1 &&& 21845 ≤ x.toNat := Nat.and_le_left.trans (by rw [Nat.shiftRight_eq_div_pow]; exact Nat.div_le_self _ _)
  have ea : a.toNat = pairs x.toNat := by
    rw [ha, BitVec.toNat_sub, BitVec.toNat_and, toNat_sshiftRight x 1 (by omega)]
    show (2 ^ 32 - (x.toNat >>> 1 &&& 21845) + x.toNat) % 2 ^ 32 = x.toNat - (x.toNat >>> 1 &&& 21845)
    omega
  have la : a.toNat < 2 ^ 16 := by
    rw [ea]; exact lt_of_le_of_lt (Nat.sub_le _ _) h
  have eb : b.toNat = fours a.toNat := by
    have l2 : a.toNat &&& 13107 ≤ 13107 := Nat.and_le_right
    have l3 : a.toNat >>> 2 &&& 13107 ≤ 13107 := Nat.and_le_right
    rw [hb, BitVec.toNat_add, BitVec.toNat_and, BitVec.toNat_and, toNat_sshiftRight a 2 (by omega)]
    show ((a.toNat &&& 13107) + (a.toNat >>> 2 &&& 13107)) % 2 ^ 32 = (a.toNat &&& 13107) + (a.toNat >>> 2 &&& 13107)
    omega
  have lb : b.toNat ≤ 26214 := by
    have l2 : a.toNat &&& 13107 ≤ 13107 := Nat.and_le_right
    have l3 : a.toNat >>> 2 &&& 13107 ≤ 13107 := Nat.and_le_right
    rw [eb]
    show (a.toNat &&& 13107) + (a.toNat >>> 2 &&& 13107) ≤ 26214
    omega
  have ec : c.toNat = bytes b.toNat := by
    have l2 : b.toNat >>> 4 ≤ b.toNat := by rw [Nat.shiftRight_eq_div_pow]; exact Nat.div_le_self _ _
    rw [hc, BitVec.toNat_and, BitVec.toNat_add, toNat_sshiftRight b 4 (by omega), Nat.mod_eq_of_lt (by omega)]
    rfl
  have lc : c.toNat ≤ 3855 := by rw [ec]; exact Nat.and_le_right
  show ((c + c.sshiftRight 8) &&& 31#32).toNat = _
  have l4 : c.toNat >>> 8 ≤ c.toNat := by rw [Nat.shiftRight_eq_div_pow]; exact Nat.div_le_self _ _
  rw [BitVec.toNat_and, BitVec.toNat_add, toNat_sshiftRight c 8 (by omega), Nat.mod_eq_of_lt (by omega), ← ea, ← eb, ← ec]
  rfl

end Cert.Proof.List
-- ==== Proof.ListMove.lean ====
/- Moving entries down over the holes before them, by one power of two at a time, leaves them side by side. -/
module

public import Idealize.ShloMosaic.Lib.Pipeline.ValueKit
public import Idealize.ShloMosaic.Lib.WordSum

@[expose] public section

set_option maxRecDepth 16384

namespace Cert.Proof.List

variable (live : ℕ → Prop) [DecidablePred live]

/-- How many of the places up to one are holes. -/
def holes (g : ℕ) : ℕ := ((Finset.range (g + 1)).filter fun j => ¬live j).card

/-- How many of the last `s` places up to one are holes. -/
def near (s g : ℕ) : ℕ := ((Finset.range (g + 1)).filter fun j => ¬live j ∧ g < j + s).card

/-- How many of the places before one are live. -/
def rank (g : ℕ) : ℕ := ((Finset.range g).filter live).card

theorem near_one (g : ℕ) : near live 1 g = if live g then 0 else 1 := by
  unfold near
  split
  · next h =>
    rw [Finset.card_eq_zero, Finset.filter_eq_empty_iff]
    intro j hj
    rw [Finset.mem_range] at hj
    rintro ⟨h1, h2⟩
    obtain rfl : j = g := by omega
    exact h1 h
  · next h =>
    rw [Finset.card_eq_one]
    refine ⟨g, Finset.ext fun j => ?_⟩
    rw [Finset.mem_filter, Finset.mem_range, Finset.mem_singleton]
    constructor
    · rintro ⟨h1, -, h2⟩; omega
    · rintro rfl; exact ⟨by omega, h, by omega⟩

theorem near_double (s g : ℕ) : near live (s + s) g = near live s g + if g < s then 0 else near live s (g - s) := by
  unfold near
  split
  · next h =>
    refine Eq.trans ?_ (Nat.add_zero _).symm
    refine congrArg Finset.card (Finset.ext fun j => ?_)
    simp only [Finset.mem_filter, Finset.mem_range]
    constructor
    · rintro ⟨h1, h2, h3⟩; exact ⟨h1, h2, by omega⟩
    · rintro ⟨h1, h2, h3⟩; exact ⟨h1, h2, by omega⟩
  · next h =>
    have hd : Disjoint ((Finset.range (g + 1)).filter fun j => ¬live j ∧ g < j + s)
        ((Finset.range (g - s + 1)).filter fun j => ¬live j ∧ g - s < j + s) := by
      rw [Finset.disjoint_left]
      intro j hj hj'
      simp only [Finset.mem_filter, Finset.mem_range] at hj hj'
      omega
    rw [← Finset.card_union_of_disjoint hd]
    · refine congrArg Finset.card (Finset.ext fun j => ?_)
      simp only [Finset.mem_union, Finset.mem_filter, Finset.mem_range]
      constructor
      · rintro ⟨h1, h2, h3⟩
        by_cases hj : g < j + s
        · exact .inl ⟨h1, h2, hj⟩
        · exact .inr ⟨by omega, h2, by omega⟩
      · rintro (⟨h1, h2, h3⟩ | ⟨h1, h2, h3⟩)
        · exact ⟨h1, h2, by omega⟩
        · exact ⟨by omega, h2, by omega⟩

theorem near_all {s g : ℕ} (h : g < s) : near live s g = holes live g := by
  unfold near holes
  refine congrArg Finset.card (Finset.ext fun j => ?_)
  simp only [Finset.mem_filter, Finset.mem_range]
  constructor
  · rintro ⟨h1, h2, -⟩; exact ⟨h1, h2⟩
  · rintro ⟨h1, h2⟩; exact ⟨h1, h2, by omega⟩

theorem holes_le (g : ℕ) : holes live g ≤ g + 1 := (Finset.card_filter_le _ _).trans (by simp)

theorem rank_add_holes {g : ℕ} (h : live g) : rank live g + holes live g = g := by
  have e : holes live g = ((Finset.range g).filter fun j => ¬live j).card := by
    unfold holes
    rw [Finset.range_add_one, Finset.filter_insert, if_neg (by simpa using h)]
  rw [e, rank, Finset.card_filter_add_card_filter_not, Finset.card_range]

theorem holes_gap {g g' : ℕ} (h' : live g') (hg : g < g') : holes live g ≤ holes live g' ∧ holes live g' + g + 1 ≤ holes live g + g' := by
  have e : holes live g' = ((Finset.range g').filter fun j => ¬live j).card := by
    unfold holes
    rw [Finset.range_add_one, Finset.filter_insert, if_neg (by simpa using h')]
  have hs : (Finset.range g').filter (fun j => ¬live j) = (Finset.range (g + 1)).filter (fun j => ¬live j) ∪ (Finset.Ico (g + 1) g').filter (fun j => ¬live j) := by
    rw [← Finset.filter_union]
    congr 1
    refine Finset.ext fun j => ?_
    simp only [Finset.mem_union, Finset.mem_range, Finset.mem_Ico]
    omega
  constructor
  · rw [e]
    exact Finset.card_le_card (by rw [hs]; exact Finset.subset_union_left)
  · have h1 : holes live g' ≤ holes live g + ((Finset.Ico (g + 1) g').filter (fun j => ¬live j)).card := by
      rw [e, hs]; exact Finset.card_union_le _ _
    have h2 : ((Finset.Ico (g + 1) g').filter (fun j => ¬live j)).card ≤ g' - (g + 1) := (Finset.card_filter_le _ _).trans (by simp)
    omega

/-- Where a live place is after the moves below `k`. -/
def At (k p g : ℕ) : Prop := live g ∧ g < 1024 ∧ p + holes live g % k = g

theorem At.unique {k p g g' : ℕ} (h : At live k p g) (h' : At live k p g') : g = g' := by
  obtain ⟨l, -, e⟩ := h
  obtain ⟨l', -, e'⟩ := h'
  have key : ∀ a b : ℕ, live b → a < b → p + holes live a % k = a → p + holes live b % k = b → False := by
    intro a b lb hab ea eb
    obtain ⟨h1, h2⟩ := holes_gap live lb hab
    have h3 : holes live b % k ≤ holes live a % k + (holes live b - holes live a) := by
      conv_lhs => rw [show holes live b = holes live a + (holes live b - holes live a) by omega, Nat.add_mod]
      exact (Nat.mod_le _ _).trans (Nat.add_le_add_left (Nat.mod_le _ _) _)
    omega
  rcases Nat.lt_trichotomy g g' with hlt | rfl | hlt
  · exact (key g g' l' hlt e e').elim
  · rfl
  · exact (key g' g l hlt e' e).elim

/-- One move of the values, and of the counts that say how far each has to go. -/
def moveV (k : ℕ) (mov val : ℕ → BitVec 32) (p : ℕ) : BitVec 32 :=
  if mov (p + k) &&& BitVec.ofNat 32 k ≠ 0 then val (p + k) else if mov p &&& BitVec.ofNat 32 k = 0 then val p else 0

variable (V : ℕ → BitVec 32)

/-- What the moves below `k` leave. -/
structure Moved (k : ℕ) (mov val : ℕ → BitVec 32) : Prop where
  mov_at : ∀ p g, At live k p g → mov p = BitVec.ofNat 32 (holes live g)
  val_at : ∀ p g, At live k p g → val p = V g
  mov_no : ∀ p, (∀ g, ¬At live k p g) → mov p = 0
  val_no : ∀ p, (∀ g, ¬At live k p g) → val p = 0

theorem bit_iff {D t : ℕ} (hD : D < 2 ^ 32) (ht : t < 32) : BitVec.ofNat 32 D &&& BitVec.ofNat 32 (2 ^ t) = 0 ↔ D.testBit t = false := by
  rw [← BitVec.toNat_inj, BitVec.toNat_and, BitVec.toNat_ofNat, BitVec.toNat_ofNat, Nat.mod_eq_of_lt hD,
    Nat.mod_eq_of_lt (Nat.pow_lt_pow_right (by norm_num) ht)]
  show D &&& 2 ^ t = 0 ↔ _
  constructor
  · intro h
    have := congrArg (Nat.testBit · t) h
    simpa [Nat.testBit_and, Nat.testBit_two_pow] using this
  · intro h
    refine Nat.eq_of_testBit_eq fun i => ?_
    rw [Nat.testBit_and, Nat.testBit_two_pow, Nat.zero_testBit]
    by_cases hi : t = i
    · subst hi; simp [h]
    · simp [hi]

theorem mod_double (D t : ℕ) : D % (2 ^ t + 2 ^ t) = D % 2 ^ t + if D.testBit t then 2 ^ t else 0 := by
  rw [← two_mul, mul_comm, Nat.mod_mul, Nat.testBit_eq_decide_div_mod_eq]
  have : D / 2 ^ t % 2 = 0 ∨ D / 2 ^ t % 2 = 1 := by omega
  rcases this with h | h <;> simp [h]

/-- One move takes what the moves below `2 ^ t` leave to what the moves below twice that leave. -/
theorem Moved.step {t : ℕ} (ht : t < 32) {mov val : ℕ → BitVec 32} (h : Moved live V (2 ^ t) mov val) :
    Moved live V (2 ^ t + 2 ^ t) (moveV (2 ^ t) mov mov) (moveV (2 ^ t) mov val) := by
  have hb : ∀ g, g < 1024 → holes live g < 2 ^ 32 := fun g hg => by have := holes_le live g; omega
  -- a place with the bit lies `2 ^ t` further on, one without it stays
  have up : ∀ p g, At live (2 ^ t + 2 ^ t) p g → (holes live g).testBit t = true → At live (2 ^ t) (p + 2 ^ t) g := by
    rintro p g ⟨l, hg, e⟩ hbit
    rw [mod_double, hbit, if_pos rfl] at e
    exact ⟨l, hg, by omega⟩
  have up' : ∀ p g, At live (2 ^ t) (p + 2 ^ t) g → (holes live g).testBit t = true → At live (2 ^ t + 2 ^ t) p g := by
    rintro p g ⟨l, hg, e⟩ hbit
    refine ⟨l, hg, ?_⟩
    rw [mod_double, hbit, if_pos rfl]
    omega
  have stay : ∀ p g, At live (2 ^ t + 2 ^ t) p g → (holes live g).testBit t = false → At live (2 ^ t) p g := by
    rintro p g ⟨l, hg, e⟩ hbit
    rw [mod_double, hbit, if_neg (by simp)] at e
    exact ⟨l, hg, by omega⟩
  have stay' : ∀ p g, At live (2 ^ t) p g → (holes live g).testBit t = false → At live (2 ^ t + 2 ^ t) p g := by
    rintro p g ⟨l, hg, e⟩ hbit
    refine ⟨l, hg, ?_⟩
    rw [mod_double, hbit, if_neg (by simp)]
    omega
  -- a count with the bit set belongs to a live place
  have src : ∀ p, mov p &&& BitVec.ofNat 32 (2 ^ t) ≠ 0 → ∃ g, At live (2 ^ t) p g ∧ (holes live g).testBit t = true := by
    intro p hp
    by_contra hno
    refine hp ?_
    by_cases hg : ∃ g, At live (2 ^ t) p g
    · obtain ⟨g, hg⟩ := hg
      rw [h.mov_at p g hg, bit_iff (hb g hg.2.1) ht]
      by_contra hbit
      exact hno ⟨g, hg, by simpa using hbit⟩
    · rw [h.mov_no p (by simpa using hg)]
      exact BitVec.zero_and
  have at_case : ∀ (w : ℕ → BitVec 32) (x : ℕ → BitVec 32), (∀ p g, At live (2 ^ t) p g → w p = x g) →
      ∀ p g, At live (2 ^ t + 2 ^ t) p g → moveV (2 ^ t) mov w p = x g := by
    intro w x hw p g hg
    unfold moveV
    by_cases hbit : (holes live g).testBit t = true
    · have ha := up p g hg hbit
      rw [if_pos, hw _ _ ha]
      rw [h.mov_at _ _ ha]
      intro h0
      rw [bit_iff (hb g hg.2.1) ht, hbit] at h0
      exact absurd h0 (by simp)
    · have hbit' : (holes live g).testBit t = false := by simpa using hbit
      have ha := stay p g hg hbit'
      rw [if_neg, if_pos, hw _ _ ha]
      · rw [h.mov_at _ _ ha, bit_iff (hb g hg.2.1) ht, hbit']
      · intro h0
        obtain ⟨g', hg', hb'⟩ := src _ h0
        obtain rfl := At.unique live hg (up' p g' hg' hb')
        exact hbit hb'
  have no_case : ∀ (w : ℕ → BitVec 32), (∀ p, (∀ g, ¬At live (2 ^ t) p g) → w p = 0) →
      ∀ p, (∀ g, ¬At live (2 ^ t + 2 ^ t) p g) → moveV (2 ^ t) mov w p = 0 := by
    intro w hw p hno
    unfold moveV
    rw [if_neg]
    · split
      · next h0 =>
        refine hw p fun g hg => ?_
        rw [h.mov_at p g hg, bit_iff (hb g hg.2.1) ht] at h0
        exact hno g (stay' p g hg h0)
      · rfl
    · intro h0
      obtain ⟨g', hg', hb'⟩ := src _ h0
      exact hno g' (up' p g' hg' hb')
  exact ⟨at_case mov _ h.mov_at, at_case val _ h.val_at, no_case mov h.mov_no, no_case val h.val_no⟩

/-- Before any move each live place holds its own value and its number of holes. -/
theorem Moved.start : Moved live V (2 ^ 0) (fun g => if g < 1024 ∧ live g then BitVec.ofNat 32 (holes live g) else 0)
    (fun g => if g < 1024 ∧ live g then V g else 0) := by
  have e : ∀ p g, At live (2 ^ 0) p g → p = g := by
    rintro p g ⟨-, -, e⟩
    rw [pow_zero, Nat.mod_one] at e
    exact e
  have no : ∀ p, (∀ g, ¬At live (2 ^ 0) p g) → ¬(p < 1024 ∧ live p) := by
    rintro p h ⟨h1, h2⟩
    exact h p ⟨h2, h1, by rw [pow_zero, Nat.mod_one, Nat.add_zero]⟩
  refine ⟨fun p g h => ?_, fun p g h => ?_, fun p h => if_neg (no p h), fun p h => if_neg (no p h)⟩
  all_goals
    obtain rfl := e p g h
    exact if_pos ⟨h.2.1, h.1⟩

/-- After all the moves each live place is at its rank. -/
theorem at_end {p g : ℕ} : At live (2 ^ 10) p g ↔ live g ∧ g < 1024 ∧ rank live g = p := by
  constructor
  · rintro ⟨l, hg, e⟩
    have h := rank_add_holes live l
    rw [Nat.mod_eq_of_lt (by omega)] at e
    exact ⟨l, hg, by omega⟩
  · rintro ⟨l, hg, e⟩
    have h := rank_add_holes live l
    refine ⟨l, hg, ?_⟩
    rw [Nat.mod_eq_of_lt (by omega)]
    omega

/-- So the value at a place is the sum of the values of the live places of that rank. -/
theorem Moved.end_eq {mov val : ℕ → BitVec 32} (h : Moved live V (2 ^ 10) mov val) (p : ℕ) :
    val p = ∑ g : Fin 1024, if live g.val ∧ rank live g.val = p then V g.val else 0 := by
  by_cases hg : ∃ g, At live (2 ^ 10) p g
  · obtain ⟨g, hg⟩ := hg
    rw [h.val_at p g hg, Finset.sum_eq_single (⟨g, hg.2.1⟩ : Fin 1024)]
    · have := (at_end live).1 hg
      rw [if_pos ⟨this.1, this.2.2⟩]
    · intro b _ hne
      refine if_neg ?_
      rintro ⟨l, e⟩
      exact hne (Fin.ext (At.unique live ((at_end live).2 ⟨l, b.isLt, e⟩) hg))
    · intro hno
      exact absurd (Finset.mem_univ _) hno
  · rw [h.val_no p (by simpa using hg)]
    refine (Finset.sum_eq_zero fun b _ => if_neg ?_).symm
    rintro ⟨l, e⟩
    exact hg ⟨b.val, (at_end live).2 ⟨l, b.isLt, e⟩⟩

end Cert.Proof.List
-- ==== Proof.ListSpec.lean ====
/- The list of granules of one row, in numbers: which granules are in it, where each stands, how many they are, and how many keys a query keeps. -/
module

public import proofs.«01_k».proof.Proof.ListPop
public import proofs.«01_k».proof.Proof.ListMove

@[expose] public section

set_option maxRecDepth 16384

namespace Cert.Proof.List

open Idealize.ShloMosaic

variable (w o : Fin 512 → BitVec 32) (n : ℕ)

/-- A mask word, or zero where the word is flagged as empty. -/
def word (k : Fin 512) : BitVec 32 := if o k = 1#32 then w k else 0#32

/-- The mask of a granule, in the order of the list: the low halves of the words, then the high ones. -/
def bitsOf (g : Fin 1024) : BitVec 32 :=
  if h : g.val < 512 then word w o ⟨g.val, h⟩ &&& 65535#32 else word w o ⟨g.val - 512, by omega⟩ >>> 16

/-- The number of a granule, in the same order. -/
def gran (g : ℕ) : BitVec 32 := if g < 512 then BitVec.ofNat 32 (2 * g) else BitVec.ofNat 32 (2 * (g - 512) + 1)

/-- The granule of the row itself. -/
def own : BitVec 32 := BitVec.ofNat 32 (768 + n)

/-- The mask of the row's own granule. -/
def ownBits : BitVec 32 := ∑ g : Fin 1024, if gran g.val = own n then bitsOf w o g else 0

/-- The masks of the granules before it. -/
def before (g : Fin 1024) : BitVec 32 := if (gran g.val).slt (own n) = true then bitsOf w o g else 0#32

/-- The granules that keep a key. -/
def live (g : ℕ) : Prop := ∃ h : g < 1024, before w o n ⟨g, h⟩ ≠ 0#32

instance : DecidablePred (live w o n) := fun g =>
  if h : g < 1024 then decidable_of_iff (before w o n ⟨g, h⟩ ≠ 0#32) ⟨fun e => ⟨h, e⟩, fun ⟨_, e⟩ => e⟩ else isFalse fun ⟨h', _⟩ => h h'

theorem live_iff (g : Fin 1024) : live w o n g.val ↔ before w o n g ≠ 0#32 := ⟨fun ⟨_, e⟩ => e, fun e => ⟨g.isLt, e⟩⟩

/-- The entry of a granule. -/
def value (g : ℕ) : BitVec 32 := if h : g < 1024 then before w o n ⟨g, h⟩ <<< 16 ||| gran g else 0

/-- The entry at a place of the list. -/
def entry (p : ℕ) : BitVec 32 :=
  if p = 0 then ownBits w o n <<< 16 ||| own n
  else ∑ g : Fin 1024, if live w o n g.val ∧ rank (live w o n) g.val = p - 1 then value w o n g.val else 0

/-- How many entries the list has. -/
def count : BitVec 32 := 1#32 + ∑ g : Fin 1024, if live w o n g.val then 1#32 else 0#32

/-- How many keys a query of the row keeps. -/
def kept (q : ℕ) : BitVec 32 :=
  (∑ g : Fin 1024, ones (before w o n g) 16) + ∑ k : Fin 16, if k.val ≤ q then ownBits w o n >>> k.val &&& 1#32 else 0#32

theorem word16 (x : BitVec 32) : (x >>> 16).toNat < 2 ^ 16 := by
  have := x.isLt
  rw [BitVec.toNat_ushiftRight, Nat.shiftRight_eq_div_pow]
  omega

theorem bitsOf_lt (g : Fin 1024) : (bitsOf w o g).toNat < 2 ^ 16 := by
  unfold bitsOf
  split
  · rw [BitVec.toNat_and]
    exact lt_of_le_of_lt Nat.and_le_right (by decide)
  · exact word16 _

theorem before_lt (g : Fin 1024) : (before w o n g).toNat < 2 ^ 16 := by
  unfold before
  split
  · exact bitsOf_lt w o g
  · decide

theorem gran_inj {g g' : ℕ} (hg : g < 1024) (hg' : g' < 1024) (h : gran g = gran g') : g = g' := by
  have e := congrArg BitVec.toNat h
  unfold gran at e
  split at e <;> split at e <;> simp only [BitVec.toNat_ofNat] at e <;> omega

theorem ownBits_lt : (ownBits w o n).toNat < 2 ^ 16 := by
  unfold ownBits
  by_cases h : ∃ g : Fin 1024, gran g.val = own n
  · obtain ⟨g, hg⟩ := h
    rw [Finset.sum_eq_single g, if_pos hg]
    · exact bitsOf_lt w o g
    · intro b _ hne
      exact if_neg fun e => hne (Fin.ext (gran_inj b.isLt g.isLt (e.trans hg.symm)))
    · intro hno
      exact absurd (Finset.mem_univ _) hno
  · rw [Finset.sum_eq_zero fun b _ => if_neg fun e => h ⟨b, e⟩]
    decide

/-- The bits of a word up to a place are the word's ones below the next. -/
theorem ones_mask (x : BitVec 32) (q : ℕ) (hq : q < 16) (m : BitVec 32) (hm : ∀ i < 16, m.getLsbD i = decide (i ≤ q)) :
    ones (x &&& m) 16 = ∑ k : Fin 16, if k.val ≤ q then x >>> k.val &&& 1#32 else 0#32 := by
  have hs : ∀ j, j ≤ 16 → ones (x &&& m) j = ∑ k ∈ Finset.range j, if k ≤ q then x >>> k &&& 1#32 else 0#32 := by
    intro j
    induction j with
    | zero => intro _; rfl
    | succ j ih =>
      intro hj
      rw [Finset.sum_range_succ, ← ih (by omega)]
      show ones (x &&& m) j + ((x &&& m) >>> j &&& 1#32) = _
      congr 1
      have hb : (x &&& m) >>> j &&& 1#32 = if m.getLsbD j then x >>> j &&& 1#32 else 0#32 := by
        refine BitVec.eq_of_getLsbD_eq fun i hi => ?_
        cases hmj : m.getLsbD j
        all_goals
          rcases Nat.eq_zero_or_pos i with rfl | h0
          · simp [hmj]
          · simp [BitVec.getLsbD_one, Nat.pos_iff_ne_zero.1 h0]
      rw [hb, hm j (by omega)]
      simp
  rw [hs 16 le_rfl, Finset.sum_range]

end Cert.Proof.List
-- ==== Proof.ListVec.lean ====
/- The vector operations of the list, read at a row and a column. -/
module

public import proofs.«01_k».proof.Proof.Gen.ListIdeal.Value
public import proofs.«01_k».proof.Proof.ListSpec

@[expose] public section

set_option maxRecDepth 16384

noncomputable section

namespace Cert.Proof.List

open Cert.ListIdeal Cert.ListIdeal.Gen
open Idealize.ShloMosaic Idealize.ShloMosaic.TcCoe Idealize.ShloMosaic.Pointwise

theorem sel_eq {α : Type} {b : ℕ} (x y : BitVec b) (s t : α) : Scalar.select (IntOp.cmpi .eq x y) s t = if x = y then s else t := by
  by_cases h : x = y
  · simp [Scalar.select, IntOp.cmpi, h]
  · simp [Scalar.select, IntOp.cmpi, h, beq_eq_false_iff_ne.2 h]

theorem sel_ne {α : Type} {b : ℕ} (x y : BitVec b) (s t : α) : Scalar.select (IntOp.cmpi .ne x y) s t = if x ≠ y then s else t := by
  by_cases h : x = y
  · simp [Scalar.select, IntOp.cmpi, h]
  · simp [Scalar.select, IntOp.cmpi, h, bne_iff_ne.2 h]

theorem sel_slt {α : Type} {b : ℕ} (x y : BitVec b) (s t : α) : Scalar.select (IntOp.cmpi .slt x y) s t = if x.slt y = true then s else t := by
  cases h : x.slt y <;> simp [Scalar.select, IntOp.cmpi, h]

theorem sel_sle {α : Type} {b : ℕ} (x y : BitVec b) (s t : α) : Scalar.select (IntOp.cmpi .sle x y) s t = if x.sle y = true then s else t := by
  cases h : x.sle y <;> simp [Scalar.select, IntOp.cmpi, h]

theorem fold_addi {ι : Type} (S : Finset ι) (b : BitVec 32) (f : ι → BitVec 32) : S.fold IntOp.addi b f = b + ∑ i ∈ S, f i := by
  induction S using Finset.cons_induction with
  | empty => simp
  | cons a S ha ih =>
    rw [Finset.fold_cons, Finset.sum_cons, ih]
    show f a + (b + _) = _
    rw [add_left_comm]

/-- A vector of 1024 rows shifted towards the last row, zeros coming in. -/
abbrev upV (k m : ℕ) (hs : S1024x128.Slices ![0, 0] ⟨2, ![m, 128]⟩)
    (hc : Shape.Concatenates [⟨2, ![k, 128]⟩, ⟨2, ![m, 128]⟩] S1024x128 0) (x : IVec S1024x128 32) : IVec S1024x128 32 :=
  concatenate S1024x128 0 [⟨⟨2, ![k, 128]⟩, broadcast ⟨2, ![k, 128]⟩ 0#32⟩,
    ⟨⟨2, ![m, 128]⟩, extractStridedSlice ⟨2, ![m, 128]⟩ ![0, 0] x hs⟩] hc

/-- One shifted towards the first row. -/
abbrev downV (k m : ℕ) (hs : S1024x128.Slices ![k, 0] ⟨2, ![m, 128]⟩)
    (hc : Shape.Concatenates [⟨2, ![m, 128]⟩, ⟨2, ![k, 128]⟩] S1024x128 0) (x : IVec S1024x128 32) : IVec S1024x128 32 :=
  concatenate S1024x128 0 [⟨⟨2, ![m, 128]⟩, extractStridedSlice ⟨2, ![m, 128]⟩ ![k, 0] x hs⟩,
    ⟨⟨2, ![k, 128]⟩, broadcast ⟨2, ![k, 128]⟩ 0#32⟩] hc

theorem upV_apply {k m : ℕ} (hs) (hc) (hkm : k + m = 1024) (x : IVec S1024x128 32) (g : Fin 1024) (l : Fin 128) :
    upV k m hs hc x (ix2 g l) = if g.val < k then 0#32 else x (ix2 ⟨g.val - k, by omega⟩ l) := by
  pointwise
  by_cases h : g.val < k
  · rw [dif_pos h, if_pos h]
  · rw [dif_neg h, if_neg h]
    refine congrArg x (funext fun a => Fin.ext ?_)
    match a with
    | ⟨0, _⟩ => rfl
    | ⟨1, _⟩ => rfl

theorem downV_apply {k m : ℕ} (hs) (hc) (hkm : k + m = 1024) (x : IVec S1024x128 32) (g : Fin 1024) (l : Fin 128) :
    downV k m hs hc x (ix2 g l) = if h : g.val + k < 1024 then x (ix2 ⟨g.val + k, h⟩ l) else 0#32 := by
  pointwise
  by_cases h : g.val < m
  · rw [dif_pos h, dif_pos (by omega)]
    refine congrArg x (funext fun a => Fin.ext ?_)
    match a with
    | ⟨0, _⟩ => exact Nat.add_comm _ _
    | ⟨1, _⟩ => rfl
  · rw [dif_neg h, dif_neg (by omega)]

/-- The column of a vector. -/
def col (x : IVec S1024x128 32) (l : Fin 128) (g : ℕ) : BitVec 32 := if h : g < 1024 then x (ix2 ⟨g, h⟩ l) else 0

theorem col_lt (x : IVec S1024x128 32) (l : Fin 128) (g : Fin 1024) : col x l g.val = x (ix2 g l) := dif_pos g.isLt

theorem col_down {k m : ℕ} (hs) (hc) (hkm : k + m = 1024) (x : IVec S1024x128 32) (g : Fin 1024) (l : Fin 128) :
    downV k m hs hc x (ix2 g l) = col x l (g.val + k) := downV_apply hs hc hkm x g l

/-- One step of a running sum, over vectors. -/
def scanV (k m : ℕ) (hs : S1024x128.Slices ![0, 0] ⟨2, ![m, 128]⟩)
    (hc : Shape.Concatenates [⟨2, ![k, 128]⟩, ⟨2, ![m, 128]⟩] S1024x128 0) (x : IVec S1024x128 32) : IVec S1024x128 32 :=
  addi x (upV k m hs hc x)

/-- One step of the running count of holes. -/
theorem scan_step {L : ℕ → Prop} [DecidablePred L] {k m : ℕ} (hs) (hc) (hkm : k + m = 1024) {x : IVec S1024x128 32} {l : Fin 128}
    (h : ∀ g : Fin 1024, x (ix2 g l) = BitVec.ofNat 32 (near L k g.val)) (g : Fin 1024) :
    scanV k m hs hc x (ix2 g l) = BitVec.ofNat 32 (near L (k + k) g.val) := by
  show x (ix2 g l) + upV k m hs hc x (ix2 g l) = _
  rw [upV_apply hs hc hkm, h g, near_double]
  split
  · exact BitVec.add_zero _
  · rw [h, BitVec.ofNat_add]

/-- One move of a vector by a power of two, for the counts `mov`. -/
abbrev moveVec (k m : ℕ) (hs : S1024x128.Slices ![k, 0] ⟨2, ![m, 128]⟩)
    (hc : Shape.Concatenates [⟨2, ![m, 128]⟩, ⟨2, ![k, 128]⟩] S1024x128 0) (mov val : IVec S1024x128 32) : IVec S1024x128 32 :=
  select (cmpi .ne (andi (downV k m hs hc mov) (broadcast S1024x128 (BitVec.ofNat 32 k))) (broadcast S1024x128 0#32)) (downV k m hs hc val)
    (select (cmpi .eq (andi mov (broadcast S1024x128 (BitVec.ofNat 32 k))) (broadcast S1024x128 0#32)) val (broadcast S1024x128 0#32))

theorem col_move {k m : ℕ} (hs) (hc) (hkm : k + m = 1024) (mov val : IVec S1024x128 32) (l : Fin 128) :
    col (moveVec k m hs hc mov val) l = moveV k (col mov l) (col val l) := by
  funext p
  unfold moveV
  by_cases hp : p < 1024
  · have e1 := col_down hs hc hkm mov ⟨p, hp⟩ l
    have e2 := col_down hs hc hkm val ⟨p, hp⟩ l
    rw [show col (moveVec k m hs hc mov val) l p = moveVec k m hs hc mov val (ix2 ⟨p, hp⟩ l) from dif_pos hp]
    show Scalar.select (IntOp.cmpi .ne (downV k m hs hc mov (ix2 ⟨p, hp⟩ l) &&& BitVec.ofNat 32 k) 0#32) (downV k m hs hc val (ix2 ⟨p, hp⟩ l))
      (Scalar.select (IntOp.cmpi .eq (mov (ix2 ⟨p, hp⟩ l) &&& BitVec.ofNat 32 k) 0#32) (val (ix2 ⟨p, hp⟩ l)) 0#32) = _
    rw [sel_ne, sel_eq, e1, e2, ← col_lt mov l ⟨p, hp⟩, ← col_lt val l ⟨p, hp⟩]
    rfl
  · have h0 : ∀ x : IVec S1024x128 32, col x l p = 0 := fun x => dif_neg hp
    have h1 : ∀ x : IVec S1024x128 32, col x l (p + k) = 0 := fun x => dif_neg (by omega)
    rw [h0, h1, h1, h0, h0]
    simp

/-- So one move of the counts and of the values. -/
theorem move_step {L : ℕ → Prop} [DecidablePred L] {V : ℕ → BitVec 32} (t : ℕ) {k m : ℕ} (hk : k = 2 ^ t) (ht : t < 32) (hkm : k + m = 1024)
    {hs : S1024x128.Slices ![k, 0] ⟨2, ![m, 128]⟩} {hc : Shape.Concatenates [⟨2, ![m, 128]⟩, ⟨2, ![k, 128]⟩] S1024x128 0}
    {mov val mov' val' : IVec S1024x128 32} {l : Fin 128}
    (hm : mov' = moveVec k m hs hc mov mov) (hv : val' = moveVec k m hs hc mov val)
    (h : Moved L V (2 ^ t) (col mov l) (col val l)) : Moved L V (2 ^ (t + 1)) (col mov' l) (col val' l) := by
  rw [hm, hv, col_move hs hc hkm, col_move hs hc hkm, hk, pow_succ, mul_two]
  exact h.step L V ht

variable (i : grid0.Coords) (x0 x1 : Vec Ideal S512x128 .i32) (l : Fin 128)

/-- The values and the counts after the moves up to each power of two. -/
theorem moved_2 {L : ℕ → Prop} [DecidablePred L] {V : ℕ → BitVec 32}
    (h : Moved L V (2 ^ 0) (col (k0_pay70 i x0 x1) l) (col (k0_pay69 i x0 x1) l)) :
    Moved L V (2 ^ 2) (col (k0_pay73 i x0 x1) l) (col (k0_pay72 i x0 x1) l) :=
  move_step 1 (k := 2) (m := 1022) (hs := slices_S1024x128_o2_0_S1022x128) (hc := concatenates_S1022x128_S2x128_S1024x128_d0) rfl (by decide) rfl rfl rfl
    (move_step 0 (k := 1) (m := 1023) (hs := slices_S1024x128_o1_0_S1023x128) (hc := concatenates_S1023x128_S1x128_S1024x128_d0) (mov' := k0_pay17 (k0_pay70 i x0 x1))
      (val' := moveVec 1 1023 slices_S1024x128_o1_0_S1023x128 concatenates_S1023x128_S1x128_S1024x128_d0 (k0_pay70 i x0 x1) (k0_pay69 i x0 x1))
      rfl (by decide) rfl rfl rfl h)

theorem moved_4_of {L : ℕ → Prop} [DecidablePred L] {V : ℕ → BitVec 32} (val mov : IVec S1024x128 32)
    (h : Moved L V (2 ^ 2) (col mov l) (col val l)) :
    Moved L V (2 ^ 4) (col (k0_pay33 mov (extractStridedSlice S1020x128 ![4, 0] mov slices_S1024x128_o4_0_S1020x128) 0#32) l)
      (col (k0_pay32 val mov (downV 4 1020 slices_S1024x128_o4_0_S1020x128 concatenates_S1020x128_S4x128_S1024x128_d0 val)
        (extractStridedSlice S1020x128 ![4, 0] mov slices_S1024x128_o4_0_S1020x128) 0#32) l) := by
  have e1 : k0_pay28 mov (extractStridedSlice S1020x128 ![4, 0] mov slices_S1024x128_o4_0_S1020x128) 0#32
      = moveVec 4 1020 slices_S1024x128_o4_0_S1020x128 concatenates_S1020x128_S4x128_S1024x128_d0 mov mov := rfl
  have h1 := move_step 2 (k := 4) (m := 1020) (hs := slices_S1024x128_o4_0_S1020x128) (hc := concatenates_S1020x128_S4x128_S1024x128_d0)
    (by decide) (by decide) (by decide) e1 rfl h
  generalize hq : extractStridedSlice S1020x128 ![4, 0] mov slices_S1024x128_o4_0_S1020x128 = v129 at *
  have e2 : k0_pay33 mov v129 0#32 = moveVec 8 1016 slices_S1024x128_o8_0_S1016x128 concatenates_S1016x128_S8x128_S1024x128_d0
      (k0_pay28 mov v129 0#32) (k0_pay28 mov v129 0#32) := rfl
  have e3 : k0_pay32 val mov (downV 4 1020 slices_S1024x128_o4_0_S1020x128 concatenates_S1020x128_S4x128_S1024x128_d0 val) v129 0#32
      = moveVec 8 1016 slices_S1024x128_o8_0_S1016x128 concatenates_S1016x128_S8x128_S1024x128_d0 (k0_pay28 mov v129 0#32)
        (moveVec 4 1020 slices_S1024x128_o4_0_S1020x128 concatenates_S1020x128_S4x128_S1024x128_d0 mov val) := by
    subst hq
    rfl
  exact move_step 3 (k := 8) (m := 1016) (hs := slices_S1024x128_o8_0_S1016x128) (hc := concatenates_S1016x128_S8x128_S1024x128_d0)
    (by decide) (by decide) (by decide) e2 e3 h1

theorem moved_4 {L : ℕ → Prop} [DecidablePred L] {V : ℕ → BitVec 32}
    (h : Moved L V (2 ^ 2) (col (k0_pay73 i x0 x1) l) (col (k0_pay72 i x0 x1) l)) :
    Moved L V (2 ^ 4) (col (k0_pay77 i x0 x1) l) (col (k0_pay76 i x0 x1) l) := by
  have h' := moved_4_of l _ _ h
  unfold k0_pay77 k0_pay76 k0_pay75 k0_pay74
  exact h'

theorem moved_6_of {L : ℕ → Prop} [DecidablePred L] {V : ℕ → BitVec 32} (val mov : IVec S1024x128 32)
    (h : Moved L V (2 ^ 4) (col mov l) (col val l)) :
    Moved L V (2 ^ 6) (col (k0_pay44 mov (downV 16 1008 slices_S1024x128_o16_0_S1008x128 concatenates_S1008x128_S16x128_S1024x128_d0 mov) k0_pay36) l)
      (col (k0_pay43 val mov (downV 16 1008 slices_S1024x128_o16_0_S1008x128 concatenates_S1008x128_S16x128_S1024x128_d0 val)
        (downV 16 1008 slices_S1024x128_o16_0_S1008x128 concatenates_S1008x128_S16x128_S1024x128_d0 mov) k0_pay36) l) :=
  move_step 5 (k := 32) (m := 992) (hs := slices_S1024x128_o32_0_S992x128) (hc := concatenates_S992x128_S32x128_S1024x128_d0) rfl (by decide) rfl rfl rfl
    (move_step 4 (k := 16) (m := 1008) (hs := slices_S1024x128_o16_0_S1008x128) (hc := concatenates_S1008x128_S16x128_S1024x128_d0)
      (mov' := k0_pay39 mov (downV 16 1008 slices_S1024x128_o16_0_S1008x128 concatenates_S1008x128_S16x128_S1024x128_d0 mov) k0_pay36)
      (val' := moveVec 16 1008 slices_S1024x128_o16_0_S1008x128 concatenates_S1008x128_S16x128_S1024x128_d0 mov val)
      rfl (by decide) rfl rfl rfl h)

theorem moved_6 {L : ℕ → Prop} [DecidablePred L] {V : ℕ → BitVec 32}
    (h : Moved L V (2 ^ 4) (col (k0_pay77 i x0 x1) l) (col (k0_pay76 i x0 x1) l)) :
    Moved L V (2 ^ 6) (col (k0_pay82 i x0 x1) l) (col (k0_pay81 i x0 x1) l) := by
  have h' := moved_6_of l _ _ h
  unfold k0_pay82 k0_pay81 k0_pay80 k0_pay79 k0_pay78
  exact h'

/-- The counts and the values before the last two moves. -/
abbrev mov8 : IVec S1024x128 32 := k0_pay54 (k0_pay82 i x0 x1) (k0_pay84 i x0 x1) (k0_pay85 i x0 x1)
abbrev val8 : IVec S1024x128 32 := k0_pay53 (k0_pay81 i x0 x1) (k0_pay82 i x0 x1) (k0_pay83 i x0 x1) (k0_pay84 i x0 x1) (k0_pay85 i x0 x1)

theorem moved_8_of {L : ℕ → Prop} [DecidablePred L] {V : ℕ → BitVec 32} (val mov : IVec S1024x128 32)
    (h : Moved L V (2 ^ 6) (col mov l) (col val l)) :
    Moved L V (2 ^ 8)
      (col (k0_pay54 mov (downV 64 960 slices_S1024x128_o64_0_S960x128 concatenates_S960x128_S64x128_S1024x128_d0 mov)
        (cmpi .ne (andi (downV 64 960 slices_S1024x128_o64_0_S960x128 concatenates_S960x128_S64x128_S1024x128_d0 mov) (broadcast S1024x128 64#32)) (broadcast S1024x128 0#32))) l)
      (col (k0_pay53 val mov (downV 64 960 slices_S1024x128_o64_0_S960x128 concatenates_S960x128_S64x128_S1024x128_d0 val)
        (downV 64 960 slices_S1024x128_o64_0_S960x128 concatenates_S960x128_S64x128_S1024x128_d0 mov)
        (cmpi .ne (andi (downV 64 960 slices_S1024x128_o64_0_S960x128 concatenates_S960x128_S64x128_S1024x128_d0 mov) (broadcast S1024x128 64#32)) (broadcast S1024x128 0#32))) l) :=
  move_step 7 (k := 128) (m := 896) (hs := slices_S1024x128_o128_0_S896x128) (hc := concatenates_S896x128_S128x128_S1024x128_d0) rfl (by decide) rfl rfl rfl
    (move_step 6 (k := 64) (m := 960) (hs := slices_S1024x128_o64_0_S960x128) (hc := concatenates_S960x128_S64x128_S1024x128_d0)
      (mov' := k0_pay49 mov (downV 64 960 slices_S1024x128_o64_0_S960x128 concatenates_S960x128_S64x128_S1024x128_d0 mov)
        (cmpi .ne (andi (downV 64 960 slices_S1024x128_o64_0_S960x128 concatenates_S960x128_S64x128_S1024x128_d0 mov) (broadcast S1024x128 64#32)) (broadcast S1024x128 0#32)))
      (val' := moveVec 64 960 slices_S1024x128_o64_0_S960x128 concatenates_S960x128_S64x128_S1024x128_d0 mov val)
      rfl (by decide) rfl rfl rfl h)

theorem moved_8 {L : ℕ → Prop} [DecidablePred L] {V : ℕ → BitVec 32}
    (h : Moved L V (2 ^ 6) (col (k0_pay82 i x0 x1) l) (col (k0_pay81 i x0 x1) l)) :
    Moved L V (2 ^ 8) (col (mov8 i x0 x1) l) (col (val8 i x0 x1) l) := by
  have h' := moved_8_of l _ _ h
  unfold mov8 val8 k0_pay85 k0_pay84 k0_pay83
  exact h'

/-- The counts and the values after the move by 256, and the values after the last move. -/
abbrev mov9 : IVec S1024x128 32 := moveVec 256 768 slices_S1024x128_o256_0_S768x128 concatenates_S768x128_S256x128_S1024x128_d0 (mov8 i x0 x1) (mov8 i x0 x1)
abbrev val9 : IVec S1024x128 32 := moveVec 256 768 slices_S1024x128_o256_0_S768x128 concatenates_S768x128_S256x128_S1024x128_d0 (mov8 i x0 x1) (val8 i x0 x1)
abbrev val10 : IVec S1024x128 32 := moveVec 512 512 slices_S1024x128_o512_0_S512x128 concatenates_S512x128_S512x128_S1024x128_d0 (mov9 i x0 x1) (val9 i x0 x1)

theorem moved_10 {L : ℕ → Prop} [DecidablePred L] {V : ℕ → BitVec 32}
    (h : Moved L V (2 ^ 8) (col (mov8 i x0 x1) l) (col (val8 i x0 x1) l)) :
    ∃ mov, Moved L V (2 ^ 10) mov (col (val10 i x0 x1) l) :=
  ⟨_, move_step 9 (k := 512) (m := 512) (hs := slices_S1024x128_o512_0_S512x128) (hc := concatenates_S512x128_S512x128_S1024x128_d0)
    (mov' := moveVec 512 512 slices_S1024x128_o512_0_S512x128 concatenates_S512x128_S512x128_S1024x128_d0 (mov9 i x0 x1) (mov9 i x0 x1)) rfl (by decide) rfl rfl rfl
    (move_step 8 (k := 256) (m := 768) (hs := slices_S1024x128_o256_0_S768x128) (hc := concatenates_S768x128_S256x128_S1024x128_d0) rfl (by decide) rfl rfl rfl h)⟩

/-- What is stored as the list, over the moved values. -/
theorem stored_apply (p : Fin 1024) :
    k0_pay59 (k0_pay4 i) (k0_pay66 i x0 x1) (val8 i x0 x1) (mov8 i x0 x1)
      (k0_pay55 (k0_pay81 i x0 x1) (k0_pay82 i x0 x1) (k0_pay83 i x0 x1) (k0_pay84 i x0 x1) (k0_pay85 i x0 x1))
      (k0_pay56 (k0_pay82 i x0 x1) (k0_pay84 i x0 x1) (k0_pay85 i x0 x1)) (k0_pay57 (k0_pay82 i x0 x1) (k0_pay84 i x0 x1) (k0_pay85 i x0 x1))
      (k0_pay58 (k0_pay82 i x0 x1) (k0_pay84 i x0 x1) (k0_pay85 i x0 x1)) 0#32 (ix2 p l)
    = if p.val = 0 then k0_pay66 i x0 x1 (ix2 0 l) <<< 16 ||| k0_pay4 i (ix2 0 l) else col (val10 i x0 x1) l (p.val - 1) := by
  show concatenate S1024x128 0 [⟨S1x128, ori (shli (k0_pay66 i x0 x1) (broadcast S1x128 16#32)) (k0_pay4 i)⟩,
    ⟨S1023x128, extractStridedSlice S1023x128 ![0, 0] (val10 i x0 x1) slices_S1024x128_o0_0_S1023x128⟩] concatenates_S1x128_S1023x128_S1024x128_d0 (ix2 p l) = _
  generalize hx : val10 i x0 x1 = x
  generalize k0_pay66 i x0 x1 = y
  generalize k0_pay4 i = z
  have hd : col x l (p.val - 1) = x (ix2 ⟨p.val - 1, by omega⟩ l) := dif_pos _
  rw [hd]
  pointwise
  by_cases h : p.val = 0
  · have hp : p = 0 := Fin.ext h
    subst hp
    rfl
  · rw [dif_neg (by omega), if_neg h]

end Cert.Proof.List
-- ==== Proof.ListBlock.lean ====
/- What one block of the list, of the counts and of the kept counts holds. -/
module

public import proofs.«01_k».proof.Proof.ListVec
public import Idealize.ShloMosaic.Lib.Pipeline.ValueKit

@[expose] public section

set_option maxRecDepth 16384

noncomputable section

namespace Cert.Proof.List

open Cert.ListIdeal Cert.ListIdeal.Gen
open Idealize.ShloMosaic Idealize.ShloMosaic.TcCoe Idealize.ShloMosaic.Pointwise

variable (i : grid0.Coords) (x0 x1 : Vec Ideal S512x128 .i32) (l : Fin 128)

/-- A column of a block of words, and the number of its row. -/
abbrev lane (x : Vec Ideal S512x128 .i32) (l : Fin 128) (k : Fin 512) : BitVec 32 := x (ix2 k l)
abbrev row (i : grid0.Coords) (l : Fin 128) : ℕ := 128 * (i 0).val + l.val

theorem ld_whole (x : Vec Ideal S512x128 .i32) : View.ld x r0_0 = x := by
  funext j
  obtain ⟨u, w, rfl⟩ : ∃ (u : Fin 512) (w : Fin 128), j = ix2 u w := ⟨j 0, j 1, funext fun a => by match a with | ⟨0, _⟩ => rfl | ⟨1, _⟩ => rfl⟩
  pointwise [View.ld]

theorem pay4_apply (z : Fin 1) : k0_pay4 i (ix2 z l) = own (row i l) := by
  show (768#32 + BitVec.ofNat 32 (i 0).val * 128#32) + BitVec.ofNat 32 (0 * 1 + l.val) = BitVec.ofNat 32 (768 + (128 * (i 0).val + l.val))
  rw [Nat.zero_mul, Nat.zero_add, BitVec.ofNat_add, BitVec.ofNat_add, BitVec.ofNat_mul, BitVec.mul_comm, BitVec.add_assoc]

theorem pay3_apply (g : Fin 1024) : k0_pay3 (ix2 g l) = gran g.val := by
  unfold k0_pay3 gran
  pointwise
  by_cases h : g.val < 512
  · rw [dif_pos h, if_pos h, Nat.mul_comm, BitVec.ofNat_mul]
    rfl
  · rw [dif_neg h, if_neg h, Nat.mul_comm, BitVec.ofNat_add, BitVec.ofNat_mul]
    rfl

theorem pay2_apply (g : Fin 1024) : k0_pay2 (F := Ideal) x1 x0 (ix2 g l) = bitsOf (lane x0 l) (lane x1 l) g := by
  unfold k0_pay2 bitsOf word
  pointwise
  simp only [sel_eq]
  rfl

theorem pay5_apply (z : Fin 1) : k0_pay5 (F := Ideal) i x1 x0 (ix2 z l) = ownBits (lane x0 l) (lane x1 l) (row i l) := by
  unfold k0_pay5 ownBits
  pointwise
  rw [fold_addi, BitVec.zero_add]
  refine Finset.sum_congr rfl fun g _ => ?_
  rw [sel_eq, pay3_apply, pay4_apply, pay2_apply]
  rfl

theorem pay6_apply (g : Fin 1024) : k0_pay6 (F := Ideal) i x1 x0 (ix2 g l) = before (lane x0 l) (lane x1 l) (row i l) g := by
  unfold k0_pay6 before
  pointwise
  rw [sel_slt, pay3_apply, pay4_apply, pay2_apply]

theorem pay7_if (g : Fin 1024) :
    k0_pay7 (F := Ideal) i x1 x0 (ix2 g l) = if live (lane x0 l) (lane x1 l) (row i l) g.val then 0#32 else 1#32 := by
  unfold k0_pay7
  pointwise
  rw [pay6_apply]
  by_cases h : before (lane x0 l) (lane x1 l) (row i l) g = 0#32
  · rw [if_neg (fun e => (live_iff _ _ _ g).1 e h), h]
    rfl
  · rw [if_pos ((live_iff _ _ _ g).2 h)]
    simp [IntOp.cmpi, beq_eq_false_iff_ne.2 h]

theorem pay7_apply (g : Fin 1024) :
    k0_pay7 (F := Ideal) i x1 x0 (ix2 g l) = BitVec.ofNat 32 (near (live (lane x0 l) (lane x1 l) (row i l)) 1 g.val) := by
  rw [near_one, pay7_if]
  split <;> rfl

theorem pay60_apply (v : IVec S1024x128 32) (z : Fin 1) : k0_pay60 v (ix2 z l) = 1024#32 - (∑ g : Fin 1024, v (ix2 g l)) + 1#32 := by
  unfold k0_pay60
  pointwise
  rw [fold_addi, BitVec.zero_add]
  rfl

theorem pay62_apply (v : IVec S1024x128 32) (z : Fin 1) : k0_pay62 v (k0_pay61 v) (ix2 z l) = ∑ g : Fin 1024, pop (v (ix2 g l)) := by
  unfold k0_pay62 k0_pay61
  pointwise
  rw [fold_addi, BitVec.zero_add]
  exact Finset.sum_congr rfl fun g _ => rfl

/-- The bits of the keys up to a query. -/
abbrev upto (q : Fin 16) : BitVec 32 := IntOp.shli .vector 2#32 (BitVec.ofNat 32 q.val) - 1#32

theorem upto_bit : ∀ q : Fin 16, ∀ i < 16, (upto q).getLsbD i = decide (i ≤ q.val) := by decide +kernel

theorem pay1_apply (a : IVec S1x128 32) (v : IVec S1x128 32) (q : Fin 16) :
    k0_pay1 (F := Ideal) a (k0_pay63 v) (k0_pay64 v) (ix2 q l)
      = sitofp (F := Ideal) .f32 (fun _ : S16x128.Idx => a (ix2 0 l) + pop (v (ix2 0 l) &&& upto q)) (ix2 q l) := by
  unfold k0_pay1 k0_pay64 k0_pay63
  pointwise
  rfl

/-- The vector of the running counts after ten steps. -/
theorem scan_eq (v v38 : IVec S1024x128 32) :
    k0_pay12 v v38 k0_pay9 (extractStridedSlice S1022x128 ![0, 0] v38 slices_S1024x128_o0_0_S1022x128)
      = select (cmpi .eq v (broadcast S1024x128 0#32))
        (scanV 512 512 slices_S1024x128_o0_0_S512x128 concatenates_S512x128_S512x128_S1024x128_d0
        (scanV 256 768 slices_S1024x128_o0_0_S768x128 concatenates_S256x128_S768x128_S1024x128_d0
        (scanV 128 896 slices_S1024x128_o0_0_S896x128 concatenates_S128x128_S896x128_S1024x128_d0
        (scanV 64 960 slices_S1024x128_o0_0_S960x128 concatenates_S64x128_S960x128_S1024x128_d0
        (scanV 32 992 slices_S1024x128_o0_0_S992x128 concatenates_S32x128_S992x128_S1024x128_d0
        (scanV 16 1008 slices_S1024x128_o0_0_S1008x128 concatenates_S16x128_S1008x128_S1024x128_d0
        (scanV 8 1016 slices_S1024x128_o0_0_S1016x128 concatenates_S8x128_S1016x128_S1024x128_d0
        (scanV 4 1020 slices_S1024x128_o0_0_S1020x128 concatenates_S4x128_S1020x128_S1024x128_d0
        (scanV 2 1022 slices_S1024x128_o0_0_S1022x128 concatenates_S2x128_S1022x128_S1024x128_d0 v38)))))))))
        (broadcast S1024x128 0#32) := by
  rfl

/-- The running counts of holes, kept at the live granules. -/
theorem counts_apply {L : ℕ → Prop} [DecidablePred L] (v : IVec S1024x128 32)
    (h : ∀ g : Fin 1024, v (ix2 g l) = BitVec.ofNat 32 (near L 1 g.val)) (g : Fin 1024) :
    k0_pay12 v (scanV 1 1023 slices_S1024x128_o0_0_S1023x128 concatenates_S1x128_S1023x128_S1024x128_d0 v) k0_pay9
        (extractStridedSlice S1022x128 ![0, 0] (scanV 1 1023 slices_S1024x128_o0_0_S1023x128 concatenates_S1x128_S1023x128_S1024x128_d0 v)
          slices_S1024x128_o0_0_S1022x128) (ix2 g l)
      = if v (ix2 g l) = 0#32 then BitVec.ofNat 32 (holes L g.val) else 0#32 := by
  have hn : near L (512 + 512) g.val = holes L g.val := near_all L (show g.val < 512 + 512 by omega)
  have s1 := scan_step (k := 1) (m := 1023) slices_S1024x128_o0_0_S1023x128 concatenates_S1x128_S1023x128_S1024x128_d0 rfl h
  have s2 := scan_step (k := 2) (m := 1022) slices_S1024x128_o0_0_S1022x128 concatenates_S2x128_S1022x128_S1024x128_d0 rfl s1
  have s3 := scan_step (k := 4) (m := 1020) slices_S1024x128_o0_0_S1020x128 concatenates_S4x128_S1020x128_S1024x128_d0 rfl s2
  have s4 := scan_step (k := 8) (m := 1016) slices_S1024x128_o0_0_S1016x128 concatenates_S8x128_S1016x128_S1024x128_d0 rfl s3
  have s5 := scan_step (k := 16) (m := 1008) slices_S1024x128_o0_0_S1008x128 concatenates_S16x128_S1008x128_S1024x128_d0 rfl s4
  have s6 := scan_step (k := 32) (m := 992) slices_S1024x128_o0_0_S992x128 concatenates_S32x128_S992x128_S1024x128_d0 rfl s5
  have s7 := scan_step (k := 64) (m := 960) slices_S1024x128_o0_0_S960x128 concatenates_S64x128_S960x128_S1024x128_d0 rfl s6
  have s8 := scan_step (k := 128) (m := 896) slices_S1024x128_o0_0_S896x128 concatenates_S128x128_S896x128_S1024x128_d0 rfl s7
  have s9 := scan_step (k := 256) (m := 768) slices_S1024x128_o0_0_S768x128 concatenates_S256x128_S768x128_S1024x128_d0 rfl s8
  have s10 := scan_step (k := 512) (m := 512) slices_S1024x128_o0_0_S512x128 concatenates_S512x128_S512x128_S1024x128_d0 rfl s9 g
  have s11 := s10.trans (congrArg (BitVec.ofNat 32) hn)
  clear s1 s2 s3 s4 s5 s6 s7 s8 s9
  exact (congrFun (scan_eq v _) (ix2 g l)).trans ((sel_eq (v (ix2 g l)) 0#32 _ _).trans (if_congr Iff.rfl s11 rfl))

theorem sum_ones : ∀ n : ℕ, (∑ _g : Fin n, 1#32) = BitVec.ofNat 32 n
  | 0 => rfl
  | n + 1 => by rw [Fin.sum_univ_castSucc, sum_ones n, BitVec.ofNat_add]

variable {i x0 x1 l}

/-- The start of the moves. -/
theorem start : Moved (live (lane x0 l) (lane x1 l) (row i l)) (value (lane x0 l) (lane x1 l) (row i l)) (2 ^ 0)
    (col (k0_pay70 i x0 x1) l) (col (k0_pay69 i x0 x1) l) := by
  have e7 : ∀ g : Fin 1024, k0_pay7 (F := Ideal) i x1 x0 (ix2 g l) = 0#32 ↔ live (lane x0 l) (lane x1 l) (row i l) g.val := fun g => by
    rw [pay7_if]
    by_cases h : live (lane x0 l) (lane x1 l) (row i l) g.val
    · rw [if_pos h]; exact ⟨fun _ => h, fun _ => rfl⟩
    · rw [if_neg h]; exact ⟨fun e => absurd e (by decide), fun e => absurd e h⟩
  convert Moved.start (live (lane x0 l) (lane x1 l) (row i l)) (value (lane x0 l) (lane x1 l) (row i l)) using 1
  · funext g
    unfold col
    by_cases hg : g < 1024
    · rw [dif_pos hg]
      unfold k0_pay70 k0_pay68
      rw [ld_whole, ld_whole]
      refine (counts_apply l _ (pay7_apply i x0 x1 l) ⟨g, hg⟩).trans ?_
      exact if_congr ⟨fun e => ⟨hg, (e7 ⟨g, hg⟩).1 e⟩, fun e => (e7 ⟨g, hg⟩).2 e.2⟩ rfl rfl
    · rw [dif_neg hg, if_neg (fun e => hg e.1)]
  · funext g
    unfold col
    by_cases hg : g < 1024
    · rw [dif_pos hg]
      unfold k0_pay69 k0_pay68 k0_pay67 k0_pay65 k0_pay11
      rw [ld_whole, ld_whole]
      refine (sel_eq _ _ _ _).trans ?_
      refine if_congr (Q := g < 1024 ∧ live (lane x0 l) (lane x1 l) (row i l) g) ⟨fun e => ⟨hg, (e7 ⟨g, hg⟩).1 e⟩, fun e => (e7 ⟨g, hg⟩).2 e.2⟩ ?_ rfl
      show IntOp.ori (IntOp.shli .vector (k0_pay6 (F := Ideal) i x1 x0 (ix2 ⟨g, hg⟩ l)) 16#32) (k0_pay3 (ix2 ⟨g, hg⟩ l)) = _
      rw [pay6_apply, pay3_apply]
      unfold value
      rw [dif_pos hg]
      rfl
    · rw [dif_neg hg, if_neg (fun e => hg e.1)]

/-- The list's block. -/
theorem out2_apply (p : Fin 1024) : out0_2 (F := Ideal) i x0 x1 (ix2 p l) = entry (lane x0 l) (lane x1 l) (row i l) p.val := by
  obtain ⟨mov, hm⟩ := moved_10 i x0 x1 l (moved_8 i x0 x1 l (moved_6 i x0 x1 l (moved_4 i x0 x1 l (moved_2 i x0 x1 l start))))
  unfold out0_2
  canon_tiles x h
  obtain ⟨u, w, rfl⟩ : ∃ (u : Fin 1024) (w : Fin 128), x = ix2 u w := ⟨x 0, x 1, funext fun a => by match a with | ⟨0, _⟩ => rfl | ⟨1, _⟩ => rfl⟩
  obtain rfl : p = u := Fin.ext h0
  obtain rfl : l = w := Fin.ext h1
  refine (stored_apply i x0 x1 l p).trans ?_
  unfold entry
  refine if_congr Iff.rfl ?_ (hm.end_eq _ _ _)
  unfold k0_pay66
  rw [ld_whole, ld_whole, pay5_apply, pay4_apply]

theorem live_dead (L : ℕ → Prop) [DecidablePred L] :
    1024#32 - (∑ g : Fin 1024, if L g.val then 0#32 else 1#32) = ∑ g : Fin 1024, if L g.val then 1#32 else 0#32 := by
  have e : (∑ g : Fin 1024, if L g.val then 1#32 else 0#32) + (∑ g : Fin 1024, if L g.val then 0#32 else 1#32) = 1024#32 := by
    refine Finset.sum_add_distrib.symm.trans ((Finset.sum_congr rfl fun g _ => ?_).trans (sum_ones 1024))
    split <;> rfl
  rw [← e]
  exact BitVec.add_sub_cancel _ _

/-- The counts' block. -/
theorem out3_apply (z : Fin 1) : out0_3 (F := Ideal) i x0 x1 (ix2 z l) = count (lane x0 l) (lane x1 l) (row i l) := by
  unfold out0_3
  canon_tiles x h
  obtain ⟨u, w, rfl⟩ : ∃ (u : Fin 1) (w : Fin 128), x = ix2 u w := ⟨x 0, x 1, funext fun a => by match a with | ⟨0, _⟩ => rfl | ⟨1, _⟩ => rfl⟩
  obtain rfl : l = w := Fin.ext h1
  refine (pay60_apply l (k0_pay68 i x0 x1) u).trans ?_
  unfold k0_pay68 count
  rw [ld_whole, ld_whole]
  simp only [pay7_if]
  exact (congrArg (· + 1#32) (live_dead _)).trans (BitVec.add_comm _ _)

/-- The kept counts' block. -/
theorem out4_apply (q : Fin 16) : out0_4 (F := Ideal) i x0 x1 (ix2 q l)
    = sitofp (F := Ideal) .f32 (fun _ : S16x128.Idx => kept (lane x0 l) (lane x1 l) (row i l) q.val) (ix2 q l) := by
  unfold out0_4
  canon_tiles x h
  obtain ⟨u, w, rfl⟩ : ∃ (u : Fin 16) (w : Fin 128), x = ix2 u w := ⟨x 0, x 1, funext fun a => by match a with | ⟨0, _⟩ => rfl | ⟨1, _⟩ => rfl⟩
  obtain rfl : q = u := Fin.ext h0
  obtain rfl : l = w := Fin.ext h1
  refine (pay1_apply l _ (k0_pay66 i x0 x1) q).trans ?_
  have e1 : k0_pay62 (k0_pay67 i x0 x1) (k0_pay61 (k0_pay67 i x0 x1)) (ix2 0 l) = ∑ g : Fin 1024, ones (before (lane x0 l) (lane x1 l) (row i l) g) 16 := by
    refine (pay62_apply l _ 0).trans (Finset.sum_congr rfl fun g _ => ?_)
    unfold k0_pay67
    rw [ld_whole, ld_whole, pay6_apply, pop_eq _ (before_lt _ _ _ _)]
  have e2 : pop (k0_pay66 i x0 x1 (ix2 0 l) &&& upto q) = ∑ k : Fin 16, if k.val ≤ q.val then ownBits (lane x0 l) (lane x1 l) (row i l) >>> k.val &&& 1#32 else 0#32 := by
    unfold k0_pay66
    rw [ld_whole, ld_whole, pay5_apply]
    refine (pop_eq _ ?_).trans (ones_mask _ q.val q.isLt _ (upto_bit q))
    rw [BitVec.toNat_and]
    exact lt_of_le_of_lt Nat.and_le_left (ownBits_lt (lane x0 l) (lane x1 l) (row i l))
  have e : k0_pay62 (k0_pay67 i x0 x1) (k0_pay61 (k0_pay67 i x0 x1)) (ix2 0 l) + pop (k0_pay66 i x0 x1 (ix2 0 l) &&& upto q)
      = kept (lane x0 l) (lane x1 l) (row i l) q.val := congrArg₂ (· + ·) e1 e2
  rw [e]

end Cert.Proof.List

end
-- ==== Proof.ListRef.lean ====
/- The reference's list, counts and kept counts, read at a place and a row. -/
module

public import proofs.«01_k».proof.Proof.Gen.RefListIdeal.Run
public import proofs.«01_k».proof.Proof.ListVec

@[expose] public section

set_option maxRecDepth 16384

noncomputable section

namespace Cert.Proof.RefList

open Cert.RefListIdeal Cert.RefListIdeal.Gen Cert.Proof.List
open Idealize.ShloMosaic Idealize.ShloMosaic.TcCoe Idealize.ShloMosaic.Pointwise
open Idealize.SL.Sem

/-- A constant over all granules and rows. -/
abbrev cst (b : BitVec 32) : IVec S1024x256 32 := broadcastInDim S1024x256 ![] bcast_S_S1024x256 (constantI S_ 32 b)

def gran : IVec S1024x256 32 :=
  select (cmpi .slt (iotaInDim S1024x256 32 0) (cst 512#32)) (muli (cst 2#32) (iotaInDim S1024x256 32 0))
    (addi (muli (cst 2#32) (subi (iotaInDim S1024x256 32 0) (cst 512#32))) (cst 1#32))

def own : IVec S1024x256 32 := addi (cst 768#32) (iotaInDim S1024x256 32 1)

variable (W O : Vec Ideal S512x256 .i32)

def words : IVec S512x256 32 :=
  select (cmpi .eq O (broadcastInDim S512x256 ![] bcast_S_S512x256 (constantI S_ 32 1#32))) W (broadcastInDim S512x256 ![] bcast_S_S512x256 (id (constantI S_ 32 0#32)))

def bits : IVec S1024x256 32 :=
  concatenate S1024x256 0 [⟨S512x256, andi (words W O) (broadcastInDim S512x256 ![] bcast_S_S512x256 (constantI S_ 32 65535#32))⟩,
    ⟨S512x256, Host.shrui (words W O) (broadcastInDim S512x256 ![] bcast_S_S512x256 (constantI S_ 32 16#32))⟩] concatenates_S512x256_S512x256_S1024x256_d0

def ownBits : IVec S256 32 :=
  Host.reduce IntOp.addi (select (cmpi .eq gran own) (bits W O) (broadcastInDim S1024x256 ![] bcast_S_S1024x256 (id (constantI S_ 32 0#32))))
    (constantI S_ 32 0#32) reducesTo_S1024x256_S256_d0 h_S_

def before : IVec S1024x256 32 := select (cmpi .slt gran own) (bits W O) (broadcastInDim S1024x256 ![] bcast_S_S1024x256 (id (constantI S_ 32 0#32)))

def live : IVec S1024x256 1 := cmpi .ne (before W O) (cst 0#32)

def rank : IVec S1024x256 32 :=
  Host.reduce IntOp.addi (id (select (andi (broadcastInDim S1024x1024x256 ![1, 2] bcast_S1024x256_S1024x1024x256_1_2 (live W O))
      (cmpi .slt (iotaInDim S1024x1024x256 32 1) (iotaInDim S1024x1024x256 32 0)))
    (broadcastInDim S1024x1024x256 ![] bcast_S_S1024x1024x256 (constantI S_ 32 1#32)) (broadcastInDim S1024x1024x256 ![] bcast_S_S1024x1024x256 (constantI S_ 32 0#32))))
    (constantI S_ 32 0#32) reducesTo_S1024x1024x256_S1024x256_d1 h_S_

def picked : IVec S1024x256 32 :=
  Host.reduce IntOp.addi (select (andi (broadcastInDim S1024x1024x256 ![1, 2] bcast_S1024x256_S1024x1024x256_1_2 (live W O))
      (cmpi .eq (addi (broadcastInDim S1024x1024x256 ![1, 2] bcast_S1024x256_S1024x1024x256_1_2 (rank W O))
        (broadcastInDim S1024x1024x256 ![] bcast_S_S1024x1024x256 (constantI S_ 32 1#32))) (iotaInDim S1024x1024x256 32 0)))
    (broadcastInDim S1024x1024x256 ![1, 2] bcast_S1024x256_S1024x1024x256_1_2 (ori (Host.shli (before W O) (cst 16#32)) gran))
    (broadcastInDim S1024x1024x256 ![] bcast_S_S1024x1024x256 (id (constantI S_ 32 0#32))))
    (constantI S_ 32 0#32) reducesTo_S1024x1024x256_S1024x256_d1 h_S_

def entries : IVec S1024x256 32 :=
  select (cmpi .eq (iotaInDim S1024x256 32 0) (cst 0#32))
    (ori (broadcastInDim S1024x256 ![1] bcast_S256_S1024x256_1 (Host.shli (ownBits W O) (broadcastInDim S256 ![] bcast_S_S256 (constantI S_ 32 16#32)))) own) (picked W O)

def counts : IVec S1x256 32 :=
  shapeCast _ (addi (broadcastInDim S256 ![] bcast_S_S256 (constantI S_ 32 1#32))
    (Host.reduce IntOp.addi (id (select (live W O) (cst 1#32) (cst 0#32))) (constantI S_ 32 0#32) reducesTo_S1024x256_S256_d0 h_S_)) shapeCasts_S256_S1x256

def some : IVec S256 32 :=
  Host.reduce IntOp.addi (Host.reduce IntOp.addi (andi (Host.shrui (broadcastInDim S1024x16x256 ![0, 2] bcast_S1024x256_S1024x16x256_0_2 (before W O)) (iotaInDim S1024x16x256 32 1))
      (broadcastInDim S1024x16x256 ![] bcast_S_S1024x16x256 (constantI S_ 32 1#32))) (constantI S_ 32 0#32) reducesTo_S1024x16x256_S1024x256_d1 h_S_)
    (constantI S_ 32 0#32) reducesTo_S1024x256_S256_d0 h_S_

def seen : IVec S16x256 32 :=
  Host.reduce IntOp.addi (select (cmpi .sle (iotaInDim S16x16x256 32 0) (iotaInDim S16x16x256 32 1))
      (andi (Host.shrui (broadcastInDim S16x16x256 ![2] bcast_S256_S16x16x256_2 (ownBits W O)) (iotaInDim S16x16x256 32 0))
        (broadcastInDim S16x16x256 ![] bcast_S_S16x16x256 (constantI S_ 32 1#32)))
      (broadcastInDim S16x16x256 ![] bcast_S_S16x16x256 (id (constantI S_ 32 0#32)))) (constantI S_ 32 0#32) reducesTo_S16x16x256_S16x256_d0 h_S_

def keptI : IVec S16x256 32 := addi (broadcastInDim S16x256 ![1] bcast_S256_S16x256_1 (some W O)) (seen W O)

/-- What the reference's run leaves, by these names. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v55) = entries (m ((c.tc : Thread nD τ).loc main_arg0)) (m ((c.tc : Thread nD τ).loc main_arg1))
      ∧ r.2.mem ((c.tc : Thread nD τ).loc main_v80) = counts (m ((c.tc : Thread nD τ).loc main_arg0)) (m ((c.tc : Thread nD τ).loc main_arg1))
      ∧ r.2.mem ((c.tc : Thread nD τ).loc main_v79) = sitofp (F := Ideal) .f32 (keptI (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Value.run m ρ

variable (g : Fin 1024) (n : Fin 256)

/-- A column of the words. -/
abbrev lane (x : Vec Ideal S512x256 .i32) (n : Fin 256) (k : Fin 512) : BitVec 32 := x (ix2 k n)

theorem toInt_ofNat {a : ℕ} (ha : a < 2 ^ 31) : (BitVec.ofNat 32 a).toInt = a := by
  have e : (BitVec.ofNat 32 a).toNat = a := by rw [BitVec.toNat_ofNat]; omega
  rw [BitVec.toInt_eq_toNat_of_lt (by omega), e]

theorem slt_ofNat {a b : ℕ} (ha : a < 2 ^ 31) (hb : b < 2 ^ 31) : (BitVec.ofNat 32 a).slt (BitVec.ofNat 32 b) = true ↔ a < b := by
  rw [BitVec.slt_iff_toInt_lt, toInt_ofNat ha, toInt_ofNat hb]
  omega

theorem sle_ofNat : ∀ k q : Fin 16, (BitVec.ofNat 32 k.val).sle (BitVec.ofNat 32 q.val) = true ↔ k.val ≤ q.val := by decide +kernel

theorem ofNat_inj {a b : ℕ} (ha : a < 2 ^ 32) (hb : b < 2 ^ 32) : BitVec.ofNat 32 a = BitVec.ofNat 32 b ↔ a = b :=
  ⟨fun e => by
    have := congrArg BitVec.toNat e
    rw [BitVec.toNat_ofNat, BitVec.toNat_ofNat] at this
    omega, fun e => by rw [e]⟩

theorem sel_and {α : Type} (p q : BitVec 1) (s t : α) : Scalar.select (IntOp.andi p q) s t = Scalar.select p (Scalar.select q s t) t := by
  have h : ∀ p : BitVec 1, p = 0#1 ∨ p = 1#1 := by decide
  rcases h p with rfl | rfl <;> rcases h q with rfl | rfl <;> rfl

theorem shr_eq (x : BitVec 32) (k : Fin 16) : IntOp.shrui .host x (BitVec.ofNat 32 k.val) = x >>> k.val := by
  fin_cases k <;> rfl

theorem ones_sum (x : BitVec 32) : ∀ k : ℕ, ones x k = ∑ j : Fin k, (x >>> j.val &&& 1#32)
  | 0 => rfl
  | k + 1 => (congrArg (· + (x >>> k &&& 1#32)) (ones_sum x k)).trans
    (Fin.sum_univ_castSucc fun j : Fin (k + 1) => x >>> j.val &&& 1#32).symm

theorem sum_if {ι : Type} (S : Finset ι) (p : ι → Prop) [DecidablePred p] :
    (∑ x ∈ S, if p x then 1#32 else 0#32) = BitVec.ofNat 32 (S.filter p).card := by
  induction S using Finset.cons_induction with
  | empty => rfl
  | cons a S ha ih =>
    rw [Finset.sum_cons, ih, Finset.filter_cons]
    split
    · rw [Finset.card_cons, BitVec.ofNat_add, BitVec.add_comm]
    · exact BitVec.zero_add _

theorem sum_rank (L : ℕ → Prop) [DecidablePred L] (g : Fin 1024) :
    (∑ x : Fin 1024, if L x.val ∧ x.val < g.val then 1#32 else 0#32) = BitVec.ofNat 32 (List.rank L g.val) := by
  rw [sum_if]
  unfold List.rank
  refine congrArg (BitVec.ofNat 32) ((Finset.card_map Fin.valEmbedding).symm.trans (congrArg Finset.card (Finset.ext fun j => ?_)))
  rw [Finset.mem_map, Finset.mem_filter, Finset.mem_range]
  constructor
  · rintro ⟨x, hx, rfl⟩
    rw [Finset.mem_filter] at hx
    exact ⟨hx.2.2, hx.2.1⟩
  · rintro ⟨h1, h2⟩
    have := g.isLt
    exact ⟨⟨j, by omega⟩, Finset.mem_filter.2 ⟨Finset.mem_univ _, h2, h1⟩, rfl⟩

theorem rank_le (L : ℕ → Prop) [DecidablePred L] (g : ℕ) : List.rank L g ≤ g :=
  (Finset.card_filter_le _ _).trans (Finset.card_range g).le

theorem gran_apply : gran (ix2 g n) = List.gran g.val := by
  unfold gran List.gran
  pointwise
  rw [sel_slt, if_congr (slt_ofNat (b := 512) (by omega) (by omega)) rfl rfl]
  by_cases h : g.val < 512
  · rw [if_pos h, if_pos h, BitVec.ofNat_mul]
    rfl
  · rw [if_neg h, if_neg h]
    have e : BitVec.ofNat 32 g.val - 512#32 = BitVec.ofNat 32 (g.val - 512) := by
      conv_lhs => rw [show g.val = (g.val - 512) + 512 by omega, BitVec.ofNat_add]
      exact BitVec.add_sub_cancel _ _
    show 2#32 * (BitVec.ofNat 32 g.val - 512#32) + 1#32 = _
    rw [e, BitVec.ofNat_add, BitVec.ofNat_mul]

theorem own_apply : own (ix2 g n) = List.own n.val := by
  unfold own List.own
  pointwise
  rw [BitVec.ofNat_add]
  rfl

theorem bits_apply : bits W O (ix2 g n) = bitsOf (lane W n) (lane O n) g := by
  unfold bits words bitsOf word
  pointwise [id_eq]
  simp only [sel_eq]
  rfl

theorem ownBits_apply : ownBits W O (ix1 n) = List.ownBits (lane W n) (lane O n) n.val := by
  unfold ownBits List.ownBits
  pointwise [id_eq]
  rw [fold_addi, BitVec.zero_add]
  refine Finset.sum_congr rfl fun g _ => ?_
  rw [sel_eq, gran_apply, own_apply, bits_apply]
  rfl

theorem before_apply : before W O (ix2 g n) = List.before (lane W n) (lane O n) n.val g := by
  unfold before List.before
  pointwise [id_eq]
  rw [sel_slt, gran_apply, own_apply, bits_apply]

theorem sel_live {α : Type} (s t : α) : Scalar.select (live W O (ix2 g n)) s t = if List.live (lane W n) (lane O n) n.val g.val then s else t := by
  refine (sel_ne (before W O (ix2 g n)) 0#32 s t).trans (if_congr ?_ rfl rfl)
  rw [before_apply, live_iff]

theorem rank_apply : rank W O (ix2 g n) = BitVec.ofNat 32 (List.rank (List.live (lane W n) (lane O n) n.val) g.val) := by
  unfold rank
  pointwise [id_eq]
  rw [fold_addi, BitVec.zero_add, ← sum_rank]
  refine Finset.sum_congr rfl fun x _ => ?_
  rw [sel_and, sel_live, sel_slt, ite_and]
  exact if_congr Iff.rfl (if_congr (slt_ofNat (by omega) (by omega)) rfl rfl) rfl

theorem some_apply : some W O (ix1 n) = ∑ g : Fin 1024, ones (List.before (lane W n) (lane O n) n.val g) 16 := by
  unfold some
  pointwise [id_eq]
  rw [fold_addi, BitVec.zero_add]
  refine Finset.sum_congr rfl fun g _ => ?_
  rw [fold_addi, BitVec.zero_add, ones_sum, ← before_apply]
  exact Finset.sum_congr rfl fun k _ => congrArg (· &&& 1#32) (shr_eq _ k)

theorem counts_apply (z : Fin 1) : counts W O (ix2 z n) = Cert.Proof.List.count (lane W n) (lane O n) n.val := by
  unfold counts Cert.Proof.List.count
  pointwise [id_eq]
  rw [fold_addi, BitVec.zero_add]
  refine congrArg (1#32 + ·) (Finset.sum_congr rfl fun g _ => ?_)
  exact sel_live W O g n _ _

theorem seen_apply (q : Fin 16) : seen W O (ix2 q n) = ∑ k : Fin 16, if k.val ≤ q.val then List.ownBits (lane W n) (lane O n) n.val >>> k.val &&& 1#32 else 0#32 := by
  unfold seen
  pointwise [id_eq]
  rw [fold_addi, BitVec.zero_add, ownBits_apply]
  refine Finset.sum_congr rfl fun k _ => ?_
  rw [sel_sle, shr_eq]
  exact if_congr (sle_ofNat k q) rfl rfl

theorem keptI_apply (q : Fin 16) : keptI W O (ix2 q n) = kept (lane W n) (lane O n) n.val q.val := by
  unfold keptI kept
  pointwise
  rw [some_apply, seen_apply]
  rfl

theorem picked_apply (hg : g.val ≠ 0) : picked W O (ix2 g n)
    = ∑ x : Fin 1024, if List.live (lane W n) (lane O n) n.val x.val ∧ List.rank (List.live (lane W n) (lane O n) n.val) x.val = g.val - 1
      then value (lane W n) (lane O n) n.val x.val else 0 := by
  unfold picked
  pointwise [id_eq]
  rw [fold_addi, BitVec.zero_add]
  refine Finset.sum_congr rfl fun x _ => ?_
  have hr := rank_le (List.live (lane W n) (lane O n) n.val) x.val
  rw [sel_and, sel_live, sel_eq, ite_and, rank_apply, gran_apply, before_apply]
  refine if_congr Iff.rfl (if_congr ?_ ?_ rfl) rfl
  · show BitVec.ofNat 32 _ + BitVec.ofNat 32 1 = _ ↔ _
    rw [← BitVec.ofNat_add, ofNat_inj (by omega) (by omega)]
    omega
  · unfold value
    rw [dif_pos x.isLt]
    rfl

theorem entries_apply : entries W O (ix2 g n) = entry (lane W n) (lane O n) n.val g.val := by
  unfold entries entry
  pointwise
  rw [sel_eq, ownBits_apply, own_apply]
  by_cases hg : g.val = 0
  · rw [if_pos hg, hg]
    rfl
  · rw [if_neg hg, if_neg fun e => hg ((ofNat_inj (b := 0) (by omega) (by omega)).1 e), picked_apply W O g n hg]

end Cert.Proof.RefList

end
-- ==== Proof.ListArray.lean ====
/- The arrays that the run leaves, entry by entry, and the claim that they are the reference's. -/
module

public import proofs.«01_k».proof.Defs
public import proofs.«01_k».proof.Proof.ListBlock
public import proofs.«01_k».proof.Proof.ListRef

@[expose] public section

set_option maxRecDepth 16384

noncomputable section

namespace Cert.Proof.List

open Cert.ListIdeal Cert.ListIdeal.Gen
open Idealize.ShloMosaic Idealize.ShloMosaic.TcCoe Idealize.ShloMosaic.Pointwise
open Idealize.SL.Sem

variable (m : (ℓ : Loc nD τ sig) → Buf (Elt Ideal) ℓ)

/-- The step's number, and the blocks of the arguments and of the results at a step: its 128 columns. -/
theorem idx_step : ∀ t : Fin cfg0.N, (grid0.coords t 0).val = t.val := (by decide +kernel : ∀ t : Fin grid0.N, _)

theorem idx_in : ∀ t : Fin cfg0.N, (win0_0.index t (0 : Fin 2) = 0 ∧ win0_0.index t (1 : Fin 2) = t.val)
    ∧ (win0_1.index t (0 : Fin 2) = 0 ∧ win0_1.index t (1 : Fin 2) = t.val) :=
  (by decide +kernel : ∀ t : Fin grid0.N, _)

theorem idx_out : ∀ t : Fin cfg0.N, (win0_2.index t (0 : Fin 2) = 0 ∧ win0_2.index t (1 : Fin 2) = t.val)
    ∧ (win0_3.index t (0 : Fin 2) = 0 ∧ win0_3.index t (1 : Fin 2) = t.val)
    ∧ (win0_4.index t (0 : Fin 2) = 0 ∧ win0_4.index t (1 : Fin 2) = t.val) :=
  (by decide +kernel : ∀ t : Fin grid0.N, _)

/-- The arguments. -/
abbrev W (c : Dev nD) : Vec Ideal S512x256 .i32 := m ((c.tc : Thread nD τ).loc main_arg0)
abbrev O (c : Dev nD) : Vec Ideal S512x256 .i32 := m ((c.tc : Thread nD τ).loc main_arg1)

/-- The results as functions of the arguments. -/
def listA (c : Dev nD) : Vec Ideal S1024x256 .i32 := fun i => entry (fun k => W m c (ix2 k (i 1))) (fun k => O m c (ix2 k (i 1))) (i 1).val (i 0).val
def countA (c : Dev nD) : Vec Ideal S1x256 .i32 := fun i => count (fun k => W m c (ix2 k (i 1))) (fun k => O m c (ix2 k (i 1))) (i 1).val
def keptA (c : Dev nD) : Vec Ideal S16x256 .f32 := sitofp (F := Ideal) .f32 fun i : S16x256.Idx => kept (fun k => W m c (ix2 k (i 1))) (fun k => O m c (ix2 k (i 1))) (i 1).val (i 0).val

theorem col_lt256 (t : Fin cfg0.N) (l : Fin 128) : 128 * t.val + l.val < 256 := by
  have h : t.val < 2 := t.isLt
  omega

theorem blk0_lane (c : Dev nD) (t : Fin cfg0.N) (l : Fin 128) :
    lane (iblk m c 0 t) l = fun k => W m c (ix2 k ⟨128 * t.val + l.val, col_lt256 t l⟩) := by
  obtain ⟨⟨e0, e1⟩, -⟩ := idx_in t
  funext k
  show V m c main_arg0 (((cfg0.win 0).blk t).view.emb (ix2 k l)) = _
  rw [V_main_arg0]
  refine congrArg (W m c) (funext fun a => Fin.ext ?_)
  match a with
  | ⟨0, _⟩ => show win0_0.index t (0 : Fin 2) * 512 + 1 * k.val = k.val; omega
  | ⟨1, _⟩ => show win0_0.index t (1 : Fin 2) * 128 + 1 * l.val = 128 * t.val + l.val; omega

theorem blk1_lane (c : Dev nD) (t : Fin cfg0.N) (l : Fin 128) :
    lane (iblk m c 1 t) l = fun k => O m c (ix2 k ⟨128 * t.val + l.val, col_lt256 t l⟩) := by
  obtain ⟨-, e0, e1⟩ := idx_in t
  funext k
  show V m c main_arg1 (((cfg0.win 1).blk t).view.emb (ix2 k l)) = _
  rw [V_main_arg1]
  refine congrArg (O m c) (funext fun a => Fin.ext ?_)
  match a with
  | ⟨0, _⟩ => show win0_1.index t (0 : Fin 2) * 512 + 1 * k.val = k.val; omega
  | ⟨1, _⟩ => show win0_1.index t (1 : Fin 2) * 128 + 1 * l.val = 128 * t.val + l.val; omega

theorem row_eq (t : Fin cfg0.N) (l : Fin 128) : row (grid0.coords t) l = 128 * t.val + l.val := by
  show 128 * (grid0.coords t 0).val + l.val = _
  rw [idx_step]

/-- What a step leaves in its block of result 0. -/
theorem step2 (c : Dev nD) (t : Fin cfg0.N) (u : Fin 1024) (l : Fin 128) :
    out0_2 (F := Ideal) (grid0.coords t) (iblk m c 0 t) (iblk m c 1 t) (ix2 u l) = listA m c (ix2 u ⟨128 * t.val + l.val, col_lt256 t l⟩) := by
  rw [out2_apply, blk0_lane, blk1_lane, row_eq]
  rfl

theorem flushed2_eq (c : Dev nD) (t : Fin cfg0.N) :
    (dats m 0 c).flushed 2 t = ((cfg0.win 2).blk t).view.read (Elt Ideal) (listA m c) := by
  obtain ⟨⟨e0, e1⟩, -⟩ := idx_out t
  rw [Value.flushed2]
  funext j
  have hj : j = ix2 (n0 := 1024) (n1 := 128) (j 0) (j 1) := funext fun a => by match a with | ⟨0, _⟩ => rfl | ⟨1, _⟩ => rfl
  show out0_2 (F := Ideal) (grid0.coords t) (iblk m c 0 t) (iblk m c 1 t) j = listA m c (((cfg0.win 2).blk t).view.emb j)
  refine (congrArg (out0_2 (F := Ideal) (grid0.coords t) (iblk m c 0 t) (iblk m c 1 t)) hj).trans
    ((step2 m c t (j 0) (j 1)).trans (congrArg (listA m c) (funext fun a => Fin.ext ?_)))
  match a with
  | ⟨0, _⟩ => show (j 0).val = win0_2.index t (0 : Fin 2) * 1024 + 1 * (j 0).val; omega
  | ⟨1, _⟩ => show 128 * t.val + (j 1).val = win0_2.index t (1 : Fin 2) * 128 + 1 * (j 1).val; omega

/-- Every entry of the array lies in some step's block. -/
theorem covered2 (i : S1024x256.Idx) : ∃ t : Fin cfg0.N, (cfg0.win 2).flush t = true ∧ i ∈ ((cfg0.win 2).blk t).view.set := by
  have h0 : (i 0).val < 1024 := (i 0).isLt
  have h1 : (i 1).val < 256 := (i 1).isLt
  let t : Fin cfg0.N := ⟨(i 1).val / 128, by show _ < 2; omega⟩
  obtain ⟨⟨e0, e1⟩, -⟩ := idx_out t
  refine ⟨t, flush0_2 t, ?_⟩
  have h := ((cfg0.win 2).blk t).view.emb_mem_set (ix2 (n0 := 1024) (n1 := 128) ⟨(i 0).val, h0⟩ ⟨(i 1).val % 128, by omega⟩)
  have e : ((cfg0.win 2).blk t).view.emb (ix2 (n0 := 1024) (n1 := 128) ⟨(i 0).val, h0⟩ ⟨(i 1).val % 128, by omega⟩) = i := funext fun a => Fin.ext (by
    match a with
    | ⟨0, _⟩ => show win0_2.index t (0 : Fin 2) * 1024 + 1 * (i 0).val = (i 0).val; omega
    | ⟨1, _⟩ =>
      show win0_2.index t (1 : Fin 2) * 128 + 1 * ((i 1).val % 128) = (i 1).val
      rw [e1]; show (i 1).val / 128 * 128 + 1 * ((i 1).val % 128) = (i 1).val; omega)
  rwa [e] at h

theorem final2 (c : Dev nD) : (dats m 0 c).arrAt 2 cfg0.N = listA m c :=
  (dats m 0 c).arrAt_eq_of_cover 2 (listA m c) (fun t _ => flushed2_eq m c t) covered2

/-- What a step leaves in its block of result 1. -/
theorem step3 (c : Dev nD) (t : Fin cfg0.N) (u : Fin 1) (l : Fin 128) :
    out0_3 (F := Ideal) (grid0.coords t) (iblk m c 0 t) (iblk m c 1 t) (ix2 u l) = countA m c (ix2 u ⟨128 * t.val + l.val, col_lt256 t l⟩) := by
  rw [out3_apply, blk0_lane, blk1_lane, row_eq]
  rfl

theorem flushed3_eq (c : Dev nD) (t : Fin cfg0.N) :
    (dats m 0 c).flushed 3 t = ((cfg0.win 3).blk t).view.read (Elt Ideal) (countA m c) := by
  obtain ⟨-, ⟨e0, e1⟩, -⟩ := idx_out t
  rw [Value.flushed3]
  funext j
  have hj : j = ix2 (n0 := 1) (n1 := 128) (j 0) (j 1) := funext fun a => by match a with | ⟨0, _⟩ => rfl | ⟨1, _⟩ => rfl
  show out0_3 (F := Ideal) (grid0.coords t) (iblk m c 0 t) (iblk m c 1 t) j = countA m c (((cfg0.win 3).blk t).view.emb j)
  refine (congrArg (out0_3 (F := Ideal) (grid0.coords t) (iblk m c 0 t) (iblk m c 1 t)) hj).trans
    ((step3 m c t (j 0) (j 1)).trans (congrArg (countA m c) (funext fun a => Fin.ext ?_)))
  match a with
  | ⟨0, _⟩ => show (j 0).val = win0_3.index t (0 : Fin 2) * 1 + 1 * (j 0).val; omega
  | ⟨1, _⟩ => show 128 * t.val + (j 1).val = win0_3.index t (1 : Fin 2) * 128 + 1 * (j 1).val; omega

/-- Every entry of the array lies in some step's block. -/
theorem covered3 (i : S1x256.Idx) : ∃ t : Fin cfg0.N, (cfg0.win 3).flush t = true ∧ i ∈ ((cfg0.win 3).blk t).view.set := by
  have h0 : (i 0).val < 1 := (i 0).isLt
  have h1 : (i 1).val < 256 := (i 1).isLt
  let t : Fin cfg0.N := ⟨(i 1).val / 128, by show _ < 2; omega⟩
  obtain ⟨-, ⟨e0, e1⟩, -⟩ := idx_out t
  refine ⟨t, flush0_3 t, ?_⟩
  have h := ((cfg0.win 3).blk t).view.emb_mem_set (ix2 (n0 := 1) (n1 := 128) ⟨(i 0).val, h0⟩ ⟨(i 1).val % 128, by omega⟩)
  have e : ((cfg0.win 3).blk t).view.emb (ix2 (n0 := 1) (n1 := 128) ⟨(i 0).val, h0⟩ ⟨(i 1).val % 128, by omega⟩) = i := funext fun a => Fin.ext (by
    match a with
    | ⟨0, _⟩ => show win0_3.index t (0 : Fin 2) * 1 + 1 * (i 0).val = (i 0).val; omega
    | ⟨1, _⟩ =>
      show win0_3.index t (1 : Fin 2) * 128 + 1 * ((i 1).val % 128) = (i 1).val
      rw [e1]; show (i 1).val / 128 * 128 + 1 * ((i 1).val % 128) = (i 1).val; omega)
  rwa [e] at h

theorem final3 (c : Dev nD) : (dats m 0 c).arrAt 3 cfg0.N = countA m c :=
  (dats m 0 c).arrAt_eq_of_cover 3 (countA m c) (fun t _ => flushed3_eq m c t) covered3

/-- What a step leaves in its block of result 2. -/
theorem step4 (c : Dev nD) (t : Fin cfg0.N) (u : Fin 16) (l : Fin 128) :
    out0_4 (F := Ideal) (grid0.coords t) (iblk m c 0 t) (iblk m c 1 t) (ix2 u l) = keptA m c (ix2 u ⟨128 * t.val + l.val, col_lt256 t l⟩) := by
  rw [out4_apply, blk0_lane, blk1_lane, row_eq]
  rfl

theorem flushed4_eq (c : Dev nD) (t : Fin cfg0.N) :
    (dats m 0 c).flushed 4 t = ((cfg0.win 4).blk t).view.read (Elt Ideal) (keptA m c) := by
  obtain ⟨-, -, e0, e1⟩ := idx_out t
  rw [Value.flushed4]
  funext j
  have hj : j = ix2 (n0 := 16) (n1 := 128) (j 0) (j 1) := funext fun a => by match a with | ⟨0, _⟩ => rfl | ⟨1, _⟩ => rfl
  show out0_4 (F := Ideal) (grid0.coords t) (iblk m c 0 t) (iblk m c 1 t) j = keptA m c (((cfg0.win 4).blk t).view.emb j)
  refine (congrArg (out0_4 (F := Ideal) (grid0.coords t) (iblk m c 0 t) (iblk m c 1 t)) hj).trans
    ((step4 m c t (j 0) (j 1)).trans (congrArg (keptA m c) (funext fun a => Fin.ext ?_)))
  match a with
  | ⟨0, _⟩ => show (j 0).val = win0_4.index t (0 : Fin 2) * 16 + 1 * (j 0).val; omega
  | ⟨1, _⟩ => show 128 * t.val + (j 1).val = win0_4.index t (1 : Fin 2) * 128 + 1 * (j 1).val; omega

/-- Every entry of the array lies in some step's block. -/
theorem covered4 (i : S16x256.Idx) : ∃ t : Fin cfg0.N, (cfg0.win 4).flush t = true ∧ i ∈ ((cfg0.win 4).blk t).view.set := by
  have h0 : (i 0).val < 16 := (i 0).isLt
  have h1 : (i 1).val < 256 := (i 1).isLt
  let t : Fin cfg0.N := ⟨(i 1).val / 128, by show _ < 2; omega⟩
  obtain ⟨-, -, e0, e1⟩ := idx_out t
  refine ⟨t, flush0_4 t, ?_⟩
  have h := ((cfg0.win 4).blk t).view.emb_mem_set (ix2 (n0 := 16) (n1 := 128) ⟨(i 0).val, h0⟩ ⟨(i 1).val % 128, by omega⟩)
  have e : ((cfg0.win 4).blk t).view.emb (ix2 (n0 := 16) (n1 := 128) ⟨(i 0).val, h0⟩ ⟨(i 1).val % 128, by omega⟩) = i := funext fun a => Fin.ext (by
    match a with
    | ⟨0, _⟩ => show win0_4.index t (0 : Fin 2) * 16 + 1 * (i 0).val = (i 0).val; omega
    | ⟨1, _⟩ =>
      show win0_4.index t (1 : Fin 2) * 128 + 1 * ((i 1).val % 128) = (i 1).val
      rw [e1]; show (i 1).val / 128 * 128 + 1 * ((i 1).val % 128) = (i 1).val; omega)
  rwa [e] at h

theorem final4 (c : Dev nD) : (dats m 0 c).arrAt 4 cfg0.N = keptA m c :=
  (dats m 0 c).arrAt_eq_of_cover 4 (keptA m c) (fun t _ => flushed4_eq m c t) covered4

/-- The reference's arrays are the same. -/
theorem ref_list (c : Dev nD) : RefList.entries (W m c) (O m c) = listA m c := by
  funext i
  have hi : i = ix2 (n0 := 1024) (n1 := 256) (i 0) (i 1) := funext fun a => by match a with | ⟨0, _⟩ => rfl | ⟨1, _⟩ => rfl
  exact (congrArg (RefList.entries (W m c) (O m c)) hi).trans (RefList.entries_apply _ _ (i 0) (i 1))

theorem ref_count (c : Dev nD) : RefList.counts (W m c) (O m c) = countA m c := by
  funext i
  have hi : i = ix2 (n0 := 1) (n1 := 256) (i 0) (i 1) := funext fun a => by match a with | ⟨0, _⟩ => rfl | ⟨1, _⟩ => rfl
  exact (congrArg (RefList.counts (W m c) (O m c)) hi).trans (RefList.counts_apply _ _ (i 1) (i 0))

theorem ref_kept (c : Dev nD) : sitofp (F := Ideal) .f32 (RefList.keptI (W m c) (O m c)) = keptA m c := by
  unfold keptA
  refine congrArg (sitofp (F := Ideal) .f32) (funext fun i => ?_)
  have hi : i = ix2 (n0 := 16) (n1 := 256) (i 0) (i 1) := funext fun a => by match a with | ⟨0, _⟩ => rfl | ⟨1, _⟩ => rfl
  exact (congrArg (RefList.keptI (W m c) (O m c)) hi).trans (RefList.keptI_apply _ _ (i 1) (i 0))

/-- Over the extended reals the list, the counts and the kept counts are the reference's. -/
theorem algebraic : Cert.algebraic_ListIdeal_RefListIdeal (hListIdeal := Cert.ListIdeal.Gen.facts)
    (hRefListIdeal := Cert.RefListIdeal.Gen.facts) := fun m g m' g' _ hargs =>
  ⟨fun c => listA m c, fun c => countA m c, fun c => keptA m c,
    (θ_run Cert.ListIdeal.defs _ _).mono (fun _ hr c =>
      ⟨(hr c).1.trans (final2 m c), (hr c).2.1.trans (final3 m c), (hr c).2.2.1.trans (final4 m c), (hr c).2.2.2⟩) (Value.run_blocks m g),
    (θ_run Cert.RefListIdeal.defs _ _).mono (fun _ hr c => by
      obtain ⟨e0, e1⟩ := hargs c
      obtain ⟨h0, h1, h2, hf⟩ := hr c
      refine ⟨h0.trans ?_, h1.trans ?_, h2.trans ?_, hf⟩
      · rw [e0, e1]; exact ref_list m c
      · rw [e0, e1]; exact ref_count m c
      · rw [e0, e1]; exact ref_kept m c) (RefList.run m' g')⟩

end Cert.Proof.List

end
-- ==== Proof.lean ====
/- The claims about the attention call and about the calls that build its keys and its list, from the modules that prove them. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.Pre_listed
public import proofs.«01_k».proof.Proof.Gen.Keys
public import proofs.«01_k».proof.Proof.Gen.KeysIdeal
public import proofs.«01_k».proof.Proof.Gen.RefKeysIdeal
public import proofs.«01_k».proof.Proof.Gen.Keys.Frame
public import proofs.«01_k».proof.Proof.Gen.KeysIdeal.Value
public import proofs.«01_k».proof.Proof.Gen.RefKeysIdeal.Value
public import proofs.«01_k».proof.Proof.Gen.List
public import proofs.«01_k».proof.Proof.Gen.ListIdeal
public import proofs.«01_k».proof.Proof.Gen.RefListIdeal
public import proofs.«01_k».proof.Proof.Gen.List.Frame
public import proofs.«01_k».proof.Proof.Gen.ListIdeal.Value
public import proofs.«01_k».proof.Proof.Gen.RefListIdeal.Run
public import proofs.«01_k».proof.Proof.KernelBlocks
public import proofs.«01_k».proof.Proof.KernelIdealArrays
public import proofs.«01_k».proof.Proof.RefRun
public import proofs.«01_k».proof.Proof.KeysArray
public import proofs.«01_k».proof.Proof.ListArray

@[expose] public section

noncomputable section

namespace Cert.Proof

open Idealize.ShloMosaic Idealize.SL.Sem

/-- Over the extended reals the call's two results are the reference's. -/
theorem algebraic : Cert.algebraic_KernelIdeal_ReferenceIdeal (hKernelIdeal := Cert.KernelIdeal.Gen.facts)
    (hReferenceIdeal := Cert.ReferenceIdeal.Gen.facts) (hPre_listed := Cert.Pre_listed.Gen.facts) := fun m g m' g' h hargs =>
  ⟨_, _, Cert.Proof.KernelIdeal.run g h,
    (θ_run Cert.ReferenceIdeal.defs _ _).mono (fun _ hr c => by
      obtain ⟨e0, e1, e2, e3, e4, e5, e6⟩ := hargs c
      obtain ⟨h0, h1, hf⟩ := hr c
      refine ⟨h0.trans ?_, h1.trans ?_, hf⟩
      · rw [e0, e1, e2, e3, e4, e6]
      · rw [e0, e1, e2, e3, e4, e5, e6]) (Cert.Proof.Reference.run m' g')⟩

/-- Every claim of the certificate. -/
theorem claim : Cert.Claim :=
  ⟨Cert.Kernel.Gen.facts, Cert.KernelIdeal.Gen.facts, Cert.ReferenceIdeal.Gen.facts, Cert.Keys.Gen.facts, Cert.KeysIdeal.Gen.facts,
    Cert.RefKeysIdeal.Gen.facts, Cert.List.Gen.facts, Cert.ListIdeal.Gen.facts, Cert.RefListIdeal.Gen.facts, Cert.Pre_listed.Gen.facts,
    fun m ρ h => Cert.Proof.Kernel.frame m ρ (Cert.Proof.Kernel.hyps_of_pre m fun c => ⟨(h c).1, (h c).2.1⟩),
    fun m ρ h => Cert.Proof.KernelIdeal.frame m ρ (Cert.Proof.KernelIdeal.hyps_of_pre m fun c => ⟨(h c).1, (h c).2.1⟩),
    fun m ρ h => Cert.ReferenceIdeal.Gen.frame m ρ,
    fun m ρ _ => Cert.Keys.Gen.frame m ρ,
    fun m ρ _ => Cert.KeysIdeal.Gen.frame m ρ,
    fun m ρ _ => Cert.RefKeysIdeal.Gen.frame m ρ,
    fun m ρ _ => Cert.List.Gen.frame m ρ,
    fun m ρ _ => Cert.ListIdeal.Gen.frame m ρ,
    fun m ρ _ => (θ_run _ _ _).mono (fun r h => ⟨fun c => (h c).2.2.2, Idealize.ShloMosaic.sem_eq_zero_of_no_sems (by decide) r.2⟩)
      (Cert.RefListIdeal.Value.run m ρ),
    trivial,
    algebraic,
    trivial,
    Cert.Proof.Keys.algebraic,
    trivial,
    Cert.Proof.List.algebraic⟩

end Cert.Proof

end
